-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk [hPre_finite_qk : Cert.Pre_finite_qk.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk [hPre_finite_qk : Cert.Pre_finite_qk.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Main (m : (ℓ : Loc Cert.Main.nD Cert.Main.τ Cert.Main.sig) → Buf (Elt Bits) ℓ) : Prop :=
  True

def Pre_MainIdeal (m : (ℓ : Loc Cert.MainIdeal.nD Cert.MainIdeal.τ Cert.MainIdeal.sig) → Buf (Elt Ideal) ℓ) : Prop :=
  True

def Pre_MainRefIdeal (m : (ℓ : Loc Cert.MainRefIdeal.nD Cert.MainRefIdeal.τ Cert.MainRefIdeal.sig) → Buf (Elt Ideal) ℓ) : Prop :=
  True

def Pre_Gates (m : (ℓ : Loc Cert.Gates.nD Cert.Gates.τ Cert.Gates.sig) → Buf (Elt Bits) ℓ) : Prop :=
  True

def Pre_GatesIdeal (m : (ℓ : Loc Cert.GatesIdeal.nD Cert.GatesIdeal.τ Cert.GatesIdeal.sig) → Buf (Elt Ideal) ℓ) : Prop :=
  True

def Pre_GatesRefIdeal (m : (ℓ : Loc Cert.GatesRefIdeal.nD Cert.GatesRefIdeal.τ Cert.GatesRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_Final (m : (ℓ : Loc Cert.Final.nD Cert.Final.τ Cert.Final.sig) → Buf (Elt Bits) ℓ) : Prop :=
  True

def Pre_FinalIdeal (m : (ℓ : Loc Cert.FinalIdeal.nD Cert.FinalIdeal.τ Cert.FinalIdeal.sig) → Buf (Elt Ideal) ℓ) : Prop :=
  True

def Pre_FinalRefIdeal (m : (ℓ : Loc Cert.FinalRefIdeal.nD Cert.FinalRefIdeal.τ Cert.FinalRefIdeal.sig) → Buf (Elt Ideal) ℓ) : Prop :=
  True

def Pre_Experts [hPre_routed : Cert.Pre_routed.Facts] (m : (ℓ : Loc Cert.Experts.nD Cert.Experts.τ Cert.Experts.sig) → Buf (Elt Bits) ℓ) : Prop :=
  ∀ c : Dev Cert.Experts.nD,
    (Cert.Pre_routed.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4)) (m ((c.tc : Thread Cert.Experts.nD Cert.Experts.τ).loc Cert.Experts.main_arg5)) (m ((c.tc : Thread Cert.Experts.nD Cert.Experts.τ).loc Cert.Experts.main_arg6)) (m ((c.tc : Thread Cert.Experts.nD Cert.Experts.τ).loc Cert.Experts.main_arg7))) = (fun _ => 1#1)

def Pre_ExpertsIdeal [hPre_routed : Cert.Pre_routed.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_routed.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6)) (m ((c.tc : Thread Cert.ExpertsIdeal.nD Cert.ExpertsIdeal.τ).loc Cert.ExpertsIdeal.main_arg7))) = (fun _ => 1#1)

def Pre_ExpertsRefIdeal [hPre_routed : Cert.Pre_routed.Facts] (m : (ℓ : Loc Cert.ExpertsRefIdeal.nD Cert.ExpertsRefIdeal.τ Cert.ExpertsRefIdeal.sig) → Buf (Elt Ideal) ℓ) : Prop :=
  ∀ c : Dev Cert.ExpertsRefIdeal.nD,
    (Cert.Pre_routed.fn (F := Ideal) (m ((c.tc : Thread Cert.ExpertsRefIdeal.nD Cert.ExpertsRefIdeal.τ).loc Cert.ExpertsRefIdeal.main_arg0)) (m ((c.tc : Thread Cert.ExpertsRefIdeal.nD Cert.ExpertsRefIdeal.τ).loc Cert.ExpertsRefIdeal.main_arg1)) (m ((c.tc : Thread Cert.ExpertsRefIdeal.nD Cert.ExpertsRefIdeal.τ).loc Cert.ExpertsRefIdeal.main_arg2)) (m ((c.tc : Thread Cert.ExpertsRefIdeal.nD Cert.ExpertsRefIdeal.τ).loc Cert.ExpertsRefIdeal.main_arg3)) (m ((c.tc : Thread Cert.ExpertsRefIdeal.nD Cert.ExpertsRefIdeal.τ).loc Cert.ExpertsRefIdeal.main_arg4)) (m ((c.tc : Thread Cert.ExpertsRefIdeal.nD Cert.ExpertsRefIdeal.τ).loc Cert.ExpertsRefIdeal.main_arg5)) (m ((c.tc : Thread Cert.ExpertsRefIdeal.nD Cert.ExpertsRefIdeal.τ).loc Cert.ExpertsRefIdeal.main_arg6)) (m ((c.tc : Thread Cert.ExpertsRefIdeal.nD Cert.ExpertsRefIdeal.τ).loc Cert.ExpertsRefIdeal.main_arg7))) = (fun _ => 1#1)

def Pre_Split (m : (ℓ : Loc Cert.Split.nD Cert.Split.τ Cert.Split.sig) → Buf (Elt Bits) ℓ) : Prop :=
  True

def Pre_SplitIdeal (m : (ℓ : Loc Cert.SplitIdeal.nD Cert.SplitIdeal.τ Cert.SplitIdeal.sig) → Buf (Elt Ideal) ℓ) : Prop :=
  True

def Pre_SplitRefIdeal (m : (ℓ : Loc Cert.SplitRefIdeal.nD Cert.SplitRefIdeal.τ Cert.SplitRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_qk [hKernelIdeal : Cert.KernelIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_qk [hReferenceIdeal : Cert.ReferenceIdeal.Facts] [hPre_finite_qk : Cert.Pre_finite_qk.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Main [hMain : Cert.Main.Facts] : Prop :=
  ∀ (m : (ℓ : Loc Cert.Main.nD Cert.Main.τ Cert.Main.sig) → Buf (Elt Bits) ℓ) (g : Dev Cert.Main.nD → PrngReg), Pre_Main m →
    θ_run (Cert.Main.defs (F := Bits)) (onTc (τ := Cert.Main.τ) (Cert.Main.main (F := Bits))) ⟨m, fun _ => 0, g⟩ (fun r => (∀ c : Dev Cert.Main.nD,
      r.2.mem ((c.tc : Thread Cert.Main.nD Cert.Main.τ).loc Cert.Main.main_arg0) = m ((c.tc : Thread Cert.Main.nD Cert.Main.τ).loc Cert.Main.main_arg0)
      ∧ r.2.mem ((c.tc : Thread Cert.Main.nD Cert.Main.τ).loc Cert.Main.main_arg1) = m ((c.tc : Thread Cert.Main.nD Cert.Main.τ).loc Cert.Main.main_arg1))
      ∧ r.2.sem = fun _ => 0)

def quiescent_MainIdeal [hMainIdeal : Cert.MainIdeal.Facts] : Prop :=
  ∀ (m : (ℓ : Loc Cert.MainIdeal.nD Cert.MainIdeal.τ Cert.MainIdeal.sig) → Buf (Elt Ideal) ℓ) (g : Dev Cert.MainIdeal.nD → PrngReg), Pre_MainIdeal m →
    θ_run (Cert.MainIdeal.defs (F := Ideal)) (onTc (τ := Cert.MainIdeal.τ) (Cert.MainIdeal.main (F := Ideal))) ⟨m, fun _ => 0, g⟩ (fun r => (∀ c : Dev Cert.MainIdeal.nD,
      r.2.mem ((c.tc : Thread Cert.MainIdeal.nD Cert.MainIdeal.τ).loc Cert.MainIdeal.main_arg0) = m ((c.tc : Thread Cert.MainIdeal.nD Cert.MainIdeal.τ).loc Cert.MainIdeal.main_arg0)
      ∧ r.2.mem ((c.tc : Thread Cert.MainIdeal.nD Cert.MainIdeal.τ).loc Cert.MainIdeal.main_arg1) = m ((c.tc : Thread Cert.MainIdeal.nD Cert.MainIdeal.τ).loc Cert.MainIdeal.main_arg1))
      ∧ r.2.sem = fun _ => 0)

def quiescent_MainRefIdeal [hMainRefIdeal : Cert.MainRefIdeal.Facts] : Prop :=
  ∀ (m : (ℓ : Loc Cert.MainRefIdeal.nD Cert.MainRefIdeal.τ Cert.MainRefIdeal.sig) → Buf (Elt Ideal) ℓ) (g : Dev Cert.MainRefIdeal.nD → PrngReg), Pre_MainRefIdeal m →
    θ_run (Cert.MainRefIdeal.defs (F := Ideal)) (onTc (τ := Cert.MainRefIdeal.τ) (Cert.MainRefIdeal.main (F := Ideal))) ⟨m, fun _ => 0, g⟩ (fun r => (∀ c : Dev Cert.MainRefIdeal.nD,
      r.2.mem ((c.tc : Thread Cert.MainRefIdeal.nD Cert.MainRefIdeal.τ).loc Cert.MainRefIdeal.main_arg0) = m ((c.tc : Thread Cert.MainRefIdeal.nD Cert.MainRefIdeal.τ).loc Cert.MainRefIdeal.main_arg0)
      ∧ r.2.mem ((c.tc : Thread Cert.MainRefIdeal.nD Cert.MainRefIdeal.τ).loc Cert.MainRefIdeal.main_arg1) = m ((c.tc : Thread Cert.MainRefIdeal.nD Cert.MainRefIdeal.τ).loc Cert.MainRefIdeal.main_arg1))
      ∧ r.2.sem = fun _ => 0)

def quiescent_Gates [hGates : Cert.Gates.Facts] : Prop :=
  ∀ (m : (ℓ : Loc Cert.Gates.nD Cert.Gates.τ Cert.Gates.sig) → Buf (Elt Bits) ℓ) (g : Dev Cert.Gates.nD → PrngReg), Pre_Gates m →
    θ_run (Cert.Gates.defs (F := Bits)) (onTc (τ := Cert.Gates.τ) (Cert.Gates.main (F := Bits))) ⟨m, fun _ => 0, g⟩ (fun r => (∀ c : Dev Cert.Gates.nD,
      r.2.mem ((c.tc : Thread Cert.Gates.nD Cert.Gates.τ).loc Cert.Gates.main_arg0) = m ((c.tc : Thread Cert.Gates.nD Cert.Gates.τ).loc Cert.Gates.main_arg0)
      ∧ r.2.mem ((c.tc : Thread Cert.Gates.nD Cert.Gates.τ).loc Cert.Gates.main_arg1) = m ((c.tc : Thread Cert.Gates.nD Cert.Gates.τ).loc Cert.Gates.main_arg1))
      ∧ r.2.sem = fun _ => 0)

def quiescent_GatesIdeal [hGatesIdeal : Cert.GatesIdeal.Facts] : Prop :=
  ∀ (m : (ℓ : Loc Cert.GatesIdeal.nD Cert.GatesIdeal.τ Cert.GatesIdeal.sig) → Buf (Elt Ideal) ℓ) (g : Dev Cert.GatesIdeal.nD → PrngReg), Pre_GatesIdeal m →
    θ_run (Cert.GatesIdeal.defs (F := Ideal)) (onTc (τ := Cert.GatesIdeal.τ) (Cert.GatesIdeal.main (F := Ideal))) ⟨m, fun _ => 0, g⟩ (fun r => (∀ c : Dev Cert.GatesIdeal.nD,
      r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
      ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1))
      ∧ r.2.sem = fun _ => 0)

def quiescent_GatesRefIdeal [hGatesRefIdeal : Cert.GatesRefIdeal.Facts] : Prop :=
  ∀ (m : (ℓ : Loc Cert.GatesRefIdeal.nD Cert.GatesRefIdeal.τ Cert.GatesRefIdeal.sig) → Buf (Elt Ideal) ℓ) (g : Dev Cert.GatesRefIdeal.nD → PrngReg), Pre_GatesRefIdeal m →
    θ_run (Cert.GatesRefIdeal.defs (F := Ideal)) (onTc (τ := Cert.GatesRefIdeal.τ) (Cert.GatesRefIdeal.main (F := Ideal))) ⟨m, fun _ => 0, g⟩ (fun r => (∀ c : Dev Cert.GatesRefIdeal.nD,
      r.2.mem ((c.tc : Thread Cert.GatesRefIdeal.nD Cert.GatesRefIdeal.τ).loc Cert.GatesRefIdeal.main_arg0) = m ((c.tc : Thread Cert.GatesRefIdeal.nD Cert.GatesRefIdeal.τ).loc Cert.GatesRefIdeal.main_arg0)
      ∧ r.2.mem ((c.tc : Thread Cert.GatesRefIdeal.nD Cert.GatesRefIdeal.τ).loc Cert.GatesRefIdeal.main_arg1) = m ((c.tc : Thread Cert.GatesRefIdeal.nD Cert.GatesRefIdeal.τ).loc Cert.GatesRefIdeal.main_arg1))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3))
      ∧ r.2.sem = fun _ => 0)

def quiescent_Final [hFinal : Cert.Final.Facts] : Prop :=
  ∀ (m : (ℓ : Loc Cert.Final.nD Cert.Final.τ Cert.Final.sig) → Buf (Elt Bits) ℓ) (g : Dev Cert.Final.nD → PrngReg), Pre_Final m →
    θ_run (Cert.Final.defs (F := Bits)) (onTc (τ := Cert.Final.τ) (Cert.Final.main (F := Bits))) ⟨m, fun _ => 0, g⟩ (fun r => (∀ c : Dev Cert.Final.nD,
      r.2.mem ((c.tc : Thread Cert.Final.nD Cert.Final.τ).loc Cert.Final.main_arg0) = m ((c.tc : Thread Cert.Final.nD Cert.Final.τ).loc Cert.Final.main_arg0)
      ∧ r.2.mem ((c.tc : Thread Cert.Final.nD Cert.Final.τ).loc Cert.Final.main_arg1) = m ((c.tc : Thread Cert.Final.nD Cert.Final.τ).loc Cert.Final.main_arg1)
      ∧ r.2.mem ((c.tc : Thread Cert.Final.nD Cert.Final.τ).loc Cert.Final.main_arg2) = m ((c.tc : Thread Cert.Final.nD Cert.Final.τ).loc Cert.Final.main_arg2)
      ∧ r.2.mem ((c.tc : Thread Cert.Final.nD Cert.Final.τ).loc Cert.Final.main_arg3) = m ((c.tc : Thread Cert.Final.nD Cert.Final.τ).loc Cert.Final.main_arg3)
      ∧ r.2.mem ((c.tc : Thread Cert.Final.nD Cert.Final.τ).loc Cert.Final.main_arg4) = m ((c.tc : Thread Cert.Final.nD Cert.Final.τ).loc Cert.Final.main_arg4))
      ∧ r.2.sem = fun _ => 0)

def quiescent_FinalIdeal [hFinalIdeal : Cert.FinalIdeal.Facts] : Prop :=
  ∀ (m : (ℓ : Loc Cert.FinalIdeal.nD Cert.FinalIdeal.τ Cert.FinalIdeal.sig) → Buf (Elt Ideal) ℓ) (g : Dev Cert.FinalIdeal.nD → PrngReg), Pre_FinalIdeal m →
    θ_run (Cert.FinalIdeal.defs (F := Ideal)) (onTc (τ := Cert.FinalIdeal.τ) (Cert.FinalIdeal.main (F := Ideal))) ⟨m, fun _ => 0, g⟩ (fun r => (∀ c : Dev Cert.FinalIdeal.nD,
      r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
      ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1)
      ∧ r.2.mem ((c.tc : Thread Cert.FinalIdeal.nD Cert.FinalIdeal.τ).loc Cert.FinalIdeal.main_arg2) = m ((c.tc : Thread Cert.FinalIdeal.nD Cert.FinalIdeal.τ).loc Cert.FinalIdeal.main_arg2)
      ∧ r.2.mem ((c.tc : Thread Cert.FinalIdeal.nD Cert.FinalIdeal.τ).loc Cert.FinalIdeal.main_arg3) = m ((c.tc : Thread Cert.FinalIdeal.nD Cert.FinalIdeal.τ).loc Cert.FinalIdeal.main_arg3)
      ∧ r.2.mem ((c.tc : Thread Cert.FinalIdeal.nD Cert.FinalIdeal.τ).loc Cert.FinalIdeal.main_arg4) = m ((c.tc : Thread Cert.FinalIdeal.nD Cert.FinalIdeal.τ).loc Cert.FinalIdeal.main_arg4))
      ∧ r.2.sem = fun _ => 0)

def quiescent_FinalRefIdeal [hFinalRefIdeal : Cert.FinalRefIdeal.Facts] : Prop :=
  ∀ (m : (ℓ : Loc Cert.FinalRefIdeal.nD Cert.FinalRefIdeal.τ Cert.FinalRefIdeal.sig) → Buf (Elt Ideal) ℓ) (g : Dev Cert.FinalRefIdeal.nD → PrngReg), Pre_FinalRefIdeal m →
    θ_run (Cert.FinalRefIdeal.defs (F := Ideal)) (onTc (τ := Cert.FinalRefIdeal.τ) (Cert.FinalRefIdeal.main (F := Ideal))) ⟨m, fun _ => 0, g⟩ (fun r => (∀ c : Dev Cert.FinalRefIdeal.nD,
      r.2.mem ((c.tc : Thread Cert.FinalRefIdeal.nD Cert.FinalRefIdeal.τ).loc Cert.FinalRefIdeal.main_arg0) = m ((c.tc : Thread Cert.FinalRefIdeal.nD Cert.FinalRefIdeal.τ).loc Cert.FinalRefIdeal.main_arg0)
      ∧ r.2.mem ((c.tc : Thread Cert.FinalRefIdeal.nD Cert.FinalRefIdeal.τ).loc Cert.FinalRefIdeal.main_arg1) = m ((c.tc : Thread Cert.FinalRefIdeal.nD Cert.FinalRefIdeal.τ).loc Cert.FinalRefIdeal.main_arg1)
      ∧ r.2.mem ((c.tc : Thread Cert.FinalRefIdeal.nD Cert.FinalRefIdeal.τ).loc Cert.FinalRefIdeal.main_arg2) = m ((c.tc : Thread Cert.FinalRefIdeal.nD Cert.FinalRefIdeal.τ).loc Cert.FinalRefIdeal.main_arg2)
      ∧ r.2.mem ((c.tc : Thread Cert.FinalRefIdeal.nD Cert.FinalRefIdeal.τ).loc Cert.FinalRefIdeal.main_arg3) = m ((c.tc : Thread Cert.FinalRefIdeal.nD Cert.FinalRefIdeal.τ).loc Cert.FinalRefIdeal.main_arg3)
      ∧ r.2.mem ((c.tc : Thread Cert.FinalRefIdeal.nD Cert.FinalRefIdeal.τ).loc Cert.FinalRefIdeal.main_arg4) = m ((c.tc : Thread Cert.FinalRefIdeal.nD Cert.FinalRefIdeal.τ).loc Cert.FinalRefIdeal.main_arg4))
      ∧ r.2.sem = fun _ => 0)

def quiescent_Experts [hExperts : Cert.Experts.Facts] [hPre_routed : Cert.Pre_routed.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4)
      ∧ r.2.mem ((c.tc : Thread Cert.Experts.nD Cert.Experts.τ).loc Cert.Experts.main_arg5) = m ((c.tc : Thread Cert.Experts.nD Cert.Experts.τ).loc Cert.Experts.main_arg5)
      ∧ r.2.mem ((c.tc : Thread Cert.Experts.nD Cert.Experts.τ).loc Cert.Experts.main_arg6) = m ((c.tc : Thread Cert.Experts.nD Cert.Experts.τ).loc Cert.Experts.main_arg6)
      ∧ r.2.mem ((c.tc : Thread Cert.Experts.nD Cert.Experts.τ).loc Cert.Experts.main_arg7) = m ((c.tc : Thread Cert.Experts.nD Cert.Experts.τ).loc Cert.Experts.main_arg7))
      ∧ r.2.sem = fun _ => 0)

def quiescent_ExpertsIdeal [hExpertsIdeal : Cert.ExpertsIdeal.Facts] [hPre_routed : Cert.Pre_routed.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
      ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6)
      ∧ r.2.mem ((c.tc : Thread Cert.ExpertsIdeal.nD Cert.ExpertsIdeal.τ).loc Cert.ExpertsIdeal.main_arg7) = m ((c.tc : Thread Cert.ExpertsIdeal.nD Cert.ExpertsIdeal.τ).loc Cert.ExpertsIdeal.main_arg7))
      ∧ r.2.sem = fun _ => 0)

def quiescent_ExpertsRefIdeal [hExpertsRefIdeal : Cert.ExpertsRefIdeal.Facts] [hPre_routed : Cert.Pre_routed.Facts] : Prop :=
  ∀ (m : (ℓ : Loc Cert.ExpertsRefIdeal.nD Cert.ExpertsRefIdeal.τ Cert.ExpertsRefIdeal.sig) → Buf (Elt Ideal) ℓ) (g : Dev Cert.ExpertsRefIdeal.nD → PrngReg), Pre_ExpertsRefIdeal m →
    θ_run (Cert.ExpertsRefIdeal.defs (F := Ideal)) (onTc (τ := Cert.ExpertsRefIdeal.τ) (Cert.ExpertsRefIdeal.main (F := Ideal))) ⟨m, fun _ => 0, g⟩ (fun r => (∀ c : Dev Cert.ExpertsRefIdeal.nD,
      r.2.mem ((c.tc : Thread Cert.ExpertsRefIdeal.nD Cert.ExpertsRefIdeal.τ).loc Cert.ExpertsRefIdeal.main_arg0) = m ((c.tc : Thread Cert.ExpertsRefIdeal.nD Cert.ExpertsRefIdeal.τ).loc Cert.ExpertsRefIdeal.main_arg0)
      ∧ r.2.mem ((c.tc : Thread Cert.ExpertsRefIdeal.nD Cert.ExpertsRefIdeal.τ).loc Cert.ExpertsRefIdeal.main_arg1) = m ((c.tc : Thread Cert.ExpertsRefIdeal.nD Cert.ExpertsRefIdeal.τ).loc Cert.ExpertsRefIdeal.main_arg1)
      ∧ r.2.mem ((c.tc : Thread Cert.ExpertsRefIdeal.nD Cert.ExpertsRefIdeal.τ).loc Cert.ExpertsRefIdeal.main_arg2) = m ((c.tc : Thread Cert.ExpertsRefIdeal.nD Cert.ExpertsRefIdeal.τ).loc Cert.ExpertsRefIdeal.main_arg2)
      ∧ r.2.mem ((c.tc : Thread Cert.ExpertsRefIdeal.nD Cert.ExpertsRefIdeal.τ).loc Cert.ExpertsRefIdeal.main_arg3) = m ((c.tc : Thread Cert.ExpertsRefIdeal.nD Cert.ExpertsRefIdeal.τ).loc Cert.ExpertsRefIdeal.main_arg3)
      ∧ r.2.mem ((c.tc : Thread Cert.ExpertsRefIdeal.nD Cert.ExpertsRefIdeal.τ).loc Cert.ExpertsRefIdeal.main_arg4) = m ((c.tc : Thread Cert.ExpertsRefIdeal.nD Cert.ExpertsRefIdeal.τ).loc Cert.ExpertsRefIdeal.main_arg4)
      ∧ r.2.mem ((c.tc : Thread Cert.ExpertsRefIdeal.nD Cert.ExpertsRefIdeal.τ).loc Cert.ExpertsRefIdeal.main_arg5) = m ((c.tc : Thread Cert.ExpertsRefIdeal.nD Cert.ExpertsRefIdeal.τ).loc Cert.ExpertsRefIdeal.main_arg5)
      ∧ r.2.mem ((c.tc : Thread Cert.ExpertsRefIdeal.nD Cert.ExpertsRefIdeal.τ).loc Cert.ExpertsRefIdeal.main_arg6) = m ((c.tc : Thread Cert.ExpertsRefIdeal.nD Cert.ExpertsRefIdeal.τ).loc Cert.ExpertsRefIdeal.main_arg6)
      ∧ r.2.mem ((c.tc : Thread Cert.ExpertsRefIdeal.nD Cert.ExpertsRefIdeal.τ).loc Cert.ExpertsRefIdeal.main_arg7) = m ((c.tc : Thread Cert.ExpertsRefIdeal.nD Cert.ExpertsRefIdeal.τ).loc Cert.ExpertsRefIdeal.main_arg7))
      ∧ r.2.sem = fun _ => 0)

def quiescent_Split [hSplit : Cert.Split.Facts] : Prop :=
  ∀ (m : (ℓ : Loc Cert.Split.nD Cert.Split.τ Cert.Split.sig) → Buf (Elt Bits) ℓ) (g : Dev Cert.Split.nD → PrngReg), Pre_Split m →
    θ_run (Cert.Split.defs (F := Bits)) (onTc (τ := Cert.Split.τ) (Cert.Split.main (F := Bits))) ⟨m, fun _ => 0, g⟩ (fun r => (∀ c : Dev Cert.Split.nD,
      r.2.mem ((c.tc : Thread Cert.Split.nD Cert.Split.τ).loc Cert.Split.main_arg0) = m ((c.tc : Thread Cert.Split.nD Cert.Split.τ).loc Cert.Split.main_arg0))
      ∧ r.2.sem = fun _ => 0)

def quiescent_SplitIdeal [hSplitIdeal : Cert.SplitIdeal.Facts] : Prop :=
  ∀ (m : (ℓ : Loc Cert.SplitIdeal.nD Cert.SplitIdeal.τ Cert.SplitIdeal.sig) → Buf (Elt Ideal) ℓ) (g : Dev Cert.SplitIdeal.nD → PrngReg), Pre_SplitIdeal m →
    θ_run (Cert.SplitIdeal.defs (F := Ideal)) (onTc (τ := Cert.SplitIdeal.τ) (Cert.SplitIdeal.main (F := Ideal))) ⟨m, fun _ => 0, g⟩ (fun r => (∀ c : Dev Cert.SplitIdeal.nD,
      r.2.mem ((c.tc : Thread Cert.SplitIdeal.nD Cert.SplitIdeal.τ).loc Cert.SplitIdeal.main_arg0) = m ((c.tc : Thread Cert.SplitIdeal.nD Cert.SplitIdeal.τ).loc Cert.SplitIdeal.main_arg0))
      ∧ r.2.sem = fun _ => 0)

def quiescent_SplitRefIdeal [hSplitRefIdeal : Cert.SplitRefIdeal.Facts] : Prop :=
  ∀ (m : (ℓ : Loc Cert.SplitRefIdeal.nD Cert.SplitRefIdeal.τ Cert.SplitRefIdeal.sig) → Buf (Elt Ideal) ℓ) (g : Dev Cert.SplitRefIdeal.nD → PrngReg), Pre_SplitRefIdeal m →
    θ_run (Cert.SplitRefIdeal.defs (F := Ideal)) (onTc (τ := Cert.SplitRefIdeal.τ) (Cert.SplitRefIdeal.main (F := Ideal))) ⟨m, fun _ => 0, g⟩ (fun r => (∀ c : Dev Cert.SplitRefIdeal.nD,
      r.2.mem ((c.tc : Thread Cert.SplitRefIdeal.nD Cert.SplitRefIdeal.τ).loc Cert.SplitRefIdeal.main_arg0) = m ((c.tc : Thread Cert.SplitRefIdeal.nD Cert.SplitRefIdeal.τ).loc Cert.SplitRefIdeal.main_arg0))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9)
      ∧ r.2.mem ((c.tc : Thread Cert.MergeRefIdeal.nD Cert.MergeRefIdeal.τ).loc Cert.MergeRefIdeal.main_arg10) = m ((c.tc : Thread Cert.MergeRefIdeal.nD Cert.MergeRefIdeal.τ).loc Cert.MergeRefIdeal.main_arg10))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1)
      ∧ r.2.mem ((c.tc : Thread Cert.Norm.nD Cert.Norm.τ).loc Cert.Norm.main_arg2) = m ((c.tc : Thread Cert.Norm.nD Cert.Norm.τ).loc Cert.Norm.main_arg2))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1)
      ∧ r.2.mem ((c.tc : Thread Cert.NormRefIdeal.nD Cert.NormRefIdeal.τ).loc Cert.NormRefIdeal.main_arg2) = m ((c.tc : Thread Cert.NormRefIdeal.nD Cert.NormRefIdeal.τ).loc Cert.NormRefIdeal.main_arg2))
      ∧ r.2.sem = fun _ => 0)

def preserves_Kernel_KernelIdeal : Prop :=
  IdealRules.named_const.Statement Cert.KernelIdeal.κ "c" .f32 0x3E0293EE#32 (((Real.sqrt 128)⁻¹ * (Real.log 2)⁻¹ : ℝ) : EReal)

def algebraic_KernelIdeal_ReferenceIdeal_pre_finite_qk [hKernelIdeal : Cert.KernelIdeal.Facts] [hReferenceIdeal : Cert.ReferenceIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Main_MainIdeal : Prop :=
  True

def algebraic_MainIdeal_MainRefIdeal [hMainIdeal : Cert.MainIdeal.Facts] [hMainRefIdeal : Cert.MainRefIdeal.Facts] : Prop :=
  ∀ (m : (ℓ : Loc Cert.MainIdeal.nD Cert.MainIdeal.τ Cert.MainIdeal.sig) → Buf (Elt Ideal) ℓ) (g : Dev Cert.MainIdeal.nD → PrngReg)
    (m' : (ℓ : Loc Cert.MainRefIdeal.nD Cert.MainRefIdeal.τ Cert.MainRefIdeal.sig) → Buf (Elt Ideal) ℓ) (g' : Dev Cert.MainRefIdeal.nD → PrngReg), Pre_MainIdeal m →
    (∀ c : Dev Cert.MainIdeal.nD,
      m' ((c.tc : Thread Cert.MainRefIdeal.nD Cert.MainRefIdeal.τ).loc Cert.MainRefIdeal.main_arg0) = m ((c.tc : Thread Cert.MainIdeal.nD Cert.MainIdeal.τ).loc Cert.MainIdeal.main_arg0)
      ∧ m' ((c.tc : Thread Cert.MainRefIdeal.nD Cert.MainRefIdeal.τ).loc Cert.MainRefIdeal.main_arg1) = m ((c.tc : Thread Cert.MainIdeal.nD Cert.MainIdeal.τ).loc Cert.MainIdeal.main_arg1)) →
    ∃ (v0 : (c : Dev Cert.MainIdeal.nD) → Buf (Elt Ideal) ((c.tc : Thread Cert.MainIdeal.nD Cert.MainIdeal.τ).loc Cert.MainIdeal.main_v4)),
      θ_run (Cert.MainIdeal.defs (F := Ideal)) (onTc (τ := Cert.MainIdeal.τ) (Cert.MainIdeal.main (F := Ideal))) ⟨m, fun _ => 0, g⟩ (fun r => ∀ c : Dev Cert.MainIdeal.nD,
          r.2.mem ((c.tc : Thread Cert.MainIdeal.nD Cert.MainIdeal.τ).loc Cert.MainIdeal.main_v4) = v0 c
          ∧ r.2.mem ((c.tc : Thread Cert.MainIdeal.nD Cert.MainIdeal.τ).loc Cert.MainIdeal.main_arg0) = m ((c.tc : Thread Cert.MainIdeal.nD Cert.MainIdeal.τ).loc Cert.MainIdeal.main_arg0)
          ∧ r.2.mem ((c.tc : Thread Cert.MainIdeal.nD Cert.MainIdeal.τ).loc Cert.MainIdeal.main_arg1) = m ((c.tc : Thread Cert.MainIdeal.nD Cert.MainIdeal.τ).loc Cert.MainIdeal.main_arg1))
      ∧ θ_run (Cert.MainRefIdeal.defs (F := Ideal)) (onTc (τ := Cert.MainRefIdeal.τ) (Cert.MainRefIdeal.main (F := Ideal))) ⟨m', fun _ => 0, g'⟩ (fun r => ∀ c : Dev Cert.MainRefIdeal.nD,
          r.2.mem ((c.tc : Thread Cert.MainRefIdeal.nD Cert.MainRefIdeal.τ).loc Cert.MainRefIdeal.main_v4) = v0 c
          ∧ r.2.mem ((c.tc : Thread Cert.MainRefIdeal.nD Cert.MainRefIdeal.τ).loc Cert.MainRefIdeal.main_arg0) = m' ((c.tc : Thread Cert.MainRefIdeal.nD Cert.MainRefIdeal.τ).loc Cert.MainRefIdeal.main_arg0)
          ∧ r.2.mem ((c.tc : Thread Cert.MainRefIdeal.nD Cert.MainRefIdeal.τ).loc Cert.MainRefIdeal.main_arg1) = m' ((c.tc : Thread Cert.MainRefIdeal.nD Cert.MainRefIdeal.τ).loc Cert.MainRefIdeal.main_arg1))

def preserves_Gates_GatesIdeal : Prop :=
  True

def algebraic_GatesIdeal_GatesRefIdeal [hGatesIdeal : Cert.GatesIdeal.Facts] [hGatesRefIdeal : Cert.GatesRefIdeal.Facts] : Prop :=
  ∀ (m : (ℓ : Loc Cert.GatesIdeal.nD Cert.GatesIdeal.τ Cert.GatesIdeal.sig) → Buf (Elt Ideal) ℓ) (g : Dev Cert.GatesIdeal.nD → PrngReg)
    (m' : (ℓ : Loc Cert.GatesRefIdeal.nD Cert.GatesRefIdeal.τ Cert.GatesRefIdeal.sig) → Buf (Elt Ideal) ℓ) (g' : Dev Cert.GatesRefIdeal.nD → PrngReg), Pre_GatesIdeal m →
    (∀ c : Dev Cert.GatesIdeal.nD,
      m' ((c.tc : Thread Cert.GatesRefIdeal.nD Cert.GatesRefIdeal.τ).loc Cert.GatesRefIdeal.main_arg0) = m ((c.tc : Thread Cert.GatesIdeal.nD Cert.GatesIdeal.τ).loc Cert.GatesIdeal.main_arg0)
      ∧ m' ((c.tc : Thread Cert.GatesRefIdeal.nD Cert.GatesRefIdeal.τ).loc Cert.GatesRefIdeal.main_arg1) = m ((c.tc : Thread Cert.GatesIdeal.nD Cert.GatesIdeal.τ).loc Cert.GatesIdeal.main_arg1)) →
    ∃ (v0 : (c : Dev Cert.GatesIdeal.nD) → Buf (Elt Ideal) ((c.tc : Thread Cert.GatesIdeal.nD Cert.GatesIdeal.τ).loc Cert.GatesIdeal.main_v2)),
      θ_run (Cert.GatesIdeal.defs (F := Ideal)) (onTc (τ := Cert.GatesIdeal.τ) (Cert.GatesIdeal.main (F := Ideal))) ⟨m, fun _ => 0, g⟩ (fun r => ∀ c : Dev Cert.GatesIdeal.nD,
          r.2.mem ((c.tc : Thread Cert.GatesIdeal.nD Cert.GatesIdeal.τ).loc Cert.GatesIdeal.main_v2) = v0 c
          ∧ r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
          ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1))
      ∧ θ_run (Cert.GatesRefIdeal.defs (F := Ideal)) (onTc (τ := Cert.GatesRefIdeal.τ) (Cert.GatesRefIdeal.main (F := Ideal))) ⟨m', fun _ => 0, g'⟩ (fun r => ∀ c : Dev Cert.GatesRefIdeal.nD,
          r.2.mem ((c.tc : Thread Cert.GatesRefIdeal.nD Cert.GatesRefIdeal.τ).loc Cert.GatesRefIdeal.main_v9) = v0 c
          ∧ r.2.mem ((c.tc : Thread Cert.GatesRefIdeal.nD Cert.GatesRefIdeal.τ).loc Cert.GatesRefIdeal.main_arg0) = m' ((c.tc : Thread Cert.GatesRefIdeal.nD Cert.GatesRefIdeal.τ).loc Cert.GatesRefIdeal.main_arg0)
          ∧ r.2.mem ((c.tc : Thread Cert.GatesRefIdeal.nD Cert.GatesRefIdeal.τ).loc Cert.GatesRefIdeal.main_arg1) = m' ((c.tc : Thread Cert.GatesRefIdeal.nD Cert.GatesRefIdeal.τ).loc Cert.GatesRefIdeal.main_arg1))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)) →
    ∃ (v0 : (c : Dev Cert.OutIdeal.nD) → Buf (Elt Ideal) ((c.tc : Thread Cert.OutIdeal.nD Cert.OutIdeal.τ).loc Cert.OutIdeal.main_v1)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v1) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v18) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3))

def preserves_Final_FinalIdeal : Prop :=
  True

def algebraic_FinalIdeal_FinalRefIdeal [hFinalIdeal : Cert.FinalIdeal.Facts] [hFinalRefIdeal : Cert.FinalRefIdeal.Facts] : Prop :=
  ∀ (m : (ℓ : Loc Cert.FinalIdeal.nD Cert.FinalIdeal.τ Cert.FinalIdeal.sig) → Buf (Elt Ideal) ℓ) (g : Dev Cert.FinalIdeal.nD → PrngReg)
    (m' : (ℓ : Loc Cert.FinalRefIdeal.nD Cert.FinalRefIdeal.τ Cert.FinalRefIdeal.sig) → Buf (Elt Ideal) ℓ) (g' : Dev Cert.FinalRefIdeal.nD → PrngReg), Pre_FinalIdeal m →
    (∀ c : Dev Cert.FinalIdeal.nD,
      m' ((c.tc : Thread Cert.FinalRefIdeal.nD Cert.FinalRefIdeal.τ).loc Cert.FinalRefIdeal.main_arg0) = m ((c.tc : Thread Cert.FinalIdeal.nD Cert.FinalIdeal.τ).loc Cert.FinalIdeal.main_arg0)
      ∧ m' ((c.tc : Thread Cert.FinalRefIdeal.nD Cert.FinalRefIdeal.τ).loc Cert.FinalRefIdeal.main_arg1) = m ((c.tc : Thread Cert.FinalIdeal.nD Cert.FinalIdeal.τ).loc Cert.FinalIdeal.main_arg1)
      ∧ m' ((c.tc : Thread Cert.FinalRefIdeal.nD Cert.FinalRefIdeal.τ).loc Cert.FinalRefIdeal.main_arg2) = m ((c.tc : Thread Cert.FinalIdeal.nD Cert.FinalIdeal.τ).loc Cert.FinalIdeal.main_arg2)
      ∧ m' ((c.tc : Thread Cert.FinalRefIdeal.nD Cert.FinalRefIdeal.τ).loc Cert.FinalRefIdeal.main_arg3) = m ((c.tc : Thread Cert.FinalIdeal.nD Cert.FinalIdeal.τ).loc Cert.FinalIdeal.main_arg3)
      ∧ m' ((c.tc : Thread Cert.FinalRefIdeal.nD Cert.FinalRefIdeal.τ).loc Cert.FinalRefIdeal.main_arg4) = m ((c.tc : Thread Cert.FinalIdeal.nD Cert.FinalIdeal.τ).loc Cert.FinalIdeal.main_arg4)) →
    ∃ (v0 : (c : Dev Cert.FinalIdeal.nD) → Buf (Elt Ideal) ((c.tc : Thread Cert.FinalIdeal.nD Cert.FinalIdeal.τ).loc Cert.FinalIdeal.main_v1)),
      θ_run (Cert.FinalIdeal.defs (F := Ideal)) (onTc (τ := Cert.FinalIdeal.τ) (Cert.FinalIdeal.main (F := Ideal))) ⟨m, fun _ => 0, g⟩ (fun r => ∀ c : Dev Cert.FinalIdeal.nD,
          r.2.mem ((c.tc : Thread Cert.FinalIdeal.nD Cert.FinalIdeal.τ).loc Cert.FinalIdeal.main_v1) = v0 c
          ∧ r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
          ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1)
          ∧ r.2.mem ((c.tc : Thread Cert.FinalIdeal.nD Cert.FinalIdeal.τ).loc Cert.FinalIdeal.main_arg2) = m ((c.tc : Thread Cert.FinalIdeal.nD Cert.FinalIdeal.τ).loc Cert.FinalIdeal.main_arg2)
          ∧ r.2.mem ((c.tc : Thread Cert.FinalIdeal.nD Cert.FinalIdeal.τ).loc Cert.FinalIdeal.main_arg3) = m ((c.tc : Thread Cert.FinalIdeal.nD Cert.FinalIdeal.τ).loc Cert.FinalIdeal.main_arg3)
          ∧ r.2.mem ((c.tc : Thread Cert.FinalIdeal.nD Cert.FinalIdeal.τ).loc Cert.FinalIdeal.main_arg4) = m ((c.tc : Thread Cert.FinalIdeal.nD Cert.FinalIdeal.τ).loc Cert.FinalIdeal.main_arg4))
      ∧ θ_run (Cert.FinalRefIdeal.defs (F := Ideal)) (onTc (τ := Cert.FinalRefIdeal.τ) (Cert.FinalRefIdeal.main (F := Ideal))) ⟨m', fun _ => 0, g'⟩ (fun r => ∀ c : Dev Cert.FinalRefIdeal.nD,
          r.2.mem ((c.tc : Thread Cert.FinalRefIdeal.nD Cert.FinalRefIdeal.τ).loc Cert.FinalRefIdeal.main_v49) = v0 c
          ∧ r.2.mem ((c.tc : Thread Cert.FinalRefIdeal.nD Cert.FinalRefIdeal.τ).loc Cert.FinalRefIdeal.main_arg0) = m' ((c.tc : Thread Cert.FinalRefIdeal.nD Cert.FinalRefIdeal.τ).loc Cert.FinalRefIdeal.main_arg0)
          ∧ r.2.mem ((c.tc : Thread Cert.FinalRefIdeal.nD Cert.FinalRefIdeal.τ).loc Cert.FinalRefIdeal.main_arg1) = m' ((c.tc : Thread Cert.FinalRefIdeal.nD Cert.FinalRefIdeal.τ).loc Cert.FinalRefIdeal.main_arg1)
          ∧ r.2.mem ((c.tc : Thread Cert.FinalRefIdeal.nD Cert.FinalRefIdeal.τ).loc Cert.FinalRefIdeal.main_arg2) = m' ((c.tc : Thread Cert.FinalRefIdeal.nD Cert.FinalRefIdeal.τ).loc Cert.FinalRefIdeal.main_arg2)
          ∧ r.2.mem ((c.tc : Thread Cert.FinalRefIdeal.nD Cert.FinalRefIdeal.τ).loc Cert.FinalRefIdeal.main_arg3) = m' ((c.tc : Thread Cert.FinalRefIdeal.nD Cert.FinalRefIdeal.τ).loc Cert.FinalRefIdeal.main_arg3)
          ∧ r.2.mem ((c.tc : Thread Cert.FinalRefIdeal.nD Cert.FinalRefIdeal.τ).loc Cert.FinalRefIdeal.main_arg4) = m' ((c.tc : Thread Cert.FinalRefIdeal.nD Cert.FinalRefIdeal.τ).loc Cert.FinalRefIdeal.main_arg4))

def preserves_Experts_ExpertsIdeal : Prop :=
  True

def algebraic_ExpertsIdeal_ExpertsRefIdeal [hExpertsIdeal : Cert.ExpertsIdeal.Facts] [hExpertsRefIdeal : Cert.ExpertsRefIdeal.Facts] [hPre_routed : Cert.Pre_routed.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsRefIdeal.nD Cert.ExpertsRefIdeal.τ Cert.ExpertsRefIdeal.sig) → Buf (Elt Ideal) ℓ) (g' : Dev Cert.ExpertsRefIdeal.nD → PrngReg), Pre_ExpertsIdeal m →
    (∀ c : Dev Cert.ExpertsIdeal.nD,
      m' ((c.tc : Thread Cert.ExpertsRefIdeal.nD Cert.ExpertsRefIdeal.τ).loc Cert.ExpertsRefIdeal.main_arg0) = m ((c.tc : Thread Cert.ExpertsIdeal.nD Cert.ExpertsIdeal.τ).loc Cert.ExpertsIdeal.main_arg0)
      ∧ m' ((c.tc : Thread Cert.ExpertsRefIdeal.nD Cert.ExpertsRefIdeal.τ).loc Cert.ExpertsRefIdeal.main_arg1) = m ((c.tc : Thread Cert.ExpertsIdeal.nD Cert.ExpertsIdeal.τ).loc Cert.ExpertsIdeal.main_arg1)
      ∧ m' ((c.tc : Thread Cert.ExpertsRefIdeal.nD Cert.ExpertsRefIdeal.τ).loc Cert.ExpertsRefIdeal.main_arg2) = m ((c.tc : Thread Cert.ExpertsIdeal.nD Cert.ExpertsIdeal.τ).loc Cert.ExpertsIdeal.main_arg2)
      ∧ m' ((c.tc : Thread Cert.ExpertsRefIdeal.nD Cert.ExpertsRefIdeal.τ).loc Cert.ExpertsRefIdeal.main_arg3) = m ((c.tc : Thread Cert.ExpertsIdeal.nD Cert.ExpertsIdeal.τ).loc Cert.ExpertsIdeal.main_arg3)
      ∧ m' ((c.tc : Thread Cert.ExpertsRefIdeal.nD Cert.ExpertsRefIdeal.τ).loc Cert.ExpertsRefIdeal.main_arg4) = m ((c.tc : Thread Cert.ExpertsIdeal.nD Cert.ExpertsIdeal.τ).loc Cert.ExpertsIdeal.main_arg4)
      ∧ m' ((c.tc : Thread Cert.ExpertsRefIdeal.nD Cert.ExpertsRefIdeal.τ).loc Cert.ExpertsRefIdeal.main_arg5) = m ((c.tc : Thread Cert.ExpertsIdeal.nD Cert.ExpertsIdeal.τ).loc Cert.ExpertsIdeal.main_arg5)
      ∧ m' ((c.tc : Thread Cert.ExpertsRefIdeal.nD Cert.ExpertsRefIdeal.τ).loc Cert.ExpertsRefIdeal.main_arg6) = m ((c.tc : Thread Cert.ExpertsIdeal.nD Cert.ExpertsIdeal.τ).loc Cert.ExpertsIdeal.main_arg6)
      ∧ m' ((c.tc : Thread Cert.ExpertsRefIdeal.nD Cert.ExpertsRefIdeal.τ).loc Cert.ExpertsRefIdeal.main_arg7) = m ((c.tc : Thread Cert.ExpertsIdeal.nD Cert.ExpertsIdeal.τ).loc Cert.ExpertsIdeal.main_arg7)) →
    ∃ (v0 : (c : Dev Cert.ExpertsIdeal.nD) → Buf (Elt Ideal) ((c.tc : Thread Cert.ExpertsIdeal.nD Cert.ExpertsIdeal.τ).loc Cert.ExpertsIdeal.main_v2)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v2) = v0 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
          ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
          ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6)
          ∧ r.2.mem ((c.tc : Thread Cert.ExpertsIdeal.nD Cert.ExpertsIdeal.τ).loc Cert.ExpertsIdeal.main_arg7) = m ((c.tc : Thread Cert.ExpertsIdeal.nD Cert.ExpertsIdeal.τ).loc Cert.ExpertsIdeal.main_arg7))
      ∧ θ_run (Cert.ExpertsRefIdeal.defs (F := Ideal)) (onTc (τ := Cert.ExpertsRefIdeal.τ) (Cert.ExpertsRefIdeal.main (F := Ideal))) ⟨m', fun _ => 0, g'⟩ (fun r => ∀ c : Dev Cert.ExpertsRefIdeal.nD,
          r.2.mem ((c.tc : Thread Cert.ExpertsRefIdeal.nD Cert.ExpertsRefIdeal.τ).loc Cert.ExpertsRefIdeal.main_v70) = v0 c
          ∧ r.2.mem ((c.tc : Thread Cert.ExpertsRefIdeal.nD Cert.ExpertsRefIdeal.τ).loc Cert.ExpertsRefIdeal.main_arg0) = m' ((c.tc : Thread Cert.ExpertsRefIdeal.nD Cert.ExpertsRefIdeal.τ).loc Cert.ExpertsRefIdeal.main_arg0)
          ∧ r.2.mem ((c.tc : Thread Cert.ExpertsRefIdeal.nD Cert.ExpertsRefIdeal.τ).loc Cert.ExpertsRefIdeal.main_arg1) = m' ((c.tc : Thread Cert.ExpertsRefIdeal.nD Cert.ExpertsRefIdeal.τ).loc Cert.ExpertsRefIdeal.main_arg1)
          ∧ r.2.mem ((c.tc : Thread Cert.ExpertsRefIdeal.nD Cert.ExpertsRefIdeal.τ).loc Cert.ExpertsRefIdeal.main_arg2) = m' ((c.tc : Thread Cert.ExpertsRefIdeal.nD Cert.ExpertsRefIdeal.τ).loc Cert.ExpertsRefIdeal.main_arg2)
          ∧ r.2.mem ((c.tc : Thread Cert.ExpertsRefIdeal.nD Cert.ExpertsRefIdeal.τ).loc Cert.ExpertsRefIdeal.main_arg3) = m' ((c.tc : Thread Cert.ExpertsRefIdeal.nD Cert.ExpertsRefIdeal.τ).loc Cert.ExpertsRefIdeal.main_arg3)
          ∧ r.2.mem ((c.tc : Thread Cert.ExpertsRefIdeal.nD Cert.ExpertsRefIdeal.τ).loc Cert.ExpertsRefIdeal.main_arg4) = m' ((c.tc : Thread Cert.ExpertsRefIdeal.nD Cert.ExpertsRefIdeal.τ).loc Cert.ExpertsRefIdeal.main_arg4)
          ∧ r.2.mem ((c.tc : Thread Cert.ExpertsRefIdeal.nD Cert.ExpertsRefIdeal.τ).loc Cert.ExpertsRefIdeal.main_arg5) = m' ((c.tc : Thread Cert.ExpertsRefIdeal.nD Cert.ExpertsRefIdeal.τ).loc Cert.ExpertsRefIdeal.main_arg5)
          ∧ r.2.mem ((c.tc : Thread Cert.ExpertsRefIdeal.nD Cert.ExpertsRefIdeal.τ).loc Cert.ExpertsRefIdeal.main_arg6) = m' ((c.tc : Thread Cert.ExpertsRefIdeal.nD Cert.ExpertsRefIdeal.τ).loc Cert.ExpertsRefIdeal.main_arg6)
          ∧ r.2.mem ((c.tc : Thread Cert.ExpertsRefIdeal.nD Cert.ExpertsRefIdeal.τ).loc Cert.ExpertsRefIdeal.main_arg7) = m' ((c.tc : Thread Cert.ExpertsRefIdeal.nD Cert.ExpertsRefIdeal.τ).loc Cert.ExpertsRefIdeal.main_arg7))

def preserves_Split_SplitIdeal : Prop :=
  True

def algebraic_SplitIdeal_SplitRefIdeal [hSplitIdeal : Cert.SplitIdeal.Facts] [hSplitRefIdeal : Cert.SplitRefIdeal.Facts] : Prop :=
  ∀ (m : (ℓ : Loc Cert.SplitIdeal.nD Cert.SplitIdeal.τ Cert.SplitIdeal.sig) → Buf (Elt Ideal) ℓ) (g : Dev Cert.SplitIdeal.nD → PrngReg)
    (m' : (ℓ : Loc Cert.SplitRefIdeal.nD Cert.SplitRefIdeal.τ Cert.SplitRefIdeal.sig) → Buf (Elt Ideal) ℓ) (g' : Dev Cert.SplitRefIdeal.nD → PrngReg), Pre_SplitIdeal m →
    (∀ c : Dev Cert.SplitIdeal.nD,
      m' ((c.tc : Thread Cert.SplitRefIdeal.nD Cert.SplitRefIdeal.τ).loc Cert.SplitRefIdeal.main_arg0) = m ((c.tc : Thread Cert.SplitIdeal.nD Cert.SplitIdeal.τ).loc Cert.SplitIdeal.main_arg0)) →
    ∃ (v0 : (c : Dev Cert.SplitIdeal.nD) → Buf (Elt Ideal) ((c.tc : Thread Cert.SplitIdeal.nD Cert.SplitIdeal.τ).loc Cert.SplitIdeal.main_v21)),
      θ_run (Cert.SplitIdeal.defs (F := Ideal)) (onTc (τ := Cert.SplitIdeal.τ) (Cert.SplitIdeal.main (F := Ideal))) ⟨m, fun _ => 0, g⟩ (fun r => ∀ c : Dev Cert.SplitIdeal.nD,
          r.2.mem ((c.tc : Thread Cert.SplitIdeal.nD Cert.SplitIdeal.τ).loc Cert.SplitIdeal.main_v21) = v0 c
          ∧ r.2.mem ((c.tc : Thread Cert.SplitIdeal.nD Cert.SplitIdeal.τ).loc Cert.SplitIdeal.main_arg0) = m ((c.tc : Thread Cert.SplitIdeal.nD Cert.SplitIdeal.τ).loc Cert.SplitIdeal.main_arg0))
      ∧ θ_run (Cert.SplitRefIdeal.defs (F := Ideal)) (onTc (τ := Cert.SplitRefIdeal.τ) (Cert.SplitRefIdeal.main (F := Ideal))) ⟨m', fun _ => 0, g'⟩ (fun r => ∀ c : Dev Cert.SplitRefIdeal.nD,
          r.2.mem ((c.tc : Thread Cert.SplitRefIdeal.nD Cert.SplitRefIdeal.τ).loc Cert.SplitRefIdeal.main_v12) = v0 c
          ∧ r.2.mem ((c.tc : Thread Cert.SplitRefIdeal.nD Cert.SplitRefIdeal.τ).loc Cert.SplitRefIdeal.main_arg0) = m' ((c.tc : Thread Cert.SplitRefIdeal.nD Cert.SplitRefIdeal.τ).loc Cert.SplitRefIdeal.main_arg0))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)
      ∧ m' ((c.tc : Thread Cert.MergeRefIdeal.nD Cert.MergeRefIdeal.τ).loc Cert.MergeRefIdeal.main_arg9) = m ((c.tc : Thread Cert.MergeIdeal.nD Cert.MergeIdeal.τ).loc Cert.MergeIdeal.main_arg9)
      ∧ m' ((c.tc : Thread Cert.MergeRefIdeal.nD Cert.MergeRefIdeal.τ).loc Cert.MergeRefIdeal.main_arg10) = m ((c.tc : Thread Cert.MergeIdeal.nD Cert.MergeIdeal.τ).loc Cert.MergeIdeal.main_arg10)) →
    ∃ (v0 : (c : Dev Cert.MergeIdeal.nD) → Buf (Elt Ideal) ((c.tc : Thread Cert.MergeIdeal.nD Cert.MergeIdeal.τ).loc Cert.MergeIdeal.main_v6)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v6) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v66) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8)
          ∧ r.2.mem ((c.tc : Thread Cert.MergeRefIdeal.nD Cert.MergeRefIdeal.τ).loc Cert.MergeRefIdeal.main_arg9) = m' ((c.tc : Thread Cert.MergeRefIdeal.nD Cert.MergeRefIdeal.τ).loc Cert.MergeRefIdeal.main_arg9)
          ∧ r.2.mem ((c.tc : Thread Cert.MergeRefIdeal.nD Cert.MergeRefIdeal.τ).loc Cert.MergeRefIdeal.main_arg10) = m' ((c.tc : Thread Cert.MergeRefIdeal.nD Cert.MergeRefIdeal.τ).loc Cert.MergeRefIdeal.main_arg10))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)
      ∧ m' ((c.tc : Thread Cert.NormRefIdeal.nD Cert.NormRefIdeal.τ).loc Cert.NormRefIdeal.main_arg2) = m ((c.tc : Thread Cert.NormIdeal.nD Cert.NormIdeal.τ).loc Cert.NormIdeal.main_arg2)) →
    ∃ (v0 : (c : Dev Cert.NormIdeal.nD) → Buf (Elt Ideal) ((c.tc : Thread Cert.NormIdeal.nD Cert.NormIdeal.τ).loc Cert.NormIdeal.main_v1)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v1) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
          ∧ r.2.mem ((c.tc : Thread Cert.NormIdeal.nD Cert.NormIdeal.τ).loc Cert.NormIdeal.main_arg2) = m ((c.tc : Thread Cert.NormIdeal.nD Cert.NormIdeal.τ).loc Cert.NormIdeal.main_arg2))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v53) = v0 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1)
          ∧ r.2.mem ((c.tc : Thread Cert.NormRefIdeal.nD Cert.NormRefIdeal.τ).loc Cert.NormRefIdeal.main_arg2) = m' ((c.tc : Thread Cert.NormRefIdeal.nD Cert.NormRefIdeal.τ).loc Cert.NormRefIdeal.main_arg2))

def Claim : Prop :=
  ∃ (hKernel : Cert.Kernel.Facts) (hKernelIdeal : Cert.KernelIdeal.Facts) (hReferenceIdeal : Cert.ReferenceIdeal.Facts) (hMain : Cert.Main.Facts) (hMainIdeal : Cert.MainIdeal.Facts) (hMainRefIdeal : Cert.MainRefIdeal.Facts) (hGates : Cert.Gates.Facts) (hGatesIdeal : Cert.GatesIdeal.Facts) (hGatesRefIdeal : Cert.GatesRefIdeal.Facts) (hOut : Cert.Out.Facts) (hOutIdeal : Cert.OutIdeal.Facts) (hOutRefIdeal : Cert.OutRefIdeal.Facts) (hFinal : Cert.Final.Facts) (hFinalIdeal : Cert.FinalIdeal.Facts) (hFinalRefIdeal : Cert.FinalRefIdeal.Facts) (hExperts : Cert.Experts.Facts) (hExpertsIdeal : Cert.ExpertsIdeal.Facts) (hExpertsRefIdeal : Cert.ExpertsRefIdeal.Facts) (hSplit : Cert.Split.Facts) (hSplitIdeal : Cert.SplitIdeal.Facts) (hSplitRefIdeal : Cert.SplitRefIdeal.Facts) (hMerge : Cert.Merge.Facts) (hMergeIdeal : Cert.MergeIdeal.Facts) (hMergeRefIdeal : Cert.MergeRefIdeal.Facts) (hNorm : Cert.Norm.Facts) (hNormIdeal : Cert.NormIdeal.Facts) (hNormRefIdeal : Cert.NormRefIdeal.Facts) (hPre_finite_qk : Cert.Pre_finite_qk.Facts) (hPre_routed : Cert.Pre_routed.Facts),
    quiescent_Kernel (hKernel := hKernel)
    ∧ quiescent_KernelIdeal (hKernelIdeal := hKernelIdeal)
    ∧ quiescent_KernelIdeal_pre_finite_qk (hKernelIdeal := hKernelIdeal) (hPre_finite_qk := hPre_finite_qk)
    ∧ quiescent_ReferenceIdeal (hReferenceIdeal := hReferenceIdeal)
    ∧ quiescent_ReferenceIdeal_pre_finite_qk (hReferenceIdeal := hReferenceIdeal) (hPre_finite_qk := hPre_finite_qk)
    ∧ quiescent_Main (hMain := hMain)
    ∧ quiescent_MainIdeal (hMainIdeal := hMainIdeal)
    ∧ quiescent_MainRefIdeal (hMainRefIdeal := hMainRefIdeal)
    ∧ quiescent_Gates (hGates := hGates)
    ∧ quiescent_GatesIdeal (hGatesIdeal := hGatesIdeal)
    ∧ quiescent_GatesRefIdeal (hGatesRefIdeal := hGatesRefIdeal)
    ∧ quiescent_Out (hOut := hOut)
    ∧ quiescent_OutIdeal (hOutIdeal := hOutIdeal)
    ∧ quiescent_OutRefIdeal (hOutRefIdeal := hOutRefIdeal)
    ∧ quiescent_Final (hFinal := hFinal)
    ∧ quiescent_FinalIdeal (hFinalIdeal := hFinalIdeal)
    ∧ quiescent_FinalRefIdeal (hFinalRefIdeal := hFinalRefIdeal)
    ∧ quiescent_Experts (hExperts := hExperts) (hPre_routed := hPre_routed)
    ∧ quiescent_ExpertsIdeal (hExpertsIdeal := hExpertsIdeal) (hPre_routed := hPre_routed)
    ∧ quiescent_ExpertsRefIdeal (hExpertsRefIdeal := hExpertsRefIdeal) (hPre_routed := hPre_routed)
    ∧ quiescent_Split (hSplit := hSplit)
    ∧ quiescent_SplitIdeal (hSplitIdeal := hSplitIdeal)
    ∧ quiescent_SplitRefIdeal (hSplitRefIdeal := hSplitRefIdeal)
    ∧ quiescent_Merge (hMerge := hMerge)
    ∧ quiescent_MergeIdeal (hMergeIdeal := hMergeIdeal)
    ∧ quiescent_MergeRefIdeal (hMergeRefIdeal := hMergeRefIdeal)
    ∧ quiescent_Norm (hNorm := hNorm)
    ∧ quiescent_NormIdeal (hNormIdeal := hNormIdeal)
    ∧ quiescent_NormRefIdeal (hNormRefIdeal := hNormRefIdeal)
    ∧ preserves_Kernel_KernelIdeal
    ∧ algebraic_KernelIdeal_ReferenceIdeal_pre_finite_qk (hKernelIdeal := hKernelIdeal) (hReferenceIdeal := hReferenceIdeal) (hPre_finite_qk := hPre_finite_qk)
    ∧ preserves_Main_MainIdeal
    ∧ algebraic_MainIdeal_MainRefIdeal (hMainIdeal := hMainIdeal) (hMainRefIdeal := hMainRefIdeal)
    ∧ preserves_Gates_GatesIdeal
    ∧ algebraic_GatesIdeal_GatesRefIdeal (hGatesIdeal := hGatesIdeal) (hGatesRefIdeal := hGatesRefIdeal)
    ∧ preserves_Out_OutIdeal
    ∧ algebraic_OutIdeal_OutRefIdeal (hOutIdeal := hOutIdeal) (hOutRefIdeal := hOutRefIdeal)
    ∧ preserves_Final_FinalIdeal
    ∧ algebraic_FinalIdeal_FinalRefIdeal (hFinalIdeal := hFinalIdeal) (hFinalRefIdeal := hFinalRefIdeal)
    ∧ preserves_Experts_ExpertsIdeal
    ∧ algebraic_ExpertsIdeal_ExpertsRefIdeal (hExpertsIdeal := hExpertsIdeal) (hExpertsRefIdeal := hExpertsRefIdeal) (hPre_routed := hPre_routed)
    ∧ preserves_Split_SplitIdeal
    ∧ algebraic_SplitIdeal_SplitRefIdeal (hSplitIdeal := hSplitIdeal) (hSplitRefIdeal := hSplitRefIdeal)
    ∧ preserves_Merge_MergeIdeal
    ∧ algebraic_MergeIdeal_MergeRefIdeal (hMergeIdeal := hMergeIdeal) (hMergeRefIdeal := hMergeRefIdeal)
    ∧ preserves_Norm_NormIdeal
    ∧ algebraic_NormIdeal_NormRefIdeal (hNormIdeal := hNormIdeal) (hNormRefIdeal := hNormRefIdeal)
-- ==== Pre_finite_qk.lean ====
abbrev S4x4352x1024 : Shape := ⟨3, ![4, 4352, 1024]⟩
abbrev S4x4352x256 : Shape := ⟨3, ![4, 4352, 256]⟩
abbrev S_ : Shape := ⟨0, ![]⟩

class Facts : Prop where
  bcast_S_S4x4352x1024 : S_.BroadcastsInDim S4x4352x1024 (![] : Fin 0 → Fin S4x4352x1024.rank)
  reducesTo_S4x4352x1024_S_d0_1_2 : S4x4352x1024.ReducesTo [0, 1, 2] S_
  h_S_ : 0 < S_.numel
  bcast_S_S4x4352x256 : S_.BroadcastsInDim S4x4352x256 (![] : Fin 0 → Fin S4x4352x256.rank)
  reducesTo_S4x4352x256_S_d0_1_2 : S4x4352x256.ReducesTo [0, 1, 2] S_

variable [Facts]

def fn {F : FTy → Type} [FloatOps F] (main_arg0 : FVec F S4x4352x1024 .bf16) (main_arg1 : FVec F S4x4352x256 .bf16) (main_arg2 : FVec F S4x4352x256 .bf16) : IVec S_ 1 :=
  let main_v0 : FVec F S4x4352x1024 .bf16 := Host.absf main_arg0
  let main_cst : FVec F S_ .bf16 := constant S_ .bf16 0x7F80#16
  let main_v1 : FVec F S4x4352x1024 .bf16 := broadcastInDim S4x4352x1024 ![] bcast_S_S4x4352x1024 main_cst
  let main_v2 : IVec S4x4352x1024 1 := cmpf .olt main_v0 main_v1
  let main_c : IVec S_ 1 := constantI S_ 1 1#1
  let main_v3 : IVec S_ 1 := (fun x v => Host.reduce IntOp.andi x v reducesTo_S4x4352x1024_S_d0_1_2 h_S_) main_v2 main_c
  let main_v4 : FVec F S4x4352x256 .bf16 := Host.absf main_arg1
  let main_cst_0 : FVec F S_ .bf16 := constant S_ .bf16 0x7F80#16
  let main_v5 : FVec F S4x4352x256 .bf16 := broadcastInDim S4x4352x256 ![] bcast_S_S4x4352x256 main_cst_0
  let main_v6 : IVec S4x4352x256 1 := cmpf .olt main_v4 main_v5
  let main_c_1 : IVec S_ 1 := constantI S_ 1 1#1
  let main_v7 : IVec S_ 1 := (fun x v => Host.reduce IntOp.andi x v reducesTo_S4x4352x256_S_d0_1_2 h_S_) main_v6 main_c_1
  let main_v8 : IVec S_ 1 := andi main_v3 main_v7
  main_v8
-- ==== Pre_routed.lean ====
abbrev S17408x2048 : Shape := ⟨2, ![17408, 2048]⟩
abbrev S304x256 : Shape := ⟨2, ![304, 256]⟩
abbrev S304 : Shape := ⟨1, ![304]⟩
abbrev S1 : Shape := ⟨1, ![1]⟩
abbrev S32x2048x2048 : Shape := ⟨3, ![32, 2048, 2048]⟩
abbrev S64x1x2048 : Shape := ⟨3, ![64, 1, 2048]⟩
abbrev S64x1024x2048 : Shape := ⟨3, ![64, 1024, 2048]⟩
abbrev S_ : Shape := ⟨0, ![]⟩

class Facts : Prop where
  bcast_S_S304x256 : S_.BroadcastsInDim S304x256 (![] : Fin 0 → Fin S304x256.rank)
  reducesTo_S304x256_S_d0_1 : S304x256.ReducesTo [0, 1] S_
  h_S_ : 0 < S_.numel
  bcast_S_S304 : S_.BroadcastsInDim S304 (![] : Fin 0 → Fin S304.rank)
  reducesTo_S304_S_d0 : S304.ReducesTo [0] S_
  bcast_S_S1 : S_.BroadcastsInDim S1 (![] : Fin 0 → Fin S1.rank)
  reducesTo_S1_S_d0 : S1.ReducesTo [0] S_

variable [Facts]

def fn_part1 {F : FTy → Type} [FloatOps F] (main_arg3 : IVec S1 32) (main_v12 : IVec S_ 1) (main_v14 : IVec S1 1) (main_v15 : IVec S1 32) : IVec S_ 1 :=
  let main_v16 : IVec S1 1 := cmpi .sle main_arg3 main_v15
  let main_v17 : IVec S1 1 := andi main_v14 main_v16
  let main_c_7 : IVec S_ 1 := constantI S_ 1 1#1
  let main_v18 : IVec S_ 1 := (fun x v => Host.reduce IntOp.andi x v reducesTo_S1_S_d0 h_S_) main_v17 main_c_7
  let main_v19 : IVec S_ 1 := andi main_v12 main_v18
  main_v19

def fn {F : FTy → Type} [FloatOps F] (main_arg0 : FVec F S17408x2048 .f32) (main_arg1 : IVec S304x256 32) (main_arg2 : IVec S304 32) (main_arg3 : IVec S1 32) (main_arg4 : FVec F S32x2048x2048 .bf16) (main_arg5 : FVec F S64x1x2048 .f32) (main_arg6 : FVec F S64x1024x2048 .f32) (main_arg7 : FVec F S64x1x2048 .f32) : IVec S_ 1 :=
  let main_c : IVec S_ 32 := constantI S_ 32 0#32
  let main_v0 : IVec S304x256 32 := broadcastInDim S304x256 ![] bcast_S_S304x256 main_c
  let main_v1 : IVec S304x256 1 := cmpi .sge main_arg1 main_v0
  let main_c_0 : IVec S_ 32 := constantI S_ 32 17408#32
  let main_v2 : IVec S304x256 32 := broadcastInDim S304x256 ![] bcast_S_S304x256 main_c_0
  let main_v3 : IVec S304x256 1 := cmpi .slt main_arg1 main_v2
  let main_v4 : IVec S304x256 1 := andi main_v1 main_v3
  let main_c_1 : IVec S_ 1 := constantI S_ 1 1#1
  let main_v5 : IVec S_ 1 := (fun x v => Host.reduce IntOp.andi x v reducesTo_S304x256_S_d0_1 h_S_) main_v4 main_c_1
  let main_c_2 : IVec S_ 32 := constantI S_ 32 0#32
  let main_v6 : IVec S304 32 := broadcastInDim S304 ![] bcast_S_S304 main_c_2
  let main_v7 : IVec S304 1 := cmpi .sge main_arg2 main_v6
  let main_c_3 : IVec S_ 32 := constantI S_ 32 32#32
  let main_v8 : IVec S304 32 := broadcastInDim S304 ![] bcast_S_S304 main_c_3
  let main_v9 : IVec S304 1 := cmpi .slt main_arg2 main_v8
  let main_v10 : IVec S304 1 := andi main_v7 main_v9
  let main_c_4 : IVec S_ 1 := constantI S_ 1 1#1
  let main_v11 : IVec S_ 1 := (fun x v => Host.reduce IntOp.andi x v reducesTo_S304_S_d0 h_S_) main_v10 main_c_4
  let main_v12 : IVec S_ 1 := andi main_v5 main_v11
  let main_c_5 : IVec S_ 32 := constantI S_ 32 1#32
  let main_v13 : IVec S1 32 := broadcastInDim S1 ![] bcast_S_S1 main_c_5
  let main_v14 : IVec S1 1 := cmpi .sge main_arg3 main_v13
  let main_c_6 : IVec S_ 32 := constantI S_ 32 304#32
  let main_v15 : IVec S1 32 := broadcastInDim S1 ![] bcast_S_S1 main_c_6
  fn_part1 (F := F) main_arg3 main_v12 main_v14 main_v15
-- ==== Kernel.lean ====
abbrev S4x4352x1024 : Shape := ⟨3, ![4, 4352, 1024]⟩
abbrev S4x4352x256 : Shape := ⟨3, ![4, 4352, 256]⟩
abbrev S1x256x512 : Shape := ⟨3, ![1, 256, 512]⟩
abbrev S1x4352x128 : Shape := ⟨3, ![1, 4352, 128]⟩
abbrev S4352x128 : Shape := ⟨2, ![4352, 128]⟩
abbrev S4352x256 : Shape := ⟨2, ![4352, 256]⟩
abbrev S1x256x128 : Shape := ⟨3, ![1, 256, 128]⟩
abbrev S256x128 : Shape := ⟨2, ![256, 128]⟩
abbrev S512x128 : Shape := ⟨2, ![512, 128]⟩
abbrev S512x4352 : Shape := ⟨2, ![512, 4352]⟩
abbrev S512 : Shape := ⟨1, ![512]⟩
abbrev S512x1 : Shape := ⟨2, ![512, 1]⟩
abbrev S512x256 : Shape := ⟨2, ![512, 256]⟩
abbrev S256x256 : Shape := ⟨2, ![256, 256]⟩

abbrev nBuf : Space → Nat
  | .hbm => 4
  | .vmem => 8
  | .smem => 0
  | _ => 0

abbrev bufTy : (tb : Table) → Fin (tcTables nBuf tb) → BufTy
  | .hbm, ⟨0, _⟩ => ⟨S4x4352x1024, .bf16⟩
  | .hbm, ⟨1, _⟩ => ⟨S4x4352x256, .bf16⟩
  | .hbm, ⟨2, _⟩ => ⟨S4x4352x256, .bf16⟩
  | .hbm, ⟨3, _⟩ => ⟨S4x4352x1024, .bf16⟩
  | .local _ .vmem, ⟨0, _⟩ => ⟨S1x256x512, .bf16⟩
  | .local _ .vmem, ⟨1, _⟩ => ⟨S1x256x512, .bf16⟩
  | .local _ .vmem, ⟨2, _⟩ => ⟨S1x4352x128, .bf16⟩
  | .local _ .vmem, ⟨3, _⟩ => ⟨S1x4352x128, .bf16⟩
  | .local _ .vmem, ⟨4, _⟩ => ⟨S1x4352x128, .bf16⟩
  | .local _ .vmem, ⟨5, _⟩ => ⟨S1x4352x128, .bf16⟩
  | .local _ .vmem, ⟨6, _⟩ => ⟨S1x256x512, .bf16⟩
  | .local _ .vmem, ⟨7, _⟩ => ⟨S1x256x512, .bf16⟩
  | _, _ => ⟨S4x4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 17], ![false, false, false]⟩

def k0_cond1 (i : grid0.Coords) : BitVec 1 :=
  let arg2 : BitVec 32 := BitVec.ofNat 32 (i 2).val
  let c256_i32 : BitVec 32 := 256#32
  let v0 : BitVec 32 := Scalar.muli arg2 c256_i32
  let c256_i32_0 : BitVec 32 := 256#32
  let v1 : BitVec 1 := Scalar.cmpi .slt v0 c256_i32_0
  let v_true : BitVec 1 := 1#1
  let v2 : BitVec 1 := Scalar.xori v1 v_true
  let v3 : BitVec 32 := Scalar.extui v2
  let c0_i32 : BitVec 32 := 0#32
  let v4 : BitVec 1 := Scalar.cmpi .ne v3 c0_i32
  v4

def k0_cond2 (i : grid0.Coords) : BitVec 1 :=
  let arg2 : BitVec 32 := BitVec.ofNat 32 (i 2).val
  let c256_i32 : BitVec 32 := 256#32
  let v0 : BitVec 32 := Scalar.muli arg2 c256_i32
  let c256_i32_0 : BitVec 32 := 256#32
  let v1 : BitVec 1 := Scalar.cmpi .slt v0 c256_i32_0
  let v5 : BitVec 32 := Scalar.extui v1
  let c0_i32_1 : BitVec 32 := 0#32
  let v6 : BitVec 1 := Scalar.cmpi .ne v5 c0_i32_1
  v6

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4352x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x4352x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== KernelIdeal.lean ====
variable {F : FTy → Type} [FloatOps F] [Named F]
def κ : String → Option EReal := fun
  | "c" => some (((Real.sqrt 128)⁻¹ * (Real.log 2)⁻¹ : ℝ) : EReal)
  | _ => none
-- ==== ReferenceIdeal.lean ====
abbrev S4x4352x1024 : Shape := ⟨3, ![4, 4352, 1024]⟩
abbrev S4x4352x256 : Shape := ⟨3, ![4, 4352, 256]⟩
abbrev S4x4352x8x128 : Shape := ⟨4, ![4, 4352, 8, 128]⟩
abbrev S4x8x4352x128 : Shape := ⟨4, ![4, 8, 4352, 128]⟩
abbrev S4x4352x2x128 : Shape := ⟨4, ![4, 4352, 2, 128]⟩
abbrev S4x2x4352x128 : Shape := ⟨4, ![4, 2, 4352, 128]⟩
abbrev S4x8x4096x128 : Shape := ⟨4, ![4, 8, 4096, 128]⟩
abbrev S4x2x4x4096x128 : Shape := ⟨5, ![4, 2, 4, 4096, 128]⟩
abbrev S4x2x4x4096x4352 : Shape := ⟨5, ![4, 2, 4, 4096, 4352]⟩
abbrev S_ : Shape := ⟨0, ![]⟩
abbrev S4x2x4x4096 : Shape := ⟨4, ![4, 2, 4, 4096]⟩
abbrev S4x2x4x4096x1 : Shape := ⟨5, ![4, 2, 4, 4096, 1]⟩
abbrev S4x4096x8x128 : Shape := ⟨4, ![4, 4096, 8, 128]⟩
abbrev S4x4096x1024 : Shape := ⟨3, ![4, 4096, 1024]⟩
abbrev S4x8x256x128 : Shape := ⟨4, ![4, 8, 256, 128]⟩
abbrev S4x2x256x128 : Shape := ⟨4, ![4, 2, 256, 128]⟩
abbrev S4x2x4x256x128 : Shape := ⟨5, ![4, 2, 4, 256, 128]⟩
abbrev S4x2x4x256x256 : Shape := ⟨5, ![4, 2, 4, 256, 256]⟩
abbrev S4x2x4x256 : Shape := ⟨4, ![4, 2, 4, 256]⟩
abbrev S4x2x4x256x1 : Shape := ⟨5, ![4, 2, 4, 256, 1]⟩
abbrev S4x256x8x128 : Shape := ⟨4, ![4, 256, 8, 128]⟩
abbrev S4x256x1024 : Shape := ⟨3, ![4, 256, 1024]⟩

abbrev nBuf : Space → Nat
  | .hbm => 66
  | .vmem => 0
  | .smem => 0
  | _ => 0

abbrev bufTy : (tb : Table) → Fin (tcTables nBuf tb) → BufTy
  | .hbm, ⟨0, _⟩ => ⟨S4x4352x1024, .bf16⟩
  | .hbm, ⟨1, _⟩ => ⟨S4x4352x256, .bf16⟩
  | .hbm, ⟨2, _⟩ => ⟨S4x4352x256, .bf16⟩
  | .hbm, ⟨3, _⟩ => ⟨S4x4352x1024, .f32⟩
  | .hbm, ⟨4, _⟩ => ⟨S4x4352x8x128, .f32⟩
  | .hbm, ⟨5, _⟩ => ⟨S4x8x4352x128, .f32⟩
  | .hbm, ⟨6, _⟩ => ⟨S4x4352x256, .f32⟩
  | .hbm, ⟨7, _⟩ => ⟨S4x4352x2x128, .f32⟩
  | .hbm, ⟨8, _⟩ => ⟨S4x2x4352x128, .f32⟩
  | .hbm, ⟨9, _⟩ => ⟨S4x4352x256, .f32⟩
  | .hbm, ⟨10, _⟩ => ⟨S4x4352x2x128, .f32⟩
  | .hbm, ⟨11, _⟩ => ⟨S4x2x4352x128, .f32⟩
  | .hbm, ⟨12, _⟩ => ⟨S4x8x4096x128, .f32⟩
  | .hbm, ⟨13, _⟩ => ⟨S4x2x4x4096x128, .f32⟩
  | .hbm, ⟨14, _⟩ => ⟨S4x2x4x4096x4352, .f32⟩
  | .hbm, ⟨15, _⟩ => ⟨S_, .f32⟩
  | .hbm, ⟨16, _⟩ => ⟨S_, .f32⟩
  | .hbm, ⟨17, _⟩ => ⟨S4x2x4x4096x4352, .f32⟩
  | .hbm, ⟨18, _⟩ => ⟨S4x2x4x4096x4352, .f32⟩
  | .hbm, ⟨19, _⟩ => ⟨S_, .f32⟩
  | .hbm, ⟨20, _⟩ => ⟨S4x2x4x4096, .f32⟩
  | .hbm, ⟨21, _⟩ => ⟨S_, .f32⟩
  | .hbm, ⟨22, _⟩ => ⟨S4x2x4x4096, .f32⟩
  | .hbm, ⟨23, _⟩ => ⟨S4x2x4x4096, .f32⟩
  | .hbm, ⟨24, _⟩ => ⟨S4x2x4x4096x1, .f32⟩
  | .hbm, ⟨25, _⟩ => ⟨S4x2x4x4096x4352, .f32⟩
  | .hbm, ⟨26, _⟩ => ⟨S4x2x4x4096x4352, .f32⟩
  | .hbm, ⟨27, _⟩ => ⟨S4x2x4x4096x4352, .f32⟩
  | .hbm, ⟨28, _⟩ => ⟨S_, .f32⟩
  | .hbm, ⟨29, _⟩ => ⟨S4x2x4x4096, .f32⟩
  | .hbm, ⟨30, _⟩ => ⟨S4x2x4x4096x1, .f32⟩
  | .hbm, ⟨31, _⟩ => ⟨S4x2x4x4096x4352, .f32⟩
  | .hbm, ⟨32, _⟩ => ⟨S4x2x4x4096x4352, .f32⟩
  | .hbm, ⟨33, _⟩ => ⟨S4x2x4x4096x128, .f32⟩
  | .hbm, ⟨34, _⟩ => ⟨S4x8x4096x128, .f32⟩
  | .hbm, ⟨35, _⟩ => ⟨S4x4096x8x128, .f32⟩
  | .hbm, ⟨36, _⟩ => ⟨S4x4096x1024, .f32⟩
  | .hbm, ⟨37, _⟩ => ⟨S4x8x256x128, .f32⟩
  | .hbm, ⟨38, _⟩ => ⟨S4x2x256x128, .f32⟩
  | .hbm, ⟨39, _⟩ => ⟨S4x2x256x128, .f32⟩
  | .hbm, ⟨40, _⟩ => ⟨S4x2x4x256x128, .f32⟩
  | .hbm, ⟨41, _⟩ => ⟨S4x2x4x256x256, .f32⟩
  | .hbm, ⟨42, _⟩ => ⟨S_, .f32⟩
  | .hbm, ⟨43, _⟩ => ⟨S_, .f32⟩
  | .hbm, ⟨44, _⟩ => ⟨S4x2x4x256x256, .f32⟩
  | .hbm, ⟨45, _⟩ => ⟨S4x2x4x256x256, .f32⟩
  | .hbm, ⟨46, _⟩ => ⟨S_, .f32⟩
  | .hbm, ⟨47, _⟩ => ⟨S4x2x4x256, .f32⟩
  | .hbm, ⟨48, _⟩ => ⟨S_, .f32⟩
  | .hbm, ⟨49, _⟩ => ⟨S4x2x4x256, .f32⟩
  | .hbm, ⟨50, _⟩ => ⟨S4x2x4x256, .f32⟩
  | .hbm, ⟨51, _⟩ => ⟨S4x2x4x256x1, .f32⟩
  | .hbm, ⟨52, _⟩ => ⟨S4x2x4x256x256, .f32⟩
  | .hbm, ⟨53, _⟩ => ⟨S4x2x4x256x256, .f32⟩
  | .hbm, ⟨54, _⟩ => ⟨S4x2x4x256x256, .f32⟩
  | .hbm, ⟨55, _⟩ => ⟨S_, .f32⟩
  | .hbm, ⟨56, _⟩ => ⟨S4x2x4x256, .f32⟩
  | .hbm, ⟨57, _⟩ => ⟨S4x2x4x256x1, .f32⟩
  | .hbm, ⟨58, _⟩ => ⟨S4x2x4x256x256, .f32⟩
  | .hbm, ⟨59, _⟩ => ⟨S4x2x4x256x256, .f32⟩
  | .hbm, ⟨60, _⟩ => ⟨S4x2x4x256x128, .f32⟩
  | .hbm, ⟨61, _⟩ => ⟨S4x8x256x128, .f32⟩
  | .hbm, ⟨62, _⟩ => ⟨S4x256x8x128, .f32⟩
  | .hbm, ⟨63, _⟩ => ⟨S4x256x1024, .f32⟩
  | .hbm, ⟨64, _⟩ => ⟨S4x4352x1024, .f32⟩
  | .hbm, ⟨65, _⟩ => ⟨S4x4352x1024, .bf16⟩
  | _, _ => ⟨S4x4352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst_0 : Ref sig .tc := ⟨.hbm, 19, rfl⟩
abbrev main_v15 : Ref sig .tc := ⟨.hbm, 20, rfl⟩
abbrev main_cst_1 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_2 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_cst_3 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_cst_4 : Ref sig .tc := ⟨.hbm, 46, rfl⟩
abbrev main_v38 : Ref sig .tc := ⟨.hbm, 47, rfl⟩
abbrev main_cst_5 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_cst_6 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩

abbrev nD : Nat := 1
abbrev τ : Topo := Topo.v7x

variable {F : FTy → Type} [FloatOps F]
-- ==== Main.lean ====
abbrev S17408x2048 : Shape := ⟨2, ![17408, 2048]⟩
abbrev S2048x9744 : Shape := ⟨2, ![2048, 9744]⟩
abbrev S2048x3600 : Shape := ⟨2, ![2048, 3600]⟩
abbrev S_ : Shape := ⟨0, ![]⟩
abbrev S2048x240 : Shape := ⟨2, ![2048, 240]⟩
abbrev S2048x3840 : Shape := ⟨2, ![2048, 3840]⟩
abbrev S17408x3840 : Shape := ⟨2, ![17408, 3840]⟩
abbrev S1024x2048 : Shape := ⟨2, ![1024, 2048]⟩
abbrev S2048x1920 : Shape := ⟨2, ![2048, 1920]⟩
abbrev S1024x1920 : Shape := ⟨2, ![1024, 1920]⟩

abbrev nBuf : Space → Nat
  | .hbm => 8
  | .vmem => 6
  | .smem => 0
  | _ => 0

abbrev bufTy : (tb : Table) → Fin (tcTables nBuf tb) → BufTy
  | .hbm, ⟨0, _⟩ => ⟨S17408x2048, .bf16⟩
  | .hbm, ⟨1, _⟩ => ⟨S2048x9744, .f32⟩
  | .hbm, ⟨2, _⟩ => ⟨S2048x3600, .f32⟩
  | .hbm, ⟨3, _⟩ => ⟨S_, .f32⟩
  | .hbm, ⟨4, _⟩ => ⟨S2048x240, .f32⟩
  | .hbm, ⟨5, _⟩ => ⟨S2048x3840, .f32⟩
  | .hbm, ⟨6, _⟩ => ⟨S2048x3840, .bf16⟩
  | .hbm, ⟨7, _⟩ => ⟨S17408x3840, .f32⟩
  | .local _ .vmem, ⟨0, _⟩ => ⟨S1024x2048, .bf16⟩
  | .local _ .vmem, ⟨1, _⟩ => ⟨S1024x2048, .bf16⟩
  | .local _ .vmem, ⟨2, _⟩ => ⟨S2048x1920, .bf16⟩
  | .local _ .vmem, ⟨3, _⟩ => ⟨S2048x1920, .bf16⟩
  | .local _ .vmem, ⟨4, _⟩ => ⟨S1024x1920, .f32⟩
  | .local _ .vmem, ⟨5, _⟩ => ⟨S1024x1920, .f32⟩
  | _, _ => ⟨S17408x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![17, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1920 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1920 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== MainRefIdeal.lean ====
abbrev S17408x2048 : Shape := ⟨2, ![17408, 2048]⟩
abbrev S2048x9744 : Shape := ⟨2, ![2048, 9744]⟩
abbrev S17408x9744 : Shape := ⟨2, ![17408, 9744]⟩
abbrev S17408x3600 : Shape := ⟨2, ![17408, 3600]⟩
abbrev S_ : Shape := ⟨0, ![]⟩
abbrev S17408x240 : Shape := ⟨2, ![17408, 240]⟩
abbrev S17408x3840 : Shape := ⟨2, ![17408, 3840]⟩

abbrev nBuf : Space → Nat
  | .hbm => 8
  | .vmem => 0
  | .smem => 0
  | _ => 0

abbrev bufTy : (tb : Table) → Fin (tcTables nBuf tb) → BufTy
  | .hbm, ⟨0, _⟩ => ⟨S17408x2048, .bf16⟩
  | .hbm, ⟨1, _⟩ => ⟨S2048x9744, .f32⟩
  | .hbm, ⟨2, _⟩ => ⟨S17408x2048, .f32⟩
  | .hbm, ⟨3, _⟩ => ⟨S17408x9744, .f32⟩
  | .hbm, ⟨4, _⟩ => ⟨S17408x3600, .f32⟩
  | .hbm, ⟨5, _⟩ => ⟨S_, .f32⟩
  | .hbm, ⟨6, _⟩ => ⟨S17408x240, .f32⟩
  | .hbm, ⟨7, _⟩ => ⟨S17408x3840, .f32⟩
  | _, _ => ⟨S17408x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Gates.lean ====
abbrev S17408x2048 : Shape := ⟨2, ![17408, 2048]⟩
abbrev S2048x9744 : Shape := ⟨2, ![2048, 9744]⟩
abbrev S2048x6144 : Shape := ⟨2, ![2048, 6144]⟩
abbrev S17408x6144 : Shape := ⟨2, ![17408, 6144]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S17408x2048, .bf16⟩
  | .hbm, ⟨1, _⟩ => ⟨S2048x9744, .f32⟩
  | .hbm, ⟨2, _⟩ => ⟨S2048x6144, .f32⟩
  | .hbm, ⟨3, _⟩ => ⟨S2048x6144, .bf16⟩
  | .hbm, ⟨4, _⟩ => ⟨S17408x6144, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | _, _ => ⟨S17408x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![17, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== GatesRefIdeal.lean ====
abbrev S17408x2048 : Shape := ⟨2, ![17408, 2048]⟩
abbrev S2048x9744 : Shape := ⟨2, ![2048, 9744]⟩
abbrev S17408x9744 : Shape := ⟨2, ![17408, 9744]⟩
abbrev S17408x6144 : Shape := ⟨2, ![17408, 6144]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S17408x2048, .bf16⟩
  | .hbm, ⟨1, _⟩ => ⟨S2048x9744, .f32⟩
  | .hbm, ⟨2, _⟩ => ⟨S17408x2048, .f32⟩
  | .hbm, ⟨3, _⟩ => ⟨S17408x9744, .f32⟩
  | .hbm, ⟨4, _⟩ => ⟨S17408x6144, .f32⟩
  | .hbm, ⟨5, _⟩ => ⟨S17408x6144, .f32⟩
  | .hbm, ⟨6, _⟩ => ⟨S17408x6144, .f32⟩
  | .hbm, ⟨7, _⟩ => ⟨S_, .f32⟩
  | .hbm, ⟨8, _⟩ => ⟨S17408x6144, .f32⟩
  | .hbm, ⟨9, _⟩ => ⟨S17408x6144, .f32⟩
  | .hbm, ⟨10, _⟩ => ⟨S_, .f32⟩
  | .hbm, ⟨11, _⟩ => ⟨S17408x6144, .f32⟩
  | .hbm, ⟨12, _⟩ => ⟨S17408x6144, .f32⟩
  | .hbm, ⟨13, _⟩ => ⟨S17408x6144, .bf16⟩
  | _, _ => ⟨S17408x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Out.lean ====
abbrev S4x4352x2048 : Shape := ⟨3, ![4, 4352, 2048]⟩
abbrev S2048x2048 : Shape := ⟨2, ![2048, 2048]⟩
abbrev S4x2x6x2048 : Shape := ⟨4, ![4, 2, 6, 2048]⟩
abbrev S1x544x2048 : Shape := ⟨3, ![1, 544, 2048]⟩
abbrev S1x2x6x2048 : Shape := ⟨4, ![1, 2, 6, 2048]⟩
abbrev S544x2048 : Shape := ⟨2, ![544, 2048]⟩
abbrev S544x1 : Shape := ⟨2, ![544, 1]⟩
abbrev S1x1x1x2048 : Shape := ⟨4, ![1, 1, 1, 2048]⟩
abbrev S1x2048 : Shape := ⟨2, ![1, 2048]⟩

abbrev nBuf : Space → Nat
  | .hbm => 6
  | .vmem => 9
  | .smem => 0
  | _ => 0

abbrev bufTy : (tb : Table) → Fin (tcTables nBuf tb) → BufTy
  | .hbm, ⟨0, _⟩ => ⟨S4x4352x2048, .bf16⟩
  | .hbm, ⟨1, _⟩ => ⟨S2048x2048, .f32⟩
  | .hbm, ⟨2, _⟩ => ⟨S4x4352x2048, .f32⟩
  | .hbm, ⟨3, _⟩ => ⟨S4x2x6x2048, .f32⟩
  | .hbm, ⟨4, _⟩ => ⟨S2048x2048, .bf16⟩
  | .hbm, ⟨5, _⟩ => ⟨S4x4352x2048, .f32⟩
  | .local _ .vmem, ⟨0, _⟩ => ⟨S1x544x2048, .bf16⟩
  | .local _ .vmem, ⟨1, _⟩ => ⟨S1x544x2048, .bf16⟩
  | .local _ .vmem, ⟨2, _⟩ => ⟨S2048x2048, .bf16⟩
  | .local _ .vmem, ⟨3, _⟩ => ⟨S1x544x2048, .f32⟩
  | .local _ .vmem, ⟨4, _⟩ => ⟨S1x544x2048, .f32⟩
  | .local _ .vmem, ⟨5, _⟩ => ⟨S1x2x6x2048, .f32⟩
  | .local _ .vmem, ⟨6, _⟩ => ⟨S1x2x6x2048, .f32⟩
  | .local _ .vmem, ⟨7, _⟩ => ⟨S1x544x2048, .f32⟩
  | .local _ .vmem, ⟨8, _⟩ => ⟨S1x544x2048, .f32⟩
  | _, _ => ⟨S4x4352x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x544x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x544x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2x6x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x544x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== OutRefIdeal.lean ====
abbrev S4x4352x2048 : Shape := ⟨3, ![4, 4352, 2048]⟩
abbrev S2048x2048 : Shape := ⟨2, ![2048, 2048]⟩
abbrev S4x2x6x2048 : Shape := ⟨4, ![4, 2, 6, 2048]⟩
abbrev S4x256x2048 : Shape := ⟨3, ![4, 256, 2048]⟩
abbrev S4x1x1x2048 : Shape := ⟨4, ![4, 1, 1, 2048]⟩
abbrev S4x2048 : Shape := ⟨2, ![4, 2048]⟩
abbrev S4x1x2048 : Shape := ⟨3, ![4, 1, 2048]⟩
abbrev S4x4096x2048 : Shape := ⟨3, ![4, 4096, 2048]⟩

abbrev nBuf : Space → Nat
  | .hbm => 23
  | .vmem => 0
  | .smem => 0
  | _ => 0

abbrev bufTy : (tb : Table) → Fin (tcTables nBuf tb) → BufTy
  | .hbm, ⟨0, _⟩ => ⟨S4x4352x2048, .bf16⟩
  | .hbm, ⟨1, _⟩ => ⟨S2048x2048, .f32⟩
  | .hbm, ⟨2, _⟩ => ⟨S4x4352x2048, .f32⟩
  | .hbm, ⟨3, _⟩ => ⟨S4x2x6x2048, .f32⟩
  | .hbm, ⟨4, _⟩ => ⟨S4x4352x2048, .f32⟩
  | .hbm, ⟨5, _⟩ => ⟨S4x4352x2048, .f32⟩
  | .hbm, ⟨6, _⟩ => ⟨S4x256x2048, .f32⟩
  | .hbm, ⟨7, _⟩ => ⟨S4x1x1x2048, .f32⟩
  | .hbm, ⟨8, _⟩ => ⟨S4x2048, .f32⟩
  | .hbm, ⟨9, _⟩ => ⟨S4x1x2048, .f32⟩
  | .hbm, ⟨10, _⟩ => ⟨S4x256x2048, .f32⟩
  | .hbm, ⟨11, _⟩ => ⟨S4x256x2048, .f32⟩
  | .hbm, ⟨12, _⟩ => ⟨S4x256x2048, .f32⟩
  | .hbm, ⟨13, _⟩ => ⟨S4x256x2048, .f32⟩
  | .hbm, ⟨14, _⟩ => ⟨S4x4096x2048, .f32⟩
  | .hbm, ⟨15, _⟩ => ⟨S4x1x1x2048, .f32⟩
  | .hbm, ⟨16, _⟩ => ⟨S4x2048, .f32⟩
  | .hbm, ⟨17, _⟩ => ⟨S4x1x2048, .f32⟩
  | .hbm, ⟨18, _⟩ => ⟨S4x4096x2048, .f32⟩
  | .hbm, ⟨19, _⟩ => ⟨S4x4096x2048, .f32⟩
  | .hbm, ⟨20, _⟩ => ⟨S4x4096x2048, .f32⟩
  | .hbm, ⟨21, _⟩ => ⟨S4x4096x2048, .f32⟩
  | .hbm, ⟨22, _⟩ => ⟨S4x4352x2048, .f32⟩
  | _, _ => ⟨S4x4352x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩

abbrev nD : Nat := 1
abbrev τ : Topo := Topo.v7x

variable {F : FTy → Type} [FloatOps F]
-- ==== Final.lean ====
abbrev S4x4x4352x2048 : Shape := ⟨4, ![4, 4, 4352, 2048]⟩
abbrev S4x4352x4 : Shape := ⟨3, ![4, 4352, 4]⟩
abbrev S4x4352x2048 : Shape := ⟨3, ![4, 4352, 2048]⟩
abbrev S4x2x6x2048 : Shape := ⟨4, ![4, 2, 6, 2048]⟩
abbrev S2048 : Shape := ⟨1, ![2048]⟩
abbrev S1x2048 : Shape := ⟨2, ![1, 2048]⟩
abbrev S4x4096x2048 : Shape := ⟨3, ![4, 4096, 2048]⟩
abbrev S1x1x256x2048 : Shape := ⟨4, ![1, 1, 256, 2048]⟩
abbrev S1x256x4 : Shape := ⟨3, ![1, 256, 4]⟩
abbrev S1x256x2048 : Shape := ⟨3, ![1, 256, 2048]⟩
abbrev S1x2x6x2048 : Shape := ⟨4, ![1, 2, 6, 2048]⟩
abbrev S256x4 : Shape := ⟨2, ![256, 4]⟩
abbrev S256x1 : Shape := ⟨2, ![256, 1]⟩
abbrev S256x2048 : Shape := ⟨2, ![256, 2048]⟩
abbrev S1x1x1x2048 : Shape := ⟨4, ![1, 1, 1, 2048]⟩
abbrev S256 : Shape := ⟨1, ![256]⟩

abbrev nBuf : Space → Nat
  | .hbm => 7
  | .vmem => 17
  | .smem => 0
  | _ => 0

abbrev bufTy : (tb : Table) → Fin (tcTables nBuf tb) → BufTy
  | .hbm, ⟨0, _⟩ => ⟨S4x4x4352x2048, .bf16⟩
  | .hbm, ⟨1, _⟩ => ⟨S4x4352x4, .f32⟩
  | .hbm, ⟨2, _⟩ => ⟨S4x4352x2048, .f32⟩
  | .hbm, ⟨3, _⟩ => ⟨S4x2x6x2048, .f32⟩
  | .hbm, ⟨4, _⟩ => ⟨S2048, .f32⟩
  | .hbm, ⟨5, _⟩ => ⟨S1x2048, .f32⟩
  | .hbm, ⟨6, _⟩ => ⟨S4x4096x2048, .f32⟩
  | .local _ .vmem, ⟨0, _⟩ => ⟨S1x1x256x2048, .bf16⟩
  | .local _ .vmem, ⟨1, _⟩ => ⟨S1x1x256x2048, .bf16⟩
  | .local _ .vmem, ⟨2, _⟩ => ⟨S1x1x256x2048, .bf16⟩
  | .local _ .vmem, ⟨3, _⟩ => ⟨S1x1x256x2048, .bf16⟩
  | .local _ .vmem, ⟨4, _⟩ => ⟨S1x1x256x2048, .bf16⟩
  | .local _ .vmem, ⟨5, _⟩ => ⟨S1x1x256x2048, .bf16⟩
  | .local _ .vmem, ⟨6, _⟩ => ⟨S1x1x256x2048, .bf16⟩
  | .local _ .vmem, ⟨7, _⟩ => ⟨S1x1x256x2048, .bf16⟩
  | .local _ .vmem, ⟨8, _⟩ => ⟨S1x256x4, .f32⟩
  | .local _ .vmem, ⟨9, _⟩ => ⟨S1x256x4, .f32⟩
  | .local _ .vmem, ⟨10, _⟩ => ⟨S1x256x2048, .f32⟩
  | .local _ .vmem, ⟨11, _⟩ => ⟨S1x256x2048, .f32⟩
  | .local _ .vmem, ⟨12, _⟩ => ⟨S1x2x6x2048, .f32⟩
  | .local _ .vmem, ⟨13, _⟩ => ⟨S1x2x6x2048, .f32⟩
  | .local _ .vmem, ⟨14, _⟩ => ⟨S1x2048, .f32⟩
  | .local _ .vmem, ⟨15, _⟩ => ⟨S1x256x2048, .f32⟩
  | .local _ .vmem, ⟨16, _⟩ => ⟨S1x256x2048, .f32⟩
  | _, _ => ⟨S4x4x4352x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![4, 16], ![false, false]⟩

def cc0_transform_0 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  let c0_i32_1 : BitVec 32 := 0#32
  ![c0_i32.toNat, arg0.toNat, v0.toNat, c0_i32_0.toNat]

def cc0_transform_1 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c1_i32_0 : BitVec 32 := 1#32
  let c0_i32 : BitVec 32 := 0#32
  let c0_i32_1 : BitVec 32 := 0#32
  ![c1_i32_0.toNat, arg0.toNat, v0.toNat, c0_i32.toNat]

def cc0_transform_2 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c2_i32 : BitVec 32 := 2#32
  let c0_i32 : BitVec 32 := 0#32
  let c0_i32_0 : BitVec 32 := 0#32
  ![c2_i32.toNat, arg0.toNat, v0.toNat, c0_i32.toNat]

def cc0_transform_3 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c3_i32 : BitVec 32 := 3#32
  let c0_i32 : BitVec 32 := 0#32
  let c0_i32_0 : BitVec 32 := 0#32
  ![c3_i32.toNat, arg0.toNat, v0.toNat, c0_i32.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  ![arg0.toNat, v0.toNat, c0_i32.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  ![arg0.toNat, v0.toNat, c0_i32.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1x256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x4 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x2x6x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== FinalRefIdeal.lean ====
abbrev S4x4x4352x2048 : Shape := ⟨4, ![4, 4, 4352, 2048]⟩
abbrev S4x4352x4 : Shape := ⟨3, ![4, 4352, 4]⟩
abbrev S4x4352x2048 : Shape := ⟨3, ![4, 4352, 2048]⟩
abbrev S4x2x6x2048 : Shape := ⟨4, ![4, 2, 6, 2048]⟩
abbrev S2048 : Shape := ⟨1, ![2048]⟩
abbrev S4x4096x2048 : Shape := ⟨3, ![4, 4096, 2048]⟩
abbrev S_ : Shape := ⟨0, ![]⟩
abbrev S4x4096x1 : Shape := ⟨3, ![4, 4096, 1]⟩
abbrev S1x4x4096x2048 : Shape := ⟨4, ![1, 4, 4096, 2048]⟩
abbrev S4x1x1x2048 : Shape := ⟨4, ![4, 1, 1, 2048]⟩
abbrev S4x2048 : Shape := ⟨2, ![4, 2048]⟩
abbrev S4x1x2048 : Shape := ⟨3, ![4, 1, 2048]⟩
abbrev S4x4096 : Shape := ⟨2, ![4, 4096]⟩
abbrev S1x1x2048 : Shape := ⟨3, ![1, 1, 2048]⟩

abbrev nBuf : Space → Nat
  | .hbm => 59
  | .vmem => 0
  | .smem => 0
  | _ => 0

abbrev bufTy : (tb : Table) → Fin (tcTables nBuf tb) → BufTy
  | .hbm, ⟨0, _⟩ => ⟨S4x4x4352x2048, .bf16⟩
  | .hbm, ⟨1, _⟩ => ⟨S4x4352x4, .f32⟩
  | .hbm, ⟨2, _⟩ => ⟨S4x4352x2048, .f32⟩
  | .hbm, ⟨3, _⟩ => ⟨S4x2x6x2048, .f32⟩
  | .hbm, ⟨4, _⟩ => ⟨S2048, .f32⟩
  | .hbm, ⟨5, _⟩ => ⟨S4x4096x2048, .f32⟩
  | .hbm, ⟨6, _⟩ => ⟨S_, .f32⟩
  | .hbm, ⟨7, _⟩ => ⟨S4x4096x2048, .f32⟩
  | .hbm, ⟨8, _⟩ => ⟨S4x4096x1, .f32⟩
  | .hbm, ⟨9, _⟩ => ⟨S1x4x4096x2048, .bf16⟩
  | .hbm, ⟨10, _⟩ => ⟨S4x4096x2048, .bf16⟩
  | .hbm, ⟨11, _⟩ => ⟨S4x4096x2048, .f32⟩
  | .hbm, ⟨12, _⟩ => ⟨S4x4096x2048, .f32⟩
  | .hbm, ⟨13, _⟩ => ⟨S4x4096x2048, .f32⟩
  | .hbm, ⟨14, _⟩ => ⟨S4x4096x2048, .f32⟩
  | .hbm, ⟨15, _⟩ => ⟨S4x4096x1, .f32⟩
  | .hbm, ⟨16, _⟩ => ⟨S1x4x4096x2048, .bf16⟩
  | .hbm, ⟨17, _⟩ => ⟨S4x4096x2048, .bf16⟩
  | .hbm, ⟨18, _⟩ => ⟨S4x4096x2048, .f32⟩
  | .hbm, ⟨19, _⟩ => ⟨S4x4096x2048, .f32⟩
  | .hbm, ⟨20, _⟩ => ⟨S4x4096x2048, .f32⟩
  | .hbm, ⟨21, _⟩ => ⟨S4x4096x2048, .f32⟩
  | .hbm, ⟨22, _⟩ => ⟨S4x4096x1, .f32⟩
  | .hbm, ⟨23, _⟩ => ⟨S1x4x4096x2048, .bf16⟩
  | .hbm, ⟨24, _⟩ => ⟨S4x4096x2048, .bf16⟩
  | .hbm, ⟨25, _⟩ => ⟨S4x4096x2048, .f32⟩
  | .hbm, ⟨26, _⟩ => ⟨S4x4096x2048, .f32⟩
  | .hbm, ⟨27, _⟩ => ⟨S4x4096x2048, .f32⟩
  | .hbm, ⟨28, _⟩ => ⟨S4x4096x2048, .f32⟩
  | .hbm, ⟨29, _⟩ => ⟨S4x4096x1, .f32⟩
  | .hbm, ⟨30, _⟩ => ⟨S1x4x4096x2048, .bf16⟩
  | .hbm, ⟨31, _⟩ => ⟨S4x4096x2048, .bf16⟩
  | .hbm, ⟨32, _⟩ => ⟨S4x4096x2048, .f32⟩
  | .hbm, ⟨33, _⟩ => ⟨S4x4096x2048, .f32⟩
  | .hbm, ⟨34, _⟩ => ⟨S4x4096x2048, .f32⟩
  | .hbm, ⟨35, _⟩ => ⟨S4x4096x2048, .f32⟩
  | .hbm, ⟨36, _⟩ => ⟨S4x4096x2048, .f32⟩
  | .hbm, ⟨37, _⟩ => ⟨S4x1x1x2048, .f32⟩
  | .hbm, ⟨38, _⟩ => ⟨S4x2048, .f32⟩
  | .hbm, ⟨39, _⟩ => ⟨S4x1x2048, .f32⟩
  | .hbm, ⟨40, _⟩ => ⟨S4x4096x2048, .f32⟩
  | .hbm, ⟨41, _⟩ => ⟨S4x4096x2048, .f32⟩
  | .hbm, ⟨42, _⟩ => ⟨S4x4096x2048, .f32⟩
  | .hbm, ⟨43, _⟩ => ⟨S4x4096x2048, .f32⟩
  | .hbm, ⟨44, _⟩ => ⟨S_, .f32⟩
  | .hbm, ⟨45, _⟩ => ⟨S4x4096, .f32⟩
  | .hbm, ⟨46, _⟩ => ⟨S4x4096x1, .f32⟩
  | .hbm, ⟨47, _⟩ => ⟨S_, .f32⟩
  | .hbm, ⟨48, _⟩ => ⟨S4x4096x1, .f32⟩
  | .hbm, ⟨49, _⟩ => ⟨S4x4096x1, .f32⟩
  | .hbm, ⟨50, _⟩ => ⟨S_, .f32⟩
  | .hbm, ⟨51, _⟩ => ⟨S4x4096x1, .f32⟩
  | .hbm, ⟨52, _⟩ => ⟨S4x4096x1, .f32⟩
  | .hbm, ⟨53, _⟩ => ⟨S4x4096x1, .f32⟩
  | .hbm, ⟨54, _⟩ => ⟨S4x4096x2048, .f32⟩
  | .hbm, ⟨55, _⟩ => ⟨S4x4096x2048, .f32⟩
  | .hbm, ⟨56, _⟩ => ⟨S1x1x2048, .f32⟩
  | .hbm, ⟨57, _⟩ => ⟨S4x4096x2048, .f32⟩
  | .hbm, ⟨58, _⟩ => ⟨S4x4096x2048, .f32⟩
  | _, _ => ⟨S4x4x4352x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_cst_0 : Ref sig .tc := ⟨.hbm, 44, rfl⟩
abbrev main_v38 : Ref sig .tc := ⟨.hbm, 45, rfl⟩
abbrev main_v39 : Ref sig .tc := ⟨.hbm, 46, rfl⟩
abbrev main_cst_1 : Ref sig .tc := ⟨.hbm, 47, rfl⟩
abbrev main_v40 : Ref sig .tc := ⟨.hbm, 48, rfl⟩
abbrev main_v41 : Ref sig .tc := ⟨.hbm, 49, rfl⟩
abbrev main_cst_2 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩

abbrev nD : Nat := 1
abbrev τ : Topo := Topo.v7x

variable {F : FTy → Type} [FloatOps F]
-- ==== Experts.lean ====
abbrev S17408x2048 : Shape := ⟨2, ![17408, 2048]⟩
abbrev S304x256 : Shape := ⟨2, ![304, 256]⟩
abbrev S304 : Shape := ⟨1, ![304]⟩
abbrev S1 : Shape := ⟨1, ![1]⟩
abbrev S32x2048x2048 : Shape := ⟨3, ![32, 2048, 2048]⟩
abbrev S64x1x2048 : Shape := ⟨3, ![64, 1, 2048]⟩
abbrev S64x1024x2048 : Shape := ⟨3, ![64, 1024, 2048]⟩
abbrev S17408x16x128 : Shape := ⟨3, ![17408, 16, 128]⟩
abbrev S304x1x256 : Shape := ⟨3, ![304, 1, 256]⟩
abbrev S77824x2048 : Shape := ⟨2, ![77824, 2048]⟩
abbrev S1x1x256 : Shape := ⟨3, ![1, 1, 256]⟩
abbrev S1x2048x512 : Shape := ⟨3, ![1, 2048, 512]⟩
abbrev S1x1x2048 : Shape := ⟨3, ![1, 1, 2048]⟩
abbrev S1x1024x512 : Shape := ⟨3, ![1, 1024, 512]⟩
abbrev S256x2048 : Shape := ⟨2, ![256, 2048]⟩
abbrev S1024x2048 : Shape := ⟨2, ![1024, 2048]⟩
abbrev S8192x128 : Shape := ⟨2, ![8192, 128]⟩
abbrev S2 : Shape := ⟨1, ![2]⟩
abbrev S1x1x1 : Shape := ⟨3, ![1, 1, 1]⟩
abbrev S_ : Shape := ⟨0, ![]⟩
abbrev S16x128 : Shape := ⟨2, ![16, 128]⟩
abbrev S1x16x128 : Shape := ⟨3, ![1, 16, 128]⟩
abbrev S1024x512 : Shape := ⟨2, ![1024, 512]⟩
abbrev S4096x128 : Shape := ⟨2, ![4096, 128]⟩
abbrev S256x128 : Shape := ⟨2, ![256, 128]⟩
abbrev S2048x512 : Shape := ⟨2, ![2048, 512]⟩
abbrev S256x512 : Shape := ⟨2, ![256, 512]⟩
abbrev S1x2048 : Shape := ⟨2, ![1, 2048]⟩
abbrev S256x1024 : Shape := ⟨2, ![256, 1024]⟩

abbrev nBuf : Space → Nat
  | .hbm => 9
  | .vmem => 24
  | .smem => 6
  | _ => 0

abbrev bufTy : (tb : Table) → Fin (tcTables nBuf tb) → BufTy
  | .hbm, ⟨0, _⟩ => ⟨S17408x2048, .f32⟩
  | .hbm, ⟨1, _⟩ => ⟨S304x256, .i32⟩
  | .hbm, ⟨2, _⟩ => ⟨S32x2048x2048, .bf16⟩
  | .hbm, ⟨3, _⟩ => ⟨S64x1x2048, .f32⟩
  | .hbm, ⟨4, _⟩ => ⟨S64x1024x2048, .f32⟩
  | .hbm, ⟨5, _⟩ => ⟨S64x1x2048, .f32⟩
  | .hbm, ⟨6, _⟩ => ⟨S17408x16x128, .f32⟩
  | .hbm, ⟨7, _⟩ => ⟨S304x1x256, .i32⟩
  | .hbm, ⟨8, _⟩ => ⟨S77824x2048, .bf16⟩
  | .local _ .vmem, ⟨0, _⟩ => ⟨S1x2048x512, .bf16⟩
  | .local _ .vmem, ⟨1, _⟩ => ⟨S1x2048x512, .bf16⟩
  | .local _ .vmem, ⟨2, _⟩ => ⟨S1x2048x512, .bf16⟩
  | .local _ .vmem, ⟨3, _⟩ => ⟨S1x2048x512, .bf16⟩
  | .local _ .vmem, ⟨4, _⟩ => ⟨S1x2048x512, .bf16⟩
  | .local _ .vmem, ⟨5, _⟩ => ⟨S1x2048x512, .bf16⟩
  | .local _ .vmem, ⟨6, _⟩ => ⟨S1x2048x512, .bf16⟩
  | .local _ .vmem, ⟨7, _⟩ => ⟨S1x2048x512, .bf16⟩
  | .local _ .vmem, ⟨8, _⟩ => ⟨S1x1x2048, .f32⟩
  | .local _ .vmem, ⟨9, _⟩ => ⟨S1x1x2048, .f32⟩
  | .local _ .vmem, ⟨10, _⟩ => ⟨S1x1024x512, .f32⟩
  | .local _ .vmem, ⟨11, _⟩ => ⟨S1x1024x512, .f32⟩
  | .local _ .vmem, ⟨12, _⟩ => ⟨S1x1024x512, .f32⟩
  | .local _ .vmem, ⟨13, _⟩ => ⟨S1x1024x512, .f32⟩
  | .local _ .vmem, ⟨14, _⟩ => ⟨S1x1024x512, .f32⟩
  | .local _ .vmem, ⟨15, _⟩ => ⟨S1x1024x512, .f32⟩
  | .local _ .vmem, ⟨16, _⟩ => ⟨S1x1024x512, .f32⟩
  | .local _ .vmem, ⟨17, _⟩ => ⟨S1x1024x512, .f32⟩
  | .local _ .vmem, ⟨18, _⟩ => ⟨S1x1x2048, .f32⟩
  | .local _ .vmem, ⟨19, _⟩ => ⟨S1x1x2048, .f32⟩
  | .local _ .vmem, ⟨20, _⟩ => ⟨S256x2048, .bf16⟩
  | .local _ .vmem, ⟨21, _⟩ => ⟨S256x2048, .bf16⟩
  | .local _ .vmem, ⟨22, _⟩ => ⟨S1024x2048, .bf16⟩
  | .local _ .vmem, ⟨23, _⟩ => ⟨S8192x128, .f32⟩
  | .local _ .smem, ⟨0, _⟩ => ⟨S304, .i32⟩
  | .local _ .smem, ⟨1, _⟩ => ⟨S1, .i32⟩
  | .local _ .smem, ⟨2, _⟩ => ⟨S1x1x256, .i32⟩
  | .local _ .smem, ⟨3, _⟩ => ⟨S1x1x256, .i32⟩
  | .local _ .smem, ⟨4, _⟩ => ⟨S1x1x256, .i32⟩
  | .local _ .smem, ⟨5, _⟩ => ⟨S1x1x256, .i32⟩
  | _, _ => ⟨S17408x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .smem, ⟨2, _⟩ => true
  | .smem, ⟨3, _⟩ => true
  | .smem, ⟨4, _⟩ => true
  | .smem, ⟨5, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_arg7 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_arg2 : Ref sig .tc := ⟨.smem, 0, rfl⟩
abbrev main_arg3 : Ref sig .tc := ⟨.smem, 1, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_scratch0 : Ref sig .tc := ⟨.vmem, 22, rfl⟩
abbrev cc0_scratch1 : Ref sig .tc := ⟨.vmem, 23, rfl⟩
abbrev cc0_stg0_0 : Ref sig .tc := ⟨.smem, 2, rfl⟩
abbrev cc0_stg0_1 : Ref sig .tc := ⟨.smem, 3, rfl⟩
abbrev cc0_stg1_0 : Ref sig .tc := ⟨.smem, 4, rfl⟩
abbrev cc0_stg1_1 : Ref sig .tc := ⟨.smem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨1, ![304], ![false]⟩

abbrev pre0 : Pipeline.Prefetch sig := ⟨2, ![main_arg2.idx, main_arg3.idx], fun | 0 => main_arg2.names | 1 => main_arg3.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v6 : BitVec 32 := Scalar.subi arg0 c1_i32
  let c0_i32_0 : BitVec 32 := 0#32
  let v7 : BitVec 32 := Scalar.maxsi v6 c0_i32_0
  let v8 : Index := Scalar.indexCast v7
  ![v8.toNat]
def k0_cond1 (i : grid0.Coords) : BitVec 1 :=
  let arg0 : BitVec 32 := BitVec.ofNat 32 (i 0).val
  let c0_i32_1 : BitVec 32 := 0#32
  let v12 : BitVec 1 := Scalar.cmpi .eq arg0 c0_i32_1
  let v13 : BitVec 32 := Scalar.extui v12
  let c0_i32_2 : BitVec 32 := 0#32
  let v14 : BitVec 1 := Scalar.cmpi .ne v13 c0_i32_2
  v14

@[reducible] def k0_t1_loop : Scf.Loop 32 :=
  let c0_i32_9 : BitVec 32 := 0#32
  let c256_i32 : BitVec 32 := 256#32
  let v29 : BitVec 32 := Scalar.addi c0_i32_9 c256_i32
  let c1_i32_10 : BitVec 32 := 1#32
  ⟨c0_i32_9, v29, c1_i32_10⟩
def k0_off3 (k0_t1 : Fin k0_t1_loop.trips) : Fin 3 → Nat :=
  let c0_15 : Index := 0#32
  let c0_16 : Index := 0#32
  let c0_i32_13 : BitVec 32 := 0#32
  let c0_i32_9 : BitVec 32 := 0#32
  let c1_i32_10 : BitVec 32 := 1#32
  let arg20 : BitVec 32 := Scf.iv c0_i32_9 c1_i32_10 k0_t1
  let c1_i32_12 : BitVec 32 := 1#32
  let v30 : BitVec 32 := Scalar.muli arg20 c1_i32_12
  let v31 : BitVec 32 := Scalar.addi c0_i32_13 v30
  let v34 : Index := Scalar.indexCast v31
  ![0, 0, v34.toNat]
def k0_off4 (k0_t1 : Fin k0_t1_loop.trips) : Fin 2 → Nat :=
  let c0_i32_14 : BitVec 32 := 0#32
  let c0_i32_13 : BitVec 32 := 0#32
  let c0_i32_9 : BitVec 32 := 0#32
  let c1_i32_10 : BitVec 32 := 1#32
  let arg20 : BitVec 32 := Scf.iv c0_i32_9 c1_i32_10 k0_t1
  let c1_i32_12 : BitVec 32 := 1#32
  let v30 : BitVec 32 := Scalar.muli arg20 c1_i32_12
  let v31 : BitVec 32 := Scalar.addi c0_i32_13 v30
  let v32 : BitVec 32 := Scalar.addi c0_i32_14 v31
  let c16_i32 : BitVec 32 := 16#32
  let v33 : BitVec 32 := Scalar.muli v32 c16_i32
  let c0_i32_18 : BitVec 32 := 0#32
  ![v33.toNat, 0]
def k0_off5 (v35 : BitVec 32) : Fin 3 → Nat :=
  let c0_i32_19 : BitVec 32 := 0#32
  let c0_i32_20 : BitVec 32 := 0#32
  ![v35.toNat, 0, 0]

def k0_chk1 (i : grid0.Coords) (v35 : BitVec 32) : Prop :=
  (∀ (k0_h1 : k0_cond1 i = 1#1), ∀ a, (k0_off5 v35) a + S1x16x128.size a ≤ S17408x16x128.size a)
theorem k0_off5_inb : ∀ (i : grid0.Coords) (v35 : BitVec 32) (k0_hw1 : k0_chk1 i v35), ∀ (k0_h1 : k0_cond1 i = 1#1), ∀ a, (k0_off5 v35) a + S1x16x128.size a ≤ S17408x16x128.size a := fun i v35 k0_hw1 k0_h1 => k0_hw1 k0_h1

@[reducible] def k0_t2_loop : Scf.Loop 32 :=
  let c0_i32_10 : BitVec 32 := 0#32
  let c256_i32 : BitVec 32 := 256#32
  let v30 : BitVec 32 := Scalar.addi c0_i32_10 c256_i32
  let c1_i32_11 : BitVec 32 := 1#32
  ⟨c0_i32_10, v30, c1_i32_11⟩
def k0_off6 (k0_t2 : Fin k0_t2_loop.trips) : Fin 3 → Nat :=
  let c0_20 : Index := 0#32
  let c0_21 : Index := 0#32
  let c0_i32_17 : BitVec 32 := 0#32
  let c0_i32_10 : BitVec 32 := 0#32
  let c1_i32_11 : BitVec 32 := 1#32
  let arg20 : BitVec 32 := Scf.iv c0_i32_10 c1_i32_11 k0_t2
  let c1_i32_16 : BitVec 32 := 1#32
  let v37 : BitVec 32 := Scalar.muli arg20 c1_i32_16
  let v38 : BitVec 32 := Scalar.addi c0_i32_17 v37
  let v42 : Index := Scalar.indexCast v38
  ![0, 0, v42.toNat]
def k0_off7 (i : grid0.Coords) : Fin 1 → Nat :=
  let c1_i32_9 : BitVec 32 := 1#32
  let arg0 : BitVec 32 := BitVec.ofNat 32 (i 0).val
  let c2_i32 : BitVec 32 := 2#32
  let v2 : BitVec 32 := Scalar.remsi arg0 c2_i32
  let v29 : BitVec 32 := Scalar.subi c1_i32_9 v2
  ![v29.toNat]
def k0_off8 (i : grid0.Coords) (k0_t2 : Fin k0_t2_loop.trips) : Fin 2 → Nat :=
  let c1_i32_9 : BitVec 32 := 1#32
  let arg0 : BitVec 32 := BitVec.ofNat 32 (i 0).val
  let c2_i32 : BitVec 32 := 2#32
  let v2 : BitVec 32 := Scalar.remsi arg0 c2_i32
  let v29 : BitVec 32 := Scalar.subi c1_i32_9 v2
  let c256_i32_18 : BitVec 32 := 256#32
  let v39 : BitVec 32 := Scalar.muli v29 c256_i32_18
  let c0_i32_17 : BitVec 32 := 0#32
  let c0_i32_10 : BitVec 32 := 0#32
  let c1_i32_11 : BitVec 32 := 1#32
  let arg20 : BitVec 32 := Scf.iv c0_i32_10 c1_i32_11 k0_t2
  let c1_i32_16 : BitVec 32 := 1#32
  let v37 : BitVec 32 := Scalar.muli arg20 c1_i32_16
  let v38 : BitVec 32 := Scalar.addi c0_i32_17 v37
  let v40 : BitVec 32 := Scalar.addi v39 v38
  let c16_i32_19 : BitVec 32 := 16#32
  let v41 : BitVec 32 := Scalar.muli v40 c16_i32_19
  let c0_i32_22 : BitVec 32 := 0#32
  ![v41.toNat, 0]
def k0_off9 (v43 : BitVec 32) : Fin 3 → Nat :=
  let c0_i32_23 : BitVec 32 := 0#32
  let c0_i32_24 : BitVec 32 := 0#32
  ![v43.toNat, 0, 0]
def k0_cond3 (i : grid0.Coords) (v0 : BitVec 32) : BitVec 1 :=
  let arg0 : BitVec 32 := BitVec.ofNat 32 (i 0).val
  let v1 : BitVec 1 := Scalar.cmpi .slt arg0 v0
  let v18 : BitVec 32 := Scalar.extui v1
  let c0_i32_4 : BitVec 32 := 0#32
  let v19 : BitVec 1 := Scalar.cmpi .ne v18 c0_i32_4
  v19

def k0_chk2 (i : grid0.Coords) (v0 : BitVec 32) (v43 : BitVec 32) : Prop :=
  (∀ (k0_h3 : k0_cond3 i v0 = 1#1), ∀ a, (k0_off9 v43) a + S1x16x128.size a ≤ S17408x16x128.size a)
theorem k0_off9_inb : ∀ (i : grid0.Coords) (v0 : BitVec 32) (v43 : BitVec 32) (k0_hw2 : k0_chk2 i v0 v43), ∀ (k0_h3 : k0_cond3 i v0 = 1#1), ∀ a, (k0_off9 v43) a + S1x16x128.size a ≤ S17408x16x128.size a := fun i v0 v43 k0_hw2 k0_h3 => k0_hw2 k0_h3

def k0_off10 (i : grid0.Coords) : Fin 1 → Nat :=
  let arg0 : BitVec 32 := BitVec.ofNat 32 (i 0).val
  let c2_i32 : BitVec 32 := 2#32
  let v2 : BitVec 32 := Scalar.remsi arg0 c2_i32
  ![v2.toNat]
def k0_off11 (i : grid0.Coords) : Fin 2 → Nat :=
  let arg0 : BitVec 32 := BitVec.ofNat 32 (i 0).val
  let c2_i32 : BitVec 32 := 2#32
  let v2 : BitVec 32 := Scalar.remsi arg0 c2_i32
  let c256_i32_13 : BitVec 32 := 256#32
  let v31 : BitVec 32 := Scalar.muli v2 c256_i32_13
  let c16_i32 : BitVec 32 := 16#32
  let v32 : BitVec 32 := Scalar.muli v31 c16_i32
  let c0_i32_14 : BitVec 32 := 0#32
  ![v32.toNat, 0]
def k0_off12 (i : grid0.Coords) (c0_i32_9 : BitVec 32) : Fin 2 → Nat :=
  let arg0 : BitVec 32 := BitVec.ofNat 32 (i 0).val
  let c2_i32 : BitVec 32 := 2#32
  let v2 : BitVec 32 := Scalar.remsi arg0 c2_i32
  let c4096_i32 : BitVec 32 := 4096#32
  let v29 : BitVec 32 := Scalar.muli v2 c4096_i32
  let v30 : BitVec 32 := Scalar.addi v29 c0_i32_9
  let v31 : Index := Scalar.indexCast v30
  let c0_10 : Index := 0#32
  ![v31.toNat, 0]
def k0_off13 (i : grid0.Coords) : Fin 1 → Nat :=
  let c1_i32_9 : BitVec 32 := 1#32
  let arg0 : BitVec 32 := BitVec.ofNat 32 (i 0).val
  let c2_i32 : BitVec 32 := 2#32
  let v2 : BitVec 32 := Scalar.remsi arg0 c2_i32
  let v29 : BitVec 32 := Scalar.subi c1_i32_9 v2
  ![v29.toNat]
def k0_off14 (i : grid0.Coords) : Fin 2 → Nat :=
  let c1_i32_9 : BitVec 32 := 1#32
  let arg0 : BitVec 32 := BitVec.ofNat 32 (i 0).val
  let c2_i32 : BitVec 32 := 2#32
  let v2 : BitVec 32 := Scalar.remsi arg0 c2_i32
  let v29 : BitVec 32 := Scalar.subi c1_i32_9 v2
  let c256_i32 : BitVec 32 := 256#32
  let v30 : BitVec 32 := Scalar.muli v29 c256_i32
  let c16_i32 : BitVec 32 := 16#32
  let v31 : BitVec 32 := Scalar.muli v30 c16_i32
  let c0_i32_10 : BitVec 32 := 0#32
  ![v31.toNat, 0]
def k0_cond4 (i : grid0.Coords) (v0 : BitVec 32) : BitVec 1 :=
  let arg0 : BitVec 32 := BitVec.ofNat 32 (i 0).val
  let v1 : BitVec 1 := Scalar.cmpi .slt arg0 v0
  let v20 : BitVec 32 := Scalar.extui v1
  let c0_i32_5 : BitVec 32 := 0#32
  let v21 : BitVec 1 := Scalar.cmpi .ne v20 c0_i32_5
  v21

def k0_cond6 (i : grid0.Coords) (v0 : BitVec 32) : BitVec 1 :=
  let arg0 : BitVec 32 := BitVec.ofNat 32 (i 0).val
  let v1 : BitVec 1 := Scalar.cmpi .slt arg0 v0
  let v_true : BitVec 1 := 1#1
  let v26 : BitVec 1 := Scalar.xori v1 v_true
  let v27 : BitVec 32 := Scalar.extui v26
  let c0_i32_8 : BitVec 32 := 0#32
  let v28 : BitVec 1 := Scalar.cmpi .ne v27 c0_i32_8
  v28

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c1_i32 : BitVec 32 := 1#32
  let v0 : BitVec 32 := Scalar.addi arg0 c1_i32
  let c303_i32 : BitVec 32 := 303#32
  let v1 : BitVec 32 := Scalar.minsi v0 c303_i32
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S304.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S304) ![v0.toNat] S1.size (k0_off1_inb i)) numel1_S1
  let c0_i32 : BitVec 32 := 0#32
  let v2 : BitVec 32 := Scalar.subi v1 c0_i32
  let c0_i32_0 : BitVec 32 := 0#32
  let c0_i32_1 : BitVec 32 := 0#32
  let c0_i32_2 : BitVec 32 := 0#32
  ![v2.toNat, c0_i32_0.toNat, c0_i32_1.toNat]

def cc0_transform_4 (k0_off1_inb : ∀ i : grid0.Coords, ∀ a, (k0_off1 i) a + S1.size a ≤ S304.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S304) ![v0.toNat] S1.size (k0_off1_inb i)) numel1_S1
  let c0_i32 : BitVec 32 := 0#32
  let v2 : BitVec 32 := Scalar.subi v1 c0_i32
  let c0_i32_0 : BitVec 32 := 0#32
  let c1_i32 : BitVec 32 := 1#32
  let c0_i32_1 : BitVec 32 := 0#32
  ![v2.toNat, c0_i32_0.toNat, c1_i32.toNat]

def cc0_transform_5 (k0_off1_inb : ∀ i : grid0.Coords, ∀ a, (k0_off1 i) a + S1.size a ≤ S304.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S304) ![v0.toNat] S1.size (k0_off1_inb i)) numel1_S1
  let c0_i32 : BitVec 32 := 0#32
  let v2 : BitVec 32 := Scalar.subi v1 c0_i32
  let c0_i32_0 : BitVec 32 := 0#32
  let c2_i32 : BitVec 32 := 2#32
  let c0_i32_1 : BitVec 32 := 0#32
  ![v2.toNat, c0_i32_0.toNat, c2_i32.toNat]

def cc0_transform_6 (k0_off1_inb : ∀ i : grid0.Coords, ∀ a, (k0_off1 i) a + S1.size a ≤ S304.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S304) ![v0.toNat] S1.size (k0_off1_inb i)) numel1_S1
  let c0_i32 : BitVec 32 := 0#32
  let v2 : BitVec 32 := Scalar.subi v1 c0_i32
  let c0_i32_0 : BitVec 32 := 0#32
  let c3_i32 : BitVec 32 := 3#32
  let c0_i32_1 : BitVec 32 := 0#32
  ![v2.toNat, c0_i32_0.toNat, c3_i32.toNat]

def cc0_transform_7 (k0_off1_inb : ∀ i : grid0.Coords, ∀ a, (k0_off1 i) a + S1.size a ≤ S304.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S304) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_8 (k0_off1_inb : ∀ i : grid0.Coords, ∀ a, (k0_off1 i) a + S1.size a ≤ S304.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S304) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_9 (k0_off1_inb : ∀ i : grid0.Coords, ∀ a, (k0_off1 i) a + S1.size a ≤ S304.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S304) ![v0.toNat] S1.size (k0_off1_inb i)) numel1_S1
  let c0_i32 : BitVec 32 := 0#32
  let c1_i32 : BitVec 32 := 1#32
  let c0_i32_0 : BitVec 32 := 0#32
  ![v1.toNat, c0_i32.toNat, c1_i32.toNat]

def cc0_transform_10 (k0_off1_inb : ∀ i : grid0.Coords, ∀ a, (k0_off1 i) a + S1.size a ≤ S304.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S304) ![v0.toNat] S1.size (k0_off1_inb i)) numel1_S1
  let c0_i32 : BitVec 32 := 0#32
  let c2_i32 : BitVec 32 := 2#32
  let c0_i32_0 : BitVec 32 := 0#32
  ![v1.toNat, c0_i32.toNat, c2_i32.toNat]

def cc0_transform_11 (k0_off1_inb : ∀ i : grid0.Coords, ∀ a, (k0_off1 i) a + S1.size a ≤ S304.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S304) ![v0.toNat] S1.size (k0_off1_inb i)) numel1_S1
  let c0_i32 : BitVec 32 := 0#32
  let c3_i32 : BitVec 32 := 3#32
  let c0_i32_0 : BitVec 32 := 0#32
  ![v1.toNat, c0_i32.toNat, c3_i32.toNat]

def cc0_transform_12 (k0_off1_inb : ∀ i : grid0.Coords, ∀ a, (k0_off1 i) a + S1.size a ≤ S304.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S304) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .smem S1x1x256 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .smem S1x1x256 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1024x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1024x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1024x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x1024x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x1x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== ExpertsRefIdeal.lean ====
abbrev S17408x2048 : Shape := ⟨2, ![17408, 2048]⟩
abbrev S304x256 : Shape := ⟨2, ![304, 256]⟩
abbrev S304 : Shape := ⟨1, ![304]⟩
abbrev S1 : Shape := ⟨1, ![1]⟩
abbrev S32x2048x2048 : Shape := ⟨3, ![32, 2048, 2048]⟩
abbrev S64x1x2048 : Shape := ⟨3, ![64, 1, 2048]⟩
abbrev S64x1024x2048 : Shape := ⟨3, ![64, 1024, 2048]⟩
abbrev S_ : Shape := ⟨0, ![]⟩
abbrev S304x256x1 : Shape := ⟨3, ![304, 256, 1]⟩
abbrev S304x256x2048 : Shape := ⟨3, ![304, 256, 2048]⟩
abbrev S304x1 : Shape := ⟨2, ![304, 1]⟩
abbrev S304x2048x2048 : Shape := ⟨3, ![304, 2048, 2048]⟩
abbrev S304x1x2048 : Shape := ⟨3, ![304, 1, 2048]⟩
abbrev S304x256x8x2x128 : Shape := ⟨5, ![304, 256, 8, 2, 128]⟩
abbrev S304x256x8x1x128 : Shape := ⟨5, ![304, 256, 8, 1, 128]⟩
abbrev S304x256x8x128 : Shape := ⟨4, ![304, 256, 8, 128]⟩
abbrev S304x256x1024 : Shape := ⟨3, ![304, 256, 1024]⟩
abbrev S304x1024x2048 : Shape := ⟨3, ![304, 1024, 2048]⟩
abbrev S304x1x1 : Shape := ⟨3, ![304, 1, 1]⟩
abbrev S77824x2048 : Shape := ⟨2, ![77824, 2048]⟩

abbrev nBuf : Space → Nat
  | .hbm => 105
  | .vmem => 0
  | .smem => 0
  | _ => 0

abbrev bufTy : (tb : Table) → Fin (tcTables nBuf tb) → BufTy
  | .hbm, ⟨0, _⟩ => ⟨S17408x2048, .f32⟩
  | .hbm, ⟨1, _⟩ => ⟨S304x256, .i32⟩
  | .hbm, ⟨2, _⟩ => ⟨S304, .i32⟩
  | .hbm, ⟨3, _⟩ => ⟨S1, .i32⟩
  | .hbm, ⟨4, _⟩ => ⟨S32x2048x2048, .bf16⟩
  | .hbm, ⟨5, _⟩ => ⟨S64x1x2048, .f32⟩
  | .hbm, ⟨6, _⟩ => ⟨S64x1024x2048, .f32⟩
  | .hbm, ⟨7, _⟩ => ⟨S64x1x2048, .f32⟩
  | .hbm, ⟨8, _⟩ => ⟨S_, .i32⟩
  | .hbm, ⟨9, _⟩ => ⟨S304x256, .i32⟩
  | .hbm, ⟨10, _⟩ => ⟨S304x256, .i1⟩
  | .hbm, ⟨11, _⟩ => ⟨S_, .i32⟩
  | .hbm, ⟨12, _⟩ => ⟨S304x256, .i32⟩
  | .hbm, ⟨13, _⟩ => ⟨S304x256, .i32⟩
  | .hbm, ⟨14, _⟩ => ⟨S304x256, .i32⟩
  | .hbm, ⟨15, _⟩ => ⟨S304x256x1, .i32⟩
  | .hbm, ⟨16, _⟩ => ⟨S304x256x2048, .f32⟩
  | .hbm, ⟨17, _⟩ => ⟨S_, .i32⟩
  | .hbm, ⟨18, _⟩ => ⟨S304, .i32⟩
  | .hbm, ⟨19, _⟩ => ⟨S304, .i1⟩
  | .hbm, ⟨20, _⟩ => ⟨S_, .i32⟩
  | .hbm, ⟨21, _⟩ => ⟨S304, .i32⟩
  | .hbm, ⟨22, _⟩ => ⟨S304, .i32⟩
  | .hbm, ⟨23, _⟩ => ⟨S304, .i32⟩
  | .hbm, ⟨24, _⟩ => ⟨S304x1, .i32⟩
  | .hbm, ⟨25, _⟩ => ⟨S304x2048x2048, .bf16⟩
  | .hbm, ⟨26, _⟩ => ⟨S304x256x2048, .f32⟩
  | .hbm, ⟨27, _⟩ => ⟨S_, .i32⟩
  | .hbm, ⟨28, _⟩ => ⟨S304, .i32⟩
  | .hbm, ⟨29, _⟩ => ⟨S304, .i1⟩
  | .hbm, ⟨30, _⟩ => ⟨S_, .i32⟩
  | .hbm, ⟨31, _⟩ => ⟨S304, .i32⟩
  | .hbm, ⟨32, _⟩ => ⟨S304, .i32⟩
  | .hbm, ⟨33, _⟩ => ⟨S304, .i32⟩
  | .hbm, ⟨34, _⟩ => ⟨S304x1, .i32⟩
  | .hbm, ⟨35, _⟩ => ⟨S304x1x2048, .f32⟩
  | .hbm, ⟨36, _⟩ => ⟨S304x256x2048, .f32⟩
  | .hbm, ⟨37, _⟩ => ⟨S304x256x2048, .f32⟩
  | .hbm, ⟨38, _⟩ => ⟨S304x256x8x2x128, .f32⟩
  | .hbm, ⟨39, _⟩ => ⟨S304x256x8x1x128, .f32⟩
  | .hbm, ⟨40, _⟩ => ⟨S304x256x8x128, .f32⟩
  | .hbm, ⟨41, _⟩ => ⟨S304x256x1024, .f32⟩
  | .hbm, ⟨42, _⟩ => ⟨S304x256x8x1x128, .f32⟩
  | .hbm, ⟨43, _⟩ => ⟨S304x256x8x128, .f32⟩
  | .hbm, ⟨44, _⟩ => ⟨S304x256x1024, .f32⟩
  | .hbm, ⟨45, _⟩ => ⟨S_, .f32⟩
  | .hbm, ⟨46, _⟩ => ⟨S304x256x1024, .f32⟩
  | .hbm, ⟨47, _⟩ => ⟨S304x256x1024, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S304x256x1024, .f32⟩
  | .hbm, ⟨52, _⟩ => ⟨S304x256x1024, .f32⟩
  | .hbm, ⟨53, _⟩ => ⟨S_, .f32⟩
  | .hbm, ⟨54, _⟩ => ⟨S304x256x1024, .f32⟩
  | .hbm, ⟨55, _⟩ => ⟨S304x256x1024, .f32⟩
  | .hbm, ⟨56, _⟩ => ⟨S_, .f32⟩
  | .hbm, ⟨57, _⟩ => ⟨S304x256x1024, .f32⟩
  | .hbm, ⟨58, _⟩ => ⟨S304x256x1024, .f32⟩
  | .hbm, ⟨59, _⟩ => ⟨S304x256x1024, .f32⟩
  | .hbm, ⟨60, _⟩ => ⟨S304x256x1024, .f32⟩
  | .hbm, ⟨61, _⟩ => ⟨S_, .f32⟩
  | .hbm, ⟨62, _⟩ => ⟨S304x256x1024, .f32⟩
  | .hbm, ⟨63, _⟩ => ⟨S304x256x1024, .f32⟩
  | .hbm, ⟨64, _⟩ => ⟨S_, .f32⟩
  | .hbm, ⟨65, _⟩ => ⟨S304x256x1024, .f32⟩
  | .hbm, ⟨66, _⟩ => ⟨S304x256x1024, .f32⟩
  | .hbm, ⟨67, _⟩ => ⟨S304x256x1024, .f32⟩
  | .hbm, ⟨68, _⟩ => ⟨S_, .f32⟩
  | .hbm, ⟨69, _⟩ => ⟨S304x256x1024, .f32⟩
  | .hbm, ⟨70, _⟩ => ⟨S304x256x1024, .f32⟩
  | .hbm, ⟨71, _⟩ => ⟨S304x256x1024, .f32⟩
  | .hbm, ⟨72, _⟩ => ⟨S_, .i32⟩
  | .hbm, ⟨73, _⟩ => ⟨S304, .i32⟩
  | .hbm, ⟨74, _⟩ => ⟨S304, .i1⟩
  | .hbm, ⟨75, _⟩ => ⟨S_, .i32⟩
  | .hbm, ⟨76, _⟩ => ⟨S304, .i32⟩
  | .hbm, ⟨77, _⟩ => ⟨S304, .i32⟩
  | .hbm, ⟨78, _⟩ => ⟨S304, .i32⟩
  | .hbm, ⟨79, _⟩ => ⟨S304x1, .i32⟩
  | .hbm, ⟨80, _⟩ => ⟨S304x1024x2048, .f32⟩
  | .hbm, ⟨81, _⟩ => ⟨S304x256x2048, .f32⟩
  | .hbm, ⟨82, _⟩ => ⟨S_, .i32⟩
  | .hbm, ⟨83, _⟩ => ⟨S304, .i32⟩
  | .hbm, ⟨84, _⟩ => ⟨S304, .i1⟩
  | .hbm, ⟨85, _⟩ => ⟨S_, .i32⟩
  | .hbm, ⟨86, _⟩ => ⟨S304, .i32⟩
  | .hbm, ⟨87, _⟩ => ⟨S304, .i32⟩
  | .hbm, ⟨88, _⟩ => ⟨S304, .i32⟩
  | .hbm, ⟨89, _⟩ => ⟨S304x1, .i32⟩
  | .hbm, ⟨90, _⟩ => ⟨S304x1x2048, .f32⟩
  | .hbm, ⟨91, _⟩ => ⟨S304x256x2048, .f32⟩
  | .hbm, ⟨92, _⟩ => ⟨S304x256x2048, .f32⟩
  | .hbm, ⟨93, _⟩ => ⟨S304, .i32⟩
  | .hbm, ⟨94, _⟩ => ⟨S_, .i32⟩
  | .hbm, ⟨95, _⟩ => ⟨S304, .i32⟩
  | .hbm, ⟨96, _⟩ => ⟨S304, .i1⟩
  | .hbm, ⟨97, _⟩ => ⟨S304x1x1, .i1⟩
  | .hbm, ⟨98, _⟩ => ⟨S_, .f32⟩
  | .hbm, ⟨99, _⟩ => ⟨S_, .f32⟩
  | .hbm, ⟨100, _⟩ => ⟨S304x256x2048, .i1⟩
  | .hbm, ⟨101, _⟩ => ⟨S304x256x2048, .f32⟩
  | .hbm, ⟨102, _⟩ => ⟨S304x256x2048, .f32⟩
  | .hbm, ⟨103, _⟩ => ⟨S77824x2048, .f32⟩
  | .hbm, ⟨104, _⟩ => ⟨S77824x2048, .bf16⟩
  | _, _ => ⟨S17408x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c_1 : Ref sig .tc := ⟨.hbm, 17, rfl⟩
abbrev main_v7 : Ref sig .tc := ⟨.hbm, 18, rfl⟩
abbrev main_v8 : Ref sig .tc := ⟨.hbm, 19, rfl⟩
abbrev main_c_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_c_3 : Ref sig .tc := ⟨.hbm, 27, rfl⟩
abbrev main_v15 : Ref sig .tc := ⟨.hbm, 28, rfl⟩
abbrev main_v16 : Ref sig .tc := ⟨.hbm, 29, rfl⟩
abbrev main_c_4 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst : Ref sig .tc := ⟨.hbm, 45, rfl⟩
abbrev main_v31 : Ref sig .tc := ⟨.hbm, 46, rfl⟩
abbrev main_v32 : Ref sig .tc := ⟨.hbm, 47, rfl⟩
abbrev main_cst_5 : Ref sig .tc := ⟨.hbm, 48, rfl⟩
abbrev main_cst_6 : Ref sig .tc := ⟨.hbm, 49, rfl⟩
abbrev main_call0_v0 : Ref sig .tc := ⟨.hbm, 50, rfl⟩
abbrev main_call0_v1 : Ref sig .tc := ⟨.hbm, 51, rfl⟩
abbrev main_call0_v2 : Ref sig .tc := ⟨.hbm, 52, rfl⟩
abbrev main_call0_v3 : Ref sig .tc := ⟨.hbm, 53, rfl⟩
abbrev main_call0_v4 : Ref sig .tc := ⟨.hbm, 54, rfl⟩
abbrev main_v33 : Ref sig .tc := ⟨.hbm, 55, rfl⟩
abbrev main_cst_7 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_cst_8 : Ref sig .tc := ⟨.hbm, 61, rfl⟩
abbrev main_v38 : Ref sig .tc := ⟨.hbm, 62, rfl⟩
abbrev main_v39 : Ref sig .tc := ⟨.hbm, 63, rfl⟩
abbrev main_cst_9 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_cst_10 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_c_11 : Ref sig .tc := ⟨.hbm, 72, rfl⟩
abbrev main_v46 : Ref sig .tc := ⟨.hbm, 73, rfl⟩
abbrev main_v47 : Ref sig .tc := ⟨.hbm, 74, rfl⟩
abbrev main_c_12 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_c_13 : Ref sig .tc := ⟨.hbm, 82, rfl⟩
abbrev main_v54 : Ref sig .tc := ⟨.hbm, 83, rfl⟩
abbrev main_v55 : Ref sig .tc := ⟨.hbm, 84, rfl⟩
abbrev main_c_14 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_cst_15 : Ref sig .tc := ⟨.hbm, 98, rfl⟩
abbrev main_call1_v0 : Ref sig .tc := ⟨.hbm, 99, rfl⟩
abbrev main_call1_v1 : Ref sig .tc := ⟨.hbm, 100, rfl⟩
abbrev main_call1_v2 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩

abbrev nD : Nat := 1
abbrev τ : Topo := Topo.v7x

variable {F : FTy → Type} [FloatOps F]
-- ==== Split.lean ====
abbrev S2x32x2048x2048 : Shape := ⟨4, ![2, 32, 2048, 2048]⟩
abbrev S_ : Shape := ⟨0, ![]⟩
abbrev S8x128 : Shape := ⟨2, ![8, 128]⟩
abbrev S64x2048x2048 : Shape := ⟨3, ![64, 2048, 2048]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S32x2048x2048 : Shape := ⟨3, ![32, 2048, 2048]⟩
abbrev S1x2048x512 : Shape := ⟨3, ![1, 2048, 512]⟩
abbrev S1x2048x256 : Shape := ⟨3, ![1, 2048, 256]⟩
abbrev S2048x256 : Shape := ⟨2, ![2048, 256]⟩

abbrev nBuf : Space → Nat
  | .hbm => 29
  | .vmem => 6
  | .smem => 0
  | _ => 0

abbrev bufTy : (tb : Table) → Fin (tcTables nBuf tb) → BufTy
  | .hbm, ⟨0, _⟩ => ⟨S2x32x2048x2048, .f32⟩
  | .hbm, ⟨1, _⟩ => ⟨S_, .f32⟩
  | .hbm, ⟨2, _⟩ => ⟨S8x128, .f32⟩
  | .hbm, ⟨3, _⟩ => ⟨S64x2048x2048, .f32⟩
  | .hbm, ⟨4, _⟩ => ⟨S256, .i32⟩
  | .hbm, ⟨5, _⟩ => ⟨S_, .i32⟩
  | .hbm, ⟨6, _⟩ => ⟨S256, .i32⟩
  | .hbm, ⟨7, _⟩ => ⟨S256, .i1⟩
  | .hbm, ⟨8, _⟩ => ⟨S_, .i32⟩
  | .hbm, ⟨9, _⟩ => ⟨S256, .i32⟩
  | .hbm, ⟨10, _⟩ => ⟨S256, .i32⟩
  | .hbm, ⟨11, _⟩ => ⟨S_, .i32⟩
  | .hbm, ⟨12, _⟩ => ⟨S256, .i32⟩
  | .hbm, ⟨13, _⟩ => ⟨S256, .i32⟩
  | .hbm, ⟨14, _⟩ => ⟨S_, .i32⟩
  | .hbm, ⟨15, _⟩ => ⟨S256, .i32⟩
  | .hbm, ⟨16, _⟩ => ⟨S256, .i32⟩
  | .hbm, ⟨17, _⟩ => ⟨S_, .i32⟩
  | .hbm, ⟨18, _⟩ => ⟨S256, .i32⟩
  | .hbm, ⟨19, _⟩ => ⟨S256, .i32⟩
  | .hbm, ⟨20, _⟩ => ⟨S256, .i32⟩
  | .hbm, ⟨21, _⟩ => ⟨S256, .i32⟩
  | .hbm, ⟨22, _⟩ => ⟨S256x1, .i32⟩
  | .hbm, ⟨23, _⟩ => ⟨S1x256, .i32⟩
  | .hbm, ⟨24, _⟩ => ⟨S256x256, .i32⟩
  | .hbm, ⟨25, _⟩ => ⟨S256x256, .i32⟩
  | .hbm, ⟨26, _⟩ => ⟨S256x256, .i1⟩
  | .hbm, ⟨27, _⟩ => ⟨S256x256, .bf16⟩
  | .hbm, ⟨28, _⟩ => ⟨S32x2048x2048, .bf16⟩
  | .local _ .vmem, ⟨0, _⟩ => ⟨S1x2048x512, .f32⟩
  | .local _ .vmem, ⟨1, _⟩ => ⟨S1x2048x512, .f32⟩
  | .local _ .vmem, ⟨2, _⟩ => ⟨S256x256, .bf16⟩
  | .local _ .vmem, ⟨3, _⟩ => ⟨S8x128, .f32⟩
  | .local _ .vmem, ⟨4, _⟩ => ⟨S1x2048x512, .bf16⟩
  | .local _ .vmem, ⟨5, _⟩ => ⟨S1x2048x512, .bf16⟩
  | _, _ => ⟨S2x32x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_v3 : Ref sig .tc := ⟨.hbm, 6, rfl⟩
abbrev main_v4 : Ref sig .tc := ⟨.hbm, 7, rfl⟩
abbrev main_c_0 : Ref sig .tc := ⟨.hbm, 8, rfl⟩
abbrev main_v5 : Ref sig .tc := ⟨.hbm, 9, rfl⟩
abbrev main_v6 : Ref sig .tc := ⟨.hbm, 10, rfl⟩
abbrev main_c_1 : Ref sig .tc := ⟨.hbm, 11, rfl⟩
abbrev main_v7 : Ref sig .tc := ⟨.hbm, 12, rfl⟩
abbrev main_v8 : Ref sig .tc := ⟨.hbm, 13, rfl⟩
abbrev main_c_2 : Ref sig .tc := ⟨.hbm, 14, rfl⟩
abbrev main_v9 : Ref sig .tc := ⟨.hbm, 15, rfl⟩
abbrev main_v10 : Ref sig .tc := ⟨.hbm, 16, rfl⟩
abbrev main_c_3 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![32, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== SplitRefIdeal.lean ====
abbrev S2x32x2048x2048 : Shape := ⟨4, ![2, 32, 2048, 2048]⟩
abbrev S1x32x2048x2048 : Shape := ⟨4, ![1, 32, 2048, 2048]⟩
abbrev S32x2048x2048 : Shape := ⟨3, ![32, 2048, 2048]⟩
abbrev S32x2048x1024 : Shape := ⟨3, ![32, 2048, 1024]⟩
abbrev S32x2048x8x128 : Shape := ⟨4, ![32, 2048, 8, 128]⟩
abbrev S32x2048x8x1x128 : Shape := ⟨5, ![32, 2048, 8, 1, 128]⟩
abbrev S32x2048x8x2x128 : Shape := ⟨5, ![32, 2048, 8, 2, 128]⟩

abbrev nBuf : Space → Nat
  | .hbm => 14
  | .vmem => 0
  | .smem => 0
  | _ => 0

abbrev bufTy : (tb : Table) → Fin (tcTables nBuf tb) → BufTy
  | .hbm, ⟨0, _⟩ => ⟨S2x32x2048x2048, .f32⟩
  | .hbm, ⟨1, _⟩ => ⟨S1x32x2048x2048, .f32⟩
  | .hbm, ⟨2, _⟩ => ⟨S32x2048x2048, .f32⟩
  | .hbm, ⟨3, _⟩ => ⟨S32x2048x1024, .f32⟩
  | .hbm, ⟨4, _⟩ => ⟨S1x32x2048x2048, .f32⟩
  | .hbm, ⟨5, _⟩ => ⟨S32x2048x2048, .f32⟩
  | .hbm, ⟨6, _⟩ => ⟨S32x2048x1024, .f32⟩
  | .hbm, ⟨7, _⟩ => ⟨S32x2048x8x128, .f32⟩
  | .hbm, ⟨8, _⟩ => ⟨S32x2048x8x128, .f32⟩
  | .hbm, ⟨9, _⟩ => ⟨S32x2048x8x1x128, .f32⟩
  | .hbm, ⟨10, _⟩ => ⟨S32x2048x8x1x128, .f32⟩
  | .hbm, ⟨11, _⟩ => ⟨S32x2048x8x2x128, .f32⟩
  | .hbm, ⟨12, _⟩ => ⟨S32x2048x2048, .f32⟩
  | .hbm, ⟨13, _⟩ => ⟨S32x2048x2048, .bf16⟩
  | _, _ => ⟨S2x32x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩

abbrev nD : Nat := 1
abbrev τ : Topo := Topo.v7x

variable {F : FTy → Type} [FloatOps F]
-- ==== Merge.lean ====
abbrev S17408x512 : Shape := ⟨2, ![17408, 512]⟩
abbrev S17408x1024 : Shape := ⟨2, ![17408, 1024]⟩
abbrev S2x17408x512 : Shape := ⟨3, ![2, 17408, 512]⟩
abbrev S17408x3840 : Shape := ⟨2, ![17408, 3840]⟩
abbrev S17408x6144 : Shape := ⟨2, ![17408, 6144]⟩
abbrev S512x512 : Shape := ⟨2, ![512, 512]⟩
abbrev S512 : Shape := ⟨1, ![512]⟩
abbrev S512x2048 : Shape := ⟨2, ![512, 2048]⟩
abbrev S1024x2048 : Shape := ⟨2, ![1024, 2048]⟩
abbrev S1x512 : Shape := ⟨2, ![1, 512]⟩
abbrev S17408x2048 : Shape := ⟨2, ![17408, 2048]⟩
abbrev S256x512 : Shape := ⟨2, ![256, 512]⟩
abbrev S256x1024 : Shape := ⟨2, ![256, 1024]⟩
abbrev S1x256x512 : Shape := ⟨3, ![1, 256, 512]⟩
abbrev S256x6144 : Shape := ⟨2, ![256, 6144]⟩
abbrev S256x2048 : Shape := ⟨2, ![256, 2048]⟩
abbrev S256x128 : Shape := ⟨2, ![256, 128]⟩
abbrev S256 : Shape := ⟨1, ![256]⟩
abbrev S256x1 : Shape := ⟨2, ![256, 1]⟩

abbrev nBuf : Space → Nat
  | .hbm => 18
  | .vmem => 20
  | .smem => 0
  | _ => 0

abbrev bufTy : (tb : Table) → Fin (tcTables nBuf tb) → BufTy
  | .hbm, ⟨0, _⟩ => ⟨S17408x512, .f32⟩
  | .hbm, ⟨1, _⟩ => ⟨S17408x1024, .bf16⟩
  | .hbm, ⟨2, _⟩ => ⟨S2x17408x512, .f32⟩
  | .hbm, ⟨3, _⟩ => ⟨S17408x3840, .f32⟩
  | .hbm, ⟨4, _⟩ => ⟨S17408x6144, .bf16⟩
  | .hbm, ⟨5, _⟩ => ⟨S512x512, .f32⟩
  | .hbm, ⟨6, _⟩ => ⟨S512, .f32⟩
  | .hbm, ⟨7, _⟩ => ⟨S512, .f32⟩
  | .hbm, ⟨8, _⟩ => ⟨S512x2048, .f32⟩
  | .hbm, ⟨9, _⟩ => ⟨S1024x2048, .f32⟩
  | .hbm, ⟨10, _⟩ => ⟨S512x2048, .f32⟩
  | .hbm, ⟨11, _⟩ => ⟨S512x512, .bf16⟩
  | .hbm, ⟨12, _⟩ => ⟨S512x2048, .bf16⟩
  | .hbm, ⟨13, _⟩ => ⟨S1024x2048, .bf16⟩
  | .hbm, ⟨14, _⟩ => ⟨S512x2048, .bf16⟩
  | .hbm, ⟨15, _⟩ => ⟨S1x512, .f32⟩
  | .hbm, ⟨16, _⟩ => ⟨S1x512, .f32⟩
  | .hbm, ⟨17, _⟩ => ⟨S17408x2048, .bf16⟩
  | .local _ .vmem, ⟨0, _⟩ => ⟨S256x512, .f32⟩
  | .local _ .vmem, ⟨1, _⟩ => ⟨S256x512, .f32⟩
  | .local _ .vmem, ⟨2, _⟩ => ⟨S256x1024, .bf16⟩
  | .local _ .vmem, ⟨3, _⟩ => ⟨S256x1024, .bf16⟩
  | .local _ .vmem, ⟨4, _⟩ => ⟨S1x256x512, .f32⟩
  | .local _ .vmem, ⟨5, _⟩ => ⟨S1x256x512, .f32⟩
  | .local _ .vmem, ⟨6, _⟩ => ⟨S1x256x512, .f32⟩
  | .local _ .vmem, ⟨7, _⟩ => ⟨S1x256x512, .f32⟩
  | .local _ .vmem, ⟨8, _⟩ => ⟨S256x512, .f32⟩
  | .local _ .vmem, ⟨9, _⟩ => ⟨S256x512, .f32⟩
  | .local _ .vmem, ⟨10, _⟩ => ⟨S256x6144, .bf16⟩
  | .local _ .vmem, ⟨11, _⟩ => ⟨S256x6144, .bf16⟩
  | .local _ .vmem, ⟨12, _⟩ => ⟨S512x512, .bf16⟩
  | .local _ .vmem, ⟨13, _⟩ => ⟨S1x512, .f32⟩
  | .local _ .vmem, ⟨14, _⟩ => ⟨S1x512, .f32⟩
  | .local _ .vmem, ⟨15, _⟩ => ⟨S512x2048, .bf16⟩
  | .local _ .vmem, ⟨16, _⟩ => ⟨S1024x2048, .bf16⟩
  | .local _ .vmem, ⟨17, _⟩ => ⟨S512x2048, .bf16⟩
  | .local _ .vmem, ⟨18, _⟩ => ⟨S256x2048, .bf16⟩
  | .local _ .vmem, ⟨19, _⟩ => ⟨S256x2048, .bf16⟩
  | _, _ => ⟨S17408x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg12_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem12_1 : DmaSem sig := 19

abbrev nD : Nat := 1
abbrev τ : Topo := Topo.v7x

variable {F : FTy → Type} [FloatOps F]

abbrev grid0 : Pipeline.Grid := ⟨1, ![68], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_4 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x6144 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S512x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x2048 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S512x2048 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S256x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== MergeRefIdeal.lean ====
abbrev S17408x512 : Shape := ⟨2, ![17408, 512]⟩
abbrev S17408x1024 : Shape := ⟨2, ![17408, 1024]⟩
abbrev S2x17408x512 : Shape := ⟨3, ![2, 17408, 512]⟩
abbrev S17408x3840 : Shape := ⟨2, ![17408, 3840]⟩
abbrev S17408x6144 : Shape := ⟨2, ![17408, 6144]⟩
abbrev S512x512 : Shape := ⟨2, ![512, 512]⟩
abbrev S512 : Shape := ⟨1, ![512]⟩
abbrev S512x2048 : Shape := ⟨2, ![512, 2048]⟩
abbrev S1024x2048 : Shape := ⟨2, ![1024, 2048]⟩
abbrev S_ : Shape := ⟨0, ![]⟩
abbrev S1x512 : Shape := ⟨2, ![1, 512]⟩
abbrev S1x17408x512 : Shape := ⟨3, ![1, 17408, 512]⟩
abbrev S17408x4x128 : Shape := ⟨3, ![17408, 4, 128]⟩
abbrev S4x128 : Shape := ⟨2, ![4, 128]⟩
abbrev S17408x4 : Shape := ⟨2, ![17408, 4]⟩
abbrev S17408x4x1 : Shape := ⟨3, ![17408, 4, 1]⟩
abbrev S1x4x128 : Shape := ⟨3, ![1, 4, 128]⟩
abbrev S17408x2048 : Shape := ⟨2, ![17408, 2048]⟩

abbrev nBuf : Space → Nat
  | .hbm => 89
  | .vmem => 0
  | .smem => 0
  | _ => 0

abbrev bufTy : (tb : Table) → Fin (tcTables nBuf tb) → BufTy
  | .hbm, ⟨0, _⟩ => ⟨S17408x512, .f32⟩
  | .hbm, ⟨1, _⟩ => ⟨S17408x1024, .bf16⟩
  | .hbm, ⟨2, _⟩ => ⟨S2x17408x512, .f32⟩
  | .hbm, ⟨3, _⟩ => ⟨S17408x3840, .f32⟩
  | .hbm, ⟨4, _⟩ => ⟨S17408x6144, .bf16⟩
  | .hbm, ⟨5, _⟩ => ⟨S512x512, .f32⟩
  | .hbm, ⟨6, _⟩ => ⟨S512, .f32⟩
  | .hbm, ⟨7, _⟩ => ⟨S512, .f32⟩
  | .hbm, ⟨8, _⟩ => ⟨S512x2048, .f32⟩
  | .hbm, ⟨9, _⟩ => ⟨S1024x2048, .f32⟩
  | .hbm, ⟨10, _⟩ => ⟨S512x2048, .f32⟩
  | .hbm, ⟨11, _⟩ => ⟨S17408x512, .f32⟩
  | .hbm, ⟨12, _⟩ => ⟨S17408x512, .f32⟩
  | .hbm, ⟨13, _⟩ => ⟨S_, .f32⟩
  | .hbm, ⟨14, _⟩ => ⟨S17408x512, .f32⟩
  | .hbm, ⟨15, _⟩ => ⟨S17408x512, .f32⟩
  | .hbm, ⟨16, _⟩ => ⟨S17408x512, .f32⟩
  | .hbm, ⟨17, _⟩ => ⟨S_, .f32⟩
  | .hbm, ⟨18, _⟩ => ⟨S17408x512, .f32⟩
  | .hbm, ⟨19, _⟩ => ⟨S17408x512, .f32⟩
  | .hbm, ⟨20, _⟩ => ⟨S17408x512, .f32⟩
  | .hbm, ⟨21, _⟩ => ⟨S_, .f32⟩
  | .hbm, ⟨22, _⟩ => ⟨S17408x512, .f32⟩
  | .hbm, ⟨23, _⟩ => ⟨S17408x512, .f32⟩
  | .hbm, ⟨24, _⟩ => ⟨S_, .f32⟩
  | .hbm, ⟨25, _⟩ => ⟨S17408x512, .f32⟩
  | .hbm, ⟨26, _⟩ => ⟨S17408x512, .f32⟩
  | .hbm, ⟨27, _⟩ => ⟨S17408x512, .f32⟩
  | .hbm, ⟨28, _⟩ => ⟨S17408x512, .f32⟩
  | .hbm, ⟨29, _⟩ => ⟨S1x512, .f32⟩
  | .hbm, ⟨30, _⟩ => ⟨S17408x512, .f32⟩
  | .hbm, ⟨31, _⟩ => ⟨S17408x512, .f32⟩
  | .hbm, ⟨32, _⟩ => ⟨S17408x512, .f32⟩
  | .hbm, ⟨33, _⟩ => ⟨S17408x512, .f32⟩
  | .hbm, ⟨34, _⟩ => ⟨S_, .f32⟩
  | .hbm, ⟨35, _⟩ => ⟨S17408x512, .f32⟩
  | .hbm, ⟨36, _⟩ => ⟨S17408x512, .f32⟩
  | .hbm, ⟨37, _⟩ => ⟨S_, .f32⟩
  | .hbm, ⟨38, _⟩ => ⟨S17408x512, .f32⟩
  | .hbm, ⟨39, _⟩ => ⟨S17408x512, .f32⟩
  | .hbm, ⟨40, _⟩ => ⟨S17408x512, .f32⟩
  | .hbm, ⟨41, _⟩ => ⟨S1x17408x512, .f32⟩
  | .hbm, ⟨42, _⟩ => ⟨S17408x512, .f32⟩
  | .hbm, ⟨43, _⟩ => ⟨S1x17408x512, .f32⟩
  | .hbm, ⟨44, _⟩ => ⟨S17408x512, .f32⟩
  | .hbm, ⟨45, _⟩ => ⟨S17408x512, .f32⟩
  | .hbm, ⟨46, _⟩ => ⟨S17408x4x128, .f32⟩
  | .hbm, ⟨47, _⟩ => ⟨S4x128, .f32⟩
  | .hbm, ⟨48, _⟩ => ⟨S17408x4x128, .f32⟩
  | .hbm, ⟨49, _⟩ => ⟨S_, .f32⟩
  | .hbm, ⟨50, _⟩ => ⟨S17408x4, .f32⟩
  | .hbm, ⟨51, _⟩ => ⟨S17408x4x1, .f32⟩
  | .hbm, ⟨52, _⟩ => ⟨S_, .f32⟩
  | .hbm, ⟨53, _⟩ => ⟨S17408x4x1, .f32⟩
  | .hbm, ⟨54, _⟩ => ⟨S17408x4x1, .f32⟩
  | .hbm, ⟨55, _⟩ => ⟨S_, .f32⟩
  | .hbm, ⟨56, _⟩ => ⟨S17408x4x1, .f32⟩
  | .hbm, ⟨57, _⟩ => ⟨S17408x4x1, .f32⟩
  | .hbm, ⟨58, _⟩ => ⟨S17408x4x1, .f32⟩
  | .hbm, ⟨59, _⟩ => ⟨S17408x4x128, .f32⟩
  | .hbm, ⟨60, _⟩ => ⟨S17408x4x128, .f32⟩
  | .hbm, ⟨61, _⟩ => ⟨S1x4x128, .f32⟩
  | .hbm, ⟨62, _⟩ => ⟨S17408x4x128, .f32⟩
  | .hbm, ⟨63, _⟩ => ⟨S17408x4x128, .f32⟩
  | .hbm, ⟨64, _⟩ => ⟨S17408x512, .f32⟩
  | .hbm, ⟨65, _⟩ => ⟨S17408x512, .f32⟩
  | .hbm, ⟨66, _⟩ => ⟨S17408x512, .f32⟩
  | .hbm, ⟨67, _⟩ => ⟨S17408x512, .f32⟩
  | .hbm, ⟨68, _⟩ => ⟨S_, .f32⟩
  | .hbm, ⟨69, _⟩ => ⟨S17408x512, .f32⟩
  | .hbm, ⟨70, _⟩ => ⟨S17408x512, .f32⟩
  | .hbm, ⟨71, _⟩ => ⟨S_, .f32⟩
  | .hbm, ⟨72, _⟩ => ⟨S17408x512, .f32⟩
  | .hbm, ⟨73, _⟩ => ⟨S17408x512, .f32⟩
  | .hbm, ⟨74, _⟩ => ⟨S17408x512, .f32⟩
  | .hbm, ⟨75, _⟩ => ⟨S17408x6144, .f32⟩
  | .hbm, ⟨76, _⟩ => ⟨S17408x2048, .f32⟩
  | .hbm, ⟨77, _⟩ => ⟨S17408x2048, .f32⟩
  | .hbm, ⟨78, _⟩ => ⟨S17408x2048, .f32⟩
  | .hbm, ⟨79, _⟩ => ⟨S17408x2048, .f32⟩
  | .hbm, ⟨80, _⟩ => ⟨S17408x2048, .f32⟩
  | .hbm, ⟨81, _⟩ => ⟨S17408x1024, .f32⟩
  | .hbm, ⟨82, _⟩ => ⟨S17408x2048, .f32⟩
  | .hbm, ⟨83, _⟩ => ⟨S17408x2048, .f32⟩
  | .hbm, ⟨84, _⟩ => ⟨S17408x2048, .f32⟩
  | .hbm, ⟨85, _⟩ => ⟨S17408x2048, .f32⟩
  | .hbm, ⟨86, _⟩ => ⟨S17408x2048, .f32⟩
  | .hbm, ⟨87, _⟩ => ⟨S17408x2048, .f32⟩
  | .hbm, ⟨88, _⟩ => ⟨S17408x2048, .bf16⟩
  | _, _ => ⟨S17408x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_cst : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_cst_2 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_3 : Ref sig .tc := ⟨.hbm, 34, rfl⟩
abbrev main_v19 : Ref sig .tc := ⟨.hbm, 35, rfl⟩
abbrev main_v20 : Ref sig .tc := ⟨.hbm, 36, rfl⟩
abbrev main_cst_4 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_5 : Ref sig .tc := ⟨.hbm, 49, rfl⟩
abbrev main_v32 : Ref sig .tc := ⟨.hbm, 50, rfl⟩
abbrev main_v33 : Ref sig .tc := ⟨.hbm, 51, rfl⟩
abbrev main_cst_6 : Ref sig .tc := ⟨.hbm, 52, rfl⟩
abbrev main_v34 : Ref sig .tc := ⟨.hbm, 53, rfl⟩
abbrev main_v35 : Ref sig .tc := ⟨.hbm, 54, rfl⟩
abbrev main_cst_7 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_cst_8 : Ref sig .tc := ⟨.hbm, 68, rfl⟩
abbrev main_v48 : Ref sig .tc := ⟨.hbm, 69, rfl⟩
abbrev main_v49 : Ref sig .tc := ⟨.hbm, 70, rfl⟩
abbrev main_cst_9 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩

abbrev nD : Nat := 1
abbrev τ : Topo := Topo.v7x

variable {F : FTy → Type} [FloatOps F]
-- ==== Norm.lean ====
abbrev S4x4352x2048 : Shape := ⟨3, ![4, 4352, 2048]⟩
abbrev S2048 : Shape := ⟨1, ![2048]⟩
abbrev S4x2x6x2048 : Shape := ⟨4, ![4, 2, 6, 2048]⟩
abbrev S1x2048 : Shape := ⟨2, ![1, 2048]⟩
abbrev S1x544x2048 : Shape := ⟨3, ![1, 544, 2048]⟩
abbrev S1x2x6x2048 : Shape := ⟨4, ![1, 2, 6, 2048]⟩
abbrev S544x2048 : Shape := ⟨2, ![544, 2048]⟩
abbrev S544x1 : Shape := ⟨2, ![544, 1]⟩
abbrev S544 : Shape := ⟨1, ![544]⟩
abbrev S1x1x1x2048 : Shape := ⟨4, ![1, 1, 1, 2048]⟩

abbrev nBuf : Space → Nat
  | .hbm => 5
  | .vmem => 7
  | .smem => 0
  | _ => 0

abbrev bufTy : (tb : Table) → Fin (tcTables nBuf tb) → BufTy
  | .hbm, ⟨0, _⟩ => ⟨S4x4352x2048, .f32⟩
  | .hbm, ⟨1, _⟩ => ⟨S2048, .f32⟩
  | .hbm, ⟨2, _⟩ => ⟨S4x2x6x2048, .f32⟩
  | .hbm, ⟨3, _⟩ => ⟨S1x2048, .f32⟩
  | .hbm, ⟨4, _⟩ => ⟨S4x4352x2048, .bf16⟩
  | .local _ .vmem, ⟨0, _⟩ => ⟨S1x544x2048, .f32⟩
  | .local _ .vmem, ⟨1, _⟩ => ⟨S1x544x2048, .f32⟩
  | .local _ .vmem, ⟨2, _⟩ => ⟨S1x2048, .f32⟩
  | .local _ .vmem, ⟨3, _⟩ => ⟨S1x2x6x2048, .f32⟩
  | .local _ .vmem, ⟨4, _⟩ => ⟨S1x2x6x2048, .f32⟩
  | .local _ .vmem, ⟨5, _⟩ => ⟨S1x544x2048, .bf16⟩
  | .local _ .vmem, ⟨6, _⟩ => ⟨S1x544x2048, .bf16⟩
  | _, _ => ⟨S4x4352x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x544x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2x6x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x544x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== NormRefIdeal.lean ====
abbrev S4x4352x2048 : Shape := ⟨3, ![4, 4352, 2048]⟩
abbrev S2048 : Shape := ⟨1, ![2048]⟩
abbrev S4x2x6x2048 : Shape := ⟨4, ![4, 2, 6, 2048]⟩
abbrev S4x256x2048 : Shape := ⟨3, ![4, 256, 2048]⟩
abbrev S_ : Shape := ⟨0, ![]⟩
abbrev S4x256 : Shape := ⟨2, ![4, 256]⟩
abbrev S4x256x1 : Shape := ⟨3, ![4, 256, 1]⟩
abbrev S1x1x2048 : Shape := ⟨3, ![1, 1, 2048]⟩
abbrev S4x1x1x2048 : Shape := ⟨4, ![4, 1, 1, 2048]⟩
abbrev S4x2048 : Shape := ⟨2, ![4, 2048]⟩
abbrev S4x1x2048 : Shape := ⟨3, ![4, 1, 2048]⟩
abbrev S4x4096x2048 : Shape := ⟨3, ![4, 4096, 2048]⟩
abbrev S4x4096 : Shape := ⟨2, ![4, 4096]⟩
abbrev S4x4096x1 : Shape := ⟨3, ![4, 4096, 1]⟩

abbrev nBuf : Space → Nat
  | .hbm => 65
  | .vmem => 0
  | .smem => 0
  | _ => 0

abbrev bufTy : (tb : Table) → Fin (tcTables nBuf tb) → BufTy
  | .hbm, ⟨0, _⟩ => ⟨S4x4352x2048, .f32⟩
  | .hbm, ⟨1, _⟩ => ⟨S2048, .f32⟩
  | .hbm, ⟨2, _⟩ => ⟨S4x2x6x2048, .f32⟩
  | .hbm, ⟨3, _⟩ => ⟨S4x256x2048, .f32⟩
  | .hbm, ⟨4, _⟩ => ⟨S4x256x2048, .f32⟩
  | .hbm, ⟨5, _⟩ => ⟨S_, .f32⟩
  | .hbm, ⟨6, _⟩ => ⟨S4x256, .f32⟩
  | .hbm, ⟨7, _⟩ => ⟨S4x256x1, .f32⟩
  | .hbm, ⟨8, _⟩ => ⟨S_, .f32⟩
  | .hbm, ⟨9, _⟩ => ⟨S4x256x1, .f32⟩
  | .hbm, ⟨10, _⟩ => ⟨S4x256x1, .f32⟩
  | .hbm, ⟨11, _⟩ => ⟨S_, .f32⟩
  | .hbm, ⟨12, _⟩ => ⟨S4x256x1, .f32⟩
  | .hbm, ⟨13, _⟩ => ⟨S4x256x1, .f32⟩
  | .hbm, ⟨14, _⟩ => ⟨S4x256x1, .f32⟩
  | .hbm, ⟨15, _⟩ => ⟨S4x256x2048, .f32⟩
  | .hbm, ⟨16, _⟩ => ⟨S4x256x2048, .f32⟩
  | .hbm, ⟨17, _⟩ => ⟨S1x1x2048, .f32⟩
  | .hbm, ⟨18, _⟩ => ⟨S4x256x2048, .f32⟩
  | .hbm, ⟨19, _⟩ => ⟨S4x256x2048, .f32⟩
  | .hbm, ⟨20, _⟩ => ⟨S4x1x1x2048, .f32⟩
  | .hbm, ⟨21, _⟩ => ⟨S4x2048, .f32⟩
  | .hbm, ⟨22, _⟩ => ⟨S4x1x2048, .f32⟩
  | .hbm, ⟨23, _⟩ => ⟨S_, .f32⟩
  | .hbm, ⟨24, _⟩ => ⟨S4x1x2048, .f32⟩
  | .hbm, ⟨25, _⟩ => ⟨S4x1x2048, .f32⟩
  | .hbm, ⟨26, _⟩ => ⟨S4x256x2048, .f32⟩
  | .hbm, ⟨27, _⟩ => ⟨S4x256x2048, .f32⟩
  | .hbm, ⟨28, _⟩ => ⟨S4x1x1x2048, .f32⟩
  | .hbm, ⟨29, _⟩ => ⟨S4x2048, .f32⟩
  | .hbm, ⟨30, _⟩ => ⟨S4x1x2048, .f32⟩
  | .hbm, ⟨31, _⟩ => ⟨S4x256x2048, .f32⟩
  | .hbm, ⟨32, _⟩ => ⟨S4x256x2048, .f32⟩
  | .hbm, ⟨33, _⟩ => ⟨S4x4096x2048, .f32⟩
  | .hbm, ⟨34, _⟩ => ⟨S4x4096x2048, .f32⟩
  | .hbm, ⟨35, _⟩ => ⟨S_, .f32⟩
  | .hbm, ⟨36, _⟩ => ⟨S4x4096, .f32⟩
  | .hbm, ⟨37, _⟩ => ⟨S4x4096x1, .f32⟩
  | .hbm, ⟨38, _⟩ => ⟨S_, .f32⟩
  | .hbm, ⟨39, _⟩ => ⟨S4x4096x1, .f32⟩
  | .hbm, ⟨40, _⟩ => ⟨S4x4096x1, .f32⟩
  | .hbm, ⟨41, _⟩ => ⟨S_, .f32⟩
  | .hbm, ⟨42, _⟩ => ⟨S4x4096x1, .f32⟩
  | .hbm, ⟨43, _⟩ => ⟨S4x4096x1, .f32⟩
  | .hbm, ⟨44, _⟩ => ⟨S4x4096x1, .f32⟩
  | .hbm, ⟨45, _⟩ => ⟨S4x4096x2048, .f32⟩
  | .hbm, ⟨46, _⟩ => ⟨S4x4096x2048, .f32⟩
  | .hbm, ⟨47, _⟩ => ⟨S1x1x2048, .f32⟩
  | .hbm, ⟨48, _⟩ => ⟨S4x4096x2048, .f32⟩
  | .hbm, ⟨49, _⟩ => ⟨S4x4096x2048, .f32⟩
  | .hbm, ⟨50, _⟩ => ⟨S4x1x1x2048, .f32⟩
  | .hbm, ⟨51, _⟩ => ⟨S4x2048, .f32⟩
  | .hbm, ⟨52, _⟩ => ⟨S4x1x2048, .f32⟩
  | .hbm, ⟨53, _⟩ => ⟨S_, .f32⟩
  | .hbm, ⟨54, _⟩ => ⟨S4x1x2048, .f32⟩
  | .hbm, ⟨55, _⟩ => ⟨S4x1x2048, .f32⟩
  | .hbm, ⟨56, _⟩ => ⟨S4x4096x2048, .f32⟩
  | .hbm, ⟨57, _⟩ => ⟨S4x4096x2048, .f32⟩
  | .hbm, ⟨58, _⟩ => ⟨S4x1x1x2048, .f32⟩
  | .hbm, ⟨59, _⟩ => ⟨S4x2048, .f32⟩
  | .hbm, ⟨60, _⟩ => ⟨S4x1x2048, .f32⟩
  | .hbm, ⟨61, _⟩ => ⟨S4x4096x2048, .f32⟩
  | .hbm, ⟨62, _⟩ => ⟨S4x4096x2048, .f32⟩
  | .hbm, ⟨63, _⟩ => ⟨S4x4352x2048, .f32⟩
  | .hbm, ⟨64, _⟩ => ⟨S4x4352x2048, .bf16⟩
  | _, _ => ⟨S4x4352x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_cst_3 : Ref sig .tc := ⟨.hbm, 35, rfl⟩
abbrev main_v28 : Ref sig .tc := ⟨.hbm, 36, rfl⟩
abbrev main_v29 : Ref sig .tc := ⟨.hbm, 37, rfl⟩
abbrev main_cst_4 : Ref sig .tc := ⟨.hbm, 38, rfl⟩
abbrev main_v30 : Ref sig .tc := ⟨.hbm, 39, rfl⟩
abbrev main_v31 : Ref sig .tc := ⟨.hbm, 40, rfl⟩
abbrev main_cst_5 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_cst_6 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩

abbrev nD : Nat := 1
abbrev τ : Topo := Topo.v7x

variable {F : FTy → Type} [FloatOps F]
-- ==== Proof.Attn.Softmax.lean ====
/- UNTRUSTED — the mathematics of the attention, on extended reals, away from both programs.

   The kernel weighs a key by `2 ^ ((s - m) · c)`, with `c = (√128)⁻¹ · (log 2)⁻¹`, and divides by the sum of the weights
   once, after the weighted sum of the values (`lateAtt`). The reference scales the scores by `1 / √128`, takes their
   softmax, and then the weighted sum (`earlyAtt`). For real queries and keys the two are equal, whatever the values
   (`lateAtt_eq_earlyAtt`): the scores are reals, so the greatest score is one, every weight is a positive real, and the
   product with a positive real goes into a sum of extended reals. -/
module

public import Idealize.ShloMosaic.PureOps.Ideal
public import Idealize.ShloMosaic.Lib.Pointwise

@[expose] public section

noncomputable section

namespace Cert.Attn

open Idealize.ShloMosaic

/-- The word `-∞` that a maximum starts from is the least extended real. -/
theorem ofBits_negInf : Ideal.ofBits FTy.f32 0xFF800000#32 = ⊥ := by
  simp [Ideal.ofBits, Ideal.ieee]

/-- The word of `128.0` is the real 128. -/
theorem ofBits_128 : Ideal.ofBits FTy.f32 0x43000000#32 = ((128 : ℝ) : EReal) := by
  simp [Ideal.ofBits, Ideal.ieee, -EReal.coe_mul]; norm_num

/-- The bf16 word of `+∞` is the greatest extended real. -/
theorem ofBits_inf16 : Ideal.ofBits FTy.bf16 0x7F80#16 = ⊤ := by
  simp [Ideal.ofBits, Ideal.ieee]

/-- The score of one key: the inner product of the query with it. -/
def score {n : ℕ} (q : Fin 128 → EReal) (k : Fin n → Fin 128 → EReal) (x : Fin n) : EReal := ∑ d, q d * k x d

/-- The kernel's weight of key `x`. -/
def lateWeight {n : ℕ} (q : Fin 128 → EReal) (k : Fin n → Fin 128 → EReal) (x : Fin n) : EReal :=
  Ideal.exp2 ((score q k x - Finset.univ.fold max ⊥ (score q k)) * (((Real.sqrt 128)⁻¹ * (Real.log 2)⁻¹ : ℝ) : EReal))

/-- One output of the kernel: the weighted sum of the values, divided by the sum of the weights. -/
def lateAtt {n : ℕ} (q : Fin 128 → EReal) (k : Fin n → Fin 128 → EReal) (v : Fin n → EReal) : EReal :=
  Ideal.div (∑ x, lateWeight q k x * v x) (∑ x, lateWeight q k x)

/-- The reference's scaled score. -/
def scaled {n : ℕ} (q : Fin 128 → EReal) (k : Fin n → Fin 128 → EReal) (x : Fin n) : EReal :=
  Ideal.div (score q k x) (Ideal.sqrt ((128 : ℝ) : EReal))

/-- The reference's weight of key `x`, before the division. -/
def earlyWeight {n : ℕ} (q : Fin 128 → EReal) (k : Fin n → Fin 128 → EReal) (x : Fin n) : EReal :=
  Ideal.exp (scaled q k x - max ⊥ (Finset.univ.fold max ⊥ (scaled q k)))

/-- One output of the reference: the values weighted by the softmax of the scaled scores. -/
def earlyAtt {n : ℕ} (q : Fin 128 → EReal) (k : Fin n → Fin 128 → EReal) (v : Fin n → EReal) : EReal :=
  ∑ x, Ideal.div (earlyWeight q k x) (∑ x, earlyWeight q k x) * v x

/-- An extended real that is a real number. -/
def IsReal (x : EReal) : Prop := ∃ r : ℝ, x = (r : EReal)

theorem isReal_of_abs_lt {x : EReal} (h : max x (-x) < ⊤) : IsReal x := by
  induction x with
  | bot => simp at h
  | top => simp at h
  | coe r => exact ⟨r, rfl⟩

/-- A finite sum of reals, as extended reals, is the real sum. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A nonnegative real factor goes into a finite sum. -/
theorem sum_mul_coe {ι : Type*} (s : Finset ι) (f : ι → EReal) {a : ℝ} (ha : 0 ≤ a) :
    (∑ i ∈ s, f i) * (a : EReal) = ∑ i ∈ s, f i * (a : EReal) := by
  classical
  induction s using Finset.induction_on with
  | empty => simp
  | insert i s hi ih =>
    rw [Finset.sum_insert hi, Finset.sum_insert hi,
      EReal.right_distrib_of_nonneg_of_ne_top (by exact_mod_cast ha) (EReal.coe_ne_top a), ih]

/-- The greatest of finitely many reals, one at least, each times a positive factor: an index attains both greatest
    values, before the factor and after it. -/
theorem fold_max_coe {n : ℕ} (hn : 0 < n) (s : Fin n → ℝ) {a : ℝ} (ha : 0 < a) :
    ∃ i, Finset.univ.fold max ⊥ (fun x => (s x : EReal)) = (s i : EReal)
      ∧ Finset.univ.fold max ⊥ (fun x => ((s x * a : ℝ) : EReal)) = ((s i * a : ℝ) : EReal) := by
  have hne : (Finset.univ : Finset (Fin n)).Nonempty := ⟨⟨0, hn⟩, Finset.mem_univ _⟩
  obtain ⟨i, -, hi⟩ := Finset.exists_max_image Finset.univ s hne
  refine ⟨i, ?_, ?_⟩
  · change Finset.univ.sup (fun x => (s x : EReal)) = _
    exact le_antisymm (Finset.sup_le fun x hx => by exact_mod_cast hi x hx)
      (Finset.le_sup (f := fun x => (s x : EReal)) (Finset.mem_univ i))
  · change Finset.univ.sup (fun x => ((s x * a : ℝ) : EReal)) = _
    exact le_antisymm (Finset.sup_le fun x hx => by exact_mod_cast mul_le_mul_of_nonneg_right (hi x hx) ha.le)
      (Finset.le_sup (f := fun x => ((s x * a : ℝ) : EReal)) (Finset.mem_univ i))

/-- The power of two at the folded constant is the exponential of the scaled difference. -/
theorem rpow_eq (s M : ℝ) : Real.rpow 2 ((s - M) * ((Real.sqrt 128)⁻¹ * (Real.log 2)⁻¹))
    = Real.exp (s * (1 / Real.sqrt 128) - M * (1 / Real.sqrt 128)) := by
  have h2 : Real.log 2 ≠ 0 := (Real.log_pos one_lt_two).ne'
  rw [Real.rpow_eq_pow, Real.rpow_def_of_pos two_pos]
  congr 1
  field_simp

theorem lateAtt_eq_earlyAtt {n : ℕ} (hn : 0 < n) (q : Fin 128 → EReal) (k : Fin n → Fin 128 → EReal) (v : Fin n → EReal)
    (hq : ∀ d, IsReal (q d)) (hk : ∀ x d, IsReal (k x d)) : lateAtt q k v = earlyAtt q k v := by
  choose qr hqr using hq
  choose kr hkr using hk
  have hpos : (0 : ℝ) < Real.sqrt 128 := Real.sqrt_pos.mpr (by norm_num)
  have hs : ∀ x, score q k x = ((∑ d, qr d * kr x d : ℝ) : EReal) := fun x => by
    rw [score, coe_sum]; exact Finset.sum_congr rfl fun d _ => by rw [hqr, hkr, EReal.coe_mul]
  generalize hS : (fun x => ∑ d, qr d * kr x d) = S at hs
  replace hs : score q k = fun x => (S x : EReal) := funext fun x => by rw [hs, ← hS]
  have hsc : scaled q k = fun x => ((S x * (1 / Real.sqrt 128) : ℝ) : EReal) := funext fun x => by
    rw [scaled, Ideal.sqrt_coe, if_neg (by norm_num), Ideal.div_coe hpos.ne', hs, EReal.coe_mul]
  obtain ⟨i, h1, h2⟩ := fold_max_coe hn S (a := 1 / Real.sqrt 128) (by positivity)
  have hl : lateWeight q k = fun x => ((Real.exp (S x * (1 / Real.sqrt 128) - S i * (1 / Real.sqrt 128)) : ℝ) : EReal) :=
    funext fun x => by
      rw [lateWeight, hs, h1, ← EReal.coe_sub, ← EReal.coe_mul, Ideal.exp2_coe, rpow_eq]
  have he : earlyWeight q k = fun x => ((Real.exp (S x * (1 / Real.sqrt 128) - S i * (1 / Real.sqrt 128)) : ℝ) : EReal) :=
    funext fun x => by
      rw [earlyWeight, hsc, h2, max_eq_right bot_le, ← EReal.coe_sub, Ideal.exp_coe]
  rw [lateAtt, earlyAtt, hl, he]
  generalize hE : (fun x => Real.exp (S x * (1 / Real.sqrt 128) - S i * (1 / Real.sqrt 128))) = E
  have hE0 : ∀ x, 0 < E x := fun x => by rw [← hE]; exact Real.exp_pos _
  have hEx : ∀ x, Real.exp (S x * (1 / Real.sqrt 128) - S i * (1 / Real.sqrt 128)) = E x := fun x => by rw [← hE]
  simp only [hEx]
  have hL : 0 < ∑ x, E x := Finset.sum_pos (fun x _ => hE0 x) ⟨⟨0, hn⟩, Finset.mem_univ _⟩
  rw [← coe_sum, Ideal.div_coe hL.ne', sum_mul_coe _ _ (by positivity)]
  refine Finset.sum_congr rfl fun x _ => ?_
  rw [Ideal.div_coe hL.ne', mul_right_comm]

end Cert.Attn

end
-- ==== Proof.Attn.Block.lean ====
/- UNTRUSTED — what one grid point of the attention call leaves in its output block.

   A grid point is a batch, a key head and a tile of 256 query rows; its block of the result holds the four query heads
   that share the key head, each in 128 lanes. The context tile (`out_A`) attends the first 256 keys, every other tile
   (`out_B`) all 4352. In both, the element at row `r`, query head `g`, lane `d` is `lateAtt` of that row of that query
   head, of the keys, and of lane `d` of the values. -/
module

public import proofs.«01_k».proof.Proof.Gen.KernelIdeal.Value
public import proofs.«01_k».proof.Proof.Attn.Softmax
public import Idealize.ShloMosaic.Lib.Pipeline.ValueKit

@[expose] public section

set_option maxRecDepth 16384

noncomputable section

namespace Cert.Attn

open Idealize.ShloMosaic Cert.KernelIdeal Cert.KernelIdeal.Gen

/-- The constant named "c" is the real it is named. -/
theorem named_c : Named.named (F := Ideal) (φ := .f32) κ "c" 1040356334#32 = (((Real.sqrt 128)⁻¹ * (Real.log 2)⁻¹ : ℝ) : EReal) := rfl

/-- At the ideal instance the kernel's power of two is `Ideal.exp2`. -/
theorem exp2_def {φ : FTy} (x : EReal) : FloatOps.exp2 (F := Ideal) (φ := φ) x = Ideal.exp2 x := rfl

variable (c : Dev nD) (i : grid0.Coords) (arg3 : Memref sig .tc .vmem S1x256x512 .bf16) (harg3 : arg3.IsWhole)
  (arg4 : Memref sig .tc .vmem S1x4352x128 .bf16) (harg4 : arg4.IsWhole) (arg5 : Memref sig .tc .vmem S1x4352x128 .bf16)
  (harg5 : arg5.IsWhole) (arg6 : Memref sig .tc .vmem S1x256x512 .bf16) (harg6 : arg6.IsWhole)
  (q : Vec Ideal S1x256x512 .bf16) (k v : Vec Ideal S1x4352x128 .bf16)

set_option maxHeartbeats 2000000 in
/-- A tile of latent queries: every key is attended. -/
theorem out_B (hc0 : cond0_0 i) (hc1 : ¬cond0_1 i) (r : Fin 256) (g : Fin 4) (d : Fin 128) :
    out0_B_3 c i arg3 harg3 arg4 harg4 arg5 harg5 arg6 harg6 hc0 hc1 q k v (ix3 0 r ⟨g * 128 + d, by omega⟩) =
      lateAtt (fun e => q (ix3 0 r ⟨g * 128 + e, by omega⟩)) (fun x e => k (ix3 0 x e)) (fun x => v (ix3 0 x d)) := by
  frame_out
  canon_tiles x h
  all_goals idx_vars x
  all_goals open_payloads
  all_goals pointwise
  · obtain rfl : x1 = r := Fin.ext (by omega)
    obtain rfl : x2 = d := Fin.ext (by omega)
    obtain rfl : g = 3 := by omega
    simp only [named_c, ofBits_negInf, exp2_def, lateAtt, lateWeight, score]
    rfl
  · obtain rfl : x1 = r := Fin.ext (by omega)
    obtain rfl : x2 = d := Fin.ext (by omega)
    obtain rfl : g = 2 := by omega
    simp only [named_c, ofBits_negInf, exp2_def, lateAtt, lateWeight, score]
    rfl
  · obtain rfl : x1 = r := Fin.ext (by omega)
    obtain rfl : x2 = d := Fin.ext (by omega)
    obtain rfl : g = 1 := by omega
    simp only [named_c, ofBits_negInf, exp2_def, lateAtt, lateWeight, score]
    rfl
  · obtain rfl : x1 = r := Fin.ext (by omega)
    obtain rfl : g = 0 := by omega
    obtain rfl : x2 = d := Fin.ext (by omega)
    simp only [named_c, ofBits_negInf, exp2_def, lateAtt, lateWeight, score]
    rfl

set_option maxHeartbeats 2000000 in
/-- The tile of the context's queries: its own 256 keys are attended. -/
theorem out_A (hc0 : ¬cond0_0 i) (hc1 : cond0_1 i) (r : Fin 256) (g : Fin 4) (d : Fin 128) :
    out0_A_3 c i arg3 harg3 arg4 harg4 arg5 harg5 arg6 harg6 hc0 hc1 q k v (ix3 0 r ⟨g * 128 + d, by omega⟩) =
      lateAtt (fun e => q (ix3 0 r ⟨g * 128 + e, by omega⟩)) (fun (x : Fin 256) e => k (ix3 0 ⟨x, by omega⟩ e))
        (fun x => v (ix3 0 ⟨x, by omega⟩ d)) := by
  frame_out
  canon_tiles x h
  all_goals idx_vars x
  all_goals open_payloads
  all_goals pointwise
  · obtain rfl : x1 = r := Fin.ext (by omega)
    obtain rfl : x2 = d := Fin.ext (by omega)
    obtain rfl : g = 3 := by omega
    simp only [named_c, ofBits_negInf, exp2_def, lateAtt, lateWeight, score]
    rfl
  · obtain rfl : x1 = r := Fin.ext (by omega)
    obtain rfl : x2 = d := Fin.ext (by omega)
    obtain rfl : g = 2 := by omega
    simp only [named_c, ofBits_negInf, exp2_def, lateAtt, lateWeight, score]
    rfl
  · obtain rfl : x1 = r := Fin.ext (by omega)
    obtain rfl : x2 = d := Fin.ext (by omega)
    obtain rfl : g = 1 := by omega
    simp only [named_c, ofBits_negInf, exp2_def, lateAtt, lateWeight, score]
    rfl
  · obtain rfl : x1 = r := Fin.ext (by omega)
    obtain rfl : g = 0 := by omega
    obtain rfl : x2 = d := Fin.ext (by omega)
    simp only [named_c, ofBits_negInf, exp2_def, lateAtt, lateWeight, score]
    rfl

end Cert.Attn

end
-- ==== Proof.Attn.Array.lean ====
/- UNTRUSTED — the attention call's whole result array.

   Each grid point flushes one block of the result, and the blocks cover it (`arr_eq`): the element at batch `b`, row `r`,
   lane `l` is `lateAtt` of the query head `l / 128` at row `r`, of the keys of key head `l / 512`, and of lane `l % 128` of
   its values; a row of the context (`r < 256`) attends the first 256 keys, a latent row all of them (`attOut`). -/
module

public import proofs.«01_k».proof.Proof.Attn.Block

@[expose] public section

set_option maxRecDepth 16384

noncomputable section

namespace Cert.Attn

open Idealize.ShloMosaic Idealize.ShloMosaic.TcCoe Idealize.SL.Sem Cert.KernelIdeal Cert.KernelIdeal.Gen

/-- One element of the attention's result, from the queries, keys and values. -/
def attOut (q : Vec Ideal S4x4352x1024 .bf16) (k v : Vec Ideal S4x4352x256 .bf16) (b : Fin 4) (r : Fin 4352) (l : Fin 1024) :
    EReal :=
  if r.val < 256 then
    lateAtt (fun e => q (ix3 b r ⟨l / 128 * 128 + e, by omega⟩))
      (fun (x : Fin 256) e => k (ix3 b ⟨x, by omega⟩ ⟨l / 512 * 128 + e, by omega⟩))
      (fun x => v (ix3 b ⟨x, by omega⟩ ⟨l / 512 * 128 + l % 128, by omega⟩))
  else
    lateAtt (fun e => q (ix3 b r ⟨l / 128 * 128 + e, by omega⟩))
      (fun x e => k (ix3 b x ⟨l / 512 * 128 + e, by omega⟩))
      (fun x => v (ix3 b x ⟨l / 512 * 128 + l % 128, by omega⟩))

variable (m : (ℓ : Loc nD τ sig) → Buf (Elt Ideal) ℓ)

/-- The result array as a function of the arguments. -/
def attArr (c : Dev nD) : S4x4352x1024.Idx → EReal := fun j =>
  attOut (m ((c.tc : Thread nD τ).loc main_arg0)) (m ((c.tc : Thread nD τ).loc main_arg1))
    (m ((c.tc : Thread nD τ).loc main_arg2)) (j 0) (j 1) (j 2)

/-- Which block each window is on at a point: batch, row tile and key head of the queries and of the result; batch and
    key head of the keys and values. -/
theorem idx : ∀ t : Fin cfg0.N,
    win0_0.index t = ![t.val / 34, t.val % 17, t.val / 17 % 2] ∧ win0_1.index t = ![t.val / 34, 0, t.val / 17 % 2]
    ∧ win0_2.index t = ![t.val / 34, 0, t.val / 17 % 2] ∧ win0_3.index t = ![t.val / 34, t.val % 17, t.val / 17 % 2] :=
  (by decide +kernel : ∀ t : Fin grid0.N, _)

theorem arr_eq (c : Dev nD) : (dats m 0 c).arrAt 3 cfg0.N = attArr m c := by
  refine (dats m 0 c).arrAt_eq_of_covers 3 (attArr m c) (by decide +kernel) fun t hf y => ?_
  idx_vars y
  blk_simp
  rw [after0_3]
  have hg : y2.val / 128 < 4 := by omega
  have hy : (ix3 y0 y1 y2 : S1x256x512.Idx) = ix3 0 y1 ⟨(⟨y2 / 128, hg⟩ : Fin 4) * 128 + (⟨y2 % 128, by omega⟩ : Fin 128), by
      show y2.val / 128 * 128 + y2.val % 128 < 512; omega⟩ := by
    obtain rfl : y0 = 0 := by omega
    congr 1; exact Fin.ext (by show y2.val = y2.val / 128 * 128 + y2.val % 128; omega)
  by_cases h1 : t.val % 17 = 0
  · rw [outsAt0_A m c t (by omega) h1, hy, out_A]
    unfold attArr attOut
    rw [if_pos (by blk_simp; simp only [idx t]; show t.val % 17 * 256 + y1.val < 256; omega)]
    congr 1
    · funext e
      blk_ext [iblk, V, idx t]
    · funext x e
      blk_ext [iblk, V, idx t]
    · funext x
      blk_ext [iblk, V, idx t]
  · rw [outsAt0_B m c t (by omega) h1, hy, out_B]
    unfold attArr attOut
    rw [if_neg (by blk_simp; simp only [idx t]; show ¬(t.val % 17 * 256 + y1.val < 256); omega)]
    congr 1
    · funext e
      blk_ext [iblk, V, idx t]
    · funext x e
      blk_ext [iblk, V, idx t]
    · funext x
      blk_ext [iblk, V, idx t]

end Cert.Attn

end
-- ==== Proof.Attn.Ref.lean ====
/- UNTRUSTED — the reference's result at an index.

   The reference splits the query rows into the context's 256 and the latent 4096, attends each with its own keys, and joins
   the two (`ref_eq`). Each half is read in steps — the scaled scores, their exponentials against the greatest, the division
   and the weighted sum — since one reading of the whole term is too much at these extents. -/
module

public import proofs.«01_k».proof.Proof.Gen.ReferenceIdeal.Run
public import proofs.«01_k».proof.Proof.Attn.Softmax

@[expose] public section

set_option maxRecDepth 16384

noncomputable section

namespace Cert.Attn

open Idealize.ShloMosaic Idealize.ShloMosaic.TcCoe Idealize.SL.Sem Cert.ReferenceIdeal Cert.ReferenceIdeal.Gen
  Cert.ReferenceIdeal.Value

/-! ## The latent queries, which attend every key -/

/-- The scaled scores. -/
def latScores (q : FVec Ideal S4x2x4x4096x128 .f32) (k : FVec Ideal S4x2x4352x128 .f32) : FVec Ideal S4x2x4x4096x4352 .f32 :=
  Host.divf (Host.dotGeneral dot_S4x2x4x4096x128_S4x2x4352x128_S4x2x4x4096x4352_4_3_23_2_01_01 none q k)
    (broadcastInDim S4x2x4x4096x4352 ![] bcast_S_S4x2x4x4096x4352 (Host.sqrt (constant S_ FTy.f32 0x43000000#32)))

/-- One number per row, at every key. -/
def latSpread (s : FVec Ideal S4x2x4x4096 .f32) : FVec Ideal S4x2x4x4096x4352 .f32 :=
  broadcastInDim S4x2x4x4096x4352 ![0, 1, 2, 3, 4] bcast_S4x2x4x4096x1_S4x2x4x4096x4352_0_1_2_3_4
    (broadcastInDim S4x2x4x4096x1 ![0, 1, 2, 3] bcast_S4x2x4x4096_S4x2x4x4096x1_0_1_2_3 s)

/-- The greatest of each row. -/
def latMax (s : FVec Ideal S4x2x4x4096x4352 .f32) : FVec Ideal S4x2x4x4096 .f32 :=
  maximumf (broadcastInDim S4x2x4x4096 ![] bcast_S_S4x2x4x4096 (constant S_ FTy.f32 0xFF800000#32))
    (Host.reduce FloatOps.maximumf s (constant S_ FTy.f32 0xFF800000#32) reducesTo_S4x2x4x4096x4352_S4x2x4x4096_d4 h_S_)

/-- The sum of each row. -/
def latSum (s : FVec Ideal S4x2x4x4096x4352 .f32) : FVec Ideal S4x2x4x4096 .f32 :=
  Host.reduceAdd s (constant S_ FTy.f32 0x00000000#32) reducesTo_S4x2x4x4096x4352_S4x2x4x4096_d4 h_S_

/-- The weights before the division. -/
def latExp (s : FVec Ideal S4x2x4x4096x4352 .f32) : FVec Ideal S4x2x4x4096x4352 .f32 :=
  Host.exp (subf s (latSpread (latMax s)))

/-- The values weighted by the softmax of the scaled scores. -/
def latAtt (q : FVec Ideal S4x2x4x4096x128 .f32) (k v : FVec Ideal S4x2x4352x128 .f32) : FVec Ideal S4x2x4x4096x128 .f32 :=
  Host.dotGeneral dot_S4x2x4x4096x4352_S4x2x4352x128_S4x2x4x4096x128_4_2_23_3_01_01 none
    (Host.divf (latExp (latScores q k)) (latSpread (latSum (latExp (latScores q k))))) v

section

variable (b : Fin 4) (h : Fin 2) (g : Fin 4) (r : Fin 4096)

theorem latInner_apply (q : FVec Ideal S4x2x4x4096x128 .f32) (k : FVec Ideal S4x2x4352x128 .f32) (x : Fin 4352) :
    (Host.dotGeneral dot_S4x2x4x4096x128_S4x2x4352x128_S4x2x4x4096x4352_4_3_23_2_01_01 none q k : FVec Ideal S4x2x4x4096x4352 .f32)
      (ix5 b h g r x) = ∑ d, q (ix5 b h g r d) * k (ix4 b h x d) := by
  pointwise

theorem latScores_apply (q : FVec Ideal S4x2x4x4096x128 .f32) (k : FVec Ideal S4x2x4352x128 .f32) (x : Fin 4352) :
    latScores q k (ix5 b h g r x) = scaled (fun d => q (ix5 b h g r d)) (fun x d => k (ix4 b h x d)) x := by
  rw [scaled, score, ← latInner_apply, ← ofBits_128]
  rfl

theorem latSpread_apply (s : FVec Ideal S4x2x4x4096 .f32) (x : Fin 4352) : latSpread s (ix5 b h g r x) = s (ix4 b h g r) := by
  unfold latSpread
  pointwise

theorem latMax_apply (s : FVec Ideal S4x2x4x4096x4352 .f32) :
    latMax s (ix4 b h g r) = max ⊥ (Finset.univ.fold max ⊥ fun x => s (ix5 b h g r x)) := by
  have hr : (Host.reduce FloatOps.maximumf s (constant S_ FTy.f32 0xFF800000#32) reducesTo_S4x2x4x4096x4352_S4x2x4x4096_d4 h_S_
      : FVec Ideal S4x2x4x4096 .f32) (ix4 b h g r)
      = Finset.univ.fold max (Ideal.ofBits FTy.f32 0xFF800000#32) fun x => s (ix5 b h g r x) := by
    pointwise
  rw [latMax, maximumf_apply, hr, ofBits_negInf]
  exact congrArg (max · _) ofBits_negInf

theorem latSum_apply (s : FVec Ideal S4x2x4x4096x4352 .f32) : latSum s (ix4 b h g r) = ∑ x, s (ix5 b h g r x) := by
  unfold latSum
  pointwise

theorem latExp_apply (s : FVec Ideal S4x2x4x4096x4352 .f32) (x : Fin 4352) :
    latExp s (ix5 b h g r x)
      = Ideal.exp (s (ix5 b h g r x) - max ⊥ (Finset.univ.fold max ⊥ fun x => s (ix5 b h g r x))) := by
  rw [← latMax_apply, ← latSpread_apply b h g r (latMax s) x]
  rfl

theorem latDot_apply (p : FVec Ideal S4x2x4x4096x4352 .f32) (v : FVec Ideal S4x2x4352x128 .f32) (d : Fin 128) :
    (Host.dotGeneral dot_S4x2x4x4096x4352_S4x2x4352x128_S4x2x4x4096x128_4_2_23_3_01_01 none p v : FVec Ideal S4x2x4x4096x128 .f32)
      (ix5 b h g r d) = ∑ x, p (ix5 b h g r x) * v (ix4 b h x d) := by
  pointwise

theorem latAtt_apply (q : FVec Ideal S4x2x4x4096x128 .f32) (k v : FVec Ideal S4x2x4352x128 .f32) (d : Fin 128) :
    latAtt q k v (ix5 b h g r d)
      = earlyAtt (fun e => q (ix5 b h g r e)) (fun x e => k (ix4 b h x e)) (fun x => v (ix4 b h x d)) := by
  unfold latAtt earlyAtt
  rw [latDot_apply]
  have hw : ∀ x, latExp (latScores q k) (ix5 b h g r x)
      = earlyWeight (fun e => q (ix5 b h g r e)) (fun x e => k (ix4 b h x e)) x := fun x => by
    rw [latExp_apply, earlyWeight]
    simp only [latScores_apply]
  refine Finset.sum_congr rfl fun x _ => ?_
  congr 1
  show Ideal.div (latExp (latScores q k) (ix5 b h g r x)) (latSpread (latSum (latExp (latScores q k))) (ix5 b h g r x)) = _
  rw [latSpread_apply, latSum_apply]
  simp only [hw]

end

/-! ## The context's queries, which attend the context's keys -/

/-- The scaled scores. -/
def ctxScores (q : FVec Ideal S4x2x4x256x128 .f32) (k : FVec Ideal S4x2x256x128 .f32) : FVec Ideal S4x2x4x256x256 .f32 :=
  Host.divf (Host.dotGeneral dot_S4x2x4x256x128_S4x2x256x128_S4x2x4x256x256_4_3_23_2_01_01 none q k)
    (broadcastInDim S4x2x4x256x256 ![] bcast_S_S4x2x4x256x256 (Host.sqrt (constant S_ FTy.f32 0x43000000#32)))

/-- One number per row, at every key. -/
def ctxSpread (s : FVec Ideal S4x2x4x256 .f32) : FVec Ideal S4x2x4x256x256 .f32 :=
  broadcastInDim S4x2x4x256x256 ![0, 1, 2, 3, 4] bcast_S4x2x4x256x1_S4x2x4x256x256_0_1_2_3_4
    (broadcastInDim S4x2x4x256x1 ![0, 1, 2, 3] bcast_S4x2x4x256_S4x2x4x256x1_0_1_2_3 s)

/-- The greatest of each row. -/
def ctxMax (s : FVec Ideal S4x2x4x256x256 .f32) : FVec Ideal S4x2x4x256 .f32 :=
  maximumf (broadcastInDim S4x2x4x256 ![] bcast_S_S4x2x4x256 (constant S_ FTy.f32 0xFF800000#32))
    (Host.reduce FloatOps.maximumf s (constant S_ FTy.f32 0xFF800000#32) reducesTo_S4x2x4x256x256_S4x2x4x256_d4 h_S_)

/-- The sum of each row. -/
def ctxSum (s : FVec Ideal S4x2x4x256x256 .f32) : FVec Ideal S4x2x4x256 .f32 :=
  Host.reduceAdd s (constant S_ FTy.f32 0x00000000#32) reducesTo_S4x2x4x256x256_S4x2x4x256_d4 h_S_

/-- The weights before the division. -/
def ctxExp (s : FVec Ideal S4x2x4x256x256 .f32) : FVec Ideal S4x2x4x256x256 .f32 :=
  Host.exp (subf s (ctxSpread (ctxMax s)))

/-- The values weighted by the softmax of the scaled scores. -/
def ctxAtt (q : FVec Ideal S4x2x4x256x128 .f32) (k v : FVec Ideal S4x2x256x128 .f32) : FVec Ideal S4x2x4x256x128 .f32 :=
  Host.dotGeneral dot_S4x2x4x256x256_S4x2x256x128_S4x2x4x256x128_4_2_23_3_01_01 none
    (Host.divf (ctxExp (ctxScores q k)) (ctxSpread (ctxSum (ctxExp (ctxScores q k))))) v

section

variable (b : Fin 4) (h : Fin 2) (g : Fin 4) (r : Fin 256)

theorem ctxInner_apply (q : FVec Ideal S4x2x4x256x128 .f32) (k : FVec Ideal S4x2x256x128 .f32) (x : Fin 256) :
    (Host.dotGeneral dot_S4x2x4x256x128_S4x2x256x128_S4x2x4x256x256_4_3_23_2_01_01 none q k : FVec Ideal S4x2x4x256x256 .f32)
      (ix5 b h g r x) = ∑ d, q (ix5 b h g r d) * k (ix4 b h x d) := by
  pointwise

theorem ctxScores_apply (q : FVec Ideal S4x2x4x256x128 .f32) (k : FVec Ideal S4x2x256x128 .f32) (x : Fin 256) :
    ctxScores q k (ix5 b h g r x) = scaled (fun d => q (ix5 b h g r d)) (fun x d => k (ix4 b h x d)) x := by
  rw [scaled, score, ← ctxInner_apply, ← ofBits_128]
  rfl

theorem ctxSpread_apply (s : FVec Ideal S4x2x4x256 .f32) (x : Fin 256) : ctxSpread s (ix5 b h g r x) = s (ix4 b h g r) := by
  unfold ctxSpread
  pointwise

theorem ctxMax_apply (s : FVec Ideal S4x2x4x256x256 .f32) :
    ctxMax s (ix4 b h g r) = max ⊥ (Finset.univ.fold max ⊥ fun x => s (ix5 b h g r x)) := by
  have hr : (Host.reduce FloatOps.maximumf s (constant S_ FTy.f32 0xFF800000#32) reducesTo_S4x2x4x256x256_S4x2x4x256_d4 h_S_
      : FVec Ideal S4x2x4x256 .f32) (ix4 b h g r)
      = Finset.univ.fold max (Ideal.ofBits FTy.f32 0xFF800000#32) fun x => s (ix5 b h g r x) := by
    pointwise
  rw [ctxMax, maximumf_apply, hr, ofBits_negInf]
  exact congrArg (max · _) ofBits_negInf

theorem ctxSum_apply (s : FVec Ideal S4x2x4x256x256 .f32) : ctxSum s (ix4 b h g r) = ∑ x, s (ix5 b h g r x) := by
  unfold ctxSum
  pointwise

theorem ctxExp_apply (s : FVec Ideal S4x2x4x256x256 .f32) (x : Fin 256) :
    ctxExp s (ix5 b h g r x)
      = Ideal.exp (s (ix5 b h g r x) - max ⊥ (Finset.univ.fold max ⊥ fun x => s (ix5 b h g r x))) := by
  rw [← ctxMax_apply, ← ctxSpread_apply b h g r (ctxMax s) x]
  rfl

theorem ctxDot_apply (p : FVec Ideal S4x2x4x256x256 .f32) (v : FVec Ideal S4x2x256x128 .f32) (d : Fin 128) :
    (Host.dotGeneral dot_S4x2x4x256x256_S4x2x256x128_S4x2x4x256x128_4_2_23_3_01_01 none p v : FVec Ideal S4x2x4x256x128 .f32)
      (ix5 b h g r d) = ∑ x, p (ix5 b h g r x) * v (ix4 b h x d) := by
  pointwise

theorem ctxAtt_apply (q : FVec Ideal S4x2x4x256x128 .f32) (k v : FVec Ideal S4x2x256x128 .f32) (d : Fin 128) :
    ctxAtt q k v (ix5 b h g r d)
      = earlyAtt (fun e => q (ix5 b h g r e)) (fun x e => k (ix4 b h x e)) (fun x => v (ix4 b h x d)) := by
  unfold ctxAtt earlyAtt
  rw [ctxDot_apply]
  have hw : ∀ x, ctxExp (ctxScores q k) (ix5 b h g r x)
      = earlyWeight (fun e => q (ix5 b h g r e)) (fun x e => k (ix4 b h x e)) x := fun x => by
    rw [ctxExp_apply, earlyWeight]
    simp only [ctxScores_apply]
  refine Finset.sum_congr rfl fun x _ => ?_
  congr 1
  show Ideal.div (ctxExp (ctxScores q k) (ix5 b h g r x)) (ctxSpread (ctxSum (ctxExp (ctxScores q k))) (ix5 b h g r x)) = _
  rw [ctxSpread_apply, ctxSum_apply]
  simp only [hw]

end

/-! ## The layout around the two -/

/-- A flat row of heads, one head after the other, as the reference splits it. -/
def qHeads (q : FVec Ideal S4x4352x1024 .bf16) : FVec Ideal S4x8x4352x128 .f32 :=
  transpose S4x8x4352x128 [0, 2, 1, 3] (shapeCast S4x4352x8x128 (extf .f32 q bitsLt_bf16_f32)
    shapeCasts_S4x4352x1024_S4x4352x8x128) transposes_S4x4352x8x128_S4x8x4352x128_0_2_1_3

/-- The same of the keys, or of the values. -/
def kHeads (k : FVec Ideal S4x4352x256 .bf16) : FVec Ideal S4x2x4352x128 .f32 :=
  transpose S4x2x4352x128 [0, 2, 1, 3] (shapeCast S4x4352x2x128 (extf .f32 k bitsLt_bf16_f32)
    shapeCasts_S4x4352x256_S4x4352x2x128) transposes_S4x4352x2x128_S4x2x4352x128_0_2_1_3

/-- The latent queries, grouped under their key heads. -/
def latQ (q : FVec Ideal S4x8x4352x128 .f32) : FVec Ideal S4x2x4x4096x128 .f32 :=
  shapeCast S4x2x4x4096x128 (extractStridedSlice S4x8x4096x128 ![0, 0, 256, 0] q slices_S4x8x4352x128_S4x8x4096x128_0_0_256_0)
    shapeCasts_S4x8x4096x128_S4x2x4x4096x128

/-- The context's queries, grouped under their key heads. -/
def ctxQ (q : FVec Ideal S4x8x4352x128 .f32) : FVec Ideal S4x2x4x256x128 .f32 :=
  shapeCast S4x2x4x256x128 (extractStridedSlice S4x8x256x128 ![0, 0, 0, 0] q slices_S4x8x4352x128_S4x8x256x128_0_0_0_0)
    shapeCasts_S4x8x256x128_S4x2x4x256x128

/-- The context's keys, or its values. -/
def ctxK (k : FVec Ideal S4x2x4352x128 .f32) : FVec Ideal S4x2x256x128 .f32 :=
  extractStridedSlice S4x2x256x128 ![0, 0, 0, 0] k slices_S4x2x4352x128_S4x2x256x128_0_0_0_0

/-- The two results, laid out flat and joined. -/
def joined (a : FVec Ideal S4x2x4x256x128 .f32) (x : FVec Ideal S4x2x4x4096x128 .f32) : FVec Ideal S4x4352x1024 .bf16 :=
  truncf .bf16 (concatenate S4x4352x1024 1
    [⟨S4x256x1024, shapeCast S4x256x1024 (transpose S4x256x8x128 [0, 2, 1, 3]
        (shapeCast S4x8x256x128 a shapeCasts_S4x2x4x256x128_S4x8x256x128) transposes_S4x8x256x128_S4x256x8x128_0_2_1_3)
        shapeCasts_S4x256x8x128_S4x256x1024⟩,
     ⟨S4x4096x1024, shapeCast S4x4096x1024 (transpose S4x4096x8x128 [0, 2, 1, 3]
        (shapeCast S4x8x4096x128 x shapeCasts_S4x2x4x4096x128_S4x8x4096x128) transposes_S4x8x4096x128_S4x4096x8x128_0_2_1_3)
        shapeCasts_S4x4096x8x128_S4x4096x1024⟩]
    concatenates_S4x256x1024_S4x4096x1024_S4x4352x1024_d1) bitsLt_bf16_f32

theorem res_eq (m : (ℓ : Loc nD τ sig) → Buf (Elt Ideal) ℓ) (c : Dev nD) :
    res_out0 m c = joined
      (ctxAtt (ctxQ (qHeads (m ((c.tc : Thread nD τ).loc main_arg0)))) (ctxK (kHeads (m ((c.tc : Thread nD τ).loc main_arg1))))
        (ctxK (kHeads (m ((c.tc : Thread nD τ).loc main_arg2)))))
      (latAtt (latQ (qHeads (m ((c.tc : Thread nD τ).loc main_arg0)))) (kHeads (m ((c.tc : Thread nD τ).loc main_arg1)))
        (kHeads (m ((c.tc : Thread nD τ).loc main_arg2)))) := rfl

theorem joined_ctx (a : FVec Ideal S4x2x4x256x128 .f32) (x : FVec Ideal S4x2x4x4096x128 .f32) (b : Fin 4) (r : Fin 4352)
    (l : Fin 1024) (hr : r.val < 256) :
    joined a x (ix3 b r l)
      = a (ix5 b ⟨l / 512, by omega⟩ ⟨l / 128 % 4, by omega⟩ ⟨r, hr⟩ ⟨l % 128, by omega⟩) := by
  unfold joined
  pointwise
  rw [dif_pos hr]
  congr 2; exact Fin.ext (by show l.val / 128 / 4 = l.val / 512; omega)

theorem joined_lat (a : FVec Ideal S4x2x4x256x128 .f32) (x : FVec Ideal S4x2x4x4096x128 .f32) (b : Fin 4) (r : Fin 4352)
    (l : Fin 1024) (hr : ¬r.val < 256) :
    joined a x (ix3 b r l)
      = x (ix5 b ⟨l / 512, by omega⟩ ⟨l / 128 % 4, by omega⟩ ⟨r - 256, by omega⟩ ⟨l % 128, by omega⟩) := by
  unfold joined
  pointwise
  rw [dif_neg hr]
  congr 2; exact Fin.ext (by show l.val / 128 / 4 = l.val / 512; omega)

theorem latQ_apply (q : FVec Ideal S4x4352x1024 .bf16) (b : Fin 4) (h : Fin 2) (g : Fin 4) (r : Fin 4096) (e : Fin 128) :
    latQ (qHeads q) (ix5 b h g r e) = q (ix3 b ⟨256 + r, by omega⟩ ⟨(h * 4 + g) * 128 + e, by omega⟩) := by
  unfold latQ qHeads
  pointwise

theorem ctxQ_apply (q : FVec Ideal S4x4352x1024 .bf16) (b : Fin 4) (h : Fin 2) (g : Fin 4) (r : Fin 256) (e : Fin 128) :
    ctxQ (qHeads q) (ix5 b h g r e) = q (ix3 b ⟨r, by omega⟩ ⟨(h * 4 + g) * 128 + e, by omega⟩) := by
  unfold ctxQ qHeads
  pointwise

theorem kHeads_apply (k : FVec Ideal S4x4352x256 .bf16) (b : Fin 4) (h : Fin 2) (r : Fin 4352) (e : Fin 128) :
    kHeads k (ix4 b h r e) = k (ix3 b r ⟨h * 128 + e, by omega⟩) := by
  unfold kHeads
  pointwise

theorem ctxK_apply (k : FVec Ideal S4x2x4352x128 .f32) (b : Fin 4) (h : Fin 2) (r : Fin 256) (e : Fin 128) :
    ctxK k (ix4 b h r e) = k (ix4 b h ⟨r, by omega⟩ e) := by
  unfold ctxK
  pointwise

end Cert.Attn

end
-- ==== Proof.Attn.Claims.lean ====
/- UNTRUSTED — the attention's claims: the frames of the three programs, that the idealized kernel is the kernel with its
   one constant named, and that on finite queries and keys the idealized kernel returns what the reference returns. -/
module

public import proofs.«01_k».proof.Defs
public import proofs.«01_k».proof.Proof.Attn.Array
public import proofs.«01_k».proof.Proof.Attn.Ref
public import proofs.«01_k».proof.Proof.Gen.Kernel.Frame
public import proofs.«01_k».proof.Proof.Gen.KernelIdeal.Value
public import proofs.«01_k».proof.Proof.Gen.ReferenceIdeal.Run
public import proofs.«01_k».proof.Proof.Gen.Pre_finite_qk
public import Idealize.ShloMosaic.Lib.ReduceAll
public import Idealize.ShloMosaic.Lib.WordArith
public import Idealize.ShloMosaic.Lib.Quiescent
public import Idealize.ShloMosaic.Adequacy
public import Idealize.ShloMosaic.Init

@[expose] public section

set_option maxRecDepth 16384

noncomputable section

namespace Cert.Attn

open Idealize.ShloMosaic Idealize.ShloMosaic.TcCoe Idealize.SL.Sem

/-! ## The precondition, read back -/

/-- An element whose absolute value compares less than the `+∞` word is a real. -/
theorem isReal_of_cmp {x : EReal} (h : Ideal.cmp CmpFPredicate.olt (max x (-x)) (Ideal.ofBits FTy.bf16 0x7F80#16) = 1#1) :
    IsReal x := by
  rw [ofBits_inf16] at h
  simp only [Ideal.cmp, WordArith.ofBool_eq_one_iff, decide_eq_true_eq] at h
  exact isReal_of_abs_lt h

/-- Every query and every key is a real. -/
theorem reals_of_pre (q : FVec Ideal KernelIdeal.S4x4352x1024 .bf16) (k v : FVec Ideal KernelIdeal.S4x4352x256 .bf16)
    (h : Cert.Pre_finite_qk.fn (F := Ideal) q k v = fun _ => 1#1) : (∀ j, IsReal (q j)) ∧ ∀ j, IsReal (k j) := by
  have e := congrFun h ix0
  dsimp only [Cert.Pre_finite_qk.fn] at e
  obtain ⟨e0, e1⟩ := IntOp.andi_eq_one.1 e
  exact ⟨fun j => isReal_of_cmp (Host.reduce_andi_all _ _ _ _ _ e0 j), fun j => isReal_of_cmp (Host.reduce_andi_all _ _ _ _ _ e1 j)⟩

/-! ## The reference's result -/

/-- One element of the reference's result is the kernel's formula for it, when the queries and keys are reals. -/
theorem ref_at (q : FVec Ideal KernelIdeal.S4x4352x1024 .bf16) (k v : FVec Ideal KernelIdeal.S4x4352x256 .bf16)
    (hq : ∀ j, IsReal (q j)) (hk : ∀ j, IsReal (k j)) (b : Fin 4) (r : Fin 4352) (l : Fin 1024) :
    joined (ctxAtt (ctxQ (qHeads q)) (ctxK (kHeads k)) (ctxK (kHeads v))) (latAtt (latQ (qHeads q)) (kHeads k) (kHeads v))
      (ix3 b r l) = attOut q k v b r l := by
  have hl : (l.val / 512 * 4 + l.val / 128 % 4) = l.val / 128 := by omega
  by_cases hr : r.val < 256
  · rw [joined_ctx _ _ b r l hr, ctxAtt_apply, attOut, if_pos hr, lateAtt_eq_earlyAtt (by omega) _ _ _ (fun _ => hq _) fun _ _ => hk _]
    simp only [ctxQ_apply, ctxK_apply, kHeads_apply, hl]
  · rw [joined_lat _ _ b r l hr, latAtt_apply, attOut, if_neg hr, lateAtt_eq_earlyAtt (by omega) _ _ _ (fun _ => hq _) fun _ _ => hk _]
    have h0 : 256 + (r.val - 256) = r.val := by omega
    simp only [latQ_apply, kHeads_apply, hl, h0]

/-! ## The claims -/

theorem frame_k : Cert.quiescent_Kernel (hKernel := Cert.Kernel.Gen.facts) := fun m ρ _ => Cert.Kernel.Gen.frame m ρ

theorem frame_ki : Cert.quiescent_KernelIdeal (hKernelIdeal := Cert.KernelIdeal.Gen.facts) :=
  fun m ρ _ => Cert.KernelIdeal.Gen.frame m ρ

theorem frame_ki_pre : Cert.quiescent_KernelIdeal_pre_finite_qk (hKernelIdeal := Cert.KernelIdeal.Gen.facts)
    (hPre_finite_qk := Cert.Pre_finite_qk.Gen.facts) :=
  fun m ρ _ => Cert.KernelIdeal.Gen.frame m ρ

theorem frame_ri : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem frame_ri_pre : Cert.quiescent_ReferenceIdeal_pre_finite_qk (hReferenceIdeal := Cert.ReferenceIdeal.Gen.facts)
    (hPre_finite_qk := Cert.Pre_finite_qk.Gen.facts) := fun m ρ _ => frame_ri m ρ trivial

theorem preserves : Cert.preserves_Kernel_KernelIdeal :=
  IdealRules.named_const.statement Cert.KernelIdeal.κ "c" .f32 0x3E0293EE#32
    (((Real.sqrt 128)⁻¹ * (Real.log 2)⁻¹ : ℝ) : EReal) rfl

theorem algebraic : Cert.algebraic_KernelIdeal_ReferenceIdeal_pre_finite_qk (hKernelIdeal := Cert.KernelIdeal.Gen.facts)
    (hReferenceIdeal := Cert.ReferenceIdeal.Gen.facts) (hPre_finite_qk := Cert.Pre_finite_qk.Gen.facts) := by
  intro m ρ m' ρ' hpre hagree
  refine ⟨attArr m, (θ_run Cert.KernelIdeal.defs _ _).mono (fun _ h c => ⟨(h c).1.trans (arr_eq m c), (h c).2⟩)
    (Cert.KernelIdeal.Value.run_blocks m ρ), ?_⟩
  refine (θ_run Cert.ReferenceIdeal.defs _ _).mono (fun _ h c => ⟨(h c).1.trans ?_, (h c).2⟩)
    (Cert.ReferenceIdeal.Value.run (F := Ideal) m' ρ')
  obtain ⟨hq, hk⟩ := reals_of_pre _ _ _ (hpre c)
  rw [show Cert.ReferenceIdeal.Value.res_main_v54 m' c = Cert.ReferenceIdeal.Value.res_out0 m' c from rfl, res_eq, (hagree c).1, (hagree c).2.1, (hagree c).2.2]
  funext j
  rw [show j = ix3 (j 0) (j 1) (j 2) from by funext a; fin_cases a <;> rfl]
  exact ref_at _ _ _ hq hk (j 0) (j 1) (j 2)

end Cert.Attn

end
-- ==== Proof.Proj.Main.lean ====
/- UNTRUSTED — The in-projection's main columns: each block of the call is a block of rows of `h` times a block of the weights, so the call's
   result is `h` times the padded weights; a padded column is a sum of products with 0, which is the reference's zero column. -/
module

public import proofs.«01_k».proof.Defs
public import proofs.«01_k».proof.Proof.Gen.Main.Frame
public import proofs.«01_k».proof.Proof.Gen.MainIdeal.Value
public import proofs.«01_k».proof.Proof.Gen.MainRefIdeal.Run
public import Idealize.ShloMosaic.Lib.Pipeline.ValueKit
public import Idealize.ShloMosaic.Lib.Quiescent
public import Idealize.ShloMosaic.Adequacy
public import Idealize.ShloMosaic.Init

@[expose] public section

set_option maxRecDepth 16384

noncomputable section

namespace Cert.Proj

open Idealize.ShloMosaic Idealize.ShloMosaic.TcCoe Idealize.SL.Sem

open Cert.MainIdeal Cert.MainIdeal.Gen

/-- One element of a grid point's block: a row of its rows times a column of its weights. -/
theorem main_out (x : Vec Ideal S1024x2048 .bf16) (w : Vec Ideal S2048x1920 .bf16) (r : Fin 1024) (l : Fin 1920) :
    out0_2 x w (ix2 r l) = ∑ e : Fin 2048, x (ix2 r e) * w (ix2 e l) := by
  frame_out
  open_payloads
  pointwise

/-- The weights the call is handed: the mixers' columns, and zero columns after them. -/
def mainW (w : FVec Ideal S2048x9744 .f32) : FVec Ideal S2048x3840 .bf16 :=
  truncf .bf16 (concatenate S2048x3840 1 [⟨S2048x3600, extractStridedSlice S2048x3600 ![0, 0] w slices_S2048x9744_S2048x3600_0_0⟩,
    ⟨S2048x240, broadcastInDim S2048x240 ![] bcast_S_S2048x240 (constant S_ .f32 0x00000000#32)⟩]
    concatenates_S2048x3600_S2048x240_S2048x3840_d1) bitsLt_bf16_f32

theorem mainW_lt (w : FVec Ideal S2048x9744 .f32) (e : Fin 2048) (l : Fin 3840) (hl : l.val < 3600) :
    mainW w (ix2 e l) = w (ix2 e ⟨l, by omega⟩) := by
  unfold mainW
  pointwise
  rw [dif_pos hl]

theorem mainW_ge (w : FVec Ideal S2048x9744 .f32) (e : Fin 2048) (l : Fin 3840) (hl : ¬l.val < 3600) :
    mainW w (ix2 e l) = 0 := by
  unfold mainW
  pointwise
  rw [dif_neg hl]

variable (m : (ℓ : Loc nD τ sig) → Buf (Elt Ideal) ℓ)

theorem V_mainW (c : Dev nD) : V m c main_v3 = mainW (m ((c.tc : Thread nD τ).loc main_arg1)) := by
  unfold_abbrev_sides
  after_results
  rfl

/-- The call's result as a function of its rows and weights. -/
def mainFn (x : FVec Ideal S17408x2048 .bf16) (w : FVec Ideal S2048x9744 .f32) : S17408x3840.Idx → EReal := fun j =>
  ∑ e : Fin 2048, x (ix2 (j 0) e) * mainW w (ix2 e (j 1))

/-- The call's result as a function of the arguments. -/
def mainArr (c : Dev nD) : S17408x3840.Idx → EReal :=
  mainFn (m ((c.tc : Thread nD τ).loc main_arg0)) (m ((c.tc : Thread nD τ).loc main_arg1))

theorem main_idx : ∀ t : Fin cfg0.N,
    win0_0.index t = ![t.val / 2, 0] ∧ win0_1.index t = ![0, t.val % 2] ∧ win0_2.index t = ![t.val / 2, t.val % 2] :=
  (by decide +kernel : ∀ t : Fin grid0.N, _)

theorem main_arr (c : Dev nD) : (dats m 0 c).arrAt 2 cfg0.N = mainArr m c := by
  refine (dats m 0 c).arrAt_eq_of_covers 2 (mainArr m c) (by decide +kernel) fun t hf y => ?_
  idx_vars y
  blk_simp
  rw [after0_2, main_out]
  unfold mainArr mainFn
  refine Finset.sum_congr (M := EReal) rfl fun e _ => ?_
  congr 1
  · blk_ext [iblk, V, main_idx t]
  · rw [← V_mainW]
    blk_ext [iblk, main_idx t]

/-! ## The claims -/

theorem frame_kMain : Cert.quiescent_Main (hMain := Cert.Main.Gen.facts) := fun m ρ _ => Cert.Main.Gen.frame m ρ

theorem frame_kiMain : Cert.quiescent_MainIdeal (hMainIdeal := Cert.MainIdeal.Gen.facts) := fun m ρ _ => Cert.MainIdeal.Gen.frame m ρ

theorem frame_riMain : Cert.quiescent_MainRefIdeal (hMainRefIdeal := Cert.MainRefIdeal.Gen.facts) := fun m ρ _ =>
  (θ_run Cert.MainRefIdeal.defs _ _).mono (fun r h => ⟨fun c => (h c).2, sem_eq_zero_of_no_sems (by decide) r.2⟩)
    (Cert.MainRefIdeal.Value.run (F := Ideal) m ρ)

theorem preservesMain : Cert.preserves_Main_MainIdeal := trivial

theorem algebraicMain : Cert.algebraic_MainIdeal_MainRefIdeal (hMainIdeal := Cert.MainIdeal.Gen.facts)
    (hMainRefIdeal := Cert.MainRefIdeal.Gen.facts) := by
  intro m ρ m' ρ' hpre hagree
  refine ⟨mainArr m, (θ_run Cert.MainIdeal.defs _ _).mono (fun _ h c => ⟨(h c).1.trans (main_arr m c), (h c).2⟩)
    (Cert.MainIdeal.Value.run_blocks m ρ), ?_⟩
  refine (θ_run Cert.MainRefIdeal.defs _ _).mono (fun _ h c => ⟨(h c).1.trans ?_, (h c).2⟩)
    (Cert.MainRefIdeal.Value.run (F := Ideal) m' ρ')
  rw [(hagree c).1, (hagree c).2]
  funext j
  idx_vars j
  unfold mainArr mainFn
  pointwise
  have e : ∀ (x : FVec Ideal S17408x2048 .bf16) (w : FVec Ideal S2048x9744 .f32),
      (if h : j1.val < 3600 then ∑ e : Fin 2048, x (ix2 j0 e) * w (ix2 e ⟨j1, by omega⟩) else 0)
        = ∑ e : Fin 2048, x (ix2 j0 e) * mainW w (ix2 e j1) := by
    intro x w
    split
    · rename_i h
      exact Finset.sum_congr rfl fun e _ => by rw [mainW_lt w e j1 h]
    · rename_i h
      exact (Finset.sum_eq_zero fun e _ => by rw [mainW_ge w e j1 h, mul_zero]).symm
  exact e _ _

end Cert.Proj

end
-- ==== Proof.Proj.Gates.lean ====
/- UNTRUSTED — The in-projection's gate columns: each block of the call is the sigmoid of a block of rows of `h` times a block of the weights,
   so the call's result is the sigmoid of `h` times the gates' columns, as the reference states it. -/
module

public import proofs.«01_k».proof.Defs
public import proofs.«01_k».proof.Proof.Gen.Gates.Frame
public import proofs.«01_k».proof.Proof.Gen.GatesIdeal.Value
public import proofs.«01_k».proof.Proof.Gen.GatesRefIdeal.Run
public import Idealize.ShloMosaic.Lib.Pipeline.ValueKit
public import Idealize.ShloMosaic.Lib.Quiescent
public import Idealize.ShloMosaic.Adequacy
public import Idealize.ShloMosaic.Init

@[expose] public section

set_option maxRecDepth 16384

noncomputable section

namespace Cert.Proj

open Idealize.ShloMosaic Idealize.ShloMosaic.TcCoe Idealize.SL.Sem

open Cert.GatesIdeal Cert.GatesIdeal.Gen

/-- One element of a grid point's block: the sigmoid of a row of its rows times a column of its weights. -/
theorem gates_out (x : Vec Ideal S1024x2048 .bf16) (w : Vec Ideal S2048x1024 .bf16) (r : Fin 1024) (l : Fin 1024) :
    out0_2 x w (ix2 r l) = Ideal.logistic (∑ e : Fin 2048, x (ix2 r e) * w (ix2 e l)) := by
  frame_out
  open_payloads
  pointwise

/-- The weights the call is handed: the branch gates' columns. -/
def gatesW (w : FVec Ideal S2048x9744 .f32) : FVec Ideal S2048x6144 .bf16 :=
  truncf .bf16 (extractStridedSlice S2048x6144 ![0, 3600] w slices_S2048x9744_S2048x6144_0_3600) bitsLt_bf16_f32

theorem gatesW_apply (w : FVec Ideal S2048x9744 .f32) (e : Fin 2048) (l : Fin 6144) :
    gatesW w (ix2 e l) = w (ix2 e ⟨3600 + l, by omega⟩) := by
  unfold gatesW
  pointwise

variable (m : (ℓ : Loc nD τ sig) → Buf (Elt Ideal) ℓ)

theorem V_gatesW (c : Dev nD) : V m c main_v1 = gatesW (m ((c.tc : Thread nD τ).loc main_arg1)) := by
  unfold_abbrev_sides
  after_results
  rfl

/-- The call's result as a function of its rows and weights. -/
def gatesFn (x : FVec Ideal S17408x2048 .bf16) (w : FVec Ideal S2048x9744 .f32) : S17408x6144.Idx → EReal := fun j =>
  Ideal.logistic (∑ e : Fin 2048, x (ix2 (j 0) e) * gatesW w (ix2 e (j 1)))

/-- The call's result as a function of the arguments. -/
def gatesArr (c : Dev nD) : S17408x6144.Idx → EReal :=
  gatesFn (m ((c.tc : Thread nD τ).loc main_arg0)) (m ((c.tc : Thread nD τ).loc main_arg1))

theorem gates_idx : ∀ t : Fin cfg0.N,
    win0_0.index t = ![t.val / 6, 0] ∧ win0_1.index t = ![0, t.val % 6] ∧ win0_2.index t = ![t.val / 6, t.val % 6] :=
  (by decide +kernel : ∀ t : Fin grid0.N, _)

theorem gates_arr (c : Dev nD) : (dats m 0 c).arrAt 2 cfg0.N = gatesArr m c := by
  refine (dats m 0 c).arrAt_eq_of_covers 2 (gatesArr m c) (by decide +kernel) fun t hf y => ?_
  idx_vars y
  blk_simp
  rw [after0_2, gates_out]
  unfold gatesArr gatesFn
  congr 1
  refine Finset.sum_congr (M := EReal) rfl fun e _ => ?_
  congr 1
  · blk_ext [iblk, V, gates_idx t]
  · rw [← V_gatesW]
    blk_ext [iblk, gates_idx t]

/-! ## The claims -/

theorem frame_kGates : Cert.quiescent_Gates (hGates := Cert.Gates.Gen.facts) := fun m ρ _ => Cert.Gates.Gen.frame m ρ

theorem frame_kiGates : Cert.quiescent_GatesIdeal (hGatesIdeal := Cert.GatesIdeal.Gen.facts) := fun m ρ _ => Cert.GatesIdeal.Gen.frame m ρ

theorem frame_riGates : Cert.quiescent_GatesRefIdeal (hGatesRefIdeal := Cert.GatesRefIdeal.Gen.facts) := fun m ρ _ =>
  (θ_run Cert.GatesRefIdeal.defs _ _).mono (fun r h => ⟨fun c => (h c).2, sem_eq_zero_of_no_sems (by decide) r.2⟩)
    (Cert.GatesRefIdeal.Value.run (F := Ideal) m ρ)

theorem preservesGates : Cert.preserves_Gates_GatesIdeal := trivial

theorem algebraicGates : Cert.algebraic_GatesIdeal_GatesRefIdeal (hGatesIdeal := Cert.GatesIdeal.Gen.facts)
    (hGatesRefIdeal := Cert.GatesRefIdeal.Gen.facts) := by
  intro m ρ m' ρ' hpre hagree
  refine ⟨gatesArr m, (θ_run Cert.GatesIdeal.defs _ _).mono (fun _ h c => ⟨(h c).1.trans (gates_arr m c), (h c).2⟩)
    (Cert.GatesIdeal.Value.run_blocks m ρ), ?_⟩
  refine (θ_run Cert.GatesRefIdeal.defs _ _).mono (fun _ h c => ⟨(h c).1.trans ?_, (h c).2⟩)
    (Cert.GatesRefIdeal.Value.run (F := Ideal) m' ρ')
  rw [(hagree c).1, (hagree c).2]
  funext j
  idx_vars j
  unfold gatesArr gatesFn
  pointwise
  unfold Ideal.logistic
  simp only [gatesW_apply]

end Cert.Proj

end
-- ==== Proof.Proj.Out.lean ====
/- UNTRUSTED — The output projection and its gated residual. A block's row number decides which modulation row gates it: the kernel compares a
   word with the context's length, and the reference treats the first 256 rows apart from the others; both gate alike. -/
module

public import proofs.«01_k».proof.Defs
public import proofs.«01_k».proof.Proof.Gen.Out.Frame
public import proofs.«01_k».proof.Proof.Gen.OutIdeal.Value
public import proofs.«01_k».proof.Proof.Gen.OutRefIdeal.Run
public import Idealize.ShloMosaic.Lib.Pipeline.ValueKit
public import Idealize.ShloMosaic.Lib.Affine
public import Idealize.ShloMosaic.Lib.WordArith
public import Idealize.ShloMosaic.Lib.Quiescent
public import Idealize.ShloMosaic.Adequacy
public import Idealize.ShloMosaic.Init

@[expose] public section

set_option maxRecDepth 16384

noncomputable section

namespace Cert.Proj

open Idealize.ShloMosaic Idealize.ShloMosaic.TcCoe Idealize.SL.Sem

open Cert.OutIdeal Cert.OutIdeal.Gen

/-- The word the kernel computes for a row's position in its batch. -/
theorem row_word (a r : Nat) : IntOp.addi (Scalar.muli (BitVec.ofNat 32 a) 544#32) (BitVec.ofNat 32 r) = BitVec.ofNat 32 (a * 544 + r) := by
  show BitVec.ofNat 32 a * BitVec.ofNat 32 544 + BitVec.ofNat 32 r = _
  rw [← BitVec.ofNat_mul, ← BitVec.ofNat_add]

/-- Choosing by that word's comparison with 256 is choosing by the row's position. -/
theorem select_row (a r : Nat) (ha : a < 8) (hr : r < 544) (x y : EReal) :
    Scalar.select (IntOp.cmpi CmpIPredicate.slt (IntOp.addi (Scalar.muli (BitVec.ofNat 32 a) 544#32) (BitVec.ofNat 32 r)) 256#32) x y
      = if a * 544 + r < 256 then x else y := by
  have e : IntOp.cmpi CmpIPredicate.slt (BitVec.ofNat 32 (a * 544 + r)) 256#32 = 1#1 ↔ a * 544 + r < 256 := by
    rw [IntOp.cmpi_slt, WordArith.toInt_ofNat_small _ (by omega), show (256#32 : BitVec 32).toInt = 256 from rfl]; omega
  rw [row_word]
  by_cases h : a * 544 + r < 256
  · rw [if_pos h, e.2 h]; rfl
  · rw [if_neg h]; exact if_neg fun hh => h (e.1 hh)

theorem out_coord : ∀ t : Fin cfg0.N, (grid0.coords t 1).val = t.val % 8 := (by decide +kernel : ∀ t : Fin grid0.N, _)

theorem add_mul_congr {a a' b b' c c' : EReal} (ha : a = a') (hb : b = b') (hc : c = c') : a + b * c = a' + b' * c' := by
  rw [ha, hb, hc]

set_option maxHeartbeats 1000000 in
/-- One element of a grid point's block: the row's residual plus its gate times its projection. -/
theorem out_out (t : Fin cfg0.N) (y : Vec Ideal S1x544x2048 .bf16) (w : Vec Ideal S2048x2048 .bf16) (x : Vec Ideal S1x544x2048 .f32)
    (mod : Vec Ideal S1x2x6x2048 .f32) (r : Fin 544) (l : Fin 2048) :
    out0_4 (grid0.coords t) y w x mod (ix3 0 r l) = x (ix3 0 r l)
      + (if t.val % 8 * 544 + r.val < 256 then mod (ix4 0 0 2 l) else mod (ix4 0 1 2 l)) * ∑ e : Fin 2048, y (ix3 0 r e) * w (ix2 e l) := by
  frame_out
  open_payloads
  pointwise
  rw [out_coord, select_row _ _ (by omega) r.2]

/-- The weights the call is handed. -/
def outW (w : FVec Ideal S2048x2048 .f32) : FVec Ideal S2048x2048 .bf16 := truncf .bf16 w bitsLt_bf16_f32

variable (m : (ℓ : Loc nD τ sig) → Buf (Elt Ideal) ℓ)

theorem V_outW (c : Dev nD) : V m c main_v0 = outW (m ((c.tc : Thread nD τ).loc main_arg1)) := by
  unfold_abbrev_sides
  after_results
  rfl

/-- The call's result as a function of its arrays. -/
def outFn (y : FVec Ideal S4x4352x2048 .bf16) (w : FVec Ideal S2048x2048 .f32) (x : FVec Ideal S4x4352x2048 .f32)
    (mod : FVec Ideal S4x2x6x2048 .f32) : S4x4352x2048.Idx → EReal := fun j =>
  x (ix3 (j 0) (j 1) (j 2)) + (if (j 1).val < 256 then mod (ix4 (j 0) 0 2 (j 2)) else mod (ix4 (j 0) 1 2 (j 2)))
    * ∑ e : Fin 2048, y (ix3 (j 0) (j 1) e) * outW w (ix2 e (j 2))

/-- The call's result as a function of the arguments. -/
def outArr (c : Dev nD) : S4x4352x2048.Idx → EReal :=
  outFn (m ((c.tc : Thread nD τ).loc main_arg0)) (m ((c.tc : Thread nD τ).loc main_arg1))
    (m ((c.tc : Thread nD τ).loc main_arg2)) (m ((c.tc : Thread nD τ).loc main_arg3))

theorem out_idx : ∀ t : Fin cfg0.N,
    win0_0.index t = ![t.val / 8, t.val % 8, 0] ∧ win0_1.index t = ![0, 0] ∧ win0_2.index t = ![t.val / 8, t.val % 8, 0]
    ∧ win0_3.index t = ![t.val / 8, 0, 0, 0] ∧ win0_4.index t = ![t.val / 8, t.val % 8, 0] :=
  (by decide +kernel : ∀ t : Fin grid0.N, _)

theorem out_arr (c : Dev nD) : (dats m 0 c).arrAt 4 cfg0.N = outArr m c := by
  refine (dats m 0 c).arrAt_eq_of_covers 4 (outArr m c) (by decide +kernel) fun t hf y => ?_
  idx_vars y
  blk_simp
  obtain rfl : y0 = 0 := by omega
  rw [after0_4, out_out]
  unfold outArr outFn
  refine add_mul_congr ?_ ?_ (Finset.sum_congr rfl fun e _ => congrArg₂ (· * ·) ?_ ?_)
  · blk_ext [iblk, V, out_idx t]
  · have hp : ((win0_4.blk t).view.emb (ix3 0 y1 y2) 1).val < 256 ↔ t.val % 8 * 544 + y1.val < 256 := by
      blk_simp; simp only [out_idx t]; show t.val % 8 * 544 + y1.val < 256 ↔ _; rfl
    simp only [hp]
    congr 1
    · blk_ext [iblk, V, out_idx t]
    · blk_ext [iblk, V, out_idx t]
  · blk_ext [iblk, V, out_idx t]
  · rw [← V_outW]
    blk_ext [iblk, out_idx t]

/-! ## The claims -/

theorem frame_kOut : Cert.quiescent_Out (hOut := Cert.Out.Gen.facts) := fun m ρ _ => Cert.Out.Gen.frame m ρ

theorem frame_kiOut : Cert.quiescent_OutIdeal (hOutIdeal := Cert.OutIdeal.Gen.facts) := fun m ρ _ => Cert.OutIdeal.Gen.frame m ρ

theorem frame_riOut : Cert.quiescent_OutRefIdeal (hOutRefIdeal := Cert.OutRefIdeal.Gen.facts) := fun m ρ _ =>
  (θ_run Cert.OutRefIdeal.defs _ _).mono (fun r h => ⟨fun c => (h c).2, sem_eq_zero_of_no_sems (by decide) r.2⟩)
    (Cert.OutRefIdeal.Value.run (F := Ideal) m ρ)

theorem preservesOut : Cert.preserves_Out_OutIdeal := trivial

theorem algebraicOut : Cert.algebraic_OutIdeal_OutRefIdeal (hOutIdeal := Cert.OutIdeal.Gen.facts)
    (hOutRefIdeal := Cert.OutRefIdeal.Gen.facts) := by
  intro m ρ m' ρ' hpre hagree
  refine ⟨outArr m, (θ_run Cert.OutIdeal.defs _ _).mono (fun _ h c => ⟨(h c).1.trans (out_arr m c), (h c).2⟩)
    (Cert.OutIdeal.Value.run_blocks m ρ), ?_⟩
  refine (θ_run Cert.OutRefIdeal.defs _ _).mono (fun _ h c => ⟨(h c).1.trans ?_, (h c).2⟩)
    (Cert.OutRefIdeal.Value.run (F := Ideal) m' ρ')
  rw [(hagree c).1, (hagree c).2.1, (hagree c).2.2.1, (hagree c).2.2.2]
  funext j
  idx_vars j
  unfold outArr outFn
  pointwise
  unfold outW
  simp only [truncf_apply, Ideal.truncf_def]
  split
  · rfl
  · rename_i h
    have h0 : 256 + (j1.val - 256) = j1.val := by omega
    simp only [h0]

end Cert.Proj

end
-- ==== Proof.Proj.Final.lean ====
/- UNTRUSTED — The last combine: the residual plus the gated, weighted sum of four experts' rows, then the norm of each row. The blocks start
   after the context's rows, one block on, and the result's blocks start at its first row. -/
module

public import proofs.«01_k».proof.Defs
public import proofs.«01_k».proof.Proof.Gen.Final.Frame
public import proofs.«01_k».proof.Proof.Gen.FinalIdeal.Value
public import proofs.«01_k».proof.Proof.Gen.FinalRefIdeal.Run
public import Idealize.ShloMosaic.Lib.Pipeline.ValueKit
public import Idealize.ShloMosaic.Lib.Affine
public import Idealize.ShloMosaic.Lib.WordArith
public import Idealize.ShloMosaic.Lib.Quiescent
public import Idealize.ShloMosaic.Adequacy
public import Idealize.ShloMosaic.Init

@[expose] public section

set_option maxRecDepth 16384

noncomputable section

namespace Cert.Proj

open Idealize.ShloMosaic Idealize.ShloMosaic.TcCoe Idealize.SL.Sem

open Cert.FinalIdeal Cert.FinalIdeal.Gen

/-- A row before its norm: the residual plus the gated, weighted sum of the four experts' rows. -/
def mixed (tw : Fin 4 → EReal) (y : Fin 4 → Fin 2048 → EReal) (x g : Fin 2048 → EReal) (l : Fin 2048) : EReal :=
  x l + g l * (tw 0 * y 0 l + tw 1 * y 1 l + tw 2 * y 2 l + tw 3 * y 3 l)

/-- A row over the root of its mean square, times a gain. -/
def normed (z gain : Fin 2048 → EReal) (l : Fin 2048) : EReal :=
  z l * Ideal.rsqrt (Ideal.div (∑ e, z e * z e) (Ideal.ofBits .f32 0x45000000#32) + Ideal.ofBits .f32 0x358637BD#32) * gain l

set_option maxHeartbeats 2000000 in
/-- One element of a grid point's block. -/
theorem final_out (y0 y1 y2 y3 : Vec Ideal S1x1x256x2048 .bf16) (tw : Vec Ideal S1x256x4 .f32) (x : Vec Ideal S1x256x2048 .f32)
    (mod : Vec Ideal S1x2x6x2048 .f32) (g : Vec Ideal S1x2048 .f32) (r : Fin 256) (l : Fin 2048) :
    out0_8 y0 y1 y2 y3 tw x mod g (ix3 0 r l)
      = normed (mixed (fun k => tw (ix3 0 r k)) (fun k e => (![y0, y1, y2, y3] k) (ix4 0 0 r e)) (fun e => x (ix3 0 r e))
          fun e => mod (ix4 0 1 5 e)) (fun e => g (ix2 0 e)) l := by
  frame_out
  open_payloads
  pointwise
  rfl

variable (m : (ℓ : Loc nD τ sig) → Buf (Elt Ideal) ℓ)

/-- The gain the call is handed is the argument, as one row. -/
def finalG (g : FVec Ideal S2048 .f32) : FVec Ideal S1x2048 .f32 := shapeCast S1x2048 g (by decide)

theorem V_finalG (c : Dev nD) : V m c main_v0 = finalG (m ((c.tc : Thread nD τ).loc main_arg4)) := by
  unfold_abbrev_sides
  after_results
  rfl

theorem finalG_apply (g : FVec Ideal S2048 .f32) (l : Fin 2048) : finalG g (ix2 0 l) = g (ix1 l) := by
  unfold finalG
  pointwise

theorem late (i : Fin 4096) : 256 + i.val < 4352 := by omega

/-- The call's result as a function of its arrays. -/
def finalFn (y : FVec Ideal S4x4x4352x2048 .bf16) (tw : FVec Ideal S4x4352x4 .f32) (x : FVec Ideal S4x4352x2048 .f32)
    (mod : FVec Ideal S4x2x6x2048 .f32) (g : FVec Ideal S1x2048 .f32) : S4x4096x2048.Idx → EReal := fun j =>
  normed (mixed (fun k => tw (ix3 (j 0) ⟨256 + (j 1).val, late (j 1)⟩ k))
      (fun k e => y (ix4 k (j 0) ⟨256 + (j 1).val, late (j 1)⟩ e))
      (fun e => x (ix3 (j 0) ⟨256 + (j 1).val, late (j 1)⟩ e))
      fun e => mod (ix4 (j 0) 1 5 e)) (fun e => g (ix2 0 e)) (j 2)

/-- The call's result as a function of the arguments. -/
def finalArr (c : Dev nD) : S4x4096x2048.Idx → EReal :=
  finalFn (m ((c.tc : Thread nD τ).loc main_arg0)) (m ((c.tc : Thread nD τ).loc main_arg1))
    (m ((c.tc : Thread nD τ).loc main_arg2)) (m ((c.tc : Thread nD τ).loc main_arg3)) (finalG (m ((c.tc : Thread nD τ).loc main_arg4)))

theorem final_idx : ∀ t : Fin cfg0.N,
    win0_0.index t = ![0, t.val / 16, t.val % 16 + 1, 0] ∧ win0_1.index t = ![1, t.val / 16, t.val % 16 + 1, 0]
    ∧ win0_2.index t = ![2, t.val / 16, t.val % 16 + 1, 0] ∧ win0_3.index t = ![3, t.val / 16, t.val % 16 + 1, 0]
    ∧ win0_4.index t = ![t.val / 16, t.val % 16 + 1, 0] ∧ win0_5.index t = ![t.val / 16, t.val % 16 + 1, 0]
    ∧ win0_6.index t = ![t.val / 16, 0, 0, 0] ∧ win0_7.index t = ![0, 0] ∧ win0_8.index t = ![t.val / 16, t.val % 16, 0] :=
  (by decide +kernel : ∀ t : Fin grid0.N, _)

theorem normed_congr {z z' g g' : Fin 2048 → EReal} {l l' : Fin 2048} (hz : z = z') (hg : g = g') (hl : l = l') :
    normed z g l = normed z' g' l' := by rw [hz, hg, hl]

theorem mixed_congr {tw tw' : Fin 4 → EReal} {y y' : Fin 4 → Fin 2048 → EReal} {x x' g g' : Fin 2048 → EReal}
    (ht : ∀ k, tw k = tw' k) (h0 : ∀ e, y 0 e = y' 0 e) (h1 : ∀ e, y 1 e = y' 1 e) (h2 : ∀ e, y 2 e = y' 2 e)
    (h3 : ∀ e, y 3 e = y' 3 e) (hx : ∀ e, x e = x' e) (hg : ∀ e, g e = g' e) : mixed tw y x g = mixed tw' y' x' g' := by
  funext l
  unfold mixed
  rw [ht, ht, ht, ht, h0, h1, h2, h3, hx, hg]

theorem final_arr (c : Dev nD) : (dats m 0 c).arrAt 8 cfg0.N = finalArr m c := by
  refine (dats m 0 c).arrAt_eq_of_covers 8 (finalArr m c) (by decide +kernel) fun t hf y => ?_
  idx_vars y
  blk_simp
  obtain rfl : y0 = 0 := by omega
  rw [after0_8, final_out]
  unfold finalArr finalFn
  refine normed_congr (mixed_congr (fun k => ?_) (fun e => ?_) (fun e => ?_) (fun e => ?_) (fun e => ?_) (fun e => ?_) fun e => ?_)
    (funext fun e => ?_) ?_
  · blk_ext [iblk, V, final_idx t]
  · show iblk m c 0 t (ix4 0 0 y1 e) = _
    blk_ext [iblk, V, final_idx t]
  · show iblk m c 1 t (ix4 0 0 y1 e) = _
    blk_ext [iblk, V, final_idx t]
  · show iblk m c 2 t (ix4 0 0 y1 e) = _
    blk_ext [iblk, V, final_idx t]
  · show iblk m c 3 t (ix4 0 0 y1 e) = _
    blk_ext [iblk, V, final_idx t]
  · blk_ext [iblk, V, final_idx t]
  · blk_ext [iblk, V, final_idx t]
  · rw [← V_finalG]
    blk_ext [iblk, final_idx t]
  · apply Fin.ext
    blk_simp
    simp only [final_idx t]
    show y2.val = 0 * 2048 + y2.val
    omega

/-! ## The claims -/

theorem frame_kFinal : Cert.quiescent_Final (hFinal := Cert.Final.Gen.facts) := fun m ρ _ => Cert.Final.Gen.frame m ρ

theorem frame_kiFinal : Cert.quiescent_FinalIdeal (hFinalIdeal := Cert.FinalIdeal.Gen.facts) := fun m ρ _ => Cert.FinalIdeal.Gen.frame m ρ

theorem frame_riFinal : Cert.quiescent_FinalRefIdeal (hFinalRefIdeal := Cert.FinalRefIdeal.Gen.facts) := fun m ρ _ =>
  (θ_run Cert.FinalRefIdeal.defs _ _).mono (fun r h => ⟨fun c => (h c).2, sem_eq_zero_of_no_sems (by decide) r.2⟩)
    (Cert.FinalRefIdeal.Value.run (F := Ideal) m ρ)

theorem preservesFinal : Cert.preserves_Final_FinalIdeal := trivial

theorem algebraicFinal : Cert.algebraic_FinalIdeal_FinalRefIdeal (hFinalIdeal := Cert.FinalIdeal.Gen.facts)
    (hFinalRefIdeal := Cert.FinalRefIdeal.Gen.facts) := by
  intro m ρ m' ρ' hpre hagree
  refine ⟨finalArr m, (θ_run Cert.FinalIdeal.defs _ _).mono (fun _ h c => ⟨(h c).1.trans (final_arr m c), (h c).2⟩)
    (Cert.FinalIdeal.Value.run_blocks m ρ), ?_⟩
  refine (θ_run Cert.FinalRefIdeal.defs _ _).mono (fun _ h c => ⟨(h c).1.trans ?_, (h c).2⟩)
    (Cert.FinalRefIdeal.Value.run (F := Ideal) m' ρ')
  rw [show Cert.FinalRefIdeal.Value.res_main_v49 m' c = Cert.FinalRefIdeal.Value.res_out0 m' c from rfl]
  dsimp only [Cert.FinalRefIdeal.Value.res_out0, Cert.FinalRefIdeal.Value.res_main_v49]
  rw [(hagree c).1, (hagree c).2.1, (hagree c).2.2.1, (hagree c).2.2.2.1, (hagree c).2.2.2.2]
  funext j
  idx_vars j
  unfold finalArr finalFn
  pointwise
  unfold normed
  exact congrArg₂ (fun a b : EReal => a * b) rfl (finalG_apply _ j2).symm

end Cert.Proj

end
-- ==== Proof.ExpertsIdeal.Words.lean ====
/- UNTRUSTED — The experts call: the words the kernel computes, as numbers.

   The kernel works in 32-bit words: which of the two slots of the row buffer a grid step uses, where a row starts,
   whether a step is in use. Each is here the plain number it means, over the step's number below 304 and the
   row's number below 256. -/
module

public import proofs.«01_k».proof.Proof.Gen.ExpertsIdeal.Launch
public import proofs.«01_k».proof.Proof.Gen.ExpertsIdeal.Skeleton

@[expose] public section

noncomputable section

namespace Cert.ExpertsIdeal.Hand

open Cert.ExpertsIdeal Cert.ExpertsIdeal.Gen
open Idealize.ShloMosaic Idealize.ShloMosaic.TcCoe

theorem trips1 : k0_t1_loop.trips = 256 := by decide
theorem trips2 : k0_t2_loop.trips = 256 := by decide

/-- The step's number is below 304. -/
theorem step_lt (i : grid0.Coords) : (i 0).val < 304 := (i 0).isLt

theorem rem_word : ∀ n : Fin 304, Scalar.remsi (BitVec.ofNat 32 n.val) 2#32 = BitVec.ofNat 32 (n.val % 2) := by decide +kernel

theorem rem_step (i : grid0.Coords) : Scalar.remsi (BitVec.ofNat 32 (i 0).val) 2#32 = BitVec.ofNat 32 ((i 0).val % 2) :=
  rem_word ⟨(i 0).val, step_lt i⟩

theorem off3_eq (k : Fin k0_t1_loop.trips) : k0_off3 k = ![0, 0, k.val] := by
  revert k; decide +kernel
theorem off6_eq (k : Fin k0_t2_loop.trips) : k0_off6 k = ![0, 0, k.val] := by
  revert k; decide +kernel
theorem off4_eq (k : Fin k0_t1_loop.trips) : k0_off4 k = ![(0 * 256 + k.val) * 16, 0] := by
  revert k; decide +kernel

theorem off7_eq (i : grid0.Coords) : k0_off7 i = ![1 - (i 0).val % 2] := by
  unfold k0_off7; dsimp only; rw [rem_step]
  rcases Nat.mod_two_eq_zero_or_one (i 0).val with h | h <;> rw [h] <;> decide
theorem off10_eq (i : grid0.Coords) : k0_off10 i = ![(i 0).val % 2] := by
  unfold k0_off10; dsimp only; rw [rem_step]
  rcases Nat.mod_two_eq_zero_or_one (i 0).val with h | h <;> rw [h] <;> decide
theorem off13_eq (i : grid0.Coords) : k0_off13 i = ![1 - (i 0).val % 2] := by
  unfold k0_off13; dsimp only; rw [rem_step]
  rcases Nat.mod_two_eq_zero_or_one (i 0).val with h | h <;> rw [h] <;> decide
theorem off11_eq (i : grid0.Coords) : k0_off11 i = ![((i 0).val % 2) * 4096, 0] := by
  unfold k0_off11; dsimp only; rw [rem_step]
  rcases Nat.mod_two_eq_zero_or_one (i 0).val with h | h <;> rw [h] <;> decide
theorem off14_eq (i : grid0.Coords) : k0_off14 i = ![(1 - (i 0).val % 2) * 4096, 0] := by
  unfold k0_off14; dsimp only; rw [rem_step]
  rcases Nat.mod_two_eq_zero_or_one (i 0).val with h | h <;> rw [h] <;> decide
theorem off12_eq (i : grid0.Coords) (j : Fin 16) :
    k0_off12 i (BitVec.ofNat 32 j.val) = ![((i 0).val % 2) * 4096 + j.val, 0] := by
  unfold k0_off12; dsimp only; rw [rem_step]
  rcases Nat.mod_two_eq_zero_or_one (i 0).val with h | h <;> rw [h] <;> revert j <;> decide
theorem off8_eq (i : grid0.Coords) (k : Fin k0_t2_loop.trips) :
    k0_off8 i k = ![((1 - (i 0).val % 2) * 256 + k.val) * 16, 0] := by
  unfold k0_off8; dsimp only; rw [rem_step]
  rcases Nat.mod_two_eq_zero_or_one (i 0).val with h | h <;> rw [h] <;> revert k <;> rw [trips2] <;> decide +kernel
theorem off1_eq (i : grid0.Coords) : k0_off1 i = ![(i 0).val] := by
  have h : ∀ n : Fin 304, (Scalar.indexCast (BitVec.ofNat 32 n.val) : Index).toNat = n.val := by decide +kernel
  unfold k0_off1; dsimp only; rw [h ⟨(i 0).val, step_lt i⟩]
theorem off2_eq (i : grid0.Coords) : k0_off2 i = ![(i 0).val - 1] := by
  have h : ∀ n : Fin 304, (Scalar.indexCast (Scalar.maxsi (Scalar.subi (BitVec.ofNat 32 n.val) 1#32) 0#32) : Index).toNat = n.val - 1 := by decide +kernel
  unfold k0_off2; dsimp only; rw [h ⟨(i 0).val, step_lt i⟩]

theorem cond1_iff (i : grid0.Coords) : k0_cond1 i = 1#1 ↔ (i 0).val = 0 := by
  have h : ∀ n : Fin 304, (Scalar.cmpi .ne (Scalar.extui (Scalar.cmpi .eq (BitVec.ofNat 32 n.val) 0#32) : BitVec 32) 0#32 = 1#1) ↔ n.val = 0 := by decide +kernel
  exact h ⟨(i 0).val, step_lt i⟩

/-- Among words below 2³¹ the signed comparison is the numbers'. -/
theorem slt_word (a : ℕ) (v : BitVec 32) (ha : a < 304) (hv : v.toNat < 2147483648) :
    (Scalar.cmpi .slt (BitVec.ofNat 32 a) v = 1#1) ↔ a < v.toNat := by
  have h1 : (BitVec.ofNat 32 a).toNat = a := by rw [BitVec.toNat_ofNat]; omega
  have h2 : (BitVec.ofNat 32 a).toInt = a := by rw [BitVec.toInt_eq_toNat_of_lt (by rw [h1]; omega), h1]
  have h3 : v.toInt = v.toNat := BitVec.toInt_eq_toNat_of_lt (by omega)
  show (BitVec.ofBool (BitVec.slt (BitVec.ofNat 32 a) v) = 1#1) ↔ _
  rw [BitVec.slt, h2, h3]
  by_cases h : a < v.toNat
  · simp [h]
  · simp [h]

/-- A flag widened to a word and compared with zero is the flag. -/
theorem ext_ne (b : BitVec 1) : Scalar.cmpi .ne (Scalar.extui b : BitVec 32) 0#32 = b := by revert b; decide

theorem cond3_iff (i : grid0.Coords) (v : BitVec 32) (hv : v.toNat < 2147483648) : k0_cond3 i v = 1#1 ↔ (i 0).val < v.toNat := by
  unfold k0_cond3; dsimp only; rw [ext_ne]; exact slt_word _ _ (step_lt i) hv
theorem cond4_iff (i : grid0.Coords) (v : BitVec 32) (hv : v.toNat < 2147483648) : k0_cond4 i v = 1#1 ↔ (i 0).val < v.toNat := by
  unfold k0_cond4; dsimp only; rw [ext_ne]; exact slt_word _ _ (step_lt i) hv
theorem cond6_iff (i : grid0.Coords) (v : BitVec 32) (hv : v.toNat < 2147483648) : k0_cond6 i v = 1#1 ↔ ¬ (i 0).val < v.toNat := by
  unfold k0_cond6; dsimp only; rw [ext_ne, ← slt_word _ _ (step_lt i) hv]
  generalize Scalar.cmpi .slt (BitVec.ofNat 32 (i 0).val) v = b
  revert b; decide
/-- The step is the last in use. -/
theorem last_iff (i : grid0.Coords) (v : BitVec 32) (h0 : 0 < v.toNat) :
    (Scalar.cmpi .ne (Scalar.extui (Scalar.cmpi .eq (BitVec.ofNat 32 (i 0).val) (Scalar.subi v 1#32)) : BitVec 32) 0#32 = 1#1)
      ↔ (i 0).val + 1 = v.toNat := by
  rw [ext_ne]
  have h1 := step_lt i
  have h2 := v.isLt
  show (BitVec.ofBool (BitVec.ofNat 32 (i 0).val == v - 1#32) = 1#1) ↔ _
  have h3 : (BitVec.ofNat 32 (i 0).val = v - 1#32) ↔ (i 0).val + 1 = v.toNat := by
    rw [← BitVec.toNat_inj, BitVec.toNat_ofNat, BitVec.toNat_sub, BitVec.toNat_ofNat]; omega
  by_cases h : BitVec.ofNat 32 (i 0).val = v - 1#32
  · simp [h, ← h3]
  · have h' := fun e => h (h3.mpr e)
    rw [beq_eq_false_iff_ne.mpr h]
    exact ⟨fun e => absurd e (by decide), fun e => absurd e h'⟩

/-- The step's expert is another than the step's before, or the step is the first, and the step is in use. -/
theorem new_iff (i : grid0.Coords) (v a b : BitVec 32) (hv : v.toNat < 2147483648) :
    (Scalar.cmpi .ne (Scalar.extui (Scalar.andi (Scalar.cmpi .slt (BitVec.ofNat 32 (i 0).val) v)
        (Scalar.ori (Scalar.cmpi .eq (BitVec.ofNat 32 (i 0).val) 0#32) (Scalar.cmpi .ne a b))) : BitVec 32) 0#32 = 1#1)
      ↔ ((i 0).val < v.toNat ∧ ((i 0).val = 0 ∨ a ≠ b)) := by
  rw [ext_ne, ← slt_word _ _ (step_lt i) hv]
  have h0 : (Scalar.cmpi .eq (BitVec.ofNat 32 (i 0).val) 0#32 = 1#1) ↔ (i 0).val = 0 := by
    rw [← cond1_iff]; unfold k0_cond1; dsimp only; rw [ext_ne]
  have h1 : (Scalar.cmpi .ne a b = 1#1) ↔ a ≠ b := by
    show (BitVec.ofBool (a != b) = 1#1) ↔ _
    by_cases h : a = b
    · simp [h]
    · rw [bne_iff_ne.mpr h]; exact ⟨fun _ => h, fun _ => rfl⟩
  rw [← h0, ← h1]
  generalize Scalar.cmpi .slt (BitVec.ofNat 32 (i 0).val) v = x
  generalize Scalar.cmpi .eq (BitVec.ofNat 32 (i 0).val) 0#32 = y
  generalize Scalar.cmpi .ne a b = z
  revert x y z; decide

end Cert.ExpertsIdeal.Hand

end
-- ==== Proof.ExpertsIdeal.State.lean ====
/- UNTRUSTED — The experts call: what a core holds of the row buffer while the kernel runs.

   The kernel gathers a tile's 256 token rows into one of two slots of a row buffer, a slot ahead of the tile it
   works on. A slot is either free (its completion counter at zero, its rows held at anything) or in flight (256 row
   copies started and none awaited, each to deliver its row with the exact contents read, and the read share it
   borrowed). -/
module

public import proofs.«01_k».proof.Proof.ExpertsIdeal.Words
public import Idealize.ShloMosaic.Lib.Pipeline.FrameBody
public import Idealize.ShloMosaic.Lib.Pipeline.FrameValue
public import Idealize.ShloMosaic.Lib.Batch
public import Idealize.ShloMosaic.Lib.Ring
public import Idealize.ShloMosaic.Lib.Tactic
public import Idealize.ShloMosaic.Lib.ValueIdx
public import Idealize.ShloMosaic.Lib.ValueLayout

@[expose] public section

noncomputable section

namespace Cert.ExpertsIdeal.Hand

open Cert.ExpertsIdeal Cert.ExpertsIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## Places -/

/-- Row `k` of slot `s` of the row buffer: 16 lines of 128. -/
def xRow (s : Fin 2) (k : Fin 256) : Finset S8192x128.Idx := Finset.univ.filter fun y => (y 0).val / 16 = s.val * 256 + k.val
/-- Slot `s` of the row buffer: 4096 lines. -/
def xSlot (s : Fin 2) : Finset S8192x128.Idx := Finset.univ.filter fun y => (y 0).val / 4096 = s.val
/-- Row `n` of the tokens' array. -/
def hRow (n : ℕ) : Finset S17408x16x128.Idx := Finset.univ.filter fun y => (y 0).val = n

/-- The completion counter of slot `s`. -/
abbrev cel (s : Fin 2) : DmaSem sig := (![26, 27] : Fin 2 → DmaSem sig) s

abbrev xLoc (c : Dev nD) : Loc nD τ sig := (c : Thread nD τ).loc cc0_scratch1
abbrev wLoc (c : Dev nD) : Loc nD τ sig := (c : Thread nD τ).loc cc0_scratch0
abbrev hLoc (c : Dev nD) : Loc nD τ sig := (c : Thread nD τ).loc main_v0

/-- The tokens' array, and what the row buffer holds of it when tile rows `tk` have landed: line `j` of the row that
    the tile's row number names. -/
abbrev HBuf (F : FTy → Type) : Type := S17408x16x128.Idx → Elt F .f32
def rowsOf (h : HBuf F) (tk : ℕ → ℕ) : S8192x128.Idx → Elt F .f32 := fun y =>
  h (ix3 (⟨tk ((y 0).val / 16 % 256) % 17408, Nat.mod_lt _ (by decide)⟩ : Fin 17408)
      (⟨(y 0).val % 16, Nat.mod_lt _ (by decide)⟩ : Fin 16) (⟨(y 1).val, (y 1).isLt⟩ : Fin 128))

/-! ## What is held -/

/-- The read share that row copy `k` into slot `s` borrows. -/
abbrev tokShare (s : Fin 2) (k : ℕ) : PosShare TreeShare := Transfers.shareTokN fullShare (s.val * 256 + k)

/-- What row copy `k` into slot `s` delivers: the row, and the read share of the row it read. -/
def deliv (c : Dev nD) (h : HBuf F) (s : Fin 2) (tk : ℕ → ℕ) (k : Fin 256) : sProp (MT nD τ sig Unit (Elt F) ℕ (Pipeline.UD sig nD τ) ℕ) :=
  iprop((xLoc c ↦[xRow s k]{fullShare} rowsOf h tk) ∗ (hLoc c ↦[hRow (tk k.val)]{tokShare s k.val} h))

instance deliv_storable (c : Dev nD) (h : HBuf F) (s : Fin 2) (tk : ℕ → ℕ) (k : Fin 256) :
    BI.Storable (upEmb : UEmb _ (MT nD τ sig Unit (Elt F) ℕ (Pipeline.UD sig nD τ) ℕ)) (deliv c h s tk k) := by
  unfold deliv; infer_instance

/-- The copies into slot `s`, the first `j` of them started. -/
abbrev copies (c : Dev nD) (h : HBuf F) (s : Fin 2) (tk : ℕ → ℕ) (j : ℕ) : sProp (MT nD τ sig Unit (Elt F) ℕ (Pipeline.UD sig nD τ) ℕ) :=
  Transfers.Batch (countersEmb (U := Pipeline.UD sig nD τ)) (c : Thread nD τ) (.dma (cel s)) () 256 (deliv c h s tk) j 0

/-- The read share of copy `k`, whole; and what is left of it while its row is being read. -/
abbrev readTok (c : Dev nD) (h : HBuf F) (s : Fin 2) (k : ℕ) : sProp (MT nD τ sig Unit (Elt F) ℕ (Pipeline.UD sig nD τ) ℕ) :=
  hLoc c ↦{tokShare s k} h
abbrev readRest (c : Dev nD) (h : HBuf F) (s : Fin 2) (tk : ℕ → ℕ) (k : ℕ) : sProp (MT nD τ sig Unit (Elt F) ℕ (Pipeline.UD sig nD τ) ℕ) :=
  hLoc c ↦[Finset.univ \ hRow (tk k)]{tokShare s k} h
/-- Row `k` of slot `s` at anything. -/
abbrev rowAny (c : Dev nD) (s : Fin 2) (k : Fin 256) : sProp (MT nD τ sig Unit (Elt F) ℕ (Pipeline.UD sig nD τ) ℕ) :=
  iprop(∃ f, xLoc c ↦[xRow s k]{fullShare} f)

/-! ## The sets -/

theorem mem_xRow (s : Fin 2) (k : Fin 256) (y : S8192x128.Idx) : y ∈ xRow s k ↔ (y 0).val / 16 = s.val * 256 + k.val := by
  simp only [xRow, Finset.mem_filter, Finset.mem_univ, true_and]
theorem mem_xSlot (s : Fin 2) (y : S8192x128.Idx) : y ∈ xSlot s ↔ (y 0).val / 4096 = s.val := by
  simp only [xSlot, Finset.mem_filter, Finset.mem_univ, true_and]
theorem mem_hRow (n : ℕ) (y : S17408x16x128.Idx) : y ∈ hRow n ↔ (y 0).val = n := by
  simp only [hRow, Finset.mem_filter, Finset.mem_univ, true_and]

/-- The row buffer's rows as the kernel slices them. -/
theorem xRow_slice (s : Fin 2) (k : Fin 256) (h : ∀ a, (![(s.val * 256 + k.val) * 16, 0] : Fin 2 → ℕ) a + S16x128.size a ≤ S8192x128.size a) :
    ((Memref.whole cc0_scratch1 : Memref sig .tc .vmem S8192x128 .f32).slice (Rect.unit (s := S8192x128) ![(s.val * 256 + k.val) * 16, 0] S16x128.size h) (fun _ => rfl)).view.set
      = xRow s k := by
  refine (View.set_slice_whole _ _).trans ?_
  ext y
  rw [Rect.mem_set_unit, mem_xRow]
  have h1 : (y 1).val < 128 := (y 1).isLt
  constructor
  · intro H; have a0 : (s.val * 256 + k.val) * 16 ≤ (y 0).val ∧ (y 0).val < (s.val * 256 + k.val) * 16 + 16 := H 0; omega
  · intro H a; fin_cases a
    · show (s.val * 256 + k.val) * 16 ≤ (y 0).val ∧ (y 0).val < (s.val * 256 + k.val) * 16 + 16; omega
    · show 0 ≤ (y 1).val ∧ (y 1).val < 0 + 128; omega

/-- The tokens' rows as the kernel slices them. -/
theorem hRow_slice (n : ℕ) (h : ∀ a, (![n, 0, 0] : Fin 3 → ℕ) a + S1x16x128.size a ≤ S17408x16x128.size a) :
    (((Memref.whole main_v0 : Memref sig .tc .hbm S17408x16x128 .f32).slice (Rect.unit (s := S17408x16x128) ![n, 0, 0] S1x16x128.size h) (fun _ => rfl)).squeeze S16x128 squeezes_S1x16x128_S16x128).view.set
      = hRow n := by
  refine (View.set_reshape _ _).trans ((View.set_slice_whole _ _).trans ?_)
  ext y
  rw [Rect.mem_set_unit, mem_hRow]
  have h1 : (y 1).val < 16 := (y 1).isLt
  have h2 : (y 2).val < 128 := (y 2).isLt
  constructor
  · intro H; have a0 : n ≤ (y 0).val ∧ (y 0).val < n + 1 := H 0; omega
  · intro H a; fin_cases a
    · show n ≤ (y 0).val ∧ (y 0).val < n + 1; omega
    · show 0 ≤ (y 1).val ∧ (y 1).val < 0 + 16; omega
    · show 0 ≤ (y 2).val ∧ (y 2).val < 0 + 128; omega

theorem xRow_disjoint (s : Fin 2) (k k' : Fin 256) (hne : k ≠ k') : Disjoint (xRow s k) (xRow s k') := by
  rw [Finset.disjoint_left]; intro y hy hy'; rw [mem_xRow] at hy hy'; exact hne (Fin.ext (by omega))
theorem xRow_cover (s : Fin 2) : Finset.univ.biUnion (xRow s) = xSlot s := by
  ext y
  simp only [Finset.mem_biUnion, Finset.mem_univ, true_and, mem_xRow, mem_xSlot]
  have h1 : (y 0).val < 8192 := (y 0).isLt
  have h2 := s.isLt
  constructor
  · rintro ⟨k, hk⟩; have := k.isLt; omega
  · intro H; exact ⟨⟨(y 0).val / 16 - s.val * 256, by omega⟩, by show _ = _ + ((y 0).val / 16 - s.val * 256); omega⟩
theorem xSlot_disjoint : Disjoint (xSlot 0) (xSlot 1) := by
  rw [Finset.disjoint_left]; intro y hy hy'; rw [mem_xSlot] at hy hy'; rw [hy] at hy'; exact absurd hy' (by decide)
theorem xSlot_cover : xSlot 0 ∪ xSlot 1 = Finset.univ := by
  ext y
  have h1 : (y 0).val < 8192 := (y 0).isLt
  simp only [Finset.mem_union, Finset.mem_univ, iff_true, mem_xSlot]
  show _ = 0 ∨ _ = 1; omega

/-! ## One copy -/

/-- What a row copy writes is the row of the landed tile. -/
theorem landed (h : HBuf F) (s : Fin 2) (k : Fin 256) (tk : ℕ → ℕ) (c : Dev nD)
    (h4 : ∀ a, (![(s.val * 256 + k.val) * 16, 0] : Fin 2 → ℕ) a + S16x128.size a ≤ S8192x128.size a)
    (h5 : ∀ a, (![tk k.val, 0, 0] : Fin 3 → ℕ) a + S1x16x128.size a ≤ S17408x16x128.size a)
    (f : S8192x128.Idx → Elt F .f32) (y : S8192x128.Idx) (hy : y ∈ xRow s k) :
    View.write (Elt F) ((Memref.whole cc0_scratch1 : Memref sig .tc .vmem S8192x128 .f32).slice (Rect.unit (s := S8192x128) ![(s.val * 256 + k.val) * 16, 0] S16x128.size h4) (fun _ => rfl)).view f
        ((ReadAs.same : ReadAs (Elt F) S16x128 .f32 S16x128 .f32).apply
          ((((Memref.whole main_v0 : Memref sig .tc .hbm S17408x16x128 .f32).slice (Rect.unit (s := S17408x16x128) ![tk k.val, 0, 0] S1x16x128.size h5) (fun _ => rfl)).squeeze S16x128 squeezes_S1x16x128_S16x128).view.read (Elt F) h))
        Finset.univ y
      = rowsOf h tk y := by
  rw [mem_xRow] at hy
  have hs := s.isLt
  have hk := k.isLt
  have h0 : (y 0).val < 8192 := (y 0).isLt
  have h1 : (y 1).val < 128 := (y 1).isLt
  have hn : tk k.val < 17408 := by have : tk k.val + 1 ≤ 17408 := h5 0; omega
  have hy' : y = ((Memref.whole cc0_scratch1 : Memref sig .tc .vmem S8192x128 .f32).slice (Rect.unit (s := S8192x128) ![(s.val * 256 + k.val) * 16, 0] S16x128.size h4) (fun _ => rfl)).view.emb
      (ix2 (⟨(y 0).val % 16, Nat.mod_lt _ (by decide)⟩ : Fin 16) (⟨(y 1).val, h1⟩ : Fin 128)) := by
    funext a; apply Fin.ext; fin_cases a
    · show (y 0).val = (s.val * 256 + k.val) * 16 + 1 * ((y 0).val % 16); omega
    · show (y 1).val = 0 + 1 * (y 1).val; omega
  have hkk : (y 0).val / 16 % 256 = k.val := by omega
  conv_lhs => rw [hy']
  refine (View.write_emb_of_mem (Val := Elt F) _ _ (Finset.mem_univ _)).trans ?_
  have hR : rowsOf h tk y = h (ix3 (⟨tk k.val, hn⟩ : Fin 17408) (⟨(y 0).val % 16, Nat.mod_lt _ (by decide)⟩ : Fin 16) (⟨(y 1).val, h1⟩ : Fin 128)) := by
    refine congrArg h ?_
    funext a; apply Fin.ext; fin_cases a
    · show tk ((y 0).val / 16 % 256) % 17408 = tk k.val
      rw [hkk, Nat.mod_eq_of_lt hn]
    · rfl
    · rfl
  rw [hR]
  show h ((Rect.unit (s := S17408x16x128) ![tk k.val, 0, 0] S1x16x128.size h5).emb
      (Shape.reshapeEquiv squeezes_S1x16x128_S16x128.numel_eq (ix2 (⟨(y 0).val % 16, Nat.mod_lt _ (by decide)⟩ : Fin 16) (⟨(y 1).val, h1⟩ : Fin 128)))) = h _
  rw [reshapeEquiv_ix2_1ab]
  refine congrArg h ?_
  funext a; apply Fin.ext; fin_cases a
  · show tk k.val + 1 * 0 = tk k.val; omega
  · show 0 + 1 * ((y 0).val % 16) = (y 0).val % 16; omega
  · show 0 + 1 * (y 1).val = (y 1).val; omega

end Cert.ExpertsIdeal.Hand

end
-- ==== Proof.ExpertsIdeal.Issue.lean ====
/- UNTRUSTED — The experts call: starting a tile's 256 row copies, and waiting for them.

   `wp_copy` is one copy: it takes the row of the slot and the read share set aside for it, and leaves the batch with
   one more copy started and what is left of the share. `first_loop` and `next_loop` are the kernel's two loops of 256 such copies
   (the first step's own tile into slot 0; the next tile into the other slot), `flight`'s arrival is `slot_landed`. -/
module

public import proofs.«01_k».proof.Proof.ExpertsIdeal.State

@[expose] public section

noncomputable section

namespace Cert.ExpertsIdeal.Hand

open Cert.ExpertsIdeal Cert.ExpertsIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

/-- What copy `k` into slot `s` needs: the read share set aside for it and its row of the slot. -/
abbrev ready (c : Dev nD) (h : HBuf F) (s : Fin 2) (k : Fin 256) : sProp (MT nD τ sig Unit (Elt F) ℕ (Pipeline.UD sig nD τ) ℕ) :=
  iprop(readTok c h s k.val ∗ rowAny c s k)

abbrev xM : Memref sig .tc .vmem S8192x128 .f32 := Memref.whole cc0_scratch1
abbrev hM : Memref sig .tc .hbm S17408x16x128 .f32 := Memref.whole main_v0

/-- A row copy completes with 256 units; the wait for a slot takes 256 of them. -/
theorem row_credit : Ref.dmaCredit (cc0_scratch1 : Ref sig .tc) S16x128 .f32 = 256 := by decide +kernel
theorem slot_credit : Ref.dmaCredit (cc0_scratch1 : Ref sig .tc) S4096x128 .f32 = 65536 := by decide +kernel

/-- One copy. -/
theorem wp_copy (c : Dev nD) (h : HBuf F) (s : Fin 2) (k : Fin 256) (tk : ℕ → ℕ)
    (o4 : Fin 2 → ℕ) (e4 : o4 = ![(s.val * 256 + k.val) * 16, 0]) (h4 : ∀ a, o4 a + S16x128.size a ≤ S8192x128.size a)
    (o5 : Fin 3 → ℕ) (e5 : o5 = ![tk k.val, 0, 0]) (h5 : ∀ a, o5 a + S1x16x128.size a ≤ S17408x16x128.size a)
    (sm : DmaSem sig) (es : sm = cel s)
    (hsrc : ((hM.slice (Rect.unit (s := S17408x16x128) o5 S1x16x128.size h5) (fun _ => rfl)).squeeze S16x128 squeezes_S1x16x128_S16x128).view.WordExact)
    (hdst : (xM.slice (Rect.unit (s := S8192x128) o4 S16x128.size h4) (fun _ => rfl)).view.WordExact)
    (hsem : DmaTarget.Typed (nD := nD) .hbm (SemLoc.dma sm) (.here (p := (.tc : Proc τ)) (xM.slice (Rect.unit (s := S8192x128) o4 S16x128.size h4) (fun _ => rfl))))
    {α : Type} (kk : PUnit → Prog (TpuEff nD τ sig (Elt F) Λ₀ .tc) α) (Q : α → sProp (MT nD τ sig Unit (Elt F) ℕ (Pipeline.UD sig nD τ) ℕ)) :
    iprop(ready c h s k ∗ copies c h s tk k.val)
      ⊢ iprop((iprop(copies c h s tk (k.val + 1) ∗ readRest c h s tk k.val) -∗ wp frame (wpE (defs₀ (F := F)) Variants.none (c : Thread nD τ) none) Set.univ (kk ⟨⟩) Q)
          -∗ wp frame (wpE (defs₀ (F := F)) Variants.none (c : Thread nD τ) none) Set.univ
              (.op (.enqueueDma ((hM.slice (Rect.unit (s := S17408x16x128) o5 S1x16x128.size h5) (fun _ => rfl)).squeeze S16x128 squeezes_S1x16x128_S16x128)
                (.here (xM.slice (Rect.unit (s := S8192x128) o4 S16x128.size h4) (fun _ => rfl))) (.dma sm) hsrc hdst hsem) kk) Q) := by
  subst e4 e5 es
  unfold ready readTok rowAny
  iintro ⟨⟨Ht, ⟨%f, Hx⟩⟩, HB⟩ Hk
  ihave Ht' := (pointsTo_split_subset (I := hRow (tk k.val)) (S := Finset.univ) (Finset.subset_univ _)).1 $$ Ht
  icases Ht' with ⟨Ha, Hb⟩
  iapply (Transfers.wp_dmaBatch (countersEmb (U := Pipeline.UD sig nD τ)) Variants.none (c : Thread nD τ) none
    (src := ((hM.slice (Rect.unit (s := S17408x16x128) ![tk k.val, 0, 0] S1x16x128.size h5) (fun _ => rfl)).squeeze S16x128 squeezes_S1x16x128_S16x128))
    (dst := (xM.slice (Rect.unit (s := S8192x128) ![(s.val * 256 + k.val) * 16, 0] S16x128.size h4) (fun _ => rfl)))
    (Sd := xRow s k) (fs := h) (fd := f) (q := tokShare s k.val)
    (sm := .dma (cel s)) (D := deliv c h s tk) (j := k.val) (u := 0) () 256 row_credit (by rw [xRow_slice]) k.isLt (Nat.zero_le _) ?_) $$ [Ha Hx HB]
  · unfold deliv
    refine BI.sep_mono ?_ ?_
    · exact Entails.of_eq (pointsTo_congr fun y hy => landed h s k tk c h4 h5 f y hy)
    · rw [hRow_slice]; exact fun _ h => h
  · rw [hRow_slice]
    isplitl [Ha]; · iexact Ha
    isplitl [Hx]; · iexact Hx
    iexact HB
  iintro HB
  iapply Hk
  isplitl [HB]; · iexact HB
  iexact Hb

/-- The number a tile's index block holds at row `k`. -/
abbrev rowNo (X : S1x1x256.Idx → BitVec 32) (k : ℕ) : ℕ :=
  BitVec.toNat (X (ix3 (0 : Fin 1) (0 : Fin 1) (⟨k % 256, Nat.mod_lt _ (by decide)⟩ : Fin 256)))

/-- Reading one word of a window kept in scalar memory. -/
theorem wp_word (c : Dev nD) {s : Shape} {e : EltTy} (M : Memref sig .tc .smem s e) (q : PosShare TreeShare) (X : s.Idx → Elt F e)
    (r : Rect s) (h1 : r.shape.numel = 1) (hp : e.packing = 1) {α : Type} (kk : Elt F e → Prog (TpuEff nD τ sig (Elt F) Λ₀ .tc) α)
    (Q : α → sProp (MT nD τ sig Unit (Elt F) ℕ (Pipeline.UD sig nD τ) ℕ)) :
    iprop(owns (c : Thread nD τ) M q X ∗ (owns (c : Thread nD τ) M q X
        -∗ wp frame (wpE (defs₀ (F := F)) Variants.none (c : Thread nD τ) none) Set.univ (kk (X (r.emb (Shape.Idx.first (h1.symm ▸ Nat.one_pos))))) Q))
      ⊢ wp frame (wpE (defs₀ (F := F)) Variants.none (c : Thread nD τ) none) Set.univ ((smemLoad M r h1 hp).bind kk) Q := by
  unfold owns smemLoad smemLoadElt
  simp only [Prog.bind_op, Prog.bind_ret]
  iintro ⟨⟨%g, %hg, H⟩, Hk⟩
  iapply (wp_load_rect Variants.none (c : Thread nD τ) none Set.univ (m := M) (r := r) (S := M.view.set) (View.set_slice_subset M.view r)) $$ H
  iintro H
  have hx : ∀ x, (M.access r).read (Elt F) g x = X (r.emb x) := fun x => by rw [← hg]; rfl
  simp only [Prog.bind_ret]
  rw [hx]
  iapply Hk
  iexists g; isplitr; · ipureintro; exact hg
  iexact H

/-- The counter a slice of the two names. -/
theorem sem_slice (s : Fin 2) (o : Fin 1 → ℕ) (e : o = ![s.val]) (h : ∀ a, o a + S1.size a ≤ S2.size a) :
    ((cc0_scratch2.slice (Rect.unit (s := S2) o S1.size h)).squeeze S_ squeezes_S1_S_).sem = cel s := by
  subst e
  revert s; decide +kernel

/-- Where in an index block row `k`'s word is. -/
theorem word_at (o : Fin 3 → ℕ) (k : ℕ) (hk : k < 256) (e : o = ![0, 0, k]) (h : ∀ a, o a + S1x1x1.size a ≤ S1x1x256.size a)
    (x : (Rect.unit (s := S1x1x256) o S1x1x1.size h).shape.Idx) :
    (Rect.unit (s := S1x1x256) o S1x1x1.size h).emb x = ix3 (0 : Fin 1) (0 : Fin 1) (⟨k % 256, Nat.mod_lt _ (by decide)⟩ : Fin 256) := by
  subst e
  funext a; apply Fin.ext; fin_cases a
  · show 0 + 1 * (x 0).val = 0
    have : (x 0).val < 1 := (x 0).isLt
    omega
  · show 0 + 1 * (x 1).val = 0
    have : (x 1).val < 1 := (x 1).isLt
    omega
  · show k + 1 * (x 2).val = k % 256
    have : (x 2).val < 1 := (x 2).isLt
    omega

/-- One trip of either loop: the row's number is read, the number found in range, the copy started. -/
theorem wp_trip (c : Dev nD) (h : HBuf F) (s : Fin 2) (tk : ℕ → ℕ) (M : Memref sig .tc .smem S1x1x256 .i32) (q : PosShare TreeShare)
    (X : S1x1x256.Idx → BitVec 32) (hX : ∀ k, k < 256 → rowNo X k = tk k) (hlt : ∀ k, tk k < 17408) (k : ℕ) (hk : k < 256)
    (o3 : Fin 3 → ℕ) (e3 : o3 = ![0, 0, k]) (h3 : ∀ a, o3 a + S1x1x1.size a ≤ S1x1x256.size a)
    (h1 : (Rect.unit (s := S1x1x256) o3 S1x1x1.size h3).shape.numel = 1) (hp : EltTy.packing .i32 = 1)
    (C : BitVec 32 → Prop) (dC : ∀ v, Decidable (C v)) (o5 : BitVec 32 → Fin 3 → ℕ) (e5 : ∀ v, o5 v = ![v.toNat, 0, 0])
    (hC : ∀ v, (∀ a, o5 v a + S1x16x128.size a ≤ S17408x16x128.size a) → C v)
    (h5 : ∀ v, C v → ∀ a, o5 v a + S1x16x128.size a ≤ S17408x16x128.size a)
    (o4 : Fin 2 → ℕ) (e4 : o4 = ![(s.val * 256 + k) * 16, 0]) (h4 : ∀ a, o4 a + S16x128.size a ≤ S8192x128.size a)
    (sm : DmaSem sig) (es : sm = cel s)
    (p1 : ∀ v (hv : C v), ((hM.slice (Rect.unit (s := S17408x16x128) (o5 v) S1x16x128.size (h5 v hv)) (fun _ => rfl)).squeeze S16x128 squeezes_S1x16x128_S16x128).view.WordExact)
    (p2 : (xM.slice (Rect.unit (s := S8192x128) o4 S16x128.size h4) (fun _ => rfl)).view.WordExact)
    (p3 : ∀ v (hv : C v), DmaTarget.Typed (nD := nD) .hbm (SemLoc.dma sm) (.here (p := (.tc : Proc τ)) (xM.slice (Rect.unit (s := S8192x128) o4 S16x128.size h4) (fun _ => rfl))))
    (Q : Unit → sProp (MT nD τ sig Unit (Elt F) ℕ (Pipeline.UD sig nD τ) ℕ)) :
    iprop(owns (c : Thread nD τ) M q X ∗ ready c h s ⟨k, hk⟩ ∗ copies c h s tk k
        ∗ (iprop(owns (c : Thread nD τ) M q X ∗ copies c h s tk (k + 1) ∗ readRest c h s tk k) -∗ Q ⟨⟩))
      ⊢ wp frame (wpE (defs₀ (F := F)) Variants.none (c : Thread nD τ) none) Set.univ
          ((smemLoad (nD := nD) (τ := τ) (Val := Elt F) (Λ := Λ₀) (p := .tc) M (Rect.unit (s := S1x1x256) o3 S1x1x1.size h3) h1 hp).bind fun v =>
            .op (TpuEff.assume (C v) (dC v)) fun hv =>
              .op (.enqueueDma ((hM.slice (Rect.unit (s := S17408x16x128) (o5 v) S1x16x128.size (h5 v hv.down)) (fun _ => rfl)).squeeze S16x128 squeezes_S1x16x128_S16x128)
                (.here (xM.slice (Rect.unit (s := S8192x128) o4 S16x128.size h4) (fun _ => rfl))) (.dma sm) (p1 v hv.down) p2 (p3 v hv.down)) fun _ => .ret ⟨⟩) Q := by
  iintro ⟨HM, HR, HB, Hk⟩
  iapply (wp_word (F := F) c M q X _ h1 hp _ Q)
  isplitl [HM]; · iexact HM
  iintro HM
  rw [word_at o3 k hk e3 h3]
  have hw : BitVec.toNat (X (ix3 (0 : Fin 1) (0 : Fin 1) (⟨k % 256, Nat.mod_lt _ (by decide)⟩ : Fin 256))) = tk k := hX k hk
  generalize X (ix3 (0 : Fin 1) (0 : Fin 1) (⟨k % 256, Nat.mod_lt _ (by decide)⟩ : Fin 256)) = v at hw ⊢
  have hv : C v := hC v (by
    rw [e5]; intro a
    have := hlt k
    fin_cases a
    · show v.toNat + 1 ≤ 17408; omega
    · show 0 + 16 ≤ 16; omega
    · show 0 + 128 ≤ 128; omega)
  rw [wp_assume_of _ _ _ _ (d := dC v) hv]
  iapply (wp_copy (F := F) c h s ⟨k, hk⟩ tk o4 e4 h4 (o5 v) (by rw [e5, hw]) (h5 v hv) sm es (p1 v hv) p2 (p3 v hv) _ Q) $$ [HR HB]
  · isplitl [HR]; · iexact HR
    iexact HB
  iintro ⟨HB, Hr⟩
  rw [wp_ret]
  imodintro
  iapply Hk
  isplitl [HM]; · iexact HM
  isplitl [HB]; · iexact HB
  iexact Hr

end Cert.ExpertsIdeal.Hand
-- ==== Proof.ExpertsIdeal.Loops.lean ====
/- UNTRUSTED — The experts call: the two loops of 256 row copies, and the wait for a slot.

   A loop turns a free slot (its counter at zero, its rows and read shares at hand) into a slot in flight; the wait turns that
   into a slot that holds the tile's rows, with every read share back. -/
module

public import proofs.«01_k».proof.Proof.ExpertsIdeal.Issue
public import proofs.«01_k».proof.Proof.ExpertsIdeal.Words

@[expose] public section

noncomputable section

namespace Cert.ExpertsIdeal.Hand

open Cert.ExpertsIdeal Cert.ExpertsIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

/-- Two families side by side are one family of pairs. -/
theorem pairs (P Q : Fin 256 → sProp (MT nD τ sig Unit (Elt F) ℕ (Pipeline.UD sig nD τ) ℕ)) :
    iprop(bigSep (Finset.univ : Finset (Fin 256)) P ∗ bigSep (Finset.univ : Finset (Fin 256)) Q)
      = bigSep (Finset.univ : Finset (Fin 256)) (fun k => iprop(P k ∗ Q k)) := (BI.bigSep_sep _ _ _).symm

/-- A slot at rest: its counter at zero, its rows at anything, its read shares. -/
def free (c : Dev nD) (h : HBuf F) (s : Fin 2) : sProp (MT nD τ sig Unit (Elt F) ℕ (Pipeline.UD sig nD τ) ℕ) :=
  iprop(semVal ((c : Thread nD τ), SemLoc.dma (cel s)) 0 ∗ bigSep (Finset.univ : Finset (Fin 256)) (ready c h s))

/-- A slot in flight: its 256 copies started, and what is left of each read share. -/
def flight (c : Dev nD) (h : HBuf F) (s : Fin 2) (tk : ℕ → ℕ) : sProp (MT nD τ sig Unit (Elt F) ℕ (Pipeline.UD sig nD τ) ℕ) :=
  iprop(copies c h s tk 256 ∗ bigSep (Finset.univ : Finset (Fin 256)) (fun k => readRest c h s tk k.val))

/-- A slot that has landed: the counter at zero, the tile's rows in place, the read shares. -/
def landedSlot (c : Dev nD) (h : HBuf F) (s : Fin 2) (tk : ℕ → ℕ) : sProp (MT nD τ sig Unit (Elt F) ℕ (Pipeline.UD sig nD τ) ℕ) :=
  iprop(semVal ((c : Thread nD τ), SemLoc.dma (cel s)) 0 ∗ (xLoc c ↦[xSlot s]{fullShare} rowsOf h tk)
    ∗ bigSep (Finset.univ : Finset (Fin 256)) (fun k => readTok c h s k.val))

/-- What a loop holds before trip `k`. -/
def inv (c : Dev nD) (h : HBuf F) (s : Fin 2) (tk : ℕ → ℕ) (M : Memref sig .tc .smem S1x1x256 .i32) (q : PosShare TreeShare)
    (X : S1x1x256.Idx → BitVec 32) (k : ℕ) : sProp (MT nD τ sig Unit (Elt F) ℕ (Pipeline.UD sig nD τ) ℕ) :=
  iprop(owns (c : Thread nD τ) M q X ∗ copies c h s tk k ∗ bigSep (Ring.rangeSet 256 k 256) (ready c h s)
    ∗ bigSep (Ring.rangeSet 256 0 k) (fun j => readRest c h s tk j.val))

theorem inv_take (c : Dev nD) (h : HBuf F) (s : Fin 2) (tk : ℕ → ℕ) (M : Memref sig .tc .smem S1x1x256 .i32) (q : PosShare TreeShare)
    (X : S1x1x256.Idx → BitVec 32) (k : ℕ) (hk : k < 256) :
    inv c h s tk M q X k ⊢ iprop(owns (c : Thread nD τ) M q X ∗ ready c h s ⟨k, hk⟩ ∗ copies c h s tk k
      ∗ (iprop(owns (c : Thread nD τ) M q X ∗ copies c h s tk (k + 1) ∗ readRest c h s tk k) -∗ inv c h s tk M q X (k + 1))) := by
  unfold inv
  rw [Ring.bigSep_rangeSet_head hk hk, Ring.bigSep_rangeSet_last (lo := 0) (hi := k + 1) (by omega) (by omega)]
  iintro ⟨HM, HB, ⟨Hr, Hrs⟩, Hd⟩
  isplitl [HM]; · iexact HM
  isplitl [Hr]; · iexact Hr
  isplitl [HB]; · iexact HB
  iintro ⟨HM, HB, Hq⟩
  isplitl [HM]; · iexact HM
  isplitl [HB]; · iexact HB
  isplitl [Hrs]; · iexact Hrs
  isplitl [Hq]; · iexact Hq
  iexact Hd

theorem inv_start (c : Dev nD) (h : HBuf F) (s : Fin 2) (tk : ℕ → ℕ) (M : Memref sig .tc .smem S1x1x256 .i32) (q : PosShare TreeShare)
    (X : S1x1x256.Idx → BitVec 32) :
    iprop(owns (c : Thread nD τ) M q X ∗ free c h s) ⊢ |={Set.univ}=> inv c h s tk M q X 0 := by
  unfold inv free
  rw [Ring.bigSep_rangeSet_empty (lo := 0) (hi := 0) (le_refl _), Ring.rangeSet_univ]
  iintro ⟨HM, Hs, Hr⟩
  imod (Transfers.batch_alloc' (Lvl := ℕ) (countersEmb (U := Pipeline.UD sig nD τ)) (c : Thread nD τ) () 256 (deliv c h s tk)
    (sm := .dma (cel s)) (E := Set.univ)) $$ Hs with HB
  imodintro
  isplitl [HM]; · iexact HM
  isplitl [HB]; · iexact HB
  isplitl [Hr]; · iexact Hr
  iempintro

theorem inv_end (c : Dev nD) (h : HBuf F) (s : Fin 2) (tk : ℕ → ℕ) (M : Memref sig .tc .smem S1x1x256 .i32) (q : PosShare TreeShare)
    (X : S1x1x256.Idx → BitVec 32) : inv c h s tk M q X 256 ⊢ iprop(owns (c : Thread nD τ) M q X ∗ flight c h s tk) := by
  unfold inv flight
  rw [Ring.rangeSet_univ]
  iintro ⟨HM, HB, -, Hd⟩
  isplitl [HM]; · iexact HM
  isplitl [HB]; · iexact HB
  iexact Hd

/-- What the 256 copies delivered is the slot's rows and the read shares. -/
theorem collect (c : Dev nD) (h : HBuf F) (s : Fin 2) (tk : ℕ → ℕ) :
    iprop(bigSep (Finset.univ : Finset (Fin 256)) (deliv c h s tk) ∗ bigSep (Finset.univ : Finset (Fin 256)) (fun k => readRest c h s tk k.val))
      ⊢ iprop((xLoc c ↦[xSlot s]{fullShare} rowsOf h tk) ∗ bigSep (Finset.univ : Finset (Fin 256)) (fun k => readTok c h s k.val)) := by
  rw [← xRow_cover s, pointsTo_biUnion _ _ (fun k _ k' _ hne => xRow_disjoint s k k' hne)]
  rw [pairs, pairs]
  refine BI.bigSep_mono fun k _ => ?_
  unfold deliv readRest readTok
  show iprop(((xLoc c ↦[xRow s k]{fullShare} rowsOf h tk) ∗ hLoc c ↦[hRow (tk k.val)]{tokShare s k.val} h) ∗ hLoc c ↦[Finset.univ \ hRow (tk k.val)]{tokShare s k.val} h)
    ⊢ iprop((xLoc c ↦[xRow s k]{fullShare} rowsOf h tk) ∗ hLoc c ↦{tokShare s k.val} h)
  iintro ⟨⟨Hx, Ha⟩, Hb⟩
  isplitl [Hx]; · iexact Hx
  ihave H := (pointsTo_split_subset (ℓ := hLoc c) (I := hRow (tk k.val)) (S := Finset.univ) (Finset.subset_univ _)).2 $$ [Ha Hb]
  · isplitl [Ha]; · iexact Ha
    iexact Hb
  iexact H

/-- The wait for a slot. -/
theorem wp_slot (c : Dev nD) (h : HBuf F) (s : Fin 2) (tk : ℕ → ℕ) (W : Waits sig Unit)
    (o1 o2 : Fin 2 → ℕ) (h1 : ∀ a, o1 a + S4096x128.size a ≤ S8192x128.size a) (h2 : ∀ a, o2 a + S4096x128.size a ≤ S8192x128.size a)
    (sm : DmaSem sig) (es : sm = cel s)
    (p1 : (xM.slice (Rect.unit (s := S8192x128) o1 S4096x128.size h1) (fun _ => rfl)).view.WordExact)
    (p2 : (xM.slice (Rect.unit (s := S8192x128) o2 S4096x128.size h2) (fun _ => rfl)).view.WordExact)
    {α : Type} (kk : PUnit → Prog (TpuEff nD τ sig (Elt F) Λ₀ .tc) α) (Q : α → sProp (MT nD τ sig Unit (Elt F) ℕ (Pipeline.UD sig nD τ) ℕ)) :
    iprop(flight c h s tk ∗ owes (c : Thread nD τ) 0 W)
      ⊢ iprop((iprop(landedSlot c h s tk ∗ (∃ W', owes (c : Thread nD τ) 0 W')) -∗ wp frame (wpE (defs₀ (F := F)) Variants.none (c : Thread nD τ) none) Set.univ (kk ⟨⟩) Q)
          -∗ wp frame (wpE (defs₀ (F := F)) Variants.none (c : Thread nD τ) none) Set.univ
              (.op (.waitDma2 sm (xM.slice (Rect.unit (s := S8192x128) o1 S4096x128.size h1) (fun _ => rfl))
                (xM.slice (Rect.unit (s := S8192x128) o2 S4096x128.size h2) (fun _ => rfl)) p1 p2) kk) Q) := by
  subst es
  unfold flight landedSlot
  iintro ⟨⟨HB, Hr⟩, HW⟩ Hk
  iapply (Transfers.wp_waitBatchAll (countersEmb (U := Pipeline.UD sig nD τ)) Variants.none (c : Thread nD τ) none
    (sem := cel s) (srcw := (xM.slice (Rect.unit (s := S8192x128) o1 S4096x128.size h1) (fun _ => rfl)))
    (dstw := (xM.slice (Rect.unit (s := S8192x128) o2 S4096x128.size h2) (fun _ => rfl)))
    (n := 256) (D := deliv c h s tk) (u := 0) (W := W) () slot_credit (by decide : 0 < 256) (by decide)) $$ [HB HW]
  · isplitl [HB]; · iexact HB
    iexact HW
  iintro ⟨HD, Hs, HW⟩
  iapply Hk
  isplitr [HW]
  · isplitl [Hs]; · iexact Hs
    iapply (collect c h s tk)
    isplitl [HD]; · iexact HD
    iexact Hr
  iexists _; iexact HW

/-- A landed slot is at rest again once its rows are read. -/
theorem rest_of_landed (c : Dev nD) (h : HBuf F) (s : Fin 2) (tk : ℕ → ℕ) : landedSlot c h s tk ⊢ free c h s := by
  unfold landedSlot free ready rowAny
  rw [← xRow_cover s, pointsTo_biUnion _ _ (fun k _ k' _ hne => xRow_disjoint s k k' hne)]
  iintro ⟨Hs, Hx, Hr⟩
  isplitl [Hs]; · iexact Hs
  iapply (show iprop(bigSep (Finset.univ : Finset (Fin 256)) (fun k => readTok c h s k.val) ∗ bigSep (Finset.univ : Finset (Fin 256)) (fun k => xLoc c ↦[xRow s k]{fullShare} rowsOf h tk))
      ⊢ bigSep (Finset.univ : Finset (Fin 256)) (fun k => iprop(readTok c h s k.val ∗ ∃ f, xLoc c ↦[xRow s k]{fullShare} f)) from by
    rw [pairs]
    refine BI.bigSep_mono fun k _ => ?_
    show iprop(readTok c h s k.val ∗ xLoc c ↦[xRow s k]{fullShare} rowsOf h tk) ⊢ iprop(readTok c h s k.val ∗ ∃ f, xLoc c ↦[xRow s k]{fullShare} f)
    iintro ⟨Ha, Hb⟩
    isplitl [Ha]; · iexact Ha
    iexists _; iexact Hb)
  isplitl [Hr]; · iexact Hr
  iexact Hx

/-- The copies of a tile, as a loop whose trips each do what `wp_trip` says. -/
theorem wp_loop (c : Dev nD) (h : HBuf F) (s : Fin 2) (tk : ℕ → ℕ) (M : Memref sig .tc .smem S1x1x256 .i32) (q : PosShare TreeShare)
    (X : S1x1x256.Idx → BitVec 32) (l : Scf.Loop 32) (hl : l.trips = 256) (hok : l.OK)
    (body : Fin l.trips → Unit → Prog (TpuEff nD τ sig (Elt F) Λ₀ .tc) Unit)
    (hbody : ∀ (k : Fin l.trips) (hk : k.val < 256) (Q : Unit → sProp (MT nD τ sig Unit (Elt F) ℕ (Pipeline.UD sig nD τ) ℕ)),
      iprop(owns (c : Thread nD τ) M q X ∗ ready c h s ⟨k.val, hk⟩ ∗ copies c h s tk k.val
        ∗ (iprop(owns (c : Thread nD τ) M q X ∗ copies c h s tk (k.val + 1) ∗ readRest c h s tk k.val) -∗ Q ⟨⟩))
      ⊢ wp frame (wpE (defs₀ (F := F)) Variants.none (c : Thread nD τ) none) Set.univ (body k ⟨⟩) Q)
    (Q : Unit → sProp (MT nD τ sig Unit (Elt F) ℕ (Pipeline.UD sig nD τ) ℕ)) :
    iprop(owns (c : Thread nD τ) M q X ∗ free c h s ∗ (iprop(owns (c : Thread nD τ) M q X ∗ flight c h s tk) -∗ Q ⟨⟩))
      ⊢ wp frame (wpE (defs₀ (F := F)) Variants.none (c : Thread nD τ) none) Set.univ (Scf.Loop.for l hok ⟨⟩ body) Q := by
  have hb : ∀ (k : Fin l.trips) (acc : Unit), inv c h s tk M q X k.val
      ⊢ wp frame (wpE (defs₀ (F := F)) Variants.none (c : Thread nD τ) none) Set.univ (body k acc) (fun _ => inv c h s tk M q X (k.val + 1)) := by
    intro k acc
    have hk : k.val < 256 := Nat.lt_of_lt_of_eq k.isLt hl
    exact (inv_take c h s tk M q X k.val hk).trans (hbody k hk (fun _ => inv c h s tk M q X (k.val + 1)))
  have hf := Scf.wp_for frame (wpE (defs₀ (F := F)) Variants.none (c : Thread nD τ) none) Set.univ l.lb l.ub l.st hok ⟨⟩ body
    (fun k _ => inv c h s tk M q X k) hb (Q := Q)
  have he : inv c h s tk M q X l.trips ⊢ iprop(owns (c : Thread nD τ) M q X ∗ flight c h s tk) := by
    rw [hl]; exact inv_end c h s tk M q X
  iintro ⟨HM, Hf, Hk⟩
  imod (inv_start c h s tk M q X) $$ [HM Hf] with HI
  · isplitl [HM]; · iexact HM
    iexact Hf
  iapply hf
  isplitl [HI]; · iexact HI
  iintro %acc HI
  iapply Hk
  iapply he
  iexact HI

abbrev wM : Memref sig .tc .vmem S1024x2048 .bf16 := Memref.whole cc0_scratch0

section
variable (c : Dev nD) (i : grid0.Coords)
  (a1 : Memref sig .tc .smem S304 .i32) (w1 : a1.IsWhole) (a2 : Memref sig .tc .smem S1 .i32) (w2 : a2.IsWhole)
  (a3 : Memref sig .tc .smem S1x1x256 .i32) (w3 : a3.IsWhole) (a4 : Memref sig .tc .smem S1x1x256 .i32) (w4 : a4.IsWhole) (w5 : hM.IsWhole)
  (a6 : Memref sig .tc .vmem S1x2048x512 .bf16) (w6 : a6.IsWhole) (a7 : Memref sig .tc .vmem S1x2048x512 .bf16) (w7 : a7.IsWhole)
  (a8 : Memref sig .tc .vmem S1x2048x512 .bf16) (w8 : a8.IsWhole) (a9 : Memref sig .tc .vmem S1x2048x512 .bf16) (w9 : a9.IsWhole)
  (a10 : Memref sig .tc .vmem S1x1x2048 .f32) (w10 : a10.IsWhole)
  (a11 : Memref sig .tc .vmem S1x1024x512 .f32) (w11 : a11.IsWhole) (a12 : Memref sig .tc .vmem S1x1024x512 .f32) (w12 : a12.IsWhole)
  (a13 : Memref sig .tc .vmem S1x1024x512 .f32) (w13 : a13.IsWhole) (a14 : Memref sig .tc .vmem S1x1024x512 .f32) (w14 : a14.IsWhole)
  (a15 : Memref sig .tc .vmem S1x1x2048 .f32) (w15 : a15.IsWhole) (a16 : Memref sig .tc .vmem S256x2048 .bf16) (w16 : a16.IsWhole)
  (w17 : wM.IsWhole) (w18 : xM.IsWhole)

/-- The first step's own copies, into slot 0. -/
theorem first_loop (h : HBuf F) (tk : ℕ → ℕ) (q : PosShare TreeShare) (X : S1x1x256.Idx → BitVec 32) (hX : ∀ k, k < 256 → rowNo X k = tk k)
    (hlt : ∀ k, tk k < 17408) (h1 : k0_cond1 i = 1#1) (Q : Unit → sProp (MT nD τ sig Unit (Elt F) ℕ (Pipeline.UD sig nD τ) ℕ)) :
    iprop(owns (c : Thread nD τ) a3 q X ∗ free c h 0 ∗ (iprop(owns (c : Thread nD τ) a3 q X ∗ flight c h 0 tk) -∗ Q ⟨⟩))
      ⊢ wp frame (wpE (defs₀ (F := F)) Variants.none (c : Thread nD τ) none) Set.univ
          (Scf.Loop.for k0_t1_loop (k0_t1_ok i h1) ⟨⟩ (k0_t1_body (F := F) i a1 w1 a2 w2 a3 w3 a4 w4 hM w5 a6 w6 a7 w7 a8 w8 a9 w9 a10 w10 a11 w11 a12 w12 a13 w13 a14 w14 a15 w15 a16 w16 wM w17 xM w18 cc0_scratch2 h1)) Q := by
  refine wp_loop c h 0 tk a3 q X k0_t1_loop trips1 _ _ (fun k hk Q => ?_) Q
  unfold k0_t1_body
  have HH := wp_trip c h 0 tk a3 q X hX hlt k.val hk (k0_off3 k) (off3_eq k) (k0_off3_inb i k h1) numel1_S1x1x1 rfl
    (k0_chk1 i) (k0_chk1.dec i) k0_off5 (fun _ => rfl) (fun v hv _ => hv) (fun v hv => k0_off5_inb i v hv h1)
    (k0_off4 k) (off4_eq k) (k0_off4_inb i k h1) _ (sem_slice 0 _ rfl inb_S2_S1_0) (fun v hv => (View.wordExact_bits rfl).reshape _ _) (View.wordExact_bits rfl) (fun v hv => ⟨Or.inl rfl, trivial⟩) Q
  exact HH

/-- The next tile's copies, into the other slot. -/
theorem next_loop (h : HBuf F) (s : Fin 2) (hs : s.val = 1 - (i 0).val % 2) (tk : ℕ → ℕ) (q : PosShare TreeShare) (X : S1x1x256.Idx → BitVec 32)
    (hX : ∀ k, k < 256 → rowNo X k = tk k) (hlt : ∀ k, tk k < 17408) (v0 : BitVec 32) (h3 : k0_cond3 i v0 = 1#1)
    (Q : Unit → sProp (MT nD τ sig Unit (Elt F) ℕ (Pipeline.UD sig nD τ) ℕ)) :
    iprop(owns (c : Thread nD τ) a4 q X ∗ free c h s ∗ (iprop(owns (c : Thread nD τ) a4 q X ∗ flight c h s tk) -∗ Q ⟨⟩))
      ⊢ wp frame (wpE (defs₀ (F := F)) Variants.none (c : Thread nD τ) none) Set.univ
          (Scf.Loop.for k0_t2_loop k0_t2_ok ⟨⟩ (k0_t2_body (F := F) i a1 w1 a2 w2 a3 w3 a4 w4 hM w5 a6 w6 a7 w7 a8 w8 a9 w9 a10 w10 a11 w11 a12 w12 a13 w13 a14 w14 a15 w15 a16 w16 wM w17 xM w18 cc0_scratch2 v0 h3)) Q := by
  refine wp_loop c h s tk a4 q X k0_t2_loop trips2 _ _ (fun k hk Q => ?_) Q
  unfold k0_t2_body
  have HH := wp_trip c h s tk a4 q X hX hlt k.val hk (k0_off6 k) (off6_eq k) (k0_off6_inb k) numel1_S1x1x1 rfl
    (k0_chk2 i v0) (k0_chk2.dec i v0) k0_off9 (fun _ => rfl) (fun v hv _ => hv) (fun v hv => k0_off9_inb i v0 v hv h3)
    (k0_off8 i k) (by rw [off8_eq, hs]) (k0_off8_inb i k) _ (sem_slice s _ (by rw [off7_eq, hs]) (k0_off7_inb i)) (fun v hv => (View.wordExact_bits rfl).reshape _ _) (View.wordExact_bits rfl) (fun v hv => ⟨Or.inl rfl, trivial⟩) Q
  exact HH

end

end Cert.ExpertsIdeal.Hand
-- ==== Proof.ExpertsIdeal.Segs.lean ====
/- UNTRUSTED — The experts call: one grid step's program, cut into its parts.

   A step reads three words (how many tiles there are, its tile's expert, the tile before's), then goes through six parts, each under
   a condition: the first step starts its own tile's copies; a new expert's down-projection is cast into the scratch; the next tile's
   copies are started and this tile's slot waited for; the tile is computed; the last step waits for the copies that the
   step started for no one; a step past the tiles writes zeros. Each part is stated with what follows it. -/
module

public import proofs.«01_k».proof.Proof.ExpertsIdeal.Loops

@[expose] public section

noncomputable section

namespace Cert.ExpertsIdeal.Hand

open Cert.ExpertsIdeal Cert.ExpertsIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]
section
variable (i : grid0.Coords)
  (a1 : Memref sig .tc .smem S304 .i32) (w1 : a1.IsWhole) (a2 : Memref sig .tc .smem S1 .i32) (w2 : a2.IsWhole)
  (a3 : Memref sig .tc .smem S1x1x256 .i32) (w3 : a3.IsWhole) (a4 : Memref sig .tc .smem S1x1x256 .i32) (w4 : a4.IsWhole) (w5 : hM.IsWhole)
  (a6 : Memref sig .tc .vmem S1x2048x512 .bf16) (w6 : a6.IsWhole) (a7 : Memref sig .tc .vmem S1x2048x512 .bf16) (w7 : a7.IsWhole)
  (a8 : Memref sig .tc .vmem S1x2048x512 .bf16) (w8 : a8.IsWhole) (a9 : Memref sig .tc .vmem S1x2048x512 .bf16) (w9 : a9.IsWhole)
  (a10 : Memref sig .tc .vmem S1x1x2048 .f32) (w10 : a10.IsWhole)
  (a11 : Memref sig .tc .vmem S1x1024x512 .f32) (w11 : a11.IsWhole) (a12 : Memref sig .tc .vmem S1x1024x512 .f32) (w12 : a12.IsWhole)
  (a13 : Memref sig .tc .vmem S1x1024x512 .f32) (w13 : a13.IsWhole) (a14 : Memref sig .tc .vmem S1x1024x512 .f32) (w14 : a14.IsWhole)
  (a15 : Memref sig .tc .vmem S1x1x2048 .f32) (w15 : a15.IsWhole) (a16 : Memref sig .tc .vmem S256x2048 .bf16) (w16 : a16.IsWhole)
  (w17 : wM.IsWhole) (w18 : xM.IsWhole)

/-- The first step's own copies. -/
def segA (J : Unit → Prog (TpuEff nD τ sig (Elt F) Λ₀ .tc) PUnit) : Prog (TpuEff nD τ sig (Elt F) Λ₀ .tc) PUnit :=
  if k0_h1 : k0_cond1 i = 1#1 then
    (Scf.Loop.for k0_t1_loop (k0_t1_ok i k0_h1) ⟨⟩ (k0_t1_body (F := F) i a1 w1 a2 w2 a3 w3 a4 w4 hM w5 a6 w6 a7 w7 a8 w8 a9 w9 a10 w10 a11 w11 a12 w12 a13 w13 a14 w14 a15 w15 a16 w16 wM w17 xM w18 cc0_scratch2 k0_h1)).bind fun _ => J ⟨⟩
  else J ⟨⟩

/-- A new expert's down-projection, cast part by part into the scratch. -/
def segB (b : BitVec 1) (J : Unit → Prog (TpuEff nD τ sig (Elt F) Λ₀ .tc) PUnit) : Prog (TpuEff nD τ sig (Elt F) Λ₀ .tc) PUnit :=
  if b = 1#1 then
    .op (.load a11 (Rect.unit (s := S1x1024x512) ![0, 0, 0] S1x1024x512.size inb_S1x1024x512_S1x1024x512_0_0_0).toLoadRect (View.loadsAt_vmem h_S1x1024x512)) fun v29 =>
    .op (.load wM (Rect.unit (s := S1024x2048) ![0, 0] S1024x512.size inb_S1024x2048_S1024x512_0_0).toLoadRect (View.loadsAt_vmem h_S1024x512)) fun _ =>
    .op (.store wM (Rect.unit (s := S1024x2048) ![0, 0] S1024x512.size inb_S1024x2048_S1024x512_0_0) (k0_pay1 v29) Finset.univ (View.stores_vmem h_S1024x512 (w17.storeExact_slice rfl _ packedbf16_S1024x2048_S1024x512_0_0) (fun _ => rfl)) (.inl rfl)) fun _ =>
    .op (.load a12 (Rect.unit (s := S1x1024x512) ![0, 0, 0] S1x1024x512.size inb_S1x1024x512_S1x1024x512_0_0_0).toLoadRect (View.loadsAt_vmem h_S1x1024x512)) fun v35 =>
    .op (.load wM (Rect.unit (s := S1024x2048) ![0, 512] S1024x512.size inb_S1024x2048_S1024x512_0_512).toLoadRect (View.loadsAt_vmem h_S1024x512)) fun _ =>
    .op (.store wM (Rect.unit (s := S1024x2048) ![0, 512] S1024x512.size inb_S1024x2048_S1024x512_0_512) (k0_pay2 v35) Finset.univ (View.stores_vmem h_S1024x512 (w17.storeExact_slice rfl _ packedbf16_S1024x2048_S1024x512_0_512) (fun _ => rfl)) (.inl rfl)) fun _ =>
    .op (.load a13 (Rect.unit (s := S1x1024x512) ![0, 0, 0] S1x1024x512.size inb_S1x1024x512_S1x1024x512_0_0_0).toLoadRect (View.loadsAt_vmem h_S1x1024x512)) fun v41 =>
    .op (.load wM (Rect.unit (s := S1024x2048) ![0, 1024] S1024x512.size inb_S1024x2048_S1024x512_0_1024).toLoadRect (View.loadsAt_vmem h_S1024x512)) fun _ =>
    .op (.store wM (Rect.unit (s := S1024x2048) ![0, 1024] S1024x512.size inb_S1024x2048_S1024x512_0_1024) (k0_pay3 v41) Finset.univ (View.stores_vmem h_S1024x512 (w17.storeExact_slice rfl _ packedbf16_S1024x2048_S1024x512_0_1024) (fun _ => rfl)) (.inl rfl)) fun _ =>
    .op (.load a14 (Rect.unit (s := S1x1024x512) ![0, 0, 0] S1x1024x512.size inb_S1x1024x512_S1x1024x512_0_0_0).toLoadRect (View.loadsAt_vmem h_S1x1024x512)) fun v47 =>
    .op (.load wM (Rect.unit (s := S1024x2048) ![0, 1536] S1024x512.size inb_S1024x2048_S1024x512_0_1536).toLoadRect (View.loadsAt_vmem h_S1024x512)) fun _ =>
    .op (.store wM (Rect.unit (s := S1024x2048) ![0, 1536] S1024x512.size inb_S1024x2048_S1024x512_0_1536) (k0_pay4 v47) Finset.univ (View.stores_vmem h_S1024x512 (w17.storeExact_slice rfl _ packedbf16_S1024x2048_S1024x512_0_1536) (fun _ => rfl)) (.inl rfl)) fun _ =>
    J ⟨⟩
  else J ⟨⟩

/-- The next tile's copies, and the wait for this tile's slot. -/
def segC (v0 : BitVec 32) (J : Unit → Prog (TpuEff nD τ sig (Elt F) Λ₀ .tc) PUnit) : Prog (TpuEff nD τ sig (Elt F) Λ₀ .tc) PUnit :=
  if k0_h3 : k0_cond3 i v0 = 1#1 then
    (Scf.Loop.for k0_t2_loop k0_t2_ok ⟨⟩ (k0_t2_body (F := F) i a1 w1 a2 w2 a3 w3 a4 w4 hM w5 a6 w6 a7 w7 a8 w8 a9 w9 a10 w10 a11 w11 a12 w12 a13 w13 a14 w14 a15 w15 a16 w16 wM w17 xM w18 cc0_scratch2 v0 k0_h3)).bind fun _ =>
    .op (.waitDma2 ((cc0_scratch2.slice (Rect.unit (s := S2) (k0_off10 i) S1.size (k0_off10_inb i))).squeeze S_ squeezes_S1_S_).sem
      (xM.slice (Rect.unit (s := S8192x128) (k0_off11 i) S4096x128.size (k0_off11_inb i)) (fun _ => rfl))
      (xM.slice (Rect.unit (s := S8192x128) (k0_off11 i) S4096x128.size (k0_off11_inb i)) (fun _ => rfl)) (View.wordExact_bits rfl) (View.wordExact_bits rfl)) fun _ =>
    J ⟨⟩
  else J ⟨⟩

/-- The tile. -/
def segD (v0 : BitVec 32) (J : Unit → Prog (TpuEff nD τ sig (Elt F) Λ₀ .tc) PUnit) : Prog (TpuEff nD τ sig (Elt F) Λ₀ .tc) PUnit :=
  if k0_h4 : k0_cond4 i v0 = 1#1 then
    .op (.load xM (⟨k0_off12 i 0#32, S256x128.size, ![16, 1], (k0_off12_inb i 0)⟩ : LoadRect S8192x128) (View.loadsAt_vmem h_S256x128)) fun x0 =>
    .op (.load xM (⟨k0_off12 i 1#32, S256x128.size, ![16, 1], (k0_off12_inb i 1)⟩ : LoadRect S8192x128) (View.loadsAt_vmem h_S256x128)) fun x1 =>
    .op (.load xM (⟨k0_off12 i 2#32, S256x128.size, ![16, 1], (k0_off12_inb i 2)⟩ : LoadRect S8192x128) (View.loadsAt_vmem h_S256x128)) fun x2 =>
    .op (.load xM (⟨k0_off12 i 3#32, S256x128.size, ![16, 1], (k0_off12_inb i 3)⟩ : LoadRect S8192x128) (View.loadsAt_vmem h_S256x128)) fun x3 =>
    .op (.load xM (⟨k0_off12 i 4#32, S256x128.size, ![16, 1], (k0_off12_inb i 4)⟩ : LoadRect S8192x128) (View.loadsAt_vmem h_S256x128)) fun x4 =>
    .op (.load xM (⟨k0_off12 i 5#32, S256x128.size, ![16, 1], (k0_off12_inb i 5)⟩ : LoadRect S8192x128) (View.loadsAt_vmem h_S256x128)) fun x5 =>
    .op (.load xM (⟨k0_off12 i 6#32, S256x128.size, ![16, 1], (k0_off12_inb i 6)⟩ : LoadRect S8192x128) (View.loadsAt_vmem h_S256x128)) fun x6 =>
    .op (.load xM (⟨k0_off12 i 7#32, S256x128.size, ![16, 1], (k0_off12_inb i 7)⟩ : LoadRect S8192x128) (View.loadsAt_vmem h_S256x128)) fun x7 =>
    .op (.load xM (⟨k0_off12 i 8#32, S256x128.size, ![16, 1], (k0_off12_inb i 8)⟩ : LoadRect S8192x128) (View.loadsAt_vmem h_S256x128)) fun x8 =>
    .op (.load xM (⟨k0_off12 i 9#32, S256x128.size, ![16, 1], (k0_off12_inb i 9)⟩ : LoadRect S8192x128) (View.loadsAt_vmem h_S256x128)) fun x9 =>
    .op (.load xM (⟨k0_off12 i 10#32, S256x128.size, ![16, 1], (k0_off12_inb i 10)⟩ : LoadRect S8192x128) (View.loadsAt_vmem h_S256x128)) fun x10 =>
    .op (.load xM (⟨k0_off12 i 11#32, S256x128.size, ![16, 1], (k0_off12_inb i 11)⟩ : LoadRect S8192x128) (View.loadsAt_vmem h_S256x128)) fun x11 =>
    .op (.load xM (⟨k0_off12 i 12#32, S256x128.size, ![16, 1], (k0_off12_inb i 12)⟩ : LoadRect S8192x128) (View.loadsAt_vmem h_S256x128)) fun x12 =>
    .op (.load xM (⟨k0_off12 i 13#32, S256x128.size, ![16, 1], (k0_off12_inb i 13)⟩ : LoadRect S8192x128) (View.loadsAt_vmem h_S256x128)) fun x13 =>
    .op (.load xM (⟨k0_off12 i 14#32, S256x128.size, ![16, 1], (k0_off12_inb i 14)⟩ : LoadRect S8192x128) (View.loadsAt_vmem h_S256x128)) fun x14 =>
    .op (.load xM (⟨k0_off12 i 15#32, S256x128.size, ![16, 1], (k0_off12_inb i 15)⟩ : LoadRect S8192x128) (View.loadsAt_vmem h_S256x128)) fun x15 =>
    .op (.load a6 (Rect.unit (s := S1x2048x512) ![0, 0, 0] S1x2048x512.size inb_S1x2048x512_S1x2048x512_0_0_0).toLoadRect (View.loadsAt_vmem h_S1x2048x512)) fun va6 =>
    .op (.load a7 (Rect.unit (s := S1x2048x512) ![0, 0, 0] S1x2048x512.size inb_S1x2048x512_S1x2048x512_0_0_0).toLoadRect (View.loadsAt_vmem h_S1x2048x512)) fun va7 =>
    .op (.load a8 (Rect.unit (s := S1x2048x512) ![0, 0, 0] S1x2048x512.size inb_S1x2048x512_S1x2048x512_0_0_0).toLoadRect (View.loadsAt_vmem h_S1x2048x512)) fun va8 =>
    .op (.load a9 (Rect.unit (s := S1x2048x512) ![0, 0, 0] S1x2048x512.size inb_S1x2048x512_S1x2048x512_0_0_0).toLoadRect (View.loadsAt_vmem h_S1x2048x512)) fun va9 =>
    .op (.load a10 (Rect.unit (s := S1x1x2048) ![0, 0, 0] S1x1x2048.size inb_S1x1x2048_S1x1x2048_0_0_0).toLoadRect (View.loadsAt_vmem h_S1x1x2048)) fun va10 =>
    .op (.load wM (Rect.unit (s := S1024x2048) ![0, 0] S1024x2048.size inb_S1024x2048_S1024x2048_0_0).toLoadRect (View.loadsAt_vmem h_S1024x2048)) fun v129 =>
    .op (.load a15 (Rect.unit (s := S1x1x2048) ![0, 0, 0] S1x1x2048.size inb_S1x1x2048_S1x1x2048_0_0_0).toLoadRect (View.loadsAt_vmem h_S1x1x2048)) fun v131 =>
    .op (.load a16 (Rect.unit (s := S256x2048) ![0, 0] S256x2048.size inb_S256x2048_S256x2048_0_0).toLoadRect (View.loadsAt_vmem h_S256x2048)) fun _ =>
    .op (.store a16 (Rect.unit (s := S256x2048) ![0, 0] S256x2048.size inb_S256x2048_S256x2048_0_0) (k0_pay5 (k0_pay7 x0 x1 x2 x3 x4 x5 x6 x7 x8 x9 x10 x11 x12 x13 x14 x15 va6 va7 va8 va9 va10) v129 v131) Finset.univ (View.stores_vmem h_S256x2048 (w16.storeExact_slice rfl _ packedbf16_S256x2048_S256x2048_0_0) (fun _ => rfl)) (.inl rfl)) fun _ =>
    J ⟨⟩
  else J ⟨⟩

/-- The last step's wait for the other slot. -/
def segE (b : BitVec 1) (J : Unit → Prog (TpuEff nD τ sig (Elt F) Λ₀ .tc) PUnit) : Prog (TpuEff nD τ sig (Elt F) Λ₀ .tc) PUnit :=
  if b = 1#1 then
    .op (.waitDma2 ((cc0_scratch2.slice (Rect.unit (s := S2) (k0_off13 i) S1.size (k0_off13_inb i))).squeeze S_ squeezes_S1_S_).sem
      (xM.slice (Rect.unit (s := S8192x128) (k0_off14 i) S4096x128.size (k0_off14_inb i)) (fun _ => rfl))
      (xM.slice (Rect.unit (s := S8192x128) (k0_off14 i) S4096x128.size (k0_off14_inb i)) (fun _ => rfl)) (View.wordExact_bits rfl) (View.wordExact_bits rfl)) fun _ =>
    J ⟨⟩
  else J ⟨⟩

/-- Zeros past the tiles. -/
def segF (v0 : BitVec 32) (J : Unit → Prog (TpuEff nD τ sig (Elt F) Λ₀ .tc) PUnit) : Prog (TpuEff nD τ sig (Elt F) Λ₀ .tc) PUnit :=
  if k0_h6 : k0_cond6 i v0 = 1#1 then
    .op (.load a16 (Rect.unit (s := S256x2048) ![0, 0] S256x2048.size inb_S256x2048_S256x2048_0_0).toLoadRect (View.loadsAt_vmem h_S256x2048)) fun _ =>
    .op (.store a16 (Rect.unit (s := S256x2048) ![0, 0] S256x2048.size inb_S256x2048_S256x2048_0_0) (k0_pay6 (F := F)) Finset.univ (View.stores_vmem h_S256x2048 (w16.storeExact_slice rfl _ packedbf16_S256x2048_S256x2048_0_0) (fun _ => rfl)) (.inl rfl)) fun _ =>
    J ⟨⟩
  else J ⟨⟩

/-- Whether the step's expert is new, as the kernel computes it. -/
abbrev newBit (v0 v5 v9 : BitVec 32) : BitVec 1 :=
  Scalar.cmpi .ne (Scalar.extui (Scalar.andi (Scalar.cmpi .slt (BitVec.ofNat 32 (i 0).val) v0)
    (Scalar.ori (Scalar.cmpi .eq (BitVec.ofNat 32 (i 0).val) 0#32) (Scalar.cmpi .ne v5 v9))) : BitVec 32) 0#32
/-- Whether the step is the last tile's, as the kernel computes it. -/
abbrev lastBit (v0 : BitVec 32) : BitVec 1 :=
  Scalar.cmpi .ne (Scalar.extui (Scalar.cmpi .eq (BitVec.ofNat 32 (i 0).val) (Scalar.subi v0 1#32)) : BitVec 32) 0#32

/-- The step, part by part. -/
def parts : Prog (TpuEff nD τ sig (Elt F) Λ₀ .tc) PUnit :=
  (smemLoad a2 (Rect.unit (s := S1) ![0] S1.size inb_S1_S1_0) numel1_S1 rfl).bind fun (v0 : BitVec 32) =>
  (smemLoad a1 (Rect.unit (s := S304) (k0_off1 i) S1.size (k0_off1_inb i)) numel1_S1 rfl).bind fun (v5 : BitVec 32) =>
  (smemLoad a1 (Rect.unit (s := S304) (k0_off2 i) S1.size (k0_off2_inb i)) numel1_S1 rfl).bind fun (v9 : BitVec 32) =>
  segA (F := F) i a1 w1 a2 w2 a3 w3 a4 w4 w5 a6 w6 a7 w7 a8 w8 a9 w9 a10 w10 a11 w11 a12 w12 a13 w13 a14 w14 a15 w15 a16 w16 w17 w18 fun _ => segB a11 a12 a13 a14 w17 (newBit i v0 v5 v9) fun _ => segC i a1 w1 a2 w2 a3 w3 a4 w4 w5 a6 w6 a7 w7 a8 w8 a9 w9 a10 w10 a11 w11 a12 w12 a13 w13 a14 w14 a15 w15 a16 w16 w17 w18 v0 fun _ => segD i a6 a7 a8 a9 a10 a15 a16 w16 v0 fun _ =>
  segE i (lastBit i v0) fun _ => segF i a16 w16 v0 fun _ => .ret ⟨⟩

set_option maxRecDepth 65536 in
set_option maxHeartbeats 4000000 in
theorem step_parts : cc0_experts (F := F) i a1 w1 a2 w2 a3 w3 a4 w4 hM w5 a6 w6 a7 w7 a8 w8 a9 w9 a10 w10 a11 w11 a12 w12 a13 w13 a14 w14 a15 w15 a16 w16 wM w17 xM w18 cc0_scratch2 = parts (F := F) i a1 w1 a2 w2 a3 w3 a4 w4 w5 a6 w6 a7 w7 a8 w8 a9 w9 a10 w10 a11 w11 a12 w12 a13 w13 a14 w14 a15 w15 a16 w16 w17 w18 := by
  rw [cc0_experts_eq_skeleton]
  unfold cc0_experts_skel
  rw [k0_part1_eq_skeleton, k0_part2_eq_skeleton]
  rfl

end

end Cert.ExpertsIdeal.Hand
-- ==== Proof.ExpertsIdeal.Steps.lean ====
/- UNTRUSTED — The experts call: reading and writing a window, and what each part of a step does to what is held. -/
module

public import proofs.«01_k».proof.Proof.ExpertsIdeal.Segs

@[expose] public section

noncomputable section

namespace Cert.ExpertsIdeal.Hand

open Cert.ExpertsIdeal Cert.ExpertsIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

/-- Reading a window whole. -/
theorem wp_ld (c : Dev nD) {s : Shape} {e : EltTy} (M : Memref sig .tc .vmem s e) (q : PosShare TreeShare) (X : s.Idx → Elt F e)
    (o : Fin s.rank → ℕ) (ho : ∀ a, o a = 0) (h : ∀ a, o a + s.size a ≤ s.size a) (hl : M.view.LoadsAt (Rect.unit (s := s) o s.size h).toLoadRect)
    {α : Type} (kk : (s.Idx → Elt F e) → Prog (TpuEff nD τ sig (Elt F) Λ₀ .tc) α) (Q : α → sProp (MT nD τ sig Unit (Elt F) ℕ (Pipeline.UD sig nD τ) ℕ)) :
    owns (c : Thread nD τ) M q X ⊢ iprop((owns (c : Thread nD τ) M q X
        -∗ wp frame (wpE (defs₀ (F := F)) Variants.none (c : Thread nD τ) none) Set.univ (kk X) Q)
      -∗ wp frame (wpE (defs₀ (F := F)) Variants.none (c : Thread nD τ) none) Set.univ (.op (.load M (Rect.unit (s := s) o s.size h).toLoadRect hl) kk) Q) := by
  unfold owns
  iintro ⟨%g, %hg, H⟩ Hk
  iapply (wp_load_rect Variants.none (c : Thread nD τ) none Set.univ (m := M) (r := Rect.unit (s := s) o s.size h) (S := M.view.set) (View.set_slice_subset M.view _)) $$ H
  iintro H
  have hx : (M.access (Rect.unit (s := s) o s.size h)).read (Elt F) g = X := by
    funext x
    rw [← hg]
    show M.view.read (Elt F) g ((Rect.unit (s := s) o s.size h).emb x) = M.view.read (Elt F) g x
    congr 1
    funext a; apply Fin.ext
    show o a + 1 * (x a).val = (x a).val
    rw [ho]; omega
  rw [hx]
  iapply Hk
  iexists g; isplitr; · ipureintro; exact hg
  iexact H

/-- Reading a rectangle of a window, at whatever it reads. -/
theorem wp_ldr (c : Dev nD) {s : Shape} {e : EltTy} (M : Memref sig .tc .vmem s e) (q : PosShare TreeShare) (X : s.Idx → Elt F e)
    (r : Rect s) (hl : M.view.LoadsAt r.toLoadRect)
    {α : Type} (kk : (r.shape.Idx → Elt F e) → Prog (TpuEff nD τ sig (Elt F) Λ₀ .tc) α) (Q : α → sProp (MT nD τ sig Unit (Elt F) ℕ (Pipeline.UD sig nD τ) ℕ)) :
    owns (c : Thread nD τ) M q X ⊢ iprop((owns (c : Thread nD τ) M q X
        -∗ wp frame (wpE (defs₀ (F := F)) Variants.none (c : Thread nD τ) none) Set.univ (kk (fun x => X (r.emb x))) Q)
      -∗ wp frame (wpE (defs₀ (F := F)) Variants.none (c : Thread nD τ) none) Set.univ (.op (.load M r.toLoadRect hl) kk) Q) := by
  unfold owns
  iintro ⟨%g, %hg, H⟩ Hk
  iapply (wp_load_rect Variants.none (c : Thread nD τ) none Set.univ (m := M) (r := r) (S := M.view.set) (View.set_slice_subset M.view _)) $$ H
  iintro H
  have hx : (M.access r).read (Elt F) g = fun x => X (r.emb x) := by
    rw [← hg]; rfl
  rw [hx]
  iapply Hk
  iexists g; isplitr; · ipureintro; exact hg
  iexact H

/-- Writing a rectangle of a window. -/
theorem wp_st (c : Dev nD) {s : Shape} {e : EltTy} (M : Memref sig .tc .vmem s e) (X : s.Idx → Elt F e)
    (r : Rect s) (w : r.shape.Idx → Elt F e) (hx : (M.access r).Stores Finset.univ) (hm : Finset.univ = (Finset.univ : Finset r.shape.Idx) ∨ ∀ a, r.stride a = 1)
    {α : Type} (kk : PUnit → Prog (TpuEff nD τ sig (Elt F) Λ₀ .tc) α) (Q : α → sProp (MT nD τ sig Unit (Elt F) ℕ (Pipeline.UD sig nD τ) ℕ)) :
    owns (c : Thread nD τ) M fullShare X ⊢ iprop((∀ X', ⌜(∀ x, X' (r.emb x) = w x) ∧ ∀ y, y ∉ r.set → X' y = X y⌝ -∗ owns (c : Thread nD τ) M fullShare X'
        -∗ wp frame (wpE (defs₀ (F := F)) Variants.none (c : Thread nD τ) none) Set.univ (kk ⟨⟩) Q)
      -∗ wp frame (wpE (defs₀ (F := F)) Variants.none (c : Thread nD τ) none) Set.univ (.op (.store M r w Finset.univ hx hm) kk) Q) := by
  unfold owns
  iintro ⟨%g, %hg, H⟩ Hk
  iapply (wp_store Variants.none (c : Thread nD τ) none Set.univ (m := M) (r := r) (w := w) (Mk := Finset.univ) (S := M.view.set) (View.set_slice_subset M.view _)) $$ H
  iintro H
  iapply Hk $$ %(M.view.read (Elt F) ((M.access r).write (Elt F) g w Finset.univ))
  · ipureintro
    constructor
    · intro x
      exact congrFun (View.read_write_univ (v := M.access r) g w) x
    · intro y hy
      rw [← hg, View.read_apply, View.read_apply, View.write_of_not_mem]
      intro hm
      have : M.view.emb y ∈ (r.set).map M.view.emb := by rw [← View.set_slice]; exact hm
      rw [Finset.mem_map'] at this
      exact hy this
  · iexists _; isplitr; swap; · iexact H
    ipureintro; rfl

/-- A down-projection's four column parts, each cast. -/
def dcast (X11 X12 X13 X14 : S1x1024x512.Idx → Elt F .f32) : S1024x2048.Idx → Elt F .bf16 := fun y =>
  if (y 1).val / 512 = 0 then k0_pay1 X11 (ix2 (⟨(y 0).val, (y 0).isLt⟩ : Fin 1024) (⟨(y 1).val % 512, Nat.mod_lt _ (by decide)⟩ : Fin 512))
  else if (y 1).val / 512 = 1 then k0_pay2 X12 (ix2 (⟨(y 0).val, (y 0).isLt⟩ : Fin 1024) (⟨(y 1).val % 512, Nat.mod_lt _ (by decide)⟩ : Fin 512))
  else if (y 1).val / 512 = 2 then k0_pay3 X13 (ix2 (⟨(y 0).val, (y 0).isLt⟩ : Fin 1024) (⟨(y 1).val % 512, Nat.mod_lt _ (by decide)⟩ : Fin 512))
  else k0_pay4 X14 (ix2 (⟨(y 0).val, (y 0).isLt⟩ : Fin 1024) (⟨(y 1).val % 512, Nat.mod_lt _ (by decide)⟩ : Fin 512))

/-- A written column part, element by element. -/
theorem part_in (o : ℕ) (X' X : S1024x2048.Idx → Elt F .bf16) (w : S1024x512.Idx → Elt F .bf16) (h : ∀ a, (![0, o * 512] : Fin 2 → ℕ) a + S1024x512.size a ≤ S1024x2048.size a)
    (H : (∀ x, X' ((Rect.unit (s := S1024x2048) ![0, o * 512] S1024x512.size h).emb x) = w x)
      ∧ ∀ y, y ∉ (Rect.unit (s := S1024x2048) ![0, o * 512] S1024x512.size h).set → X' y = X y) (y : S1024x2048.Idx) :
    X' y = if (y 1).val / 512 = o then w (ix2 (⟨(y 0).val, (y 0).isLt⟩ : Fin 1024) (⟨(y 1).val % 512, Nat.mod_lt _ (by decide)⟩ : Fin 512)) else X y := by
  have h0 : (y 0).val < 1024 := (y 0).isLt
  have h1 : (y 1).val < 2048 := (y 1).isLt
  split
  · rename_i hy
    rw [← H.1]
    congr 1
    funext a; apply Fin.ext; fin_cases a
    · show (y 0).val = 0 + 1 * (y 0).val; omega
    · show (y 1).val = o * 512 + 1 * ((y 1).val % 512); omega
  · rename_i hy
    refine H.2 y fun hm => hy ?_
    rw [Rect.mem_set_unit] at hm
    have : o * 512 ≤ (y 1).val ∧ (y 1).val < o * 512 + 512 := hm 1
    omega

/-- A new expert's step: the scratch holds the cast down-projection. -/
theorem run_segB (c : Dev nD) (a11 a12 a13 a14 : Memref sig .tc .vmem S1x1024x512 .f32) (w17 : wM.IsWhole)
    (q11 q12 q13 q14 : PosShare TreeShare) (X11 X12 X13 X14 : S1x1024x512.Idx → Elt F .f32) (Y : S1024x2048.Idx → Elt F .bf16)
    (b : BitVec 1) (hb : b = 1#1) (J : Unit → Prog (TpuEff nD τ sig (Elt F) Λ₀ .tc) PUnit) (Q : PUnit → sProp (MT nD τ sig Unit (Elt F) ℕ (Pipeline.UD sig nD τ) ℕ)) :
    iprop(owns (c : Thread nD τ) a11 q11 X11 ∗ owns (c : Thread nD τ) a12 q12 X12 ∗ owns (c : Thread nD τ) a13 q13 X13 ∗ owns (c : Thread nD τ) a14 q14 X14
        ∗ owns (c : Thread nD τ) wM fullShare Y
        ∗ (iprop(owns (c : Thread nD τ) a11 q11 X11 ∗ owns (c : Thread nD τ) a12 q12 X12 ∗ owns (c : Thread nD τ) a13 q13 X13 ∗ owns (c : Thread nD τ) a14 q14 X14
            ∗ owns (c : Thread nD τ) wM fullShare (dcast X11 X12 X13 X14))
          -∗ wp frame (wpE (defs₀ (F := F)) Variants.none (c : Thread nD τ) none) Set.univ (J ⟨⟩) Q))
      ⊢ wp frame (wpE (defs₀ (F := F)) Variants.none (c : Thread nD τ) none) Set.univ (segB a11 a12 a13 a14 w17 b J) Q := by
  unfold segB
  rw [if_pos hb]
  iintro ⟨H11, H12, H13, H14, HY, Hk⟩
  have ho : ∀ a, (![0, 0, 0] : Fin 3 → ℕ) a = 0 := by decide
  iapply (wp_ld c a11 q11 X11 _ ho _ _ _ Q) $$ H11
  iintro H11
  iapply (wp_ldr c wM fullShare Y _ _ _ Q) $$ HY
  iintro HY
  iapply (wp_st c wM Y _ _ _ _ _ Q) $$ HY
  iintro %Y1 %e1 HY
  iapply (wp_ld c a12 q12 X12 _ ho _ _ _ Q) $$ H12
  iintro H12
  iapply (wp_ldr c wM fullShare Y1 _ _ _ Q) $$ HY
  iintro HY
  iapply (wp_st c wM Y1 _ _ _ _ _ Q) $$ HY
  iintro %Y2 %e2 HY
  iapply (wp_ld c a13 q13 X13 _ ho _ _ _ Q) $$ H13
  iintro H13
  iapply (wp_ldr c wM fullShare Y2 _ _ _ Q) $$ HY
  iintro HY
  iapply (wp_st c wM Y2 _ _ _ _ _ Q) $$ HY
  iintro %Y3 %e3 HY
  iapply (wp_ld c a14 q14 X14 _ ho _ _ _ Q) $$ H14
  iintro H14
  iapply (wp_ldr c wM fullShare Y3 _ _ _ Q) $$ HY
  iintro HY
  iapply (wp_st c wM Y3 _ _ _ _ _ Q) $$ HY
  iintro %Y4 %e4 HY
  have hY : Y4 = dcast X11 X12 X13 X14 := by
    funext y
    rw [part_in 3 Y4 Y3 _ _ e4, part_in 2 Y3 Y2 _ _ e3, part_in 1 Y2 Y1 _ _ e2, part_in 0 Y1 Y _ _ e1]
    have h1 : (y 1).val < 2048 := (y 1).isLt
    have h4 : (y 1).val / 512 < 4 := by omega
    unfold dcast
    generalize (y 1).val / 512 = n at h4 ⊢
    interval_cases n <;> rfl
  subst hY
  iapply Hk
  isplitl [H11]; · iexact H11
  isplitl [H12]; · iexact H12
  isplitl [H13]; · iexact H13
  isplitl [H14]; · iexact H14
  iexact HY

end Cert.ExpertsIdeal.Hand
-- ==== Proof.ExpertsIdeal.Segments.lean ====
/- UNTRUSTED — The experts call: the remaining parts of a step: the copies, the tile, the zeros. -/
module

public import proofs.«01_k».proof.Proof.ExpertsIdeal.Steps

@[expose] public section

noncomputable section

namespace Cert.ExpertsIdeal.Hand

open Cert.ExpertsIdeal Cert.ExpertsIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

section
variable (c : Dev nD) (i : grid0.Coords)
  (a1 : Memref sig .tc .smem S304 .i32) (w1 : a1.IsWhole) (a2 : Memref sig .tc .smem S1 .i32) (w2 : a2.IsWhole)
  (a3 : Memref sig .tc .smem S1x1x256 .i32) (w3 : a3.IsWhole) (a4 : Memref sig .tc .smem S1x1x256 .i32) (w4 : a4.IsWhole) (w5 : hM.IsWhole)
  (a6 : Memref sig .tc .vmem S1x2048x512 .bf16) (w6 : a6.IsWhole) (a7 : Memref sig .tc .vmem S1x2048x512 .bf16) (w7 : a7.IsWhole)
  (a8 : Memref sig .tc .vmem S1x2048x512 .bf16) (w8 : a8.IsWhole) (a9 : Memref sig .tc .vmem S1x2048x512 .bf16) (w9 : a9.IsWhole)
  (a10 : Memref sig .tc .vmem S1x1x2048 .f32) (w10 : a10.IsWhole)
  (a11 : Memref sig .tc .vmem S1x1024x512 .f32) (w11 : a11.IsWhole) (a12 : Memref sig .tc .vmem S1x1024x512 .f32) (w12 : a12.IsWhole)
  (a13 : Memref sig .tc .vmem S1x1024x512 .f32) (w13 : a13.IsWhole) (a14 : Memref sig .tc .vmem S1x1024x512 .f32) (w14 : a14.IsWhole)
  (a15 : Memref sig .tc .vmem S1x1x2048 .f32) (w15 : a15.IsWhole) (a16 : Memref sig .tc .vmem S256x2048 .bf16) (w16 : a16.IsWhole)
  (w17 : wM.IsWhole) (w18 : xM.IsWhole)

theorem run_segA (h : HBuf F) (tk : ℕ → ℕ) (q : PosShare TreeShare) (X : S1x1x256.Idx → BitVec 32) (hX : ∀ k, k < 256 → rowNo X k = tk k)
    (hlt : ∀ k, tk k < 17408) (h1 : k0_cond1 i = 1#1) (J : Unit → Prog (TpuEff nD τ sig (Elt F) Λ₀ .tc) PUnit) (Q : PUnit → sProp (MT nD τ sig Unit (Elt F) ℕ (Pipeline.UD sig nD τ) ℕ)) :
    iprop(owns (c : Thread nD τ) a3 q X ∗ free c h 0 ∗ (iprop(owns (c : Thread nD τ) a3 q X ∗ flight c h 0 tk) -∗ wp frame (wpE (defs₀ (F := F)) Variants.none (c : Thread nD τ) none) Set.univ (J ⟨⟩) Q))
      ⊢ wp frame (wpE (defs₀ (F := F)) Variants.none (c : Thread nD τ) none) Set.univ (segA (F := F) i a1 w1 a2 w2 a3 w3 a4 w4 w5 a6 w6 a7 w7 a8 w8 a9 w9 a10 w10 a11 w11 a12 w12 a13 w13 a14 w14 a15 w15 a16 w16 w17 w18 J) Q := by
  unfold segA
  rw [dif_pos h1]
  exact (first_loop c i a1 w1 a2 w2 a3 w3 a4 w4 w5 a6 w6 a7 w7 a8 w8 a9 w9 a10 w10 a11 w11 a12 w12 a13 w13 a14 w14 a15 w15 a16 w16 w17 w18 h tk q X hX hlt h1
    (fun _ => wp frame (wpE (defs₀ (F := F)) Variants.none (c : Thread nD τ) none) Set.univ (J ⟨⟩) Q)).trans (Entails.of_eq (wp_bind ..).symm)

theorem run_segC (h : HBuf F) (s s' : Fin 2) (hs : s.val = (i 0).val % 2) (hs' : s'.val = 1 - (i 0).val % 2) (tk tk' : ℕ → ℕ) (q : PosShare TreeShare) (X : S1x1x256.Idx → BitVec 32)
    (hX : ∀ k, k < 256 → rowNo X k = tk' k) (hlt : ∀ k, tk' k < 17408) (v0 : BitVec 32) (h3 : k0_cond3 i v0 = 1#1) (W : Waits sig Unit) (J : Unit → Prog (TpuEff nD τ sig (Elt F) Λ₀ .tc) PUnit) (Q : PUnit → sProp (MT nD τ sig Unit (Elt F) ℕ (Pipeline.UD sig nD τ) ℕ)) :
    iprop(owns (c : Thread nD τ) a4 q X ∗ free c h s' ∗ flight c h s tk ∗ owes (c : Thread nD τ) 0 W
        ∗ (iprop(owns (c : Thread nD τ) a4 q X ∗ flight c h s' tk' ∗ landedSlot c h s tk ∗ (∃ W', owes (c : Thread nD τ) 0 W')) -∗ wp frame (wpE (defs₀ (F := F)) Variants.none (c : Thread nD τ) none) Set.univ (J ⟨⟩) Q))
      ⊢ wp frame (wpE (defs₀ (F := F)) Variants.none (c : Thread nD τ) none) Set.univ (segC (F := F) i a1 w1 a2 w2 a3 w3 a4 w4 w5 a6 w6 a7 w7 a8 w8 a9 w9 a10 w10 a11 w11 a12 w12 a13 w13 a14 w14 a15 w15 a16 w16 w17 w18 v0 J) Q := by
  unfold segC
  rw [dif_pos h3]
  have HL := next_loop c i a1 w1 a2 w2 a3 w3 a4 w4 w5 a6 w6 a7 w7 a8 w8 a9 w9 a10 w10 a11 w11 a12 w12 a13 w13 a14 w14 a15 w15 a16 w16 w17 w18 h s' hs' tk' q X hX hlt v0 h3
  have e10 : k0_off10 i = ![s.val] := by rw [off10_eq, hs]
  have HW := fun Q => wp_slot (F := F) (α := PUnit) c h s tk W (k0_off11 i) (k0_off11 i) (k0_off11_inb i) (k0_off11_inb i) _ (sem_slice s _ e10 (k0_off10_inb i))
    (View.wordExact_bits rfl) (View.wordExact_bits rfl) (fun _ => J ⟨⟩) Q
  refine BIBase.Entails.trans ?_ (Entails.of_eq (wp_bind ..).symm)
  iintro ⟨H4, Hf, Hg, HO, Hk⟩
  iapply (HL _)
  isplitl [H4]; · iexact H4
  isplitl [Hf]; · iexact Hf
  iintro ⟨H4, Hf⟩
  iapply (HW Q) $$ [Hg HO]
  · isplitl [Hg]; · iexact Hg
    iexact HO
  iintro ⟨Hl, HO⟩
  iapply Hk
  isplitl [H4]; · iexact H4
  isplitl [Hf]; · iexact Hf
  isplitl [Hl]; · iexact Hl
  iexact HO

theorem run_segE (h : HBuf F) (s' : Fin 2) (hs' : s'.val = 1 - (i 0).val % 2) (tk' : ℕ → ℕ) (b : BitVec 1) (hb : b = 1#1) (W : Waits sig Unit) (J : Unit → Prog (TpuEff nD τ sig (Elt F) Λ₀ .tc) PUnit) (Q : PUnit → sProp (MT nD τ sig Unit (Elt F) ℕ (Pipeline.UD sig nD τ) ℕ)) :
    iprop(flight c h s' tk' ∗ owes (c : Thread nD τ) 0 W
        ∗ (iprop(landedSlot c h s' tk' ∗ (∃ W', owes (c : Thread nD τ) 0 W')) -∗ wp frame (wpE (defs₀ (F := F)) Variants.none (c : Thread nD τ) none) Set.univ (J ⟨⟩) Q))
      ⊢ wp frame (wpE (defs₀ (F := F)) Variants.none (c : Thread nD τ) none) Set.univ (segE (F := F) i b J) Q := by
  unfold segE
  rw [if_pos hb]
  have e10 : k0_off13 i = ![s'.val] := by rw [off13_eq, hs']
  have HW := wp_slot (F := F) (α := PUnit) c h s' tk' W (k0_off14 i) (k0_off14 i) (k0_off14_inb i) (k0_off14_inb i) _ (sem_slice s' _ e10 (k0_off13_inb i))
    (View.wordExact_bits rfl) (View.wordExact_bits rfl) (fun _ => J ⟨⟩) Q
  iintro ⟨Hg, HO, Hk⟩
  iapply HW $$ [Hg HO]
  · isplitl [Hg]; · iexact Hg
    iexact HO
  iexact Hk

/-- A window written whole. -/
theorem whole_written (X X' : S256x2048.Idx → Elt F .bf16) (w : S256x2048.Idx → Elt F .bf16) (h : ∀ a, (![0, 0] : Fin 2 → ℕ) a + S256x2048.size a ≤ S256x2048.size a)
    (H : (∀ x, X' ((Rect.unit (s := S256x2048) ![0, 0] S256x2048.size h).emb x) = w x)
      ∧ ∀ y, y ∉ (Rect.unit (s := S256x2048) ![0, 0] S256x2048.size h).set → X' y = X y) : X' = w := by
  funext y
  rw [← H.1]
  congr 1
  funext a; apply Fin.ext; fin_cases a
  · show (y 0).val = 0 + 1 * (y 0).val; omega
  · show (y 1).val = 0 + 1 * (y 1).val; omega

theorem run_segF (X : S256x2048.Idx → Elt F .bf16) (v0 : BitVec 32) (h6 : k0_cond6 i v0 = 1#1) (J : Unit → Prog (TpuEff nD τ sig (Elt F) Λ₀ .tc) PUnit) (Q : PUnit → sProp (MT nD τ sig Unit (Elt F) ℕ (Pipeline.UD sig nD τ) ℕ)) :
    iprop(owns (c : Thread nD τ) a16 fullShare X ∗ (owns (c : Thread nD τ) a16 fullShare (k0_pay6 (F := F)) -∗ wp frame (wpE (defs₀ (F := F)) Variants.none (c : Thread nD τ) none) Set.univ (J ⟨⟩) Q))
      ⊢ wp frame (wpE (defs₀ (F := F)) Variants.none (c : Thread nD τ) none) Set.univ (segF (F := F) i a16 w16 v0 J) Q := by
  unfold segF
  rw [dif_pos h6]
  iintro ⟨H, Hk⟩
  iapply (wp_ldr c a16 fullShare X _ _ _ Q) $$ H
  iintro H
  iapply (wp_st c a16 X _ _ _ _ _ Q) $$ H
  iintro %Y %e H
  have hY := whole_written X Y _ _ e
  subst hY
  iapply Hk
  iexact H

/-- Line `j` of each row of a tile. -/
def lineOf (h : HBuf F) (tk : ℕ → ℕ) (j : ℕ) : S256x128.Idx → Elt F .f32 := fun y =>
  h (ix3 (⟨tk (y 0).val % 17408, Nat.mod_lt _ (by decide)⟩ : Fin 17408) (⟨j % 16, Nat.mod_lt _ (by decide)⟩ : Fin 16) (⟨(y 1).val, (y 1).isLt⟩ : Fin 128))

/-- Reading line `j` of every row of a landed slot. -/
theorem wp_line (h : HBuf F) (s : Fin 2) (tk : ℕ → ℕ) (j : ℕ) (hj : j < 16) (o : Fin 2 → ℕ) (e : o = ![s.val * 4096 + j, 0])
    (hin : ∀ a : Fin S8192x128.rank, S256x128.size a = 0 ∨ o a + (![16, 1] : Fin 2 → ℕ) a * (S256x128.size a - 1) < S8192x128.size a)
    (hl : xM.view.LoadsAt (⟨o, S256x128.size, ![16, 1], hin⟩ : LoadRect S8192x128))
    {α : Type} (kk : (S256x128.Idx → Elt F .f32) → Prog (TpuEff nD τ sig (Elt F) Λ₀ .tc) α) (Q : α → sProp (MT nD τ sig Unit (Elt F) ℕ (Pipeline.UD sig nD τ) ℕ)) :
    landedSlot c h s tk ⊢ iprop((landedSlot c h s tk -∗ wp frame (wpE (defs₀ (F := F)) Variants.none (c : Thread nD τ) none) Set.univ (kk (lineOf h tk j)) Q)
      -∗ wp frame (wpE (defs₀ (F := F)) Variants.none (c : Thread nD τ) none) Set.univ (.op (.load xM (⟨o, S256x128.size, ![16, 1], hin⟩ : LoadRect S8192x128) hl) kk) Q) := by
  subst e
  unfold landedSlot
  iintro ⟨Hs, H, Hr⟩ Hk
  iapply (wp_load Variants.none (c : Thread nD τ) none Set.univ (m := xM) (r := (⟨![s.val * 4096 + j, 0], S256x128.size, ![16, 1], hin⟩ : LoadRect S8192x128)) (S := xSlot s) ?_) $$ H
  · intro y hy
    obtain ⟨x, hx, rfl⟩ := Finset.mem_map.mp hy
    obtain ⟨k, hk, e⟩ := (LoadRect.mem_set _).mp hx 0
    simp only [xSlot, Finset.mem_filter, Finset.mem_univ, true_and]
    have e' : (x 0).val = (s.val * 4096 + j) + 16 * k := e
    have hk' : k < 256 := hk
    show (x 0).val / 4096 = s.val
    omega
  iintro H
  have hx : xM.view.readAt (Elt F) (⟨![s.val * 4096 + j, 0], S256x128.size, ![16, 1], hin⟩ : LoadRect S8192x128) (rowsOf h tk) = lineOf h tk j := by
    funext y
    rw [View.readAt_apply]
    show rowsOf h tk _ = _
    unfold rowsOf lineOf
    have h0 : (y 0).val < 256 := (y 0).isLt
    have e0 : (s.val * 4096 + j + 16 * (y 0).val) / 16 % 256 = (y 0).val := by omega
    have e1 : (s.val * 4096 + j + 16 * (y 0).val) % 16 = j % 16 := by omega
    have e2 : 0 + 1 * (y 1).val = (y 1).val := by omega
    refine congrArg h ?_
    funext a; apply Fin.ext; fin_cases a
    · exact congrArg (fun n => tk n % 17408) e0
    · exact e1
    · exact e2
  rw [hx]
  iapply Hk
  isplitl [Hs]; · iexact Hs
  isplitl [H]; · iexact H
  iexact Hr

/-- What a step computes from its tile's rows, its expert's up-projection parts and bias, the cast down-projection, and bias. -/
def outTile (h : HBuf F) (tk : ℕ → ℕ) (X6 X7 X8 X9 : S1x2048x512.Idx → Elt F .bf16) (X10 : S1x1x2048.Idx → Elt F .f32)
    (Y : S1024x2048.Idx → Elt F .bf16) (X15 : S1x1x2048.Idx → Elt F .f32) : S256x2048.Idx → Elt F .bf16 :=
  k0_pay5 (k0_pay7 (lineOf h tk 0) (lineOf h tk 1) (lineOf h tk 2) (lineOf h tk 3) (lineOf h tk 4) (lineOf h tk 5) (lineOf h tk 6) (lineOf h tk 7) (lineOf h tk 8) (lineOf h tk 9) (lineOf h tk 10) (lineOf h tk 11) (lineOf h tk 12) (lineOf h tk 13) (lineOf h tk 14) (lineOf h tk 15) X6 X7 X8 X9 X10) Y X15

theorem run_segD (h : HBuf F) (s : Fin 2) (hs : s.val = (i 0).val % 2) (tk : ℕ → ℕ) (q6 q7 q8 q9 q10 q15 : PosShare TreeShare)
    (X6 X7 X8 X9 : S1x2048x512.Idx → Elt F .bf16) (X10 : S1x1x2048.Idx → Elt F .f32)
    (Y : S1024x2048.Idx → Elt F .bf16) (X15 : S1x1x2048.Idx → Elt F .f32) (X16 : S256x2048.Idx → Elt F .bf16)
    (v0 : BitVec 32) (h4 : k0_cond4 i v0 = 1#1) (J : Unit → Prog (TpuEff nD τ sig (Elt F) Λ₀ .tc) PUnit) (Q : PUnit → sProp (MT nD τ sig Unit (Elt F) ℕ (Pipeline.UD sig nD τ) ℕ)) :
    iprop(owns (c : Thread nD τ) a6 q6 X6 ∗ owns (c : Thread nD τ) a7 q7 X7 ∗ owns (c : Thread nD τ) a8 q8 X8 ∗ owns (c : Thread nD τ) a9 q9 X9 ∗ owns (c : Thread nD τ) a10 q10 X10 ∗ owns (c : Thread nD τ) a15 q15 X15
        ∗ owns (c : Thread nD τ) wM fullShare Y ∗ owns (c : Thread nD τ) a16 fullShare X16 ∗ landedSlot c h s tk
        ∗ (iprop(owns (c : Thread nD τ) a6 q6 X6 ∗ owns (c : Thread nD τ) a7 q7 X7 ∗ owns (c : Thread nD τ) a8 q8 X8 ∗ owns (c : Thread nD τ) a9 q9 X9 ∗ owns (c : Thread nD τ) a10 q10 X10 ∗ owns (c : Thread nD τ) a15 q15 X15
            ∗ owns (c : Thread nD τ) wM fullShare Y ∗ owns (c : Thread nD τ) a16 fullShare (outTile h tk X6 X7 X8 X9 X10 Y X15) ∗ landedSlot c h s tk) -∗ wp frame (wpE (defs₀ (F := F)) Variants.none (c : Thread nD τ) none) Set.univ (J ⟨⟩) Q))
      ⊢ wp frame (wpE (defs₀ (F := F)) Variants.none (c : Thread nD τ) none) Set.univ (segD (F := F) i a6 a7 a8 a9 a10 a15 a16 w16 v0 J) Q := by
  unfold segD
  rw [dif_pos h4]
  iintro ⟨H6, H7, H8, H9, H10, H15, HY, H16, HL, Hk⟩
  have ho : ∀ a, (![0, 0, 0] : Fin 3 → ℕ) a = 0 := by decide
  have ho2 : ∀ a, (![0, 0] : Fin 2 → ℕ) a = 0 := by decide
  have hoff : ∀ j : Fin 16, k0_off12 i (BitVec.ofNat 32 j.val) = ![s.val * 4096 + j.val, 0] := fun j => by rw [off12_eq, hs]
  iapply (wp_line c h s tk 0 (by decide) _ (hoff 0) _ _ _ Q) $$ HL
  iintro HL
  iapply (wp_line c h s tk 1 (by decide) _ (hoff 1) _ _ _ Q) $$ HL
  iintro HL
  iapply (wp_line c h s tk 2 (by decide) _ (hoff 2) _ _ _ Q) $$ HL
  iintro HL
  iapply (wp_line c h s tk 3 (by decide) _ (hoff 3) _ _ _ Q) $$ HL
  iintro HL
  iapply (wp_line c h s tk 4 (by decide) _ (hoff 4) _ _ _ Q) $$ HL
  iintro HL
  iapply (wp_line c h s tk 5 (by decide) _ (hoff 5) _ _ _ Q) $$ HL
  iintro HL
  iapply (wp_line c h s tk 6 (by decide) _ (hoff 6) _ _ _ Q) $$ HL
  iintro HL
  iapply (wp_line c h s tk 7 (by decide) _ (hoff 7) _ _ _ Q) $$ HL
  iintro HL
  iapply (wp_line c h s tk 8 (by decide) _ (hoff 8) _ _ _ Q) $$ HL
  iintro HL
  iapply (wp_line c h s tk 9 (by decide) _ (hoff 9) _ _ _ Q) $$ HL
  iintro HL
  iapply (wp_line c h s tk 10 (by decide) _ (hoff 10) _ _ _ Q) $$ HL
  iintro HL
  iapply (wp_line c h s tk 11 (by decide) _ (hoff 11) _ _ _ Q) $$ HL
  iintro HL
  iapply (wp_line c h s tk 12 (by decide) _ (hoff 12) _ _ _ Q) $$ HL
  iintro HL
  iapply (wp_line c h s tk 13 (by decide) _ (hoff 13) _ _ _ Q) $$ HL
  iintro HL
  iapply (wp_line c h s tk 14 (by decide) _ (hoff 14) _ _ _ Q) $$ HL
  iintro HL
  iapply (wp_line c h s tk 15 (by decide) _ (hoff 15) _ _ _ Q) $$ HL
  iintro HL
  iapply (wp_ld c a6 q6 X6 _ ho _ _ _ Q) $$ H6
  iintro H6
  iapply (wp_ld c a7 q7 X7 _ ho _ _ _ Q) $$ H7
  iintro H7
  iapply (wp_ld c a8 q8 X8 _ ho _ _ _ Q) $$ H8
  iintro H8
  iapply (wp_ld c a9 q9 X9 _ ho _ _ _ Q) $$ H9
  iintro H9
  iapply (wp_ld c a10 q10 X10 _ ho _ _ _ Q) $$ H10
  iintro H10
  iapply (wp_ld c wM fullShare Y _ ho2 _ _ _ Q) $$ HY
  iintro HY
  iapply (wp_ld c a15 q15 X15 _ ho _ _ _ Q) $$ H15
  iintro H15
  iapply (wp_ldr c a16 fullShare X16 _ _ _ Q) $$ H16
  iintro H16
  iapply (wp_st c a16 X16 _ _ _ _ _ Q) $$ H16
  iintro %Y' %e H16
  have hY := whole_written X16 Y' _ _ e
  subst hY
  iapply Hk
  isplitl [H6]; · iexact H6
  isplitl [H7]; · iexact H7
  isplitl [H8]; · iexact H8
  isplitl [H9]; · iexact H9
  isplitl [H10]; · iexact H10
  isplitl [H15]; · iexact H15
  isplitl [HY]; · iexact HY
  isplitl [H16]; · iexact H16
  iexact HL

end

end Cert.ExpertsIdeal.Hand
-- ==== Proof.ExpertsIdeal.Body.lean ====
/- UNTRUSTED — The experts call: one grid step, from what is held before it to what is held after. -/
module

public import proofs.«01_k».proof.Proof.ExpertsIdeal.Segments

@[expose] public section

noncomputable section

namespace Cert.ExpertsIdeal.Hand

open Cert.ExpertsIdeal Cert.ExpertsIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The slot that step `t`'s tile is in. -/
def slotOf (t : ℕ) : Fin 2 := ⟨t % 2, Nat.mod_lt _ (by decide)⟩

/-- The landing slots before step `t`: of the `n` tiles in use, tile `t`'s rows are on their way. -/
def dmaSt (c : Dev nD) (h : HBuf F) (tk : ℕ → ℕ → ℕ) (n t : ℕ) : sProp (MT nD τ sig Unit (Elt F) ℕ (Pipeline.UD sig nD τ) ℕ) :=
  iprop((⌜0 < t ∧ t < n⌝ ∗ flight c h (slotOf t) (tk t) ∗ free c h (slotOf (t + 1)))
    ∨ (⌜¬ (0 < t ∧ t < n)⌝ ∗ free c h 0 ∗ free c h 1))

/-- The cast down-projection before step `t`: that of tile `t - 1`'s expert, at a tile in use. -/
def wdSt (c : Dev nD) (Y : ℕ → S1024x2048.Idx → Elt F .bf16) (n t : ℕ) : sProp (MT nD τ sig Unit (Elt F) ℕ (Pipeline.UD sig nD τ) ℕ) :=
  iprop(∃ Z, ⌜0 < t → t < n → Z = Y (t - 1)⌝ ∗ owns (c : Thread nD τ) wM fullShare Z)

theorem dmaSt_busy (c : Dev nD) (h : HBuf F) (tk : ℕ → ℕ → ℕ) (n t : ℕ) (ht : 0 < t ∧ t < n) :
    dmaSt c h tk n t ⊢ iprop(flight c h (slotOf t) (tk t) ∗ free c h (slotOf (t + 1))) := by
  unfold dmaSt
  iintro (⟨-, H⟩ | ⟨%hn, -⟩)
  · iexact H
  · exact absurd ht hn

theorem dmaSt_idle (c : Dev nD) (h : HBuf F) (tk : ℕ → ℕ → ℕ) (n t : ℕ) (ht : ¬ (0 < t ∧ t < n)) :
    dmaSt c h tk n t ⊢ iprop(free c h 0 ∗ free c h 1) := by
  unfold dmaSt
  iintro (⟨%hn, -⟩ | ⟨-, H⟩)
  · exact absurd hn ht
  · iexact H

theorem busy_dmaSt (c : Dev nD) (h : HBuf F) (tk : ℕ → ℕ → ℕ) (n t : ℕ) (ht : 0 < t ∧ t < n) :
    iprop(flight c h (slotOf t) (tk t) ∗ free c h (slotOf (t + 1))) ⊢ dmaSt c h tk n t := by
  unfold dmaSt
  iintro H
  ileft
  isplitr; · ipureintro; exact ht
  iexact H

theorem idle_dmaSt (c : Dev nD) (h : HBuf F) (tk : ℕ → ℕ → ℕ) (n t : ℕ) (ht : ¬ (0 < t ∧ t < n)) :
    iprop(free c h (slotOf t) ∗ free c h (slotOf (t + 1))) ⊢ dmaSt c h tk n t := by
  unfold dmaSt
  iintro ⟨H, H'⟩
  iright
  isplitr; · ipureintro; exact ht
  rcases Nat.mod_two_eq_zero_or_one t with e | e
  · have e0 : slotOf t = 0 := Fin.ext e
    have e1 : slotOf (t + 1) = 1 := Fin.ext (show (t + 1) % 2 = 1 by omega)
    rw [e0, e1]
    isplitl [H]; · iexact H
    iexact H'
  · have e0 : slotOf t = 1 := Fin.ext e
    have e1 : slotOf (t + 1) = 0 := Fin.ext (show (t + 1) % 2 = 0 by omega)
    rw [e0, e1]
    isplitl [H']; · iexact H'
    iexact H

section
variable (c : Dev nD) (i : grid0.Coords)
  (a1 : Memref sig .tc .smem S304 .i32) (w1 : a1.IsWhole) (a2 : Memref sig .tc .smem S1 .i32) (w2 : a2.IsWhole)
  (a3 : Memref sig .tc .smem S1x1x256 .i32) (w3 : a3.IsWhole) (a4 : Memref sig .tc .smem S1x1x256 .i32) (w4 : a4.IsWhole) (w5 : hM.IsWhole)
  (a6 : Memref sig .tc .vmem S1x2048x512 .bf16) (w6 : a6.IsWhole) (a7 : Memref sig .tc .vmem S1x2048x512 .bf16) (w7 : a7.IsWhole)
  (a8 : Memref sig .tc .vmem S1x2048x512 .bf16) (w8 : a8.IsWhole) (a9 : Memref sig .tc .vmem S1x2048x512 .bf16) (w9 : a9.IsWhole)
  (a10 : Memref sig .tc .vmem S1x1x2048 .f32) (w10 : a10.IsWhole)
  (a11 : Memref sig .tc .vmem S1x1024x512 .f32) (w11 : a11.IsWhole) (a12 : Memref sig .tc .vmem S1x1024x512 .f32) (w12 : a12.IsWhole)
  (a13 : Memref sig .tc .vmem S1x1024x512 .f32) (w13 : a13.IsWhole) (a14 : Memref sig .tc .vmem S1x1024x512 .f32) (w14 : a14.IsWhole)
  (a15 : Memref sig .tc .vmem S1x1x2048 .f32) (w15 : a15.IsWhole) (a16 : Memref sig .tc .vmem S256x2048 .bf16) (w16 : a16.IsWhole)
  (w17 : wM.IsWhole) (w18 : xM.IsWhole)

/-- A table's word at a step. -/
theorem table_at (X : S304.Idx → BitVec 32) (o : Fin 1 → ℕ) (n : ℕ) (hn : n < 304) (e : o = ![n]) (hin : ∀ a, o a + S1.size a ≤ S304.size a)
    (x : (Rect.unit (s := S304) o S1.size hin).shape.Idx) : X ((Rect.unit (s := S304) o S1.size hin).emb x) = X (ix1 (⟨n, hn⟩ : Fin 304)) := by
  subst e
  refine congrArg X ?_
  funext a; apply Fin.ext; fin_cases a
  show n + 1 * (x 0).val = n
  have : (x 0).val < 1 := (x 0).isLt
  omega

theorem count_at (X : S1.Idx → BitVec 32) (hin : ∀ a, (![0] : Fin 1 → ℕ) a + S1.size a ≤ S1.size a)
    (x : (Rect.unit (s := S1) ![0] S1.size hin).shape.Idx) : X ((Rect.unit (s := S1) ![0] S1.size hin).emb x) = X (ix1 (0 : Fin 1)) := by
  refine congrArg X ?_
  funext a; apply Fin.ext; fin_cases a
  show 0 + 1 * (x 0).val = 0
  have : (x 0).val < 1 := (x 0).isLt
  omega

theorem skipA (h : ¬ k0_cond1 i = 1#1) {J} : segA (F := F) i a1 w1 a2 w2 a3 w3 a4 w4 w5 a6 w6 a7 w7 a8 w8 a9 w9 a10 w10 a11 w11 a12 w12 a13 w13 a14 w14 a15 w15 a16 w16 w17 w18 J = J ⟨⟩ := by unfold segA; rw [dif_neg h]
theorem skipB (b : BitVec 1) (h : ¬ b = 1#1) {J} : segB (F := F) a11 a12 a13 a14 w17 b J = J ⟨⟩ := by unfold segB; rw [if_neg h]
theorem skipC (v0 : BitVec 32) (h : ¬ k0_cond3 i v0 = 1#1) {J} : segC (F := F) i a1 w1 a2 w2 a3 w3 a4 w4 w5 a6 w6 a7 w7 a8 w8 a9 w9 a10 w10 a11 w11 a12 w12 a13 w13 a14 w14 a15 w15 a16 w16 w17 w18 v0 J = J ⟨⟩ := by unfold segC; rw [dif_neg h]
theorem skipD (v0 : BitVec 32) (h : ¬ k0_cond4 i v0 = 1#1) {J} : segD (F := F) i a6 a7 a8 a9 a10 a15 a16 w16 v0 J = J ⟨⟩ := by unfold segD; rw [dif_neg h]
theorem skipE (b : BitVec 1) (h : ¬ b = 1#1) {J} : segE (F := F) i b J = J ⟨⟩ := by unfold segE; rw [if_neg h]
theorem skipF (v0 : BitVec 32) (h : ¬ k0_cond6 i v0 = 1#1) {J} : segF (F := F) i a16 w16 v0 J = J ⟨⟩ := by unfold segF; rw [dif_neg h]

/-- What step `t` leaves in its output block. -/
def stepOut (h : HBuf F) (tk : ℕ → ℕ → ℕ) (n t : ℕ) (X6 X7 X8 X9 : S1x2048x512.Idx → Elt F .bf16) (X10 : S1x1x2048.Idx → Elt F .f32)
    (Y : ℕ → S1024x2048.Idx → Elt F .bf16) (X15 : S1x1x2048.Idx → Elt F .f32) : S256x2048.Idx → Elt F .bf16 :=
  if t < n then outTile h (tk t) X6 X7 X8 X9 X10 (Y t) X15 else k0_pay6 (F := F)

theorem run_step (t : ℕ) (ht : (i 0).val = t) (h : HBuf F) (tk : ℕ → ℕ → ℕ) (n : ℕ) (Y : ℕ → S1024x2048.Idx → Elt F .bf16)
    (q1 q2 q3 q4 q6 q7 q8 q9 q10 q11 q12 q13 q14 q15 : PosShare TreeShare)
    (X1 : S304.Idx → BitVec 32)
    (X2 : S1.Idx → BitVec 32)
    (X3 : S1x1x256.Idx → BitVec 32)
    (X4 : S1x1x256.Idx → BitVec 32)
    (X6 : S1x2048x512.Idx → Elt F .bf16)
    (X7 : S1x2048x512.Idx → Elt F .bf16)
    (X8 : S1x2048x512.Idx → Elt F .bf16)
    (X9 : S1x2048x512.Idx → Elt F .bf16)
    (X10 : S1x1x2048.Idx → Elt F .f32)
    (X11 : S1x1024x512.Idx → Elt F .f32)
    (X12 : S1x1024x512.Idx → Elt F .f32)
    (X13 : S1x1024x512.Idx → Elt F .f32)
    (X14 : S1x1024x512.Idx → Elt F .f32)
    (X15 : S1x1x2048.Idx → Elt F .f32) (X16 : S256x2048.Idx → Elt F .bf16)
    (hn : (X2 (ix1 (0 : Fin 1))).toNat = n) (hn0 : 0 < n) (hn' : n < 2147483648)
    (h3 : t = 0 → ∀ k, k < 256 → rowNo X3 k = tk 0 k) (h4 : t < n → ∀ k, k < 256 → rowNo X4 k = tk (t + 1) k) (hlt : ∀ t k, tk t k < 17408)
    (hY : Y t = dcast X11 X12 X13 X14)
    (hsame : ∀ (h0 : 0 < t) (ht' : t < 304), X1 (ix1 (⟨t, ht'⟩ : Fin 304)) = X1 (ix1 (⟨t - 1, by omega⟩ : Fin 304)) → Y t = Y (t - 1)) :
    iprop(owns (c : Thread nD τ) a1 q1 X1 ∗ owns (c : Thread nD τ) a2 q2 X2 ∗ owns (c : Thread nD τ) a3 q3 X3 ∗ owns (c : Thread nD τ) a4 q4 X4 ∗ owns (c : Thread nD τ) a6 q6 X6 ∗ owns (c : Thread nD τ) a7 q7 X7 ∗ owns (c : Thread nD τ) a8 q8 X8 ∗ owns (c : Thread nD τ) a9 q9 X9 ∗ owns (c : Thread nD τ) a10 q10 X10 ∗ owns (c : Thread nD τ) a11 q11 X11 ∗ owns (c : Thread nD τ) a12 q12 X12 ∗ owns (c : Thread nD τ) a13 q13 X13 ∗ owns (c : Thread nD τ) a14 q14 X14 ∗ owns (c : Thread nD τ) a15 q15 X15 ∗ owns (c : Thread nD τ) a16 fullShare X16 ∗ dmaSt c h tk n t ∗ wdSt c Y n t ∗ (∃ W, owes (c : Thread nD τ) 0 W))
      ⊢ wp frame (wpE (defs₀ (F := F)) Variants.none (c : Thread nD τ) none) Set.univ (parts (F := F) i a1 w1 a2 w2 a3 w3 a4 w4 w5 a6 w6 a7 w7 a8 w8 a9 w9 a10 w10 a11 w11 a12 w12 a13 w13 a14 w14 a15 w15 a16 w16 w17 w18) (fun _ => iprop(owns (c : Thread nD τ) a1 q1 X1 ∗ owns (c : Thread nD τ) a2 q2 X2 ∗ owns (c : Thread nD τ) a3 q3 X3 ∗ owns (c : Thread nD τ) a4 q4 X4 ∗ owns (c : Thread nD τ) a6 q6 X6 ∗ owns (c : Thread nD τ) a7 q7 X7 ∗ owns (c : Thread nD τ) a8 q8 X8 ∗ owns (c : Thread nD τ) a9 q9 X9 ∗ owns (c : Thread nD τ) a10 q10 X10 ∗ owns (c : Thread nD τ) a11 q11 X11 ∗ owns (c : Thread nD τ) a12 q12 X12 ∗ owns (c : Thread nD τ) a13 q13 X13 ∗ owns (c : Thread nD τ) a14 q14 X14 ∗ owns (c : Thread nD τ) a15 q15 X15
        ∗ owns (c : Thread nD τ) a16 fullShare (stepOut h tk n t X6 X7 X8 X9 X10 Y X15) ∗ dmaSt c h tk n (t + 1) ∗ wdSt c Y n (t + 1) ∗ (∃ W, owes (c : Thread nD τ) 0 W))) := by
  have hi := step_lt i
  have ht' : t < 304 := ht ▸ (i 0).isLt
  unfold parts
  iintro ⟨H1, H2, H3, H4, H6, H7, H8, H9, H10, H11, H12, H13, H14, H15, H16, HD, HZ, HO⟩
  iapply (wp_word (F := F) c a2 q2 X2 _ _ _ _ _)
  isplitl [H2]; · iexact H2
  iintro H2
  rw [count_at X2]
  iapply (wp_word (F := F) c a1 q1 X1 _ _ _ _ _)
  isplitl [H1]; · iexact H1
  iintro H1
  rw [table_at X1 (k0_off1 i) t ht' (by rw [off1_eq, ht])]
  iapply (wp_word (F := F) c a1 q1 X1 _ _ _ _ _)
  isplitl [H1]; · iexact H1
  iintro H1
  rw [table_at X1 (k0_off2 i) (t - 1) (by omega) (by rw [off2_eq, ht])]
  generalize hv0 : X2 (ix1 (0 : Fin 1)) = v0 at hn ⊢
  have hv : v0.toNat < 2147483648 := by omega
  subst hn
  have i1 := cond1_iff i
  have i3 := cond3_iff i v0 hv
  have i4 := cond4_iff i v0 hv
  have i6 := cond6_iff i v0 hv
  have iL : lastBit i v0 = 1#1 ↔ t + 1 = v0.toNat := by subst ht; exact last_iff i v0 hn0
  have iN : newBit i v0 (X1 (ix1 (⟨t, ht'⟩ : Fin 304))) (X1 (ix1 (⟨t - 1, by omega⟩ : Fin 304))) = 1#1
      ↔ (t < v0.toNat ∧ (t = 0 ∨ X1 (ix1 (⟨t, ht'⟩ : Fin 304)) ≠ X1 (ix1 (⟨t - 1, by omega⟩ : Fin 304)))) := by subst ht; exact new_iff i v0 _ _ hv
  rw [ht] at i1 i3 i4 i6
  unfold stepOut
  by_cases hu : t < v0.toNat
  · rw [if_pos hu]
    -- the copies of the first tile, at the first step
    have hA : ∀ J : Unit → Prog (TpuEff nD τ sig (Elt F) Λ₀ .tc) PUnit, ∀ Q, iprop(owns (c : Thread nD τ) a3 q3 X3 ∗ dmaSt c h tk v0.toNat t
        ∗ (iprop(owns (c : Thread nD τ) a3 q3 X3 ∗ flight c h (slotOf t) (tk t) ∗ free c h (slotOf (t + 1))) -∗ wp frame (wpE (defs₀ (F := F)) Variants.none (c : Thread nD τ) none) Set.univ (J ⟨⟩) Q))
        ⊢ wp frame (wpE (defs₀ (F := F)) Variants.none (c : Thread nD τ) none) Set.univ (segA (F := F) i a1 w1 a2 w2 a3 w3 a4 w4 w5 a6 w6 a7 w7 a8 w8 a9 w9 a10 w10 a11 w11 a12 w12 a13 w13 a14 w14 a15 w15 a16 w16 w17 w18 J) Q := by
      intro J Q
      by_cases h0 : t = 0
      · subst h0
        have HA := run_segA c i a1 w1 a2 w2 a3 w3 a4 w4 w5 a6 w6 a7 w7 a8 w8 a9 w9 a10 w10 a11 w11 a12 w12 a13 w13 a14 w14 a15 w15 a16 w16 w17 w18 (Q := Q) (J := J) h (tk 0) q3 X3 (h3 rfl) (hlt 0) (i1.mpr rfl)
        iintro ⟨H3, HD, Hk⟩
        ihave HD := (dmaSt_idle c h tk v0.toNat 0 (by omega)) $$ HD
        icases HD with ⟨Hf, Hf'⟩
        iapply HA
        isplitl [H3]; · iexact H3
        isplitl [Hf]; · iexact Hf
        iintro ⟨H3, Hf⟩
        iapply Hk
        isplitl [H3]; · iexact H3
        isplitl [Hf]; · iexact Hf
        iexact Hf'
      · rw [skipA i a1 w1 a2 w2 a3 w3 a4 w4 w5 a6 w6 a7 w7 a8 w8 a9 w9 a10 w10 a11 w11 a12 w12 a13 w13 a14 w14 a15 w15 a16 w16 w17 w18 (fun e => h0 (i1.mp e))]
        iintro ⟨H3, HD, Hk⟩
        ihave HD := (dmaSt_busy c h tk v0.toNat t ⟨Nat.pos_of_ne_zero h0, hu⟩) $$ HD
        icases HD with ⟨Hf, Hf'⟩
        iapply Hk
        isplitl [H3]; · iexact H3
        isplitl [Hf]; · iexact Hf
        iexact Hf'
    -- the cast down-projection, at a new expert
    have hB : ∀ J : Unit → Prog (TpuEff nD τ sig (Elt F) Λ₀ .tc) PUnit, ∀ Q, iprop(owns (c : Thread nD τ) a11 q11 X11 ∗ owns (c : Thread nD τ) a12 q12 X12 ∗ owns (c : Thread nD τ) a13 q13 X13 ∗ owns (c : Thread nD τ) a14 q14 X14 ∗ wdSt c Y v0.toNat t
        ∗ (iprop(owns (c : Thread nD τ) a11 q11 X11 ∗ owns (c : Thread nD τ) a12 q12 X12 ∗ owns (c : Thread nD τ) a13 q13 X13 ∗ owns (c : Thread nD τ) a14 q14 X14 ∗ owns (c : Thread nD τ) wM fullShare (Y t)) -∗ wp frame (wpE (defs₀ (F := F)) Variants.none (c : Thread nD τ) none) Set.univ (J ⟨⟩) Q))
        ⊢ wp frame (wpE (defs₀ (F := F)) Variants.none (c : Thread nD τ) none) Set.univ (segB (F := F) a11 a12 a13 a14 w17 (newBit i v0 (X1 (ix1 (⟨t, ht'⟩ : Fin 304))) (X1 (ix1 (⟨t - 1, by omega⟩ : Fin 304)))) J) Q := by
      intro J Q
      by_cases hb : t = 0 ∨ X1 (ix1 (⟨t, ht'⟩ : Fin 304)) ≠ X1 (ix1 (⟨t - 1, by omega⟩ : Fin 304))
      · rw [hY]
        unfold wdSt
        iintro ⟨H11, H12, H13, H14, ⟨%Z, -, HZ⟩, Hk⟩
        iapply (run_segB (F := F) c a11 a12 a13 a14 w17 q11 q12 q13 q14 X11 X12 X13 X14 Z _ (iN.mpr ⟨hu, hb⟩) J Q)
        isplitl [H11]; · iexact H11
        isplitl [H12]; · iexact H12
        isplitl [H13]; · iexact H13
        isplitl [H14]; · iexact H14
        isplitl [HZ]; · iexact HZ
        iexact Hk
      · have hb0 : 0 < t := Nat.pos_of_ne_zero fun e => hb (.inl e)
        have hs := hsame hb0 ht' (by_contra fun e => hb (.inr e))
        rw [skipB a11 a12 a13 a14 w17 _ (fun e => hb (iN.mp e).2)]
        unfold wdSt
        iintro ⟨H11, H12, H13, H14, ⟨%Z, %hZ, HZ⟩, Hk⟩
        rw [hZ hb0 hu, ← hs]
        iapply Hk
        isplitl [H11]; · iexact H11
        isplitl [H12]; · iexact H12
        isplitl [H13]; · iexact H13
        isplitl [H14]; · iexact H14
        iexact HZ
    iapply (hA _ _)
    isplitl [H3]; · iexact H3
    isplitl [HD]; · iexact HD
    iintro ⟨H3, Hg, Hf⟩
    iapply (hB _ _)
    isplitl [H11]; · iexact H11
    isplitl [H12]; · iexact H12
    isplitl [H13]; · iexact H13
    isplitl [H14]; · iexact H14
    isplitl [HZ]; · iexact HZ
    iintro ⟨H11, H12, H13, H14, HZ⟩
    icases HO with ⟨%W, HO⟩
    have hsl : (slotOf t).val = (i 0).val % 2 := by rw [ht]; rfl
    have hsl' : (slotOf (t + 1)).val = 1 - (i 0).val % 2 := by rw [ht]; show (t + 1) % 2 = 1 - t % 2; omega
    iapply (run_segC c i a1 w1 a2 w2 a3 w3 a4 w4 w5 a6 w6 a7 w7 a8 w8 a9 w9 a10 w10 a11 w11 a12 w12 a13 w13 a14 w14 a15 w15 a16 w16 w17 w18 h (slotOf t) (slotOf (t + 1)) hsl hsl' (tk t) (tk (t + 1)) q4 X4 (h4 hu) (hlt (t + 1)) v0 (i3.mpr hu) W)
    isplitl [H4]; · iexact H4
    isplitl [Hf]; · iexact Hf
    isplitl [Hg]; · iexact Hg
    isplitl [HO]; · iexact HO
    iintro ⟨H4, Hg, HL, ⟨%W1, HO⟩⟩
    iapply (run_segD c i a6 a7 a8 a9 a10 a15 a16 w16 h (slotOf t) hsl (tk t) q6 q7 q8 q9 q10 q15 X6 X7 X8 X9 X10 (Y t) X15 X16 v0 (i4.mpr hu))
    isplitl [H6]; · iexact H6
    isplitl [H7]; · iexact H7
    isplitl [H8]; · iexact H8
    isplitl [H9]; · iexact H9
    isplitl [H10]; · iexact H10
    isplitl [H15]; · iexact H15
    isplitl [HZ]; · iexact HZ
    isplitl [H16]; · iexact H16
    isplitl [HL]; · iexact HL
    iintro ⟨H6, H7, H8, H9, H10, H15, HZ, H16, HL⟩
    ihave HL := (rest_of_landed c h (slotOf t) (tk t)) $$ HL
    have e2 : slotOf (t + 1 + 1) = slotOf t := Fin.ext (show (t + 1 + 1) % 2 = t % 2 by omega)
    -- at the last tile the copies started for the next one land
    have hE : ∀ J : Unit → Prog (TpuEff nD τ sig (Elt F) Λ₀ .tc) PUnit, ∀ Q, iprop(free c h (slotOf t) ∗ flight c h (slotOf (t + 1)) (tk (t + 1)) ∗ owes (c : Thread nD τ) 0 W1
        ∗ (iprop(dmaSt c h tk v0.toNat (t + 1) ∗ (∃ W, owes (c : Thread nD τ) 0 W)) -∗ wp frame (wpE (defs₀ (F := F)) Variants.none (c : Thread nD τ) none) Set.univ (J ⟨⟩) Q))
        ⊢ wp frame (wpE (defs₀ (F := F)) Variants.none (c : Thread nD τ) none) Set.univ (segE (F := F) i (lastBit i v0) J) Q := by
      intro J Q
      by_cases hl : t + 1 = v0.toNat
      · iintro ⟨Hf, Hg, HO, Hk⟩
        iapply (run_segE c i h (slotOf (t + 1)) hsl' (tk (t + 1)) _ (iL.mpr hl) W1)
        isplitl [Hg]; · iexact Hg
        isplitl [HO]; · iexact HO
        iintro ⟨HL, HO⟩
        ihave HL := (rest_of_landed c h (slotOf (t + 1)) (tk (t + 1))) $$ HL
        iapply Hk
        isplitr [HO]
        · iapply (idle_dmaSt c h tk v0.toNat (t + 1) (by omega))
          rw [e2]
          isplitl [HL]; · iexact HL
          iexact Hf
        iexact HO
      · rw [skipE i _ (fun e => hl (iL.mp e))]
        iintro ⟨Hf, Hg, HO, Hk⟩
        iapply Hk
        isplitr [HO]
        · iapply (busy_dmaSt c h tk v0.toNat (t + 1) (by omega))
          rw [e2]
          isplitl [Hg]; · iexact Hg
          iexact Hf
        iexists W1
        iexact HO
    iapply (hE _ _)
    isplitl [HL]; · iexact HL
    isplitl [Hg]; · iexact Hg
    isplitl [HO]; · iexact HO
    iintro ⟨HD, HO⟩
    rw [skipF i a16 w16 v0 (fun e => (i6.mp e) hu)]
    rw [wp_ret]
    imodintro
    isplitl [H1]; · iexact H1
    isplitl [H2]; · iexact H2
    isplitl [H3]; · iexact H3
    isplitl [H4]; · iexact H4
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [HD]; · iexact HD
    isplitl [HZ]
    · unfold wdSt
      iexists (Y t)
      isplitr
      · ipureintro
        exact fun _ _ => rfl
      iexact HZ
    iexact HO
  · rw [if_neg hu]
    rw [skipA i a1 w1 a2 w2 a3 w3 a4 w4 w5 a6 w6 a7 w7 a8 w8 a9 w9 a10 w10 a11 w11 a12 w12 a13 w13 a14 w14 a15 w15 a16 w16 w17 w18 (fun e => hu (by have := i1.mp e; omega)), skipB a11 a12 a13 a14 w17 _ (fun e => hu (iN.mp e).1),
      skipC i a1 w1 a2 w2 a3 w3 a4 w4 w5 a6 w6 a7 w7 a8 w8 a9 w9 a10 w10 a11 w11 a12 w12 a13 w13 a14 w14 a15 w15 a16 w16 w17 w18 v0 (fun e => hu (i3.mp e)), skipD i a6 a7 a8 a9 a10 a15 a16 w16 v0 (fun e => hu (i4.mp e)), skipE i _ (fun e => hu (by have := iL.mp e; omega))]
    iapply (run_segF c i a16 w16 X16 v0 (i6.mpr hu))
    isplitl [H16]; · iexact H16
    iintro H16
    rw [wp_ret]
    imodintro
    isplitl [H1]; · iexact H1
    isplitl [H2]; · iexact H2
    isplitl [H3]; · iexact H3
    isplitl [H4]; · iexact H4
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [HD]
    · ihave HD := (dmaSt_idle c h tk v0.toNat t (by omega)) $$ HD
      unfold dmaSt
      iright
      isplitr; · ipureintro; omega
      iexact HD
    isplitl [HZ]
    · unfold wdSt
      icases HZ with ⟨%Z, -, HZ⟩
      iexists Z
      isplitr
      · ipureintro; intro _ h'; omega
      iexact HZ
    iexact HO

end

end Cert.ExpertsIdeal.Hand
-- ==== Proof.ExpertsIdeal.Ends.lean ====
/- UNTRUSTED — The experts call: what the body's invariant is made of before the first step and gives back after the last.

   The tokens' array is split into a read share for each of the 512 row copies that can be in flight and a rest; the row
   buffer into its 512 rows. After the last step both slots are free and everything joins again. -/
module

public import proofs.«01_k».proof.Proof.ExpertsIdeal.Body
public import Idealize.ShloMosaic.Lib.PageRing.Basic

@[expose] public section

noncomputable section

namespace Cert.ExpertsIdeal.Hand

open Cert.ExpertsIdeal Cert.ExpertsIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The read share that no row copy borrows. -/
abbrev restShare : PosShare TreeShare := Transfers.shareDrop fullShare 512

/-- The tokens' array is the rest and the two slots' read shares. -/
theorem tokens_split (c : Dev nD) (h : HBuf F) :
    (hLoc c ↦{fullShare} h : sProp (MT nD τ sig Unit (Elt F) ℕ (Pipeline.UD sig nD τ) ℕ))
      ⊣⊢ iprop((hLoc c ↦{restShare} h) ∗ bigSep (Finset.univ : Finset (Fin 256)) (fun k => readTok c h 0 k.val)
        ∗ bigSep (Finset.univ : Finset (Fin 256)) (fun k => readTok c h 1 k.val)) := by
  have e := Transfers.pointsTo_toks_range (ℓ := hLoc c) (S := Finset.univ) (f := h) (Ix := Unit) (Name := ℕ) (U := Pipeline.UD sig nD τ) (Lvl := ℕ) fullShare 512
  have e0 : bigSep (Finset.univ : Finset (Fin 256)) (fun k => (readTok c h 0 k.val : sProp (MT nD τ sig Unit (Elt F) ℕ (Pipeline.UD sig nD τ) ℕ)))
      = bigSep (Finset.range 256) (fun i => (hLoc c ↦{Transfers.shareTokN fullShare i} h)) :=
    Ring.bigSep_fin_eq_range 256 _ _ fun t ht => by
      show _ = (hLoc c ↦{Transfers.shareTokN fullShare (0 * 256 + t)} h)
      rw [Nat.zero_mul, Nat.zero_add]
  have e1 : bigSep (Finset.univ : Finset (Fin 256)) (fun k => (readTok c h 1 k.val : sProp (MT nD τ sig Unit (Elt F) ℕ (Pipeline.UD sig nD τ) ℕ)))
      = bigSep (Finset.range 256) (fun i => (hLoc c ↦{Transfers.shareTokN fullShare (256 + i)} h)) :=
    Ring.bigSep_fin_eq_range 256 _ _ fun t ht => by
      show _ = (hLoc c ↦{Transfers.shareTokN fullShare (1 * 256 + t)} h)
      rw [Nat.one_mul]
  rw [show (512 : ℕ) = 256 + 256 from rfl, PageRing.bigSep_range_add] at e
  rw [e0, e1]
  exact e

theorem any_row (c : Dev nD) (s : Fin 2) (k : Fin 256) (f : Buf (Elt F) (xLoc c)) :
    (xLoc c ↦[xRow s k]{fullShare} f : sProp (MT nD τ sig Unit (Elt F) ℕ (Pipeline.UD sig nD τ) ℕ)) ⊢ rowAny c s k := by
  iintro H; iexists f; iexact H

theorem slot_split (c : Dev nD) (s : Fin 2) (f : Buf (Elt F) (xLoc c)) :
    (xLoc c ↦[xSlot s]{fullShare} f : sProp (MT nD τ sig Unit (Elt F) ℕ (Pipeline.UD sig nD τ) ℕ)) ⊢ bigSep (Finset.univ : Finset (Fin 256)) (rowAny c s) := by
  rw [Ring.pointsTo_sub_blocks (ℓ := xLoc c) (xRow s) (fun b b' h => xRow_disjoint s b b' h) (xSlot s) (xRow_cover s) f]
  exact bigSep_mono fun k _ => any_row c s k f

/-- The row buffer's rows. -/
theorem rows_split (c : Dev nD) (f : Buf (Elt F) (xLoc c)) :
    (xLoc c ↦{fullShare} f : sProp (MT nD τ sig Unit (Elt F) ℕ (Pipeline.UD sig nD τ) ℕ))
      ⊢ iprop(bigSep (Finset.univ : Finset (Fin 256)) (rowAny c 0) ∗ bigSep (Finset.univ : Finset (Fin 256)) (rowAny c 1)) := by
  have h01 := pointsTo_split_subset (ℓ := xLoc c) (I := xSlot 0) (S := Finset.univ) (q := fullShare) (f := f) (Ix := Unit) (Name := ℕ) (U := Pipeline.UD sig nD τ) (Lvl := ℕ) (Finset.subset_univ _)
  have hc : (Finset.univ \ xSlot 0 : Finset S8192x128.Idx) = xSlot 1 := by
    rw [← xSlot_cover, Finset.union_sdiff_left]; exact Finset.sdiff_eq_self_of_disjoint xSlot_disjoint.symm
  rw [hc] at h01
  iintro H
  ihave H' := h01.1 $$ H
  icases H' with ⟨H0, H1⟩
  isplitl [H0]
  · iapply (slot_split c 0 f); iexact H0
  · iapply (slot_split c 1 f); iexact H1

/-- A slot's rows, at some contents, are the slot at some contents. -/
theorem slot_join (c : Dev nD) (s : Fin 2) (f₀ : Buf (Elt F) (xLoc c)) :
    bigSep (Finset.univ : Finset (Fin 256)) (rowAny c s) ⊢ (iprop(∃ g, xLoc c ↦[xSlot s]{fullShare} g) : sProp (MT nD τ sig Unit (Elt F) ℕ (Pipeline.UD sig nD τ) ℕ)) :=
  Ring.pointsTo_sub_blocks_join_exists (ℓ := xLoc c) (xRow s) (fun b b' h => xRow_disjoint s b b' h) (xSlot s) (xRow_cover s) f₀

theorem rows_join (c : Dev nD) (f₀ : Buf (Elt F) (xLoc c)) :
    iprop(bigSep (Finset.univ : Finset (Fin 256)) (rowAny c 0) ∗ bigSep (Finset.univ : Finset (Fin 256)) (rowAny c 1))
      ⊢ (iprop(∃ g, xLoc c ↦{fullShare} g) : sProp (MT nD τ sig Unit (Elt F) ℕ (Pipeline.UD sig nD τ) ℕ)) := by
  iintro ⟨H0, H1⟩
  ihave H0' := slot_join c 0 f₀ $$ H0
  ihave H1' := slot_join c 1 f₀ $$ H1
  icases H0' with ⟨%g0, H0⟩
  icases H1' with ⟨%g1, H1⟩
  have hj := pointsTo_join (ℓ := xLoc c) (q := fullShare) (f := g0) (g := g1) (Ix := Unit) (Name := ℕ) (U := Pipeline.UD sig nD τ) (Lvl := ℕ) xSlot_disjoint
  rw [xSlot_cover] at hj
  iexists _
  iapply hj
  isplitl [H0]; · iexact H0
  iexact H1

/-- Both slots free, from the counters at zero and the buffers whole; -/
theorem free_start (c : Dev nD) (h : HBuf F) (f : Buf (Elt F) (xLoc c)) :
    iprop(semVal ((c : Thread nD τ), SemLoc.dma (cel 0)) 0 ∗ semVal ((c : Thread nD τ), SemLoc.dma (cel 1)) 0 ∗ (xLoc c ↦{fullShare} f) ∗ (hLoc c ↦{fullShare} h))
      ⊢ (iprop(free c h 0 ∗ free c h 1 ∗ (hLoc c ↦{restShare} h)) : sProp (MT nD τ sig Unit (Elt F) ℕ (Pipeline.UD sig nD τ) ℕ)) := by
  unfold free
  iintro ⟨Hs0, Hs1, Hx, Hh⟩
  ihave Hx' := rows_split c f $$ Hx
  icases Hx' with ⟨Hx0, Hx1⟩
  ihave Hh' := (tokens_split c h).1 $$ Hh
  icases Hh' with ⟨Hr, Ht0, Ht1⟩
  isplitl [Hs0 Hx0 Ht0]
  · isplitl [Hs0]; · iexact Hs0
    rw [show bigSep (Finset.univ : Finset (Fin 256)) (ready c h 0) = iprop(bigSep Finset.univ (fun k : Fin 256 => readTok c h 0 k.val) ∗ bigSep Finset.univ (rowAny c 0)) from bigSep_sep _ _ _]
    isplitl [Ht0]; · iexact Ht0
    iexact Hx0
  isplitl [Hs1 Hx1 Ht1]
  · isplitl [Hs1]; · iexact Hs1
    rw [show bigSep (Finset.univ : Finset (Fin 256)) (ready c h 1) = iprop(bigSep Finset.univ (fun k : Fin 256 => readTok c h 1 k.val) ∗ bigSep Finset.univ (rowAny c 1)) from bigSep_sep _ _ _]
    isplitl [Ht1]; · iexact Ht1
    iexact Hx1
  iexact Hr

/-- and back. -/
theorem free_end (c : Dev nD) (h : HBuf F) (f₀ : Buf (Elt F) (xLoc c)) :
    iprop(free c h 0 ∗ free c h 1 ∗ (hLoc c ↦{restShare} h))
      ⊢ (iprop(semVal ((c : Thread nD τ), SemLoc.dma (cel 0)) 0 ∗ semVal ((c : Thread nD τ), SemLoc.dma (cel 1)) 0 ∗ (∃ f, xLoc c ↦{fullShare} f) ∗ (hLoc c ↦{fullShare} h)) : sProp (MT nD τ sig Unit (Elt F) ℕ (Pipeline.UD sig nD τ) ℕ)) := by
  unfold free
  rw [show bigSep (Finset.univ : Finset (Fin 256)) (ready c h 0) = iprop(bigSep Finset.univ (fun k : Fin 256 => readTok c h 0 k.val) ∗ bigSep Finset.univ (rowAny c 0)) from bigSep_sep _ _ _,
    show bigSep (Finset.univ : Finset (Fin 256)) (ready c h 1) = iprop(bigSep Finset.univ (fun k : Fin 256 => readTok c h 1 k.val) ∗ bigSep Finset.univ (rowAny c 1)) from bigSep_sep _ _ _]
  iintro ⟨⟨Hs0, Ht0, Hx0⟩, ⟨Hs1, Ht1, Hx1⟩, Hr⟩
  isplitl [Hs0]; · iexact Hs0
  isplitl [Hs1]; · iexact Hs1
  isplitl [Hx0 Hx1]
  · iapply (rows_join c f₀)
    isplitl [Hx0]; · iexact Hx0
    iexact Hx1
  iapply (tokens_split c h).2
  isplitl [Hr]; · iexact Hr
  isplitl [Ht0]; · iexact Ht0
  iexact Ht1

end Cert.ExpertsIdeal.Hand

end
-- ==== Proof.ExpertsIdeal.Tables.lean ====
/- UNTRUSTED — The experts call: its tables, as the precondition leaves them.

   The precondition bounds the three integer arguments; those bounds put every table-indexed block inside its array. -/
module

public import proofs.«01_k».proof.Proof.ExpertsIdeal.Ends
public import proofs.«01_k».proof.Proof.Gen.Pre_routed
public import proofs.«01_k».proof.Proof.Gen.ExpertsIdeal.Launch
public import Idealize.ShloMosaic.Lib.WordCmp
public import Idealize.ShloMosaic.Lib.WordArith
public import Idealize.ShloMosaic.Lib.ReduceAll

@[expose] public section

noncomputable section

namespace Cert.ExpertsIdeal.Hand

open Cert.ExpertsIdeal Cert.ExpertsIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

variable (m : (ℓ : Loc nD τ sig) → Buf (Elt F) ℓ)

/-- The three integer arguments: the row numbers, each tile's expert, the number of tiles in use. -/
abbrev slotTok (c : Dev nD) : S304x256.Idx → BitVec 32 := m ((c : Thread nD τ).loc main_arg1)
abbrev expertOf (c : Dev nD) : S304.Idx → BitVec 32 := m ((c : Thread nD τ).loc main_arg2)
abbrev inUse (c : Dev nD) : S1.Idx → BitVec 32 := m ((c : Thread nD τ).loc main_arg3)

/-- What the precondition says. -/
def Good : Prop := ∀ c : Dev nD, (∀ j, (slotTok m c j).toNat < 17408) ∧ (∀ j, (expertOf m c j).toNat < 32)
  ∧ ∀ j, 0 < (inUse m c j).toNat ∧ (inUse m c j).toNat ≤ 304

theorem range_word (x : BitVec 32) (n : ℕ) (hn : n < 2147483648) (h1 : IntOp.cmpi .sge x 0#32 = 1#1) (h2 : IntOp.cmpi .slt x (BitVec.ofNat 32 n) = 1#1) :
    x.toNat < n := by
  rw [WordCmp.cmpi_sge_eq, WordArith.ofBool_eq_one_iff, decide_eq_true_eq] at h1
  rw [WordCmp.cmpi_slt_eq, WordArith.ofBool_eq_one_iff, decide_eq_true_eq] at h2
  have e1 : (BitVec.ofNat 32 n).toNat = n := by rw [BitVec.toNat_ofNat]; omega
  have e2 : (BitVec.ofNat 32 n).toInt = n := by rw [BitVec.toInt_eq_toNat_of_lt (by rw [e1]; omega), e1]
  have e3 : (0#32 : BitVec 32).toInt = 0 := by decide
  rw [e2] at h2; rw [e3] at h1
  have e4 : x.toInt = x.toNat := by rw [BitVec.toInt_eq_toNat_cond]; rw [BitVec.toInt_eq_toNat_cond] at h1; split <;> omega
  omega

theorem count_word (x : BitVec 32) (h1 : IntOp.cmpi .sge x 1#32 = 1#1) (h2 : IntOp.cmpi .sle x 304#32 = 1#1) : 0 < x.toNat ∧ x.toNat ≤ 304 := by
  rw [WordCmp.cmpi_sge_eq, WordArith.ofBool_eq_one_iff, decide_eq_true_eq] at h1
  rw [WordCmp.cmpi_sle_eq, WordArith.ofBool_eq_one_iff, decide_eq_true_eq] at h2
  have e2 : (304#32 : BitVec 32).toInt = 304 := by decide
  have e3 : (1#32 : BitVec 32).toInt = 1 := by decide
  rw [e2] at h2; rw [e3] at h1
  have e4 : x.toInt = x.toNat := by rw [BitVec.toInt_eq_toNat_cond]; rw [BitVec.toInt_eq_toNat_cond] at h1; split <;> omega
  omega

/-- The precondition read back. -/
theorem good_of_pre (h : ∀ c : Dev nD, Cert.Pre_routed.fn (F := F) (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg5)) (m ((c.tc : Thread nD τ).loc main_arg6)) (m ((c.tc : Thread nD τ).loc main_arg7)) = fun _ => 1#1) : Good m := by
  intro c
  have e := congrFun (h c) ValueIdx.ix0
  dsimp only [Cert.Pre_routed.fn, Cert.Pre_routed.fn_part1] at e
  obtain ⟨e01, e2⟩ := IntOp.andi_eq_one.1 e
  obtain ⟨e0, e1⟩ := IntOp.andi_eq_one.1 e01
  refine ⟨fun j => ?_, fun j => ?_, fun j => ?_⟩
  · obtain ⟨a, b⟩ := IntOp.andi_eq_one.1 (Host.reduce_andi_all _ _ _ _ _ e0 j)
    exact range_word _ 17408 (by decide) a b
  · obtain ⟨a, b⟩ := IntOp.andi_eq_one.1 (Host.reduce_andi_all _ _ _ _ _ e1 j)
    exact range_word _ 32 (by decide) a b
  · obtain ⟨a, b⟩ := IntOp.andi_eq_one.1 (Host.reduce_andi_all _ _ _ _ _ e2 j)
    exact count_word _ a b

/-! ## The table-indexed blocks -/

/-- A table's word at a step. -/
theorem tab_word (X : S304.Idx → BitVec 32) (i : grid0.Coords) (x : (Rect.unit (s := S304) (k0_off1 i) S1.size (k0_off1_inb i)).shape.Idx) :
    X ((Rect.unit (s := S304) (k0_off1 i) S1.size (k0_off1_inb i)).emb x) = X (ix1 (⟨(i 0).val, step_lt i⟩ : Fin 304)) := by
  refine congrArg X ?_
  funext a; apply Fin.ext; fin_cases a
  have e : k0_off1 i 0 = (i 0).val := by rw [off1_eq]; rfl
  have h : (x 0).val < 1 := (x 0).isLt
  show k0_off1 i 0 + 1 * (x 0).val = (i 0).val
  omega

/-- The expert of the step's tile. -/
abbrev eAt (pf : pre0.Contents (Elt F)) (i : grid0.Coords) : BitVec 32 := (pf 0 : S304.Idx → BitVec 32) (ix1 (⟨(i 0).val, step_lt i⟩ : Fin 304))

theorem at_word (pf : pre0.Contents (Elt F)) (i : grid0.Coords) :
    (pf.at 0 (Rect.unit (s := S304) (k0_off1 i) S1.size (k0_off1_inb i)) numel1_S1 : BitVec 32) = eAt pf i :=
  tab_word (pf 0) i _

theorem tr3_eq (pf : pre0.Contents (Elt F)) (i : grid0.Coords) : cc0_transform_3 k0_off1_inb numel1_S1 pf i = ![(eAt pf i).toNat, 0, 0] := by
  have h : cc0_transform_3 k0_off1_inb numel1_S1 pf i
      = ![(Scalar.subi (pf.at 0 (Rect.unit (s := S304) (k0_off1 i) S1.size (k0_off1_inb i)) numel1_S1 : BitVec 32) 0#32).toNat, 0, 0] := rfl
  rw [h, at_word]
  show ![(eAt pf i - 0#32).toNat, 0, 0] = _
  rw [BitVec.sub_zero]

theorem tr4_eq (pf : pre0.Contents (Elt F)) (i : grid0.Coords) : cc0_transform_4 k0_off1_inb numel1_S1 pf i = ![(eAt pf i).toNat, 0, 1] := by
  have h : cc0_transform_4 k0_off1_inb numel1_S1 pf i
      = ![(Scalar.subi (pf.at 0 (Rect.unit (s := S304) (k0_off1 i) S1.size (k0_off1_inb i)) numel1_S1 : BitVec 32) 0#32).toNat, 0, 1] := rfl
  rw [h, at_word]
  show ![(eAt pf i - 0#32).toNat, 0, 1] = _
  rw [BitVec.sub_zero]

theorem tr5_eq (pf : pre0.Contents (Elt F)) (i : grid0.Coords) : cc0_transform_5 k0_off1_inb numel1_S1 pf i = ![(eAt pf i).toNat, 0, 2] := by
  have h : cc0_transform_5 k0_off1_inb numel1_S1 pf i
      = ![(Scalar.subi (pf.at 0 (Rect.unit (s := S304) (k0_off1 i) S1.size (k0_off1_inb i)) numel1_S1 : BitVec 32) 0#32).toNat, 0, 2] := rfl
  rw [h, at_word]
  show ![(eAt pf i - 0#32).toNat, 0, 2] = _
  rw [BitVec.sub_zero]

theorem tr6_eq (pf : pre0.Contents (Elt F)) (i : grid0.Coords) : cc0_transform_6 k0_off1_inb numel1_S1 pf i = ![(eAt pf i).toNat, 0, 3] := by
  have h : cc0_transform_6 k0_off1_inb numel1_S1 pf i
      = ![(Scalar.subi (pf.at 0 (Rect.unit (s := S304) (k0_off1 i) S1.size (k0_off1_inb i)) numel1_S1 : BitVec 32) 0#32).toNat, 0, 3] := rfl
  rw [h, at_word]
  show ![(eAt pf i - 0#32).toNat, 0, 3] = _
  rw [BitVec.sub_zero]

theorem tr7_eq (pf : pre0.Contents (Elt F)) (i : grid0.Coords) : cc0_transform_7 k0_off1_inb numel1_S1 pf i = ![(eAt pf i).toNat, 0, 0] := by
  have h : cc0_transform_7 k0_off1_inb numel1_S1 pf i
      = ![(pf.at 0 (Rect.unit (s := S304) (k0_off1 i) S1.size (k0_off1_inb i)) numel1_S1 : BitVec 32).toNat, 0, 0] := rfl
  rw [h, at_word]

theorem tr8_eq (pf : pre0.Contents (Elt F)) (i : grid0.Coords) : cc0_transform_8 k0_off1_inb numel1_S1 pf i = ![(eAt pf i).toNat, 0, 0] := by
  have h : cc0_transform_8 k0_off1_inb numel1_S1 pf i
      = ![(pf.at 0 (Rect.unit (s := S304) (k0_off1 i) S1.size (k0_off1_inb i)) numel1_S1 : BitVec 32).toNat, 0, 0] := rfl
  rw [h, at_word]

theorem tr9_eq (pf : pre0.Contents (Elt F)) (i : grid0.Coords) : cc0_transform_9 k0_off1_inb numel1_S1 pf i = ![(eAt pf i).toNat, 0, 1] := by
  have h : cc0_transform_9 k0_off1_inb numel1_S1 pf i
      = ![(pf.at 0 (Rect.unit (s := S304) (k0_off1 i) S1.size (k0_off1_inb i)) numel1_S1 : BitVec 32).toNat, 0, 1] := rfl
  rw [h, at_word]

theorem tr10_eq (pf : pre0.Contents (Elt F)) (i : grid0.Coords) : cc0_transform_10 k0_off1_inb numel1_S1 pf i = ![(eAt pf i).toNat, 0, 2] := by
  have h : cc0_transform_10 k0_off1_inb numel1_S1 pf i
      = ![(pf.at 0 (Rect.unit (s := S304) (k0_off1 i) S1.size (k0_off1_inb i)) numel1_S1 : BitVec 32).toNat, 0, 2] := rfl
  rw [h, at_word]

theorem tr11_eq (pf : pre0.Contents (Elt F)) (i : grid0.Coords) : cc0_transform_11 k0_off1_inb numel1_S1 pf i = ![(eAt pf i).toNat, 0, 3] := by
  have h : cc0_transform_11 k0_off1_inb numel1_S1 pf i
      = ![(pf.at 0 (Rect.unit (s := S304) (k0_off1 i) S1.size (k0_off1_inb i)) numel1_S1 : BitVec 32).toNat, 0, 3] := rfl
  rw [h, at_word]

theorem tr12_eq (pf : pre0.Contents (Elt F)) (i : grid0.Coords) : cc0_transform_12 k0_off1_inb numel1_S1 pf i = ![(eAt pf i).toNat, 0, 0] := by
  have h : cc0_transform_12 k0_off1_inb numel1_S1 pf i
      = ![(pf.at 0 (Rect.unit (s := S304) (k0_off1 i) S1.size (k0_off1_inb i)) numel1_S1 : BitVec 32).toNat, 0, 0] := rfl
  rw [h, at_word]

theorem tr0_eq (i : grid0.Coords) : cc0_transform_0 i = ![(i 0).val, 0, 0] := by
  have h := step_lt i
  unfold cc0_transform_0; dsimp only
  rw [show (BitVec.ofNat 32 (i 0).val).toNat = (i 0).val from by rw [BitVec.toNat_ofNat]; omega]
  rfl
theorem next_word : ∀ n : Fin 304, (Scalar.minsi (Scalar.addi (BitVec.ofNat 32 n.val) 1#32) 303#32 : BitVec 32).toNat = min (n.val + 1) 303 := by decide +kernel
theorem tr1_eq (i : grid0.Coords) : cc0_transform_1 i = ![min ((i 0).val + 1) 303, 0, 0] := by
  have h : cc0_transform_1 i = ![(Scalar.minsi (Scalar.addi (BitVec.ofNat 32 (i 0).val) 1#32) 303#32 : BitVec 32).toNat, 0, 0] := rfl
  rw [h, next_word ⟨(i 0).val, step_lt i⟩]

/-- Tables within bounds put every block inside its array. -/
theorem ok_of_lt (pf : pre0.Contents (Elt F)) (h : ∀ j, ((pf 0 : S304.Idx → BitVec 32) j).toNat < 32) : ok0 pf := by
  unfold ok0
  refine ⟨?_, ?_, ?_, ?_, ?_, ?_, ?_, ?_, ?_, ?_⟩ <;> intro i <;> have hi : (eAt pf i).toNat < 32 := h _
  · refine ⟨fun a => ?_, .inr (Affine.block_words_dvd (of_decide_eq_true rfl) (by decide))⟩
    rw [tr3_eq]
    fin_cases a
    · show ((eAt pf i).toNat + 1) * 1 ≤ 32; omega
    · show (0 + 1) * 2048 ≤ 2048; omega
    · show (0 + 1) * 512 ≤ 2048; omega
  · refine ⟨fun a => ?_, .inr (Affine.block_words_dvd (of_decide_eq_true rfl) (by decide))⟩
    rw [tr4_eq]
    fin_cases a
    · show ((eAt pf i).toNat + 1) * 1 ≤ 32; omega
    · show (0 + 1) * 2048 ≤ 2048; omega
    · show (1 + 1) * 512 ≤ 2048; omega
  · refine ⟨fun a => ?_, .inr (Affine.block_words_dvd (of_decide_eq_true rfl) (by decide))⟩
    rw [tr5_eq]
    fin_cases a
    · show ((eAt pf i).toNat + 1) * 1 ≤ 32; omega
    · show (0 + 1) * 2048 ≤ 2048; omega
    · show (2 + 1) * 512 ≤ 2048; omega
  · refine ⟨fun a => ?_, .inr (Affine.block_words_dvd (of_decide_eq_true rfl) (by decide))⟩
    rw [tr6_eq]
    fin_cases a
    · show ((eAt pf i).toNat + 1) * 1 ≤ 32; omega
    · show (0 + 1) * 2048 ≤ 2048; omega
    · show (3 + 1) * 512 ≤ 2048; omega
  · refine ⟨fun a => ?_, .inl rfl⟩
    rw [tr7_eq]
    fin_cases a
    · show ((eAt pf i).toNat + 1) * 1 ≤ 64; omega
    · show (0 + 1) * 1 ≤ 1; omega
    · show (0 + 1) * 2048 ≤ 2048; omega
  · refine ⟨fun a => ?_, .inl rfl⟩
    rw [tr8_eq]
    fin_cases a
    · show ((eAt pf i).toNat + 1) * 1 ≤ 64; omega
    · show (0 + 1) * 1024 ≤ 1024; omega
    · show (0 + 1) * 512 ≤ 2048; omega
  · refine ⟨fun a => ?_, .inl rfl⟩
    rw [tr9_eq]
    fin_cases a
    · show ((eAt pf i).toNat + 1) * 1 ≤ 64; omega
    · show (0 + 1) * 1024 ≤ 1024; omega
    · show (1 + 1) * 512 ≤ 2048; omega
  · refine ⟨fun a => ?_, .inl rfl⟩
    rw [tr10_eq]
    fin_cases a
    · show ((eAt pf i).toNat + 1) * 1 ≤ 64; omega
    · show (0 + 1) * 1024 ≤ 1024; omega
    · show (2 + 1) * 512 ≤ 2048; omega
  · refine ⟨fun a => ?_, .inl rfl⟩
    rw [tr11_eq]
    fin_cases a
    · show ((eAt pf i).toNat + 1) * 1 ≤ 64; omega
    · show (0 + 1) * 1024 ≤ 1024; omega
    · show (3 + 1) * 512 ≤ 2048; omega
  · refine ⟨fun a => ?_, .inl rfl⟩
    rw [tr12_eq]
    fin_cases a
    · show ((eAt pf i).toNat + 1) * 1 ≤ 64; omega
    · show (0 + 1) * 1 ≤ 1; omega
    · show (0 + 1) * 2048 ≤ 2048; omega

/-- The tables the region is entered with, admissible. -/
def tabs : pre0.Contents (Elt F) := fun k => m (((0 : Dev nD) : Thread nD τ).loc (pre0.ref k))
def adm (hG : Good m) : (pcfg0 (F := F)).Adm := ⟨tabs m, ok_of_lt _ fun j => (hG 0).2.1 j⟩
abbrev adms (hG : Good m) : (p : Fin 1) → (pcfgs (F := F) p).Adm := fun _ => adm m hG

/-- Every step writes its output block: under one condition or under its negation. -/
theorem writes_out (i : grid0.Coords) (v : BitVec 32) : (!(k0_cond4 i v == 1#1) && !(k0_cond6 i v == 1#1)) = false := by
  unfold k0_cond4 k0_cond6; dsimp only; rw [ext_ne, ext_ne]
  generalize Scalar.cmpi .slt (BitVec.ofNat 32 (i 0).val) v = b
  revert b; decide

end Cert.ExpertsIdeal.Hand

end
-- ==== Proof.ExpertsIdeal.Blocks.lean ====
/- UNTRUSTED — The experts call: what each window's block holds at each grid step.

   Two windows take a row of the slot table, ten a block of the step's expert's weights, one is written. -/
module

public import proofs.«01_k».proof.Proof.ExpertsIdeal.Tables
public import Idealize.ShloMosaic.Lib.Pipeline.FrameBody
public import Idealize.ShloMosaic.Lib.Pipeline.FrameValue
public import Idealize.ShloMosaic.Lib.Claim

@[expose] public section

set_option maxRecDepth 16384

noncomputable section

namespace Cert.ExpertsIdeal.Hand

open Cert.ExpertsIdeal Cert.ExpertsIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

open Idealize.ShloMosaic.Pipeline (Dat Cfg Window BodyObligation cellOf)

variable (m : (ℓ : Loc nD τ sig) → Buf (Elt F) ℓ)

/-! ## @main up to the region -/

/-- The buffers when the region is entered. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
theorem hmain (𝒱₀ : Variants) : Pipeline.HMainP (Ix := Unit) (Name := ℕ) (U := Pipeline.UD sig nD τ) (Lvl := ℕ) pcfgs 0 defs₀ 𝒱₀ m (main (F := F)) (V m) :=
  Pipeline.hmainP_prefix pcfgs 0 defs₀ 𝒱₀ m main hostOps0 hostOps0_sub hostOps0_fresh main_chain

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, StableHlo.reshape_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.unary_writes, StableHlo.reshape_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.unary_writes, StableHlo.reshape_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.unary_writes, StableHlo.reshape_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.unary_writes, StableHlo.reshape_writes, Finset.mem_singleton]
    repeat' apply And.intro
    all_goals exact StableHlo.devRef_ne_of_ne (by decide)))
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.unary_writes, StableHlo.reshape_writes, Finset.mem_singleton]
    repeat' apply And.intro
    all_goals exact StableHlo.devRef_ne_of_ne (by decide)))
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.unary_writes, StableHlo.reshape_writes, Finset.mem_singleton]
    repeat' apply And.intro
    all_goals exact StableHlo.devRef_ne_of_ne (by decide)))
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.unary_writes, StableHlo.reshape_writes, Finset.mem_singleton]
    repeat' apply And.intro
    all_goals exact StableHlo.devRef_ne_of_ne (by decide)))

/-- The rows the body copies from: the argument, each row cut into sixteen pieces. -/
theorem V_main_v0 (c : Dev nD) : V m c main_v0 = shapeCast S17408x16x128 (m ((c : Thread nD τ).loc main_arg0)) shapeCasts_S17408x2048_S17408x16x128 := by
  unfold_abbrev_sides
  after_results; rfl
/-- The slot table, with an axis of one. -/
theorem V_main_v1 (c : Dev nD) : V m c main_v1 = broadcastInDim S304x1x256 ![0, 2] bcast_S304x256_S304x1x256_0_2 (slotTok m c) := by
  unfold_abbrev_sides
  after_results

/-! ## The windows' blocks -/

variable (hG : Good m)

/-- Window `w`'s block at point `t`, read off its array as the region finds it. -/
def iblk (c : Dev nD) (w : Fin (cfg0 (adm m hG)).W) (t : Fin (cfg0 (adm m hG)).N) :
    (((cfg0 (adm m hG)).win w).xblock ((cfg0 (adm m hG)).grid.coords t)).Idx → Elt F ((cfg0 (adm m hG)).win w).elt :=
  (((cfg0 (adm m hG)).win w).blk t).view.read (Elt F) (V m c (Pipeline.arrRef spec0 w))

theorem pt_val : ∀ t : Fin grid0.N, (grid0.coords t 0).val = t.val := by decide +kernel
theorem pt_lt (t : Fin grid0.N) : t.val < 304 := t.isLt

include hG in
/-- The expert of step `t`'s tile. -/
theorem expert_lt (c : Dev nD) (t : Fin grid0.N) : (expertOf m c (ix1 (⟨t.val, pt_lt t⟩ : Fin 304))).toNat < 32 := (hG c).2.1 _

theorem eAt_eq (c : Dev nD) (t : Fin grid0.N) : eAt (adm m hG).1 (grid0.coords t) = expertOf m c (ix1 (⟨t.val, pt_lt t⟩ : Fin 304)) := by
  obtain rfl : c = 0 := Subsingleton.elim _ _
  refine congrArg (expertOf m 0) ?_
  funext a; apply Fin.ext; fin_cases a
  exact pt_val t

theorem iblk0 (c : Dev nD) (t : Fin grid0.N) (y : S1x1x256.Idx) :
    iblk m hG c 0 t y = slotTok m c (ix2 (⟨t.val, pt_lt t⟩ : Fin 304) (⟨(y 2).val, (y 2).isLt⟩ : Fin 256)) := by
  show V m c main_v1 ((((cfg0 (adm m hG)).win 0).blk t).view.emb y) = _
  rw [V_main_v1]
  refine congrArg (slotTok m c) ?_
  have hy : (y 0).val < 1 := (y 0).isLt
  funext a; apply Fin.ext; fin_cases a
  · show cc0_transform_0 (grid0.coords t) 0 * 1 + 1 * (y 0).val = t.val
    rw [tr0_eq]
    show (grid0.coords t 0).val * 1 + 1 * (y 0).val = t.val
    have := pt_val t; omega
  · show cc0_transform_0 (grid0.coords t) 2 * 256 + 1 * (y 2).val = (y 2).val
    rw [tr0_eq]
    show 0 * 256 + 1 * (y 2).val = (y 2).val
    omega

theorem iblk1 (c : Dev nD) (t : Fin grid0.N) (y : S1x1x256.Idx) :
    iblk m hG c 1 t y = slotTok m c (ix2 (⟨min (t.val + 1) 303, by omega⟩ : Fin 304) (⟨(y 2).val, (y 2).isLt⟩ : Fin 256)) := by
  show V m c main_v1 ((((cfg0 (adm m hG)).win 1).blk t).view.emb y) = _
  rw [V_main_v1]
  refine congrArg (slotTok m c) ?_
  have hy : (y 0).val < 1 := (y 0).isLt
  funext a; apply Fin.ext; fin_cases a
  · show cc0_transform_1 (grid0.coords t) 0 * 1 + 1 * (y 0).val = min (t.val + 1) 303
    rw [tr1_eq]
    show min ((grid0.coords t 0).val + 1) 303 * 1 + 1 * (y 0).val = min (t.val + 1) 303
    have := pt_val t; omega
  · show cc0_transform_1 (grid0.coords t) 2 * 256 + 1 * (y 2).val = (y 2).val
    rw [tr1_eq]
    show 0 * 256 + 1 * (y 2).val = (y 2).val
    omega

theorem iblk2 (c : Dev nD) (t : Fin grid0.N) (y : S1x2048x512.Idx) :
    iblk m hG c 2 t y = m ((c : Thread nD τ).loc main_arg4) (ix3 (⟨(expertOf m c (ix1 (⟨t.val, pt_lt t⟩ : Fin 304))).toNat, by have := expert_lt m hG c t; omega⟩ : Fin 32) (⟨(y 1).val, (y 1).isLt⟩ : Fin 2048)
      (⟨0 * 512 + (y 2).val, by have h : (y 2).val < 512 := (y 2).isLt; omega⟩ : Fin 2048)) := by
  show V m c main_arg4 ((((cfg0 (adm m hG)).win 2).blk t).view.emb y) = _
  rw [V_main_arg4]
  refine congrArg (m ((c : Thread nD τ).loc main_arg4)) ?_
  have hy : (y 0).val < 1 := (y 0).isLt
  funext a; apply Fin.ext; fin_cases a
  · show cc0_transform_3 k0_off1_inb numel1_S1 (adm m hG).1 (grid0.coords t) 0 * 1 + 1 * (y 0).val = _
    rw [tr3_eq, eAt_eq m hG c t]
    show (expertOf m c (ix1 (⟨t.val, pt_lt t⟩ : Fin 304))).toNat * 1 + 1 * (y 0).val = (expertOf m c (ix1 (⟨t.val, pt_lt t⟩ : Fin 304))).toNat
    omega
  · show cc0_transform_3 k0_off1_inb numel1_S1 (adm m hG).1 (grid0.coords t) 1 * 2048 + 1 * (y 1).val = (y 1).val
    rw [tr3_eq]
    show 0 * 2048 + 1 * (y 1).val = (y 1).val
    omega
  · show cc0_transform_3 k0_off1_inb numel1_S1 (adm m hG).1 (grid0.coords t) 2 * 512 + 1 * (y 2).val = 0 * 512 + (y 2).val
    rw [tr3_eq]
    show 0 * 512 + 1 * (y 2).val = 0 * 512 + (y 2).val
    omega

theorem iblk3 (c : Dev nD) (t : Fin grid0.N) (y : S1x2048x512.Idx) :
    iblk m hG c 3 t y = m ((c : Thread nD τ).loc main_arg4) (ix3 (⟨(expertOf m c (ix1 (⟨t.val, pt_lt t⟩ : Fin 304))).toNat, by have := expert_lt m hG c t; omega⟩ : Fin 32) (⟨(y 1).val, (y 1).isLt⟩ : Fin 2048)
      (⟨1 * 512 + (y 2).val, by have h : (y 2).val < 512 := (y 2).isLt; omega⟩ : Fin 2048)) := by
  show V m c main_arg4 ((((cfg0 (adm m hG)).win 3).blk t).view.emb y) = _
  rw [V_main_arg4]
  refine congrArg (m ((c : Thread nD τ).loc main_arg4)) ?_
  have hy : (y 0).val < 1 := (y 0).isLt
  funext a; apply Fin.ext; fin_cases a
  · show cc0_transform_4 k0_off1_inb numel1_S1 (adm m hG).1 (grid0.coords t) 0 * 1 + 1 * (y 0).val = _
    rw [tr4_eq, eAt_eq m hG c t]
    show (expertOf m c (ix1 (⟨t.val, pt_lt t⟩ : Fin 304))).toNat * 1 + 1 * (y 0).val = (expertOf m c (ix1 (⟨t.val, pt_lt t⟩ : Fin 304))).toNat
    omega
  · show cc0_transform_4 k0_off1_inb numel1_S1 (adm m hG).1 (grid0.coords t) 1 * 2048 + 1 * (y 1).val = (y 1).val
    rw [tr4_eq]
    show 0 * 2048 + 1 * (y 1).val = (y 1).val
    omega
  · show cc0_transform_4 k0_off1_inb numel1_S1 (adm m hG).1 (grid0.coords t) 2 * 512 + 1 * (y 2).val = 1 * 512 + (y 2).val
    rw [tr4_eq]
    show 1 * 512 + 1 * (y 2).val = 1 * 512 + (y 2).val
    omega

theorem iblk4 (c : Dev nD) (t : Fin grid0.N) (y : S1x2048x512.Idx) :
    iblk m hG c 4 t y = m ((c : Thread nD τ).loc main_arg4) (ix3 (⟨(expertOf m c (ix1 (⟨t.val, pt_lt t⟩ : Fin 304))).toNat, by have := expert_lt m hG c t; omega⟩ : Fin 32) (⟨(y 1).val, (y 1).isLt⟩ : Fin 2048)
      (⟨2 * 512 + (y 2).val, by have h : (y 2).val < 512 := (y 2).isLt; omega⟩ : Fin 2048)) := by
  show V m c main_arg4 ((((cfg0 (adm m hG)).win 4).blk t).view.emb y) = _
  rw [V_main_arg4]
  refine congrArg (m ((c : Thread nD τ).loc main_arg4)) ?_
  have hy : (y 0).val < 1 := (y 0).isLt
  funext a; apply Fin.ext; fin_cases a
  · show cc0_transform_5 k0_off1_inb numel1_S1 (adm m hG).1 (grid0.coords t) 0 * 1 + 1 * (y 0).val = _
    rw [tr5_eq, eAt_eq m hG c t]
    show (expertOf m c (ix1 (⟨t.val, pt_lt t⟩ : Fin 304))).toNat * 1 + 1 * (y 0).val = (expertOf m c (ix1 (⟨t.val, pt_lt t⟩ : Fin 304))).toNat
    omega
  · show cc0_transform_5 k0_off1_inb numel1_S1 (adm m hG).1 (grid0.coords t) 1 * 2048 + 1 * (y 1).val = (y 1).val
    rw [tr5_eq]
    show 0 * 2048 + 1 * (y 1).val = (y 1).val
    omega
  · show cc0_transform_5 k0_off1_inb numel1_S1 (adm m hG).1 (grid0.coords t) 2 * 512 + 1 * (y 2).val = 2 * 512 + (y 2).val
    rw [tr5_eq]
    show 2 * 512 + 1 * (y 2).val = 2 * 512 + (y 2).val
    omega

theorem iblk5 (c : Dev nD) (t : Fin grid0.N) (y : S1x2048x512.Idx) :
    iblk m hG c 5 t y = m ((c : Thread nD τ).loc main_arg4) (ix3 (⟨(expertOf m c (ix1 (⟨t.val, pt_lt t⟩ : Fin 304))).toNat, by have := expert_lt m hG c t; omega⟩ : Fin 32) (⟨(y 1).val, (y 1).isLt⟩ : Fin 2048)
      (⟨3 * 512 + (y 2).val, by have h : (y 2).val < 512 := (y 2).isLt; omega⟩ : Fin 2048)) := by
  show V m c main_arg4 ((((cfg0 (adm m hG)).win 5).blk t).view.emb y) = _
  rw [V_main_arg4]
  refine congrArg (m ((c : Thread nD τ).loc main_arg4)) ?_
  have hy : (y 0).val < 1 := (y 0).isLt
  funext a; apply Fin.ext; fin_cases a
  · show cc0_transform_6 k0_off1_inb numel1_S1 (adm m hG).1 (grid0.coords t) 0 * 1 + 1 * (y 0).val = _
    rw [tr6_eq, eAt_eq m hG c t]
    show (expertOf m c (ix1 (⟨t.val, pt_lt t⟩ : Fin 304))).toNat * 1 + 1 * (y 0).val = (expertOf m c (ix1 (⟨t.val, pt_lt t⟩ : Fin 304))).toNat
    omega
  · show cc0_transform_6 k0_off1_inb numel1_S1 (adm m hG).1 (grid0.coords t) 1 * 2048 + 1 * (y 1).val = (y 1).val
    rw [tr6_eq]
    show 0 * 2048 + 1 * (y 1).val = (y 1).val
    omega
  · show cc0_transform_6 k0_off1_inb numel1_S1 (adm m hG).1 (grid0.coords t) 2 * 512 + 1 * (y 2).val = 3 * 512 + (y 2).val
    rw [tr6_eq]
    show 3 * 512 + 1 * (y 2).val = 3 * 512 + (y 2).val
    omega

theorem iblk6 (c : Dev nD) (t : Fin grid0.N) (y : S1x1x2048.Idx) :
    iblk m hG c 6 t y = m ((c : Thread nD τ).loc main_arg5) (ix3 (⟨(expertOf m c (ix1 (⟨t.val, pt_lt t⟩ : Fin 304))).toNat, by have := expert_lt m hG c t; omega⟩ : Fin 64) (⟨(y 1).val, (y 1).isLt⟩ : Fin 1)
      (⟨0 * 2048 + (y 2).val, by have h : (y 2).val < 2048 := (y 2).isLt; omega⟩ : Fin 2048)) := by
  show V m c main_arg5 ((((cfg0 (adm m hG)).win 6).blk t).view.emb y) = _
  rw [V_main_arg5]
  refine congrArg (m ((c : Thread nD τ).loc main_arg5)) ?_
  have hy : (y 0).val < 1 := (y 0).isLt
  funext a; apply Fin.ext; fin_cases a
  · show cc0_transform_7 k0_off1_inb numel1_S1 (adm m hG).1 (grid0.coords t) 0 * 1 + 1 * (y 0).val = _
    rw [tr7_eq, eAt_eq m hG c t]
    show (expertOf m c (ix1 (⟨t.val, pt_lt t⟩ : Fin 304))).toNat * 1 + 1 * (y 0).val = (expertOf m c (ix1 (⟨t.val, pt_lt t⟩ : Fin 304))).toNat
    omega
  · show cc0_transform_7 k0_off1_inb numel1_S1 (adm m hG).1 (grid0.coords t) 1 * 1 + 1 * (y 1).val = (y 1).val
    rw [tr7_eq]
    show 0 * 1 + 1 * (y 1).val = (y 1).val
    omega
  · show cc0_transform_7 k0_off1_inb numel1_S1 (adm m hG).1 (grid0.coords t) 2 * 2048 + 1 * (y 2).val = 0 * 2048 + (y 2).val
    rw [tr7_eq]
    show 0 * 2048 + 1 * (y 2).val = 0 * 2048 + (y 2).val
    omega

theorem iblk7 (c : Dev nD) (t : Fin grid0.N) (y : S1x1024x512.Idx) :
    iblk m hG c 7 t y = m ((c : Thread nD τ).loc main_arg6) (ix3 (⟨(expertOf m c (ix1 (⟨t.val, pt_lt t⟩ : Fin 304))).toNat, by have := expert_lt m hG c t; omega⟩ : Fin 64) (⟨(y 1).val, (y 1).isLt⟩ : Fin 1024)
      (⟨0 * 512 + (y 2).val, by have h : (y 2).val < 512 := (y 2).isLt; omega⟩ : Fin 2048)) := by
  show V m c main_arg6 ((((cfg0 (adm m hG)).win 7).blk t).view.emb y) = _
  rw [V_main_arg6]
  refine congrArg (m ((c : Thread nD τ).loc main_arg6)) ?_
  have hy : (y 0).val < 1 := (y 0).isLt
  funext a; apply Fin.ext; fin_cases a
  · show cc0_transform_8 k0_off1_inb numel1_S1 (adm m hG).1 (grid0.coords t) 0 * 1 + 1 * (y 0).val = _
    rw [tr8_eq, eAt_eq m hG c t]
    show (expertOf m c (ix1 (⟨t.val, pt_lt t⟩ : Fin 304))).toNat * 1 + 1 * (y 0).val = (expertOf m c (ix1 (⟨t.val, pt_lt t⟩ : Fin 304))).toNat
    omega
  · show cc0_transform_8 k0_off1_inb numel1_S1 (adm m hG).1 (grid0.coords t) 1 * 1024 + 1 * (y 1).val = (y 1).val
    rw [tr8_eq]
    show 0 * 1024 + 1 * (y 1).val = (y 1).val
    omega
  · show cc0_transform_8 k0_off1_inb numel1_S1 (adm m hG).1 (grid0.coords t) 2 * 512 + 1 * (y 2).val = 0 * 512 + (y 2).val
    rw [tr8_eq]
    show 0 * 512 + 1 * (y 2).val = 0 * 512 + (y 2).val
    omega

theorem iblk8 (c : Dev nD) (t : Fin grid0.N) (y : S1x1024x512.Idx) :
    iblk m hG c 8 t y = m ((c : Thread nD τ).loc main_arg6) (ix3 (⟨(expertOf m c (ix1 (⟨t.val, pt_lt t⟩ : Fin 304))).toNat, by have := expert_lt m hG c t; omega⟩ : Fin 64) (⟨(y 1).val, (y 1).isLt⟩ : Fin 1024)
      (⟨1 * 512 + (y 2).val, by have h : (y 2).val < 512 := (y 2).isLt; omega⟩ : Fin 2048)) := by
  show V m c main_arg6 ((((cfg0 (adm m hG)).win 8).blk t).view.emb y) = _
  rw [V_main_arg6]
  refine congrArg (m ((c : Thread nD τ).loc main_arg6)) ?_
  have hy : (y 0).val < 1 := (y 0).isLt
  funext a; apply Fin.ext; fin_cases a
  · show cc0_transform_9 k0_off1_inb numel1_S1 (adm m hG).1 (grid0.coords t) 0 * 1 + 1 * (y 0).val = _
    rw [tr9_eq, eAt_eq m hG c t]
    show (expertOf m c (ix1 (⟨t.val, pt_lt t⟩ : Fin 304))).toNat * 1 + 1 * (y 0).val = (expertOf m c (ix1 (⟨t.val, pt_lt t⟩ : Fin 304))).toNat
    omega
  · show cc0_transform_9 k0_off1_inb numel1_S1 (adm m hG).1 (grid0.coords t) 1 * 1024 + 1 * (y 1).val = (y 1).val
    rw [tr9_eq]
    show 0 * 1024 + 1 * (y 1).val = (y 1).val
    omega
  · show cc0_transform_9 k0_off1_inb numel1_S1 (adm m hG).1 (grid0.coords t) 2 * 512 + 1 * (y 2).val = 1 * 512 + (y 2).val
    rw [tr9_eq]
    show 1 * 512 + 1 * (y 2).val = 1 * 512 + (y 2).val
    omega

theorem iblk9 (c : Dev nD) (t : Fin grid0.N) (y : S1x1024x512.Idx) :
    iblk m hG c 9 t y = m ((c : Thread nD τ).loc main_arg6) (ix3 (⟨(expertOf m c (ix1 (⟨t.val, pt_lt t⟩ : Fin 304))).toNat, by have := expert_lt m hG c t; omega⟩ : Fin 64) (⟨(y 1).val, (y 1).isLt⟩ : Fin 1024)
      (⟨2 * 512 + (y 2).val, by have h : (y 2).val < 512 := (y 2).isLt; omega⟩ : Fin 2048)) := by
  show V m c main_arg6 ((((cfg0 (adm m hG)).win 9).blk t).view.emb y) = _
  rw [V_main_arg6]
  refine congrArg (m ((c : Thread nD τ).loc main_arg6)) ?_
  have hy : (y 0).val < 1 := (y 0).isLt
  funext a; apply Fin.ext; fin_cases a
  · show cc0_transform_10 k0_off1_inb numel1_S1 (adm m hG).1 (grid0.coords t) 0 * 1 + 1 * (y 0).val = _
    rw [tr10_eq, eAt_eq m hG c t]
    show (expertOf m c (ix1 (⟨t.val, pt_lt t⟩ : Fin 304))).toNat * 1 + 1 * (y 0).val = (expertOf m c (ix1 (⟨t.val, pt_lt t⟩ : Fin 304))).toNat
    omega
  · show cc0_transform_10 k0_off1_inb numel1_S1 (adm m hG).1 (grid0.coords t) 1 * 1024 + 1 * (y 1).val = (y 1).val
    rw [tr10_eq]
    show 0 * 1024 + 1 * (y 1).val = (y 1).val
    omega
  · show cc0_transform_10 k0_off1_inb numel1_S1 (adm m hG).1 (grid0.coords t) 2 * 512 + 1 * (y 2).val = 2 * 512 + (y 2).val
    rw [tr10_eq]
    show 2 * 512 + 1 * (y 2).val = 2 * 512 + (y 2).val
    omega

theorem iblk10 (c : Dev nD) (t : Fin grid0.N) (y : S1x1024x512.Idx) :
    iblk m hG c 10 t y = m ((c : Thread nD τ).loc main_arg6) (ix3 (⟨(expertOf m c (ix1 (⟨t.val, pt_lt t⟩ : Fin 304))).toNat, by have := expert_lt m hG c t; omega⟩ : Fin 64) (⟨(y 1).val, (y 1).isLt⟩ : Fin 1024)
      (⟨3 * 512 + (y 2).val, by have h : (y 2).val < 512 := (y 2).isLt; omega⟩ : Fin 2048)) := by
  show V m c main_arg6 ((((cfg0 (adm m hG)).win 10).blk t).view.emb y) = _
  rw [V_main_arg6]
  refine congrArg (m ((c : Thread nD τ).loc main_arg6)) ?_
  have hy : (y 0).val < 1 := (y 0).isLt
  funext a; apply Fin.ext; fin_cases a
  · show cc0_transform_11 k0_off1_inb numel1_S1 (adm m hG).1 (grid0.coords t) 0 * 1 + 1 * (y 0).val = _
    rw [tr11_eq, eAt_eq m hG c t]
    show (expertOf m c (ix1 (⟨t.val, pt_lt t⟩ : Fin 304))).toNat * 1 + 1 * (y 0).val = (expertOf m c (ix1 (⟨t.val, pt_lt t⟩ : Fin 304))).toNat
    omega
  · show cc0_transform_11 k0_off1_inb numel1_S1 (adm m hG).1 (grid0.coords t) 1 * 1024 + 1 * (y 1).val = (y 1).val
    rw [tr11_eq]
    show 0 * 1024 + 1 * (y 1).val = (y 1).val
    omega
  · show cc0_transform_11 k0_off1_inb numel1_S1 (adm m hG).1 (grid0.coords t) 2 * 512 + 1 * (y 2).val = 3 * 512 + (y 2).val
    rw [tr11_eq]
    show 3 * 512 + 1 * (y 2).val = 3 * 512 + (y 2).val
    omega

theorem iblk11 (c : Dev nD) (t : Fin grid0.N) (y : S1x1x2048.Idx) :
    iblk m hG c 11 t y = m ((c : Thread nD τ).loc main_arg7) (ix3 (⟨(expertOf m c (ix1 (⟨t.val, pt_lt t⟩ : Fin 304))).toNat, by have := expert_lt m hG c t; omega⟩ : Fin 64) (⟨(y 1).val, (y 1).isLt⟩ : Fin 1)
      (⟨0 * 2048 + (y 2).val, by have h : (y 2).val < 2048 := (y 2).isLt; omega⟩ : Fin 2048)) := by
  show V m c main_arg7 ((((cfg0 (adm m hG)).win 11).blk t).view.emb y) = _
  rw [V_main_arg7]
  refine congrArg (m ((c : Thread nD τ).loc main_arg7)) ?_
  have hy : (y 0).val < 1 := (y 0).isLt
  funext a; apply Fin.ext; fin_cases a
  · show cc0_transform_12 k0_off1_inb numel1_S1 (adm m hG).1 (grid0.coords t) 0 * 1 + 1 * (y 0).val = _
    rw [tr12_eq, eAt_eq m hG c t]
    show (expertOf m c (ix1 (⟨t.val, pt_lt t⟩ : Fin 304))).toNat * 1 + 1 * (y 0).val = (expertOf m c (ix1 (⟨t.val, pt_lt t⟩ : Fin 304))).toNat
    omega
  · show cc0_transform_12 k0_off1_inb numel1_S1 (adm m hG).1 (grid0.coords t) 1 * 1 + 1 * (y 1).val = (y 1).val
    rw [tr12_eq]
    show 0 * 1 + 1 * (y 1).val = (y 1).val
    omega
  · show cc0_transform_12 k0_off1_inb numel1_S1 (adm m hG).1 (grid0.coords t) 2 * 2048 + 1 * (y 2).val = 0 * 2048 + (y 2).val
    rw [tr12_eq]
    show 0 * 2048 + 1 * (y 2).val = 0 * 2048 + (y 2).val
    omega

end Cert.ExpertsIdeal.Hand

end
-- ==== Proof.ExpertsIdeal.Data.lean ====
/- UNTRUSTED — The experts call: the pipeline's proof data, and its body at every grid step.

   Before each step the landing slots, the cast down-projection and the tables are held, as the step before left them. -/
module

public import proofs.«01_k».proof.Proof.ExpertsIdeal.Blocks
public import Idealize.ShloMosaic.Lib.Ring
public import Idealize.ShloMosaic.Lib.Tactic

@[expose] public section

set_option maxRecDepth 16384

noncomputable section

namespace Cert.ExpertsIdeal.Hand

open Cert.ExpertsIdeal Cert.ExpertsIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

open Idealize.ShloMosaic.Pipeline (Dat Cfg Window BodyObligation cellOf)

variable (m : (ℓ : Loc nD τ sig) → Buf (Elt F) ℓ) (hG : Good m)

/-! ## What the steps share -/

/-- The rows of tile `t`, the last tile's past the tiles there are. -/
def tk (c : Dev nD) (t k : ℕ) : ℕ := (slotTok m c (ix2 (⟨min t 303, by omega⟩ : Fin 304) (⟨k % 256, Nat.mod_lt _ (by decide)⟩ : Fin 256))).toNat

include hG in
theorem tk_lt (c : Dev nD) (t k : ℕ) : tk m c t k < 17408 := (hG c).1 _

/-- A step by its number. -/
def tt (n : ℕ) : Fin grid0.N := ⟨n % 304, Nat.mod_lt _ (by decide)⟩
theorem tt_val (t : Fin grid0.N) : tt t.val = t := Fin.ext (Nat.mod_eq_of_lt (pt_lt t))

/-- Step `n`'s expert's down-projection, cast. -/
def dproj (c : Dev nD) (n : ℕ) : S1024x2048.Idx → Elt F .bf16 :=
  dcast (iblk m hG c 7 (tt n)) (iblk m hG c 8 (tt n)) (iblk m hG c 9 (tt n)) (iblk m hG c 10 (tt n))

/-- How many tiles are in use. -/
def used (c : Dev nD) : ℕ := (inUse m c (ix1 (0 : Fin 1))).toNat

/-- What the body copies rows from. -/
def rowsIn (c : Dev nD) : HBuf F := V m c main_v0

theorem same7 (c : Dev nD) (t t' : Fin grid0.N) (h : expertOf m c (ix1 (⟨t.val, pt_lt t⟩ : Fin 304)) = expertOf m c (ix1 (⟨t'.val, pt_lt t'⟩ : Fin 304))) :
    (iblk m hG c 7 t : S1x1024x512.Idx → Elt F .f32) = (iblk m hG c 7 t' : S1x1024x512.Idx → Elt F .f32) := by
  funext y
  refine (iblk7 m hG c t y).trans (Eq.trans ?_ (iblk7 m hG c t' y).symm)
  exact congrArg (fun e : Fin 64 => m ((c : Thread nD τ).loc main_arg6) (ix3 e _ _)) (Fin.ext (congrArg BitVec.toNat h))
theorem same8 (c : Dev nD) (t t' : Fin grid0.N) (h : expertOf m c (ix1 (⟨t.val, pt_lt t⟩ : Fin 304)) = expertOf m c (ix1 (⟨t'.val, pt_lt t'⟩ : Fin 304))) :
    (iblk m hG c 8 t : S1x1024x512.Idx → Elt F .f32) = (iblk m hG c 8 t' : S1x1024x512.Idx → Elt F .f32) := by
  funext y
  refine (iblk8 m hG c t y).trans (Eq.trans ?_ (iblk8 m hG c t' y).symm)
  exact congrArg (fun e : Fin 64 => m ((c : Thread nD τ).loc main_arg6) (ix3 e _ _)) (Fin.ext (congrArg BitVec.toNat h))
theorem same9 (c : Dev nD) (t t' : Fin grid0.N) (h : expertOf m c (ix1 (⟨t.val, pt_lt t⟩ : Fin 304)) = expertOf m c (ix1 (⟨t'.val, pt_lt t'⟩ : Fin 304))) :
    (iblk m hG c 9 t : S1x1024x512.Idx → Elt F .f32) = (iblk m hG c 9 t' : S1x1024x512.Idx → Elt F .f32) := by
  funext y
  refine (iblk9 m hG c t y).trans (Eq.trans ?_ (iblk9 m hG c t' y).symm)
  exact congrArg (fun e : Fin 64 => m ((c : Thread nD τ).loc main_arg6) (ix3 e _ _)) (Fin.ext (congrArg BitVec.toNat h))
theorem same10 (c : Dev nD) (t t' : Fin grid0.N) (h : expertOf m c (ix1 (⟨t.val, pt_lt t⟩ : Fin 304)) = expertOf m c (ix1 (⟨t'.val, pt_lt t'⟩ : Fin 304))) :
    (iblk m hG c 10 t : S1x1024x512.Idx → Elt F .f32) = (iblk m hG c 10 t' : S1x1024x512.Idx → Elt F .f32) := by
  funext y
  refine (iblk10 m hG c t y).trans (Eq.trans ?_ (iblk10 m hG c t' y).symm)
  exact congrArg (fun e : Fin 64 => m ((c : Thread nD τ).loc main_arg6) (ix3 e _ _)) (Fin.ext (congrArg BitVec.toNat h))

theorem dcast_congr {X11 X11' X12 X12' X13 X13' X14 X14' : S1x1024x512.Idx → Elt F .f32} (h1 : X11 = X11') (h2 : X12 = X12') (h3 : X13 = X13') (h4 : X14 = X14') :
    dcast X11 X12 X13 X14 = dcast X11' X12' X13' X14' := by subst h1 h2 h3 h4; rfl

/-- Two steps of one expert have one down-projection. -/
theorem dproj_same (c : Dev nD) (t : ℕ) (h0 : 0 < t) (ht : t < 304) (h : expertOf m c (ix1 (⟨t, ht⟩ : Fin 304)) = expertOf m c (ix1 (⟨t - 1, by omega⟩ : Fin 304))) :
    dproj m hG c t = dproj m hG c (t - 1) := by
  have H : expertOf m c (ix1 (⟨(tt t).val, pt_lt _⟩ : Fin 304)) = expertOf m c (ix1 (⟨(tt (t - 1)).val, pt_lt _⟩ : Fin 304)) := by
    have e : (⟨(tt t).val, pt_lt _⟩ : Fin 304) = ⟨t, ht⟩ := Fin.ext (Nat.mod_eq_of_lt ht)
    have e' : (⟨(tt (t - 1)).val, pt_lt _⟩ : Fin 304) = ⟨t - 1, by omega⟩ := Fin.ext (Nat.mod_eq_of_lt (by omega))
    rw [e, e']; exact h
  exact dcast_congr (same7 m hG c _ _ H) (same8 m hG c _ _ H) (same9 m hG c _ _ H) (same10 m hG c _ _ H)

/-! ## The proof data -/

/-- What is held before step `t`, the staging buffers apart. -/
def heldAt (c : Dev nD) (t : ℕ) : sProp (MT nD τ sig Unit (Elt F) ℕ (Pipeline.UD sig nD τ) ℕ) :=
  iprop(dmaSt c (rowsIn m c) (tk m c) (used m c) t ∗ wdSt c (dproj m hG c) (used m c) t ∗ (∃ r, prngReg c r)
    ∗ owns (c : Thread nD τ) (Memref.whole main_arg2) fullShare.right (expertOf m c) ∗ owns (c : Thread nD τ) (Memref.whole main_arg3) fullShare.right (inUse m c)
    ∗ (hLoc c ↦{restShare} rowsIn m c))

/-- What step `t` leaves in its output block. -/
def left (c : Dev nD) (t : Fin grid0.N) : S256x2048.Idx → Elt F .bf16 :=
  stepOut (rowsIn m c) (tk m c) (used m c) t.val (iblk m hG c 2 t) (iblk m hG c 3 t) (iblk m hG c 4 t) (iblk m hG c 5 t) (iblk m hG c 6 t) (dproj m hG c) (iblk m hG c 11 t)

def dats (_ : Fin 1) (c : Dev nD) : Dat τ (Elt F) Unit ℕ (Pipeline.UD sig nD τ) ℕ (cfg0 (adm m hG)) c where
  A w := V m c (Pipeline.arrRef spec0 w)
  after w t := match w with
    | ⟨0, _⟩ => iblk m hG c 0 t
    | ⟨1, _⟩ => iblk m hG c 1 t
    | ⟨2, _⟩ => iblk m hG c 2 t
    | ⟨3, _⟩ => iblk m hG c 3 t
    | ⟨4, _⟩ => iblk m hG c 4 t
    | ⟨5, _⟩ => iblk m hG c 5 t
    | ⟨6, _⟩ => iblk m hG c 6 t
    | ⟨7, _⟩ => iblk m hG c 7 t
    | ⟨8, _⟩ => iblk m hG c 8 t
    | ⟨9, _⟩ => iblk m hG c 9 t
    | ⟨10, _⟩ => iblk m hG c 10 t
    | ⟨11, _⟩ => iblk m hG c 11 t
    | ⟨12, _⟩ => left m hG c t
  Φ t := heldAt m hG c t.val
  q w := Pipeline.shareOf spec0 w
  owed _ := 0

theorem A_eq (c : Dev nD) (w : Fin (cfg0 (adm m hG)).W) : (dats m hG 0 c).A w = V m c (Pipeline.arrRef spec0 w) := by
  dsimp only [dats]

theorem after0_0 (c : Dev nD) (t : Fin (cfg0 (adm m hG)).N) : (dats m hG 0 c).after 0 t = iblk m hG c 0 t := rfl
theorem after0_1 (c : Dev nD) (t : Fin (cfg0 (adm m hG)).N) : (dats m hG 0 c).after 1 t = iblk m hG c 1 t := rfl
theorem after0_2 (c : Dev nD) (t : Fin (cfg0 (adm m hG)).N) : (dats m hG 0 c).after 2 t = iblk m hG c 2 t := rfl
theorem after0_3 (c : Dev nD) (t : Fin (cfg0 (adm m hG)).N) : (dats m hG 0 c).after 3 t = iblk m hG c 3 t := rfl
theorem after0_4 (c : Dev nD) (t : Fin (cfg0 (adm m hG)).N) : (dats m hG 0 c).after 4 t = iblk m hG c 4 t := rfl
theorem after0_5 (c : Dev nD) (t : Fin (cfg0 (adm m hG)).N) : (dats m hG 0 c).after 5 t = iblk m hG c 5 t := rfl
theorem after0_6 (c : Dev nD) (t : Fin (cfg0 (adm m hG)).N) : (dats m hG 0 c).after 6 t = iblk m hG c 6 t := rfl
theorem after0_7 (c : Dev nD) (t : Fin (cfg0 (adm m hG)).N) : (dats m hG 0 c).after 7 t = iblk m hG c 7 t := rfl
theorem after0_8 (c : Dev nD) (t : Fin (cfg0 (adm m hG)).N) : (dats m hG 0 c).after 8 t = iblk m hG c 8 t := rfl
theorem after0_9 (c : Dev nD) (t : Fin (cfg0 (adm m hG)).N) : (dats m hG 0 c).after 9 t = iblk m hG c 9 t := rfl
theorem after0_10 (c : Dev nD) (t : Fin (cfg0 (adm m hG)).N) : (dats m hG 0 c).after 10 t = iblk m hG c 10 t := rfl
theorem after0_11 (c : Dev nD) (t : Fin (cfg0 (adm m hG)).N) : (dats m hG 0 c).after 11 t = iblk m hG c 11 t := rfl
theorem after0_12 (c : Dev nD) (t : Fin (cfg0 (adm m hG)).N) : (dats m hG 0 c).after 12 t = left m hG c t := rfl

theorem before0_0 (c : Dev nD) (t : Fin (cfg0 (adm m hG)).N) (d) : (dats m hG 0 c).before 0 t d = iblk m hG c 0 t :=
  ((dats m hG 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin (cfg0 (adm m hG)).N) (d) : (dats m hG 0 c).before 1 t d = iblk m hG c 1 t :=
  ((dats m hG 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin (cfg0 (adm m hG)).N) (d) : (dats m hG 0 c).before 2 t d = iblk m hG c 2 t :=
  ((dats m hG 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem before0_3 (c : Dev nD) (t : Fin (cfg0 (adm m hG)).N) (d) : (dats m hG 0 c).before 3 t d = iblk m hG c 3 t :=
  ((dats m hG 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)
theorem before0_4 (c : Dev nD) (t : Fin (cfg0 (adm m hG)).N) (d) : (dats m hG 0 c).before 4 t d = iblk m hG c 4 t :=
  ((dats m hG 0 c).before_in_eq_fetched 4 rfl (fun _ => rfl) (fun _ _ _ => rfl) (fun t => by rw [after0_4]; unfold Dat.blockOf iblk; rw [A_eq]; try rfl) t d).trans
    (by unfold Dat.fetched Dat.blockOf iblk; rw [A_eq]; try rfl)
theorem before0_5 (c : Dev nD) (t : Fin (cfg0 (adm m hG)).N) (d) : (dats m hG 0 c).before 5 t d = iblk m hG c 5 t :=
  ((dats m hG 0 c).before_in_eq_fetched 5 rfl (fun _ => rfl) (fun _ _ _ => rfl) (fun t => by rw [after0_5]; unfold Dat.blockOf iblk; rw [A_eq]; try rfl) t d).trans
    (by unfold Dat.fetched Dat.blockOf iblk; rw [A_eq]; try rfl)
theorem before0_6 (c : Dev nD) (t : Fin (cfg0 (adm m hG)).N) (d) : (dats m hG 0 c).before 6 t d = iblk m hG c 6 t :=
  ((dats m hG 0 c).before_in_eq_fetched 6 rfl (fun _ => rfl) (fun _ _ _ => rfl) (fun t => by rw [after0_6]; unfold Dat.blockOf iblk; rw [A_eq]; try rfl) t d).trans
    (by unfold Dat.fetched Dat.blockOf iblk; rw [A_eq]; try rfl)
theorem before0_7 (c : Dev nD) (t : Fin (cfg0 (adm m hG)).N) (d) : (dats m hG 0 c).before 7 t d = iblk m hG c 7 t :=
  ((dats m hG 0 c).before_in_eq_fetched 7 rfl (fun _ => rfl) (fun _ _ _ => rfl) (fun t => by rw [after0_7]; unfold Dat.blockOf iblk; rw [A_eq]; try rfl) t d).trans
    (by unfold Dat.fetched Dat.blockOf iblk; rw [A_eq]; try rfl)
theorem before0_8 (c : Dev nD) (t : Fin (cfg0 (adm m hG)).N) (d) : (dats m hG 0 c).before 8 t d = iblk m hG c 8 t :=
  ((dats m hG 0 c).before_in_eq_fetched 8 rfl (fun _ => rfl) (fun _ _ _ => rfl) (fun t => by rw [after0_8]; unfold Dat.blockOf iblk; rw [A_eq]; try rfl) t d).trans
    (by unfold Dat.fetched Dat.blockOf iblk; rw [A_eq]; try rfl)
theorem before0_9 (c : Dev nD) (t : Fin (cfg0 (adm m hG)).N) (d) : (dats m hG 0 c).before 9 t d = iblk m hG c 9 t :=
  ((dats m hG 0 c).before_in_eq_fetched 9 rfl (fun _ => rfl) (fun _ _ _ => rfl) (fun t => by rw [after0_9]; unfold Dat.blockOf iblk; rw [A_eq]; try rfl) t d).trans
    (by unfold Dat.fetched Dat.blockOf iblk; rw [A_eq]; try rfl)
theorem before0_10 (c : Dev nD) (t : Fin (cfg0 (adm m hG)).N) (d) : (dats m hG 0 c).before 10 t d = iblk m hG c 10 t :=
  ((dats m hG 0 c).before_in_eq_fetched 10 rfl (fun _ => rfl) (fun _ _ _ => rfl) (fun t => by rw [after0_10]; unfold Dat.blockOf iblk; rw [A_eq]; try rfl) t d).trans
    (by unfold Dat.fetched Dat.blockOf iblk; rw [A_eq]; try rfl)
theorem before0_11 (c : Dev nD) (t : Fin (cfg0 (adm m hG)).N) (d) : (dats m hG 0 c).before 11 t d = iblk m hG c 11 t :=
  ((dats m hG 0 c).before_in_eq_fetched 11 rfl (fun _ => rfl) (fun _ _ _ => rfl) (fun t => by rw [after0_11]; unfold Dat.blockOf iblk; rw [A_eq]; try rfl) t d).trans
    (by unfold Dat.fetched Dat.blockOf iblk; rw [A_eq]; try rfl)

end Cert.ExpertsIdeal.Hand

end
-- ==== Proof.ExpertsIdeal.Tile.lean ====
/- UNTRUSTED — One element of a tile's result, over the extended reals: a gated unit for each of the 1024 hidden columns, then the
   down-projection's sum and its bias. The up-projection's columns come in groups of 128 gates and 128 linear parts. -/
module

public import proofs.«01_k».proof.Proof.Gen.ExpertsIdeal.Skeleton
public import proofs.«01_k».proof.Proof.ExpertsIdeal.Data
public import Idealize.ShloMosaic.Lib.Pipeline.ValueKit

@[expose] public section

set_option maxRecDepth 16384

noncomputable section

namespace Cert.ExpertsIdeal.Hand

open Cert.ExpertsIdeal Cert.ExpertsIdeal.Gen
open Idealize.ShloMosaic Idealize.ShloMosaic.TcCoe

/-- The gated unit: a capped gate times its sigmoid's value at 1.702 times it, times a clipped linear part plus one. -/
def unit (g l : EReal) : EReal :=
  min g (Ideal.ofBits .f32 0x40E00000#32) * Ideal.logistic (Ideal.ofBits .f32 0x3FD9DB23#32 * min g (Ideal.ofBits .f32 0x40E00000#32))
    * (min (Ideal.ofBits .f32 0x40E00000#32) (max (Ideal.ofBits .f32 0xC0E00000#32) l) + 1)

/-- Hidden column `f`'s gate among the up-projection's columns, and its linear part. -/
def gateCol (f : Fin 1024) : Fin 2048 := ⟨f.val / 128 * 256 + f.val % 128, by omega⟩
def linCol (f : Fin 1024) : Fin 2048 := ⟨f.val / 128 * 256 + 128 + f.val % 128, by omega⟩

/-- Eight pieces of 128 columns put side by side. -/
theorem eight (L : ℕ → S256x128.Idx → EReal) (r : Fin 256) (f : Fin 1024) :
    concatenate S256x1024 1 [⟨S256x128, L 0⟩, ⟨S256x128, L 1⟩, ⟨S256x128, L 2⟩, ⟨S256x128, L 3⟩, ⟨S256x128, L 4⟩, ⟨S256x128, L 5⟩, ⟨S256x128, L 6⟩, ⟨S256x128, L 7⟩]
      concatenates_S256x128_S256x128_S256x128_S256x128_S256x128_S256x128_S256x128_S256x128_S256x1024_d1 (ix2 r f)
      = L (f.val / 128) (ix2 r ⟨f.val % 128, Nat.mod_lt _ (by decide)⟩) := by
  pointwise
  repeat' split
  all_goals
    congr 1 <;> first | omega | (congr 1; apply Fin.ext; show _ = f.val % 128; dsimp only; omega)

/-- Piece `i` of a row's columns from column `o` on, every second piece of 128. -/
def every2 (v : S256x2048.Idx → EReal) (o i : ℕ) : S256x128.Idx → EReal := fun y =>
  v (ix2 (⟨(y 0).val, (y 0).isLt⟩ : Fin 256) (⟨(o + 256 * i + (y 1).val) % 2048, Nat.mod_lt _ (by decide)⟩ : Fin 2048))

theorem eight_congr {A0 A1 A2 A3 A4 A5 A6 A7 B0 B1 B2 B3 B4 B5 B6 B7 : S256x128.Idx → EReal} (h0 : A0 = B0) (h1 : A1 = B1) (h2 : A2 = B2) (h3 : A3 = B3)
    (h4 : A4 = B4) (h5 : A5 = B5) (h6 : A6 = B6) (h7 : A7 = B7) (y : S256x1024.Idx) :
    concatenate S256x1024 1 [⟨S256x128, A0⟩, ⟨S256x128, A1⟩, ⟨S256x128, A2⟩, ⟨S256x128, A3⟩, ⟨S256x128, A4⟩, ⟨S256x128, A5⟩, ⟨S256x128, A6⟩, ⟨S256x128, A7⟩]
      concatenates_S256x128_S256x128_S256x128_S256x128_S256x128_S256x128_S256x128_S256x128_S256x1024_d1 y
    = concatenate S256x1024 1 [⟨S256x128, B0⟩, ⟨S256x128, B1⟩, ⟨S256x128, B2⟩, ⟨S256x128, B3⟩, ⟨S256x128, B4⟩, ⟨S256x128, B5⟩, ⟨S256x128, B6⟩, ⟨S256x128, B7⟩]
      concatenates_S256x128_S256x128_S256x128_S256x128_S256x128_S256x128_S256x128_S256x128_S256x1024_d1 y := by
  subst h0 h1 h2 h3 h4 h5 h6 h7; rfl

/-- The gates put side by side. -/
theorem gates (v : S256x2048.Idx → EReal) (r : Fin 256) (f : Fin 1024) :
    concatenate S256x1024 1 [⟨S256x128, extractStridedSlice S256x128 ![0, 0] v slices_S256x2048_o0_0_S256x128⟩, ⟨S256x128, extractStridedSlice S256x128 ![0, 256] v slices_S256x2048_o0_256_S256x128⟩, ⟨S256x128, extractStridedSlice S256x128 ![0, 512] v slices_S256x2048_o0_512_S256x128⟩, ⟨S256x128, extractStridedSlice S256x128 ![0, 768] v slices_S256x2048_o0_768_S256x128⟩, ⟨S256x128, extractStridedSlice S256x128 ![0, 1024] v slices_S256x2048_o0_1024_S256x128⟩, ⟨S256x128, extractStridedSlice S256x128 ![0, 1280] v slices_S256x2048_o0_1280_S256x128⟩, ⟨S256x128, extractStridedSlice S256x128 ![0, 1536] v slices_S256x2048_o0_1536_S256x128⟩, ⟨S256x128, extractStridedSlice S256x128 ![0, 1792] v slices_S256x2048_o0_1792_S256x128⟩]
      concatenates_S256x128_S256x128_S256x128_S256x128_S256x128_S256x128_S256x128_S256x128_S256x1024_d1 (ix2 r f) = v (ix2 r (gateCol f)) := by
  refine (eight_congr (B0 := every2 v 0 0) (B1 := every2 v 0 1) (B2 := every2 v 0 2) (B3 := every2 v 0 3) (B4 := every2 v 0 4)
    (B5 := every2 v 0 5) (B6 := every2 v 0 6) (B7 := every2 v 0 7) ?_ ?_ ?_ ?_ ?_ ?_ ?_ ?_ _).trans ((eight (every2 v 0) r f).trans ?_)
  case refine_9 =>
    unfold every2 gateCol
    refine congrArg v (congrArg₂ ix2 rfl (Fin.ext ?_))
    show (0 + 256 * (f.val / 128) + f.val % 128) % 2048 = _
    dsimp only; omega
  all_goals
    funext y
    unfold every2
    refine congrArg v (funext fun a => Fin.ext ?_)
    have h1 : (y 1).val < 128 := (y 1).isLt
    fin_cases a
    · show 0 + (y 0).val = (y 0).val; omega
    · dsimp; omega

/-- The linear parts put side by side. -/
theorem lins (v : S256x2048.Idx → EReal) (r : Fin 256) (f : Fin 1024) :
    concatenate S256x1024 1 [⟨S256x128, extractStridedSlice S256x128 ![0, 128] v slices_S256x2048_o0_128_S256x128⟩, ⟨S256x128, extractStridedSlice S256x128 ![0, 384] v slices_S256x2048_o0_384_S256x128⟩, ⟨S256x128, extractStridedSlice S256x128 ![0, 640] v slices_S256x2048_o0_640_S256x128⟩, ⟨S256x128, extractStridedSlice S256x128 ![0, 896] v slices_S256x2048_o0_896_S256x128⟩, ⟨S256x128, extractStridedSlice S256x128 ![0, 1152] v slices_S256x2048_o0_1152_S256x128⟩, ⟨S256x128, extractStridedSlice S256x128 ![0, 1408] v slices_S256x2048_o0_1408_S256x128⟩, ⟨S256x128, extractStridedSlice S256x128 ![0, 1664] v slices_S256x2048_o0_1664_S256x128⟩, ⟨S256x128, extractStridedSlice S256x128 ![0, 1920] v slices_S256x2048_o0_1920_S256x128⟩]
      concatenates_S256x128_S256x128_S256x128_S256x128_S256x128_S256x128_S256x128_S256x128_S256x1024_d1 (ix2 r f) = v (ix2 r (linCol f)) := by
  refine (eight_congr (B0 := every2 v 128 0) (B1 := every2 v 128 1) (B2 := every2 v 128 2) (B3 := every2 v 128 3) (B4 := every2 v 128 4)
    (B5 := every2 v 128 5) (B6 := every2 v 128 6) (B7 := every2 v 128 7) ?_ ?_ ?_ ?_ ?_ ?_ ?_ ?_ _).trans ((eight (every2 v 128) r f).trans ?_)
  case refine_9 =>
    unfold every2 linCol
    refine congrArg v (congrArg₂ ix2 rfl (Fin.ext ?_))
    show (128 + 256 * (f.val / 128) + f.val % 128) % 2048 = _
    dsimp only; omega
  all_goals
    funext y
    unfold every2
    refine congrArg v (funext fun a => Fin.ext ?_)
    have h1 : (y 1).val < 128 := (y 1).isLt
    fin_cases a
    · show 0 + (y 0).val = (y 0).val; omega
    · dsimp; omega

set_option maxHeartbeats 2000000 in
/-- Sixteen pieces of a row put side by side. -/
theorem sixteen (L : ℕ → S256x128.Idx → EReal) (r : Fin 256) (f : Fin 2048) :
    concatenate S256x2048 1 [⟨S256x128, L 0⟩, ⟨S256x128, L 1⟩, ⟨S256x128, L 2⟩, ⟨S256x128, L 3⟩, ⟨S256x128, L 4⟩, ⟨S256x128, L 5⟩, ⟨S256x128, L 6⟩, ⟨S256x128, L 7⟩, ⟨S256x128, L 8⟩, ⟨S256x128, L 9⟩, ⟨S256x128, L 10⟩, ⟨S256x128, L 11⟩, ⟨S256x128, L 12⟩, ⟨S256x128, L 13⟩, ⟨S256x128, L 14⟩, ⟨S256x128, L 15⟩]
      concatenates_S256x128_S256x128_S256x128_S256x128_S256x128_S256x128_S256x128_S256x128_S256x128_S256x128_S256x128_S256x128_S256x128_S256x128_S256x128_S256x128_S256x2048_d1 (ix2 r f) = L (f.val / 128) (ix2 r ⟨f.val % 128, Nat.mod_lt _ (by decide)⟩) := by
  have hf : f.val / 128 < 16 := by omega
  refine concatenate_ofFn_apply (t := S256x2048) (s₁ := S256x128) 1 (N := 16) (fun n => L n.val) _ rfl 128 rfl (ix2 r f) ⟨f.val / 128, hf⟩ rfl
    (ix2 r ⟨f.val % 128, Nat.mod_lt _ (by decide)⟩) rfl fun b hb => ?_
  fin_cases b
  · rfl
  · exact absurd rfl hb

/-- Four pieces of 512 columns put side by side. -/
theorem four (X0 X1 X2 X3 : S256x512.Idx → EReal) (r : Fin 256) (j : Fin 2048) :
    concatenate S256x2048 1 [⟨S256x512, X0⟩, ⟨S256x512, X1⟩, ⟨S256x512, X2⟩, ⟨S256x512, X3⟩] concatenates_S256x512_S256x512_S256x512_S256x512_S256x2048_d1 (ix2 r j)
      = if j.val / 512 = 0 then X0 (ix2 r ⟨j.val % 512, Nat.mod_lt _ (by decide)⟩) else if j.val / 512 = 1 then X1 (ix2 r ⟨j.val % 512, Nat.mod_lt _ (by decide)⟩)
        else if j.val / 512 = 2 then X2 (ix2 r ⟨j.val % 512, Nat.mod_lt _ (by decide)⟩) else X3 (ix2 r ⟨j.val % 512, Nat.mod_lt _ (by decide)⟩) := by
  pointwise
  repeat' split
  all_goals first
    | omega
    | (congr 2; apply Fin.ext; dsimp only; omega)

/-- The tile's result from its up-projection `v`: units, the down-projection's sum, its bias. -/
theorem pay5 (v : FVec Ideal S256x2048 .f32) (w : Vec Ideal S1024x2048 .bf16) (b : Vec Ideal S1x1x2048 .f32) (r : Fin 256) (d : Fin 2048) :
    k0_pay5 v w b (ix2 r d) = (∑ f : Fin 1024, unit (v (ix2 r (gateCol f))) (v (ix2 r (linCol f))) * w (ix2 f d)) + b (ix3 0 0 d) := by
  unfold k0_pay5
  generalize hg : concatenate S256x1024 1 [⟨S256x128, extractStridedSlice S256x128 ![0, 0] v slices_S256x2048_o0_0_S256x128⟩, ⟨S256x128, extractStridedSlice S256x128 ![0, 256] v slices_S256x2048_o0_256_S256x128⟩, ⟨S256x128, extractStridedSlice S256x128 ![0, 512] v slices_S256x2048_o0_512_S256x128⟩, ⟨S256x128, extractStridedSlice S256x128 ![0, 768] v slices_S256x2048_o0_768_S256x128⟩, ⟨S256x128, extractStridedSlice S256x128 ![0, 1024] v slices_S256x2048_o0_1024_S256x128⟩, ⟨S256x128, extractStridedSlice S256x128 ![0, 1280] v slices_S256x2048_o0_1280_S256x128⟩, ⟨S256x128, extractStridedSlice S256x128 ![0, 1536] v slices_S256x2048_o0_1536_S256x128⟩, ⟨S256x128, extractStridedSlice S256x128 ![0, 1792] v slices_S256x2048_o0_1792_S256x128⟩] concatenates_S256x128_S256x128_S256x128_S256x128_S256x128_S256x128_S256x128_S256x128_S256x1024_d1 = G
  generalize hl : concatenate S256x1024 1 [⟨S256x128, extractStridedSlice S256x128 ![0, 128] v slices_S256x2048_o0_128_S256x128⟩, ⟨S256x128, extractStridedSlice S256x128 ![0, 384] v slices_S256x2048_o0_384_S256x128⟩, ⟨S256x128, extractStridedSlice S256x128 ![0, 640] v slices_S256x2048_o0_640_S256x128⟩, ⟨S256x128, extractStridedSlice S256x128 ![0, 896] v slices_S256x2048_o0_896_S256x128⟩, ⟨S256x128, extractStridedSlice S256x128 ![0, 1152] v slices_S256x2048_o0_1152_S256x128⟩, ⟨S256x128, extractStridedSlice S256x128 ![0, 1408] v slices_S256x2048_o0_1408_S256x128⟩, ⟨S256x128, extractStridedSlice S256x128 ![0, 1664] v slices_S256x2048_o0_1664_S256x128⟩, ⟨S256x128, extractStridedSlice S256x128 ![0, 1920] v slices_S256x2048_o0_1920_S256x128⟩] concatenates_S256x128_S256x128_S256x128_S256x128_S256x128_S256x128_S256x128_S256x128_S256x1024_d1 = L
  pointwise
  unfold unit
  refine congrArg₂ (· + ·) (Finset.sum_congr (M := EReal) rfl fun f _ => ?_) rfl
  rw [← gates v r f, ← lins v r f, hg, hl]

/-- One element of a tile's up-projection. -/
theorem pay7 (L : ℕ → S256x128.Idx → EReal) (W0 W1 W2 W3 : Vec Ideal S1x2048x512 .bf16) (b : Vec Ideal S1x1x2048 .f32) (r : Fin 256) (j : Fin 2048) :
    k0_pay7 (F := Ideal) (L 0) (L 1) (L 2) (L 3) (L 4) (L 5) (L 6) (L 7) (L 8) (L 9) (L 10) (L 11) (L 12) (L 13) (L 14) (L 15) W0 W1 W2 W3 b (ix2 r j)
      = (∑ p : Fin 2048, L (p.val / 128) (ix2 r ⟨p.val % 128, Nat.mod_lt _ (by decide)⟩)
          * (if j.val / 512 = 0 then W0 else if j.val / 512 = 1 then W1 else if j.val / 512 = 2 then W2 else W3) (ix3 0 p ⟨j.val % 512, Nat.mod_lt _ (by decide)⟩))
        + b (ix3 0 0 j) := by
  unfold k0_pay7
  generalize hx : concatenate S256x2048 1 [⟨S256x128, L 0⟩, ⟨S256x128, L 1⟩, ⟨S256x128, L 2⟩, ⟨S256x128, L 3⟩, ⟨S256x128, L 4⟩, ⟨S256x128, L 5⟩, ⟨S256x128, L 6⟩, ⟨S256x128, L 7⟩, ⟨S256x128, L 8⟩, ⟨S256x128, L 9⟩, ⟨S256x128, L 10⟩, ⟨S256x128, L 11⟩, ⟨S256x128, L 12⟩, ⟨S256x128, L 13⟩, ⟨S256x128, L 14⟩, ⟨S256x128, L 15⟩]
    concatenates_S256x128_S256x128_S256x128_S256x128_S256x128_S256x128_S256x128_S256x128_S256x128_S256x128_S256x128_S256x128_S256x128_S256x128_S256x128_S256x128_S256x2048_d1 = X
  have hX : ∀ p : Fin 2048, X (ix2 r p) = L (p.val / 128) (ix2 r ⟨p.val % 128, Nat.mod_lt _ (by decide)⟩) := fun p => by rw [← hx, sixteen]
  simp only [addf_apply, four]
  pointwise
  refine congrArg₂ (· + ·) ?_ rfl
  simp only [hX]
  split_ifs <;> rfl

end Cert.ExpertsIdeal.Hand

end
-- ==== Proof.ExpertsIdeal.Step.lean ====
/- UNTRUSTED — The experts call: the body meets the proof data at every grid step. -/
module

public import proofs.«01_k».proof.Proof.ExpertsIdeal.Data
public import Idealize.ShloMosaic.Lib.Ring
public import Idealize.ShloMosaic.Lib.Tactic

@[expose] public section

set_option maxRecDepth 16384

noncomputable section

namespace Cert.ExpertsIdeal.Hand

open Cert.ExpertsIdeal Cert.ExpertsIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

open Idealize.ShloMosaic.Pipeline (Dat Cfg Window BodyObligation cellOf)

variable (m : (ℓ : Loc nD τ sig) → Buf (Elt F) ℓ) (hG : Good m)

/-- The step's program. -/
def bodyAt (t : Fin (cfg0 (adm m hG)).N) : Prog (TpuEff nD τ sig (Elt F) Λ₀ .tc) PUnit :=
  cc0_experts (grid0.coords t) (Memref.whole main_arg2) (Memref.isWhole_whole _) (Memref.whole main_arg3) (Memref.isWhole_whole _) (spec0_0.stage ((cfg0 (adm m hG)).slots t 0)) (hstage0_0 (((cfg0 (adm m hG)).slots t 0).cast nbuf0_0)) (spec0_1.stage ((cfg0 (adm m hG)).slots t 1)) (hstage0_1 (((cfg0 (adm m hG)).slots t 1).cast nbuf0_1)) (Memref.whole main_v0) (Memref.isWhole_whole _) (spec0_2.stage ((cfg0 (adm m hG)).slots t 2)) (hstage0_2 (((cfg0 (adm m hG)).slots t 2).cast nbuf0_2)) (spec0_3.stage ((cfg0 (adm m hG)).slots t 3)) (hstage0_3 (((cfg0 (adm m hG)).slots t 3).cast nbuf0_3)) (spec0_4.stage ((cfg0 (adm m hG)).slots t 4)) (hstage0_4 (((cfg0 (adm m hG)).slots t 4).cast nbuf0_4)) (spec0_5.stage ((cfg0 (adm m hG)).slots t 5)) (hstage0_5 (((cfg0 (adm m hG)).slots t 5).cast nbuf0_5)) (spec0_6.stage ((cfg0 (adm m hG)).slots t 6)) (hstage0_6 (((cfg0 (adm m hG)).slots t 6).cast nbuf0_6)) (spec0_7.stage ((cfg0 (adm m hG)).slots t 7)) (hstage0_7 (((cfg0 (adm m hG)).slots t 7).cast nbuf0_7)) (spec0_8.stage ((cfg0 (adm m hG)).slots t 8)) (hstage0_8 (((cfg0 (adm m hG)).slots t 8).cast nbuf0_8)) (spec0_9.stage ((cfg0 (adm m hG)).slots t 9)) (hstage0_9 (((cfg0 (adm m hG)).slots t 9).cast nbuf0_9)) (spec0_10.stage ((cfg0 (adm m hG)).slots t 10)) (hstage0_10 (((cfg0 (adm m hG)).slots t 10).cast nbuf0_10)) (spec0_11.stage ((cfg0 (adm m hG)).slots t 11)) (hstage0_11 (((cfg0 (adm m hG)).slots t 11).cast nbuf0_11)) (spec0_12.stage ((cfg0 (adm m hG)).slots t 12)) (hstage0_12 (((cfg0 (adm m hG)).slots t 12).cast nbuf0_12)) (Memref.whole cc0_scratch0) (Memref.isWhole_whole _) (Memref.whole cc0_scratch1) (Memref.isWhole_whole _) cc0_scratch2

/-- The output window is written at every step. -/
theorem busy12 (t : Fin (cfg0 (adm m hG)).N) : (cfg0 (adm m hG)).idle 12 ((cfg0 (adm m hG)).grid.coords t) = false := writes_out _ _

theorem bodyAt_parts (t : Fin (cfg0 (adm m hG)).N) : bodyAt m hG t = parts (F := F) (grid0.coords t) (Memref.whole main_arg2) (Memref.isWhole_whole _) (Memref.whole main_arg3) (Memref.isWhole_whole _) (spec0_0.stage ((cfg0 (adm m hG)).slots t 0)) (hstage0_0 (((cfg0 (adm m hG)).slots t 0).cast nbuf0_0)) (spec0_1.stage ((cfg0 (adm m hG)).slots t 1)) (hstage0_1 (((cfg0 (adm m hG)).slots t 1).cast nbuf0_1)) (Memref.isWhole_whole _) (spec0_2.stage ((cfg0 (adm m hG)).slots t 2)) (hstage0_2 (((cfg0 (adm m hG)).slots t 2).cast nbuf0_2)) (spec0_3.stage ((cfg0 (adm m hG)).slots t 3)) (hstage0_3 (((cfg0 (adm m hG)).slots t 3).cast nbuf0_3)) (spec0_4.stage ((cfg0 (adm m hG)).slots t 4)) (hstage0_4 (((cfg0 (adm m hG)).slots t 4).cast nbuf0_4)) (spec0_5.stage ((cfg0 (adm m hG)).slots t 5)) (hstage0_5 (((cfg0 (adm m hG)).slots t 5).cast nbuf0_5)) (spec0_6.stage ((cfg0 (adm m hG)).slots t 6)) (hstage0_6 (((cfg0 (adm m hG)).slots t 6).cast nbuf0_6)) (spec0_7.stage ((cfg0 (adm m hG)).slots t 7)) (hstage0_7 (((cfg0 (adm m hG)).slots t 7).cast nbuf0_7)) (spec0_8.stage ((cfg0 (adm m hG)).slots t 8)) (hstage0_8 (((cfg0 (adm m hG)).slots t 8).cast nbuf0_8)) (spec0_9.stage ((cfg0 (adm m hG)).slots t 9)) (hstage0_9 (((cfg0 (adm m hG)).slots t 9).cast nbuf0_9)) (spec0_10.stage ((cfg0 (adm m hG)).slots t 10)) (hstage0_10 (((cfg0 (adm m hG)).slots t 10).cast nbuf0_10)) (spec0_11.stage ((cfg0 (adm m hG)).slots t 11)) (hstage0_11 (((cfg0 (adm m hG)).slots t 11).cast nbuf0_11)) (spec0_12.stage ((cfg0 (adm m hG)).slots t 12)) (hstage0_12 (((cfg0 (adm m hG)).slots t 12).cast nbuf0_12)) (Memref.isWhole_whole _) (Memref.isWhole_whole _) := step_parts (F := F) (grid0.coords t) (Memref.whole main_arg2) (Memref.isWhole_whole _) (Memref.whole main_arg3) (Memref.isWhole_whole _) (spec0_0.stage ((cfg0 (adm m hG)).slots t 0)) (hstage0_0 (((cfg0 (adm m hG)).slots t 0).cast nbuf0_0)) (spec0_1.stage ((cfg0 (adm m hG)).slots t 1)) (hstage0_1 (((cfg0 (adm m hG)).slots t 1).cast nbuf0_1)) (Memref.isWhole_whole _) (spec0_2.stage ((cfg0 (adm m hG)).slots t 2)) (hstage0_2 (((cfg0 (adm m hG)).slots t 2).cast nbuf0_2)) (spec0_3.stage ((cfg0 (adm m hG)).slots t 3)) (hstage0_3 (((cfg0 (adm m hG)).slots t 3).cast nbuf0_3)) (spec0_4.stage ((cfg0 (adm m hG)).slots t 4)) (hstage0_4 (((cfg0 (adm m hG)).slots t 4).cast nbuf0_4)) (spec0_5.stage ((cfg0 (adm m hG)).slots t 5)) (hstage0_5 (((cfg0 (adm m hG)).slots t 5).cast nbuf0_5)) (spec0_6.stage ((cfg0 (adm m hG)).slots t 6)) (hstage0_6 (((cfg0 (adm m hG)).slots t 6).cast nbuf0_6)) (spec0_7.stage ((cfg0 (adm m hG)).slots t 7)) (hstage0_7 (((cfg0 (adm m hG)).slots t 7).cast nbuf0_7)) (spec0_8.stage ((cfg0 (adm m hG)).slots t 8)) (hstage0_8 (((cfg0 (adm m hG)).slots t 8).cast nbuf0_8)) (spec0_9.stage ((cfg0 (adm m hG)).slots t 9)) (hstage0_9 (((cfg0 (adm m hG)).slots t 9).cast nbuf0_9)) (spec0_10.stage ((cfg0 (adm m hG)).slots t 10)) (hstage0_10 (((cfg0 (adm m hG)).slots t 10).cast nbuf0_10)) (spec0_11.stage ((cfg0 (adm m hG)).slots t 11)) (hstage0_11 (((cfg0 (adm m hG)).slots t 11).cast nbuf0_11)) (spec0_12.stage ((cfg0 (adm m hG)).slots t 12)) (hstage0_12 (((cfg0 (adm m hG)).slots t 12).cast nbuf0_12)) (Memref.isWhole_whole _) (Memref.isWhole_whole _)

def bodyPre (c : Dev nD) (t : Fin (cfg0 (adm m hG)).N) : sProp (MT nD τ sig Unit (Elt F) ℕ (Pipeline.UD sig nD τ) ℕ) :=
  iprop((dats m hG 0 c).Φ t.castSucc ∗ (dats m hG 0 c).owesAt () t.castSucc
    ∗ (∃ d, owns (c : Thread nD τ) (((cfg0 (adm m hG)).win 0).stage ((cfg0 (adm m hG)).slots t 0)) fullShare ((dats m hG 0 c).before 0 t d))
    ∗ (∃ d, owns (c : Thread nD τ) (((cfg0 (adm m hG)).win 1).stage ((cfg0 (adm m hG)).slots t 1)) fullShare ((dats m hG 0 c).before 1 t d))
    ∗ (∃ d, owns (c : Thread nD τ) (((cfg0 (adm m hG)).win 2).stage ((cfg0 (adm m hG)).slots t 2)) fullShare ((dats m hG 0 c).before 2 t d))
    ∗ (∃ d, owns (c : Thread nD τ) (((cfg0 (adm m hG)).win 3).stage ((cfg0 (adm m hG)).slots t 3)) fullShare ((dats m hG 0 c).before 3 t d))
    ∗ (∃ d, owns (c : Thread nD τ) (((cfg0 (adm m hG)).win 4).stage ((cfg0 (adm m hG)).slots t 4)) fullShare ((dats m hG 0 c).before 4 t d))
    ∗ (∃ d, owns (c : Thread nD τ) (((cfg0 (adm m hG)).win 5).stage ((cfg0 (adm m hG)).slots t 5)) fullShare ((dats m hG 0 c).before 5 t d))
    ∗ (∃ d, owns (c : Thread nD τ) (((cfg0 (adm m hG)).win 6).stage ((cfg0 (adm m hG)).slots t 6)) fullShare ((dats m hG 0 c).before 6 t d))
    ∗ (∃ d, owns (c : Thread nD τ) (((cfg0 (adm m hG)).win 7).stage ((cfg0 (adm m hG)).slots t 7)) fullShare ((dats m hG 0 c).before 7 t d))
    ∗ (∃ d, owns (c : Thread nD τ) (((cfg0 (adm m hG)).win 8).stage ((cfg0 (adm m hG)).slots t 8)) fullShare ((dats m hG 0 c).before 8 t d))
    ∗ (∃ d, owns (c : Thread nD τ) (((cfg0 (adm m hG)).win 9).stage ((cfg0 (adm m hG)).slots t 9)) fullShare ((dats m hG 0 c).before 9 t d))
    ∗ (∃ d, owns (c : Thread nD τ) (((cfg0 (adm m hG)).win 10).stage ((cfg0 (adm m hG)).slots t 10)) fullShare ((dats m hG 0 c).before 10 t d))
    ∗ (∃ d, owns (c : Thread nD τ) (((cfg0 (adm m hG)).win 11).stage ((cfg0 (adm m hG)).slots t 11)) fullShare ((dats m hG 0 c).before 11 t d))
    ∗ (∃ d, owns (c : Thread nD τ) (((cfg0 (adm m hG)).win 12).stage ((cfg0 (adm m hG)).slots t 12)) fullShare ((dats m hG 0 c).before 12 t d)))

def bodyPost (c : Dev nD) (t : Fin (cfg0 (adm m hG)).N) : sProp (MT nD τ sig Unit (Elt F) ℕ (Pipeline.UD sig nD τ) ℕ) :=
  iprop((dats m hG 0 c).Φ t.succ ∗ (dats m hG 0 c).owesAt () t.succ
    ∗ owns (c : Thread nD τ) (((cfg0 (adm m hG)).win 0).stage ((cfg0 (adm m hG)).slots t 0)) fullShare ((dats m hG 0 c).after 0 t)
    ∗ owns (c : Thread nD τ) (((cfg0 (adm m hG)).win 1).stage ((cfg0 (adm m hG)).slots t 1)) fullShare ((dats m hG 0 c).after 1 t)
    ∗ owns (c : Thread nD τ) (((cfg0 (adm m hG)).win 2).stage ((cfg0 (adm m hG)).slots t 2)) fullShare ((dats m hG 0 c).after 2 t)
    ∗ owns (c : Thread nD τ) (((cfg0 (adm m hG)).win 3).stage ((cfg0 (adm m hG)).slots t 3)) fullShare ((dats m hG 0 c).after 3 t)
    ∗ owns (c : Thread nD τ) (((cfg0 (adm m hG)).win 4).stage ((cfg0 (adm m hG)).slots t 4)) fullShare ((dats m hG 0 c).after 4 t)
    ∗ owns (c : Thread nD τ) (((cfg0 (adm m hG)).win 5).stage ((cfg0 (adm m hG)).slots t 5)) fullShare ((dats m hG 0 c).after 5 t)
    ∗ owns (c : Thread nD τ) (((cfg0 (adm m hG)).win 6).stage ((cfg0 (adm m hG)).slots t 6)) fullShare ((dats m hG 0 c).after 6 t)
    ∗ owns (c : Thread nD τ) (((cfg0 (adm m hG)).win 7).stage ((cfg0 (adm m hG)).slots t 7)) fullShare ((dats m hG 0 c).after 7 t)
    ∗ owns (c : Thread nD τ) (((cfg0 (adm m hG)).win 8).stage ((cfg0 (adm m hG)).slots t 8)) fullShare ((dats m hG 0 c).after 8 t)
    ∗ owns (c : Thread nD τ) (((cfg0 (adm m hG)).win 9).stage ((cfg0 (adm m hG)).slots t 9)) fullShare ((dats m hG 0 c).after 9 t)
    ∗ owns (c : Thread nD τ) (((cfg0 (adm m hG)).win 10).stage ((cfg0 (adm m hG)).slots t 10)) fullShare ((dats m hG 0 c).after 10 t)
    ∗ owns (c : Thread nD τ) (((cfg0 (adm m hG)).win 11).stage ((cfg0 (adm m hG)).slots t 11)) fullShare ((dats m hG 0 c).after 11 t)
    ∗ owns (c : Thread nD τ) (((cfg0 (adm m hG)).win 12).stage ((cfg0 (adm m hG)).slots t 12)) fullShare ((dats m hG 0 c).after 12 t))

theorem rows0 (c : Dev nD) (t : Fin grid0.N) : t.val = 0 → ∀ k, k < 256 → rowNo (iblk m hG c 0 t) k = tk m c 0 k := by
  intro h0 k hk
  refine congrArg BitVec.toNat ((iblk0 m hG c t _).trans (congrArg (slotTok m c) ?_))
  funext a; apply Fin.ext; fin_cases a
  · exact h0
  · rfl
theorem rows1 (c : Dev nD) (t : Fin grid0.N) : t.val < used m c → ∀ k, k < 256 → rowNo (iblk m hG c 1 t) k = tk m c (t.val + 1) k := by
  intro _ k hk
  exact congrArg BitVec.toNat ((iblk1 m hG c t _).trans rfl)

set_option maxHeartbeats 4000000 in
theorem sound_body (c : Dev nD) (t : Fin (cfg0 (adm m hG)).N) :
    bodyPre m hG c t ⊢ wp frame (wpE (defs₀ (F := F)) Variants.none (c : Thread nD τ) none) Set.univ (bodyAt m hG t) (fun _ => bodyPost m hG c t) := by
  have hlt := pt_lt t
  have ht := pt_val t
  have hu := (hG c).2.2 (ix1 (0 : Fin 1))
  unfold bodyPre bodyPost
  rw [bodyAt_parts]
  simp only [before0_0, before0_1, before0_2, before0_3, before0_4, before0_5, before0_6, before0_7, before0_8, before0_9, before0_10, before0_11]
  rw [after0_0, after0_1, after0_2, after0_3, after0_4, after0_5, after0_6, after0_7, after0_8, after0_9, after0_10, after0_11, after0_12]
  rw [show (dats m hG 0 c).Φ t.castSucc = heldAt m hG c t.val from rfl, show (dats m hG 0 c).Φ t.succ = heldAt m hG c (t.val + 1) from rfl]
  unfold Dat.owesAt Pipeline.owesWithin
  rw [show (dats m hG 0 c).owed t.castSucc = 0 from rfl, show (dats m hG 0 c).owed t.succ = 0 from rfl]
  unfold heldAt
  have HS := run_step (F := F) c (grid0.coords t) (Memref.whole main_arg2) (Memref.isWhole_whole _) (Memref.whole main_arg3) (Memref.isWhole_whole _) (spec0_0.stage ((cfg0 (adm m hG)).slots t 0)) (hstage0_0 (((cfg0 (adm m hG)).slots t 0).cast nbuf0_0)) (spec0_1.stage ((cfg0 (adm m hG)).slots t 1)) (hstage0_1 (((cfg0 (adm m hG)).slots t 1).cast nbuf0_1)) (Memref.isWhole_whole _) (spec0_2.stage ((cfg0 (adm m hG)).slots t 2)) (hstage0_2 (((cfg0 (adm m hG)).slots t 2).cast nbuf0_2)) (spec0_3.stage ((cfg0 (adm m hG)).slots t 3)) (hstage0_3 (((cfg0 (adm m hG)).slots t 3).cast nbuf0_3)) (spec0_4.stage ((cfg0 (adm m hG)).slots t 4)) (hstage0_4 (((cfg0 (adm m hG)).slots t 4).cast nbuf0_4)) (spec0_5.stage ((cfg0 (adm m hG)).slots t 5)) (hstage0_5 (((cfg0 (adm m hG)).slots t 5).cast nbuf0_5)) (spec0_6.stage ((cfg0 (adm m hG)).slots t 6)) (hstage0_6 (((cfg0 (adm m hG)).slots t 6).cast nbuf0_6)) (spec0_7.stage ((cfg0 (adm m hG)).slots t 7)) (hstage0_7 (((cfg0 (adm m hG)).slots t 7).cast nbuf0_7)) (spec0_8.stage ((cfg0 (adm m hG)).slots t 8)) (hstage0_8 (((cfg0 (adm m hG)).slots t 8).cast nbuf0_8)) (spec0_9.stage ((cfg0 (adm m hG)).slots t 9)) (hstage0_9 (((cfg0 (adm m hG)).slots t 9).cast nbuf0_9)) (spec0_10.stage ((cfg0 (adm m hG)).slots t 10)) (hstage0_10 (((cfg0 (adm m hG)).slots t 10).cast nbuf0_10)) (spec0_11.stage ((cfg0 (adm m hG)).slots t 11)) (hstage0_11 (((cfg0 (adm m hG)).slots t 11).cast nbuf0_11)) (spec0_12.stage ((cfg0 (adm m hG)).slots t 12)) (hstage0_12 (((cfg0 (adm m hG)).slots t 12).cast nbuf0_12)) (Memref.isWhole_whole _) (Memref.isWhole_whole _) t.val ht (rowsIn m c) (tk m c) (used m c) (dproj m hG c)
    fullShare.right fullShare.right fullShare fullShare fullShare fullShare fullShare fullShare fullShare fullShare fullShare fullShare fullShare fullShare  (expertOf m c) (inUse m c) (iblk m hG c 0 t) (iblk m hG c 1 t)
    (iblk m hG c 2 t) (iblk m hG c 3 t) (iblk m hG c 4 t) (iblk m hG c 5 t) (iblk m hG c 6 t) (iblk m hG c 7 t) (iblk m hG c 8 t) (iblk m hG c 9 t) (iblk m hG c 10 t) (iblk m hG c 11 t)
  iintro ⟨⟨HD, HZ, Hp, H1, H2, Hr⟩, ⟨%W, -, HO⟩, ⟨%d0, S0⟩, ⟨%d1, S1⟩, ⟨%d2, S2⟩, ⟨%d3, S3⟩, ⟨%d4, S4⟩, ⟨%d5, S5⟩, ⟨%d6, S6⟩, ⟨%d7, S7⟩, ⟨%d8, S8⟩, ⟨%d9, S9⟩, ⟨%d10, S10⟩, ⟨%d11, S11⟩, ⟨%d12, S12⟩⟩
  have HS := HS ((dats m hG 0 c).before 12 t d12) rfl hu.1 (Nat.lt_of_le_of_lt hu.2 (by decide)) (rows0 m hG c t) (rows1 m hG c t) (tk_lt m hG c)
    (congrArg (fun u : Fin grid0.N => (dcast (iblk m hG c 7 u) (iblk m hG c 8 u) (iblk m hG c 9 u) (iblk m hG c 10 u) : S1024x2048.Idx → Elt F .bf16)) (tt_val t))
    (fun h0 ht' e => dproj_same m hG c t.val h0 ht' e)
  iapply (wp_wand_r frame (wpE (defs₀ (F := F)) Variants.none (c : Thread nD τ) none) Set.univ)
  isplitl [H1 H2 S0 S1 S2 S3 S4 S5 S6 S7 S8 S9 S10 S11 S12 HD HZ HO]
  · iapply HS
    isplitl [H1]; · iexact H1
    isplitl [H2]; · iexact H2
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    isplitl [S10]; · iexact S10
    isplitl [S11]; · iexact S11
    isplitl [S12]; · iexact S12
    isplitl [HD]; · iexact HD
    isplitl [HZ]; · iexact HZ
    iexists W; iexact HO
  iintro %a ⟨H1, H2, S0, S1, S2, S3, S4, S5, S6, S7, S8, S9, S10, S11, S12, HD, HZ, HO⟩
  icases HO with ⟨%W', HO⟩
  isplitl [HD HZ Hp H1 H2 Hr]
  · isplitl [HD]; · iexact HD
    isplitl [HZ]; · iexact HZ
    isplitl [Hp]; · iexact Hp
    isplitl [H1]; · iexact H1
    isplitl [H2]; · iexact H2
    iexact Hr
  isplitl [HO]
  · iexists W'
    isplitr; · ipureintro; exact fun _ _ => Or.inl trivial
    iexact HO
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [S9]; · iexact S9
  isplitl [S10]; · iexact S10
  isplitl [S11]; · iexact S11
  iexact S12

/-- The body table's row at a step. -/
theorem defs₀_row (t : Fin (cfg0 (adm m hG)).N) :
    defs₀ (F := F) .tc (cfg0 (adm m hG)).body ((cfg0 (adm m hG)).bodyArgs t ((cfg0 (adm m hG)).slots t)) = bodyAt m hG t := by
  unfold defs₀; rw [Defs.onTc_tc]; rfl

set_option maxHeartbeats 1000000 in
/-- The library's body obligation, at every step. -/
theorem body_obligation (c : Dev nD) : BodyObligation (dats (F := F) m hG 0 c) (defs₀ (F := F)) Variants.none () Set.univ := fun t => by
  have E : (cfg0 (adm m hG)).W = 13 := rfl
  rw [bigSep_W0, bigSep_W0, defs₀_row]
  refine triple_restated (sound_body m hG c t) rfl .rfl fun _ => ?_
  unfold bodyPost
  refine sep_mono .rfl (sep_mono .rfl ?_)
  iterate 12 refine sep_mono .rfl ?_
  dsimp only
  rw [show (idle0 (adm m hG).1 (12 : Fin 13) ((pcfg0.gridAt (adm m hG).1).coords t)) = false from writes_out _ _]
  exact fun _ h => h

end Cert.ExpertsIdeal.Hand

end
-- ==== Proof.ExpertsIdeal.Frame.lean ====
/- UNTRUSTED — The experts call: the launch.

   At the start the scratch buffers, the two semaphores at zero and the rows' array make up what the first step expects; after the
   last step they are given back, the semaphores at zero again. So every run ends, and no argument changes. -/
module

public import proofs.«01_k».proof.Proof.ExpertsIdeal.Step
public import Idealize.ShloMosaic.Lib.Ring
public import Idealize.ShloMosaic.Lib.Tactic

@[expose] public section

set_option maxRecDepth 16384

noncomputable section

namespace Cert.ExpertsIdeal.Hand

open Cert.ExpertsIdeal Cert.ExpertsIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

open Idealize.ShloMosaic.Pipeline (Dat Cfg Window BodyObligation cellOf)

variable (m : (ℓ : Loc nD τ sig) → Buf (Elt F) ℓ) (ρ : Dev nD → PrngReg) (hG : Good m)

/-- The kernel's own semaphores. -/
def osem0 : Fin 2 → SemLoc sig := fun j => (![SemLoc.dma 26, SemLoc.dma 27] : Fin 2 → SemLoc sig) j
theorem ownSemFacts0 : Pipeline.OwnSemFacts spec0 osem0 := by decide

theorem ownSems00_eq (c : Dev nD) : (Pipeline.ownSems0 (Ix := Unit) (Name := ℕ) (U := Pipeline.UD sig nD τ) (Lvl := ℕ) (Val := Elt F) (τ := τ) osem0 c)
    = iprop(semVal ((c : Thread nD τ), SemLoc.dma (cel 0)) 0 ∗ semVal ((c : Thread nD τ), SemLoc.dma (cel 1)) 0) := by
  rw [Pipeline.ownSems0_eq_of_list c osem0 [0, 1] (by decide) (by decide)]; rfl

theorem hbuf_eq (c : Dev nD) : (bigSep ({main_v0} : Finset (Ref sig .tc)) fun b => ((c.tc : Thread nD τ).loc b) ↦{fullShare} V m c b : sProp (MT nD τ sig Unit (Elt F) ℕ (Pipeline.UD sig nD τ) ℕ))
    = iprop(hLoc c ↦{fullShare} rowsIn m c) := by
  rw [bigSep_singleton]; rfl

theorem tables_eq (c : Dev nD) : (Pipeline.ΦT pre0 (tabs m) c : sProp (MT nD τ sig Unit (Elt F) ℕ (Pipeline.UD sig nD τ) ℕ))
    = iprop(owns (c : Thread nD τ) (Memref.whole main_arg2) fullShare.right (expertOf m c) ∗ owns (c : Thread nD τ) (Memref.whole main_arg3) fullShare.right (inUse m c)) := by
  obtain rfl : c = 0 := Subsingleton.elim _ _
  rw [owns_whole, owns_whole]
  unfold Pipeline.ΦT Pipeline.prefHeld
  rw [show (Finset.univ : Finset (Fin pre0.K)) = insert 0 {1} from by decide, bigSep_insert (by decide), bigSep_singleton]
  rfl

theorem scratch_of (c : Dev nD) (Z : S1024x2048.Idx → Elt F .bf16) : owns (c : Thread nD τ) wM fullShare Z
    ⊢ (iprop(∃ f : Buf (Elt F) ((c : Thread nD τ).loc cc0_scratch0), ((c : Thread nD τ).loc cc0_scratch0) ↦{fullShare} f) : sProp (MT nD τ sig Unit (Elt F) ℕ (Pipeline.UD sig nD τ) ℕ)) := by
  rw [owns_whole]
  iintro H
  iexists Z; iexact H

theorem start (c : Dev nD) : iprop(Pipeline.ΦDRG osem0 spec0 {main_v0} ∅ (V m) (V m) c ∗ Pipeline.ΦT pre0 (tabs m) c) ⊢ heldAt m hG c 0 := by
  rw [Pipeline.ΦDRG_eq, scopedRest0_eq, ownSems00_eq, hbuf_eq, tables_eq]
  unfold heldAt wdSt
  iintro ⟨⟨⟨⟨%f, Hw⟩, ⟨%g, Hx⟩⟩, Hp, ⟨Hs, Hs'⟩, Hh, -⟩, H1, H2⟩
  ihave HF := (free_start c (rowsIn m c) g) $$ [Hs Hs' Hx Hh]
  · isplitl [Hs]; · iexact Hs
    isplitl [Hs']; · iexact Hs'
    isplitl [Hx]; · iexact Hx
    iexact Hh
  icases HF with ⟨Hf, Hf', Hr⟩
  isplitl [Hf Hf']
  · iapply (idle_dmaSt c (rowsIn m c) (tk m c) (used m c) 0 (by omega))
    isplitl [Hf]; · iexact Hf
    iexact Hf'
  isplitl [Hw]
  · iexists f
    isplitr; · ipureintro; intro h; exact absurd h (by omega)
    rw [owns_whole]
    iexact Hw
  isplitl [Hp]; · iexact Hp
  isplitl [H1]; · iexact H1
  isplitl [H2]; · iexact H2
  iexact Hr

include hG in
theorem used_le (c : Dev nD) : used m c ≤ 304 := ((hG c).2.2 _).2

theorem finish (c : Dev nD) : heldAt m hG c 304 ⊢ Pipeline.ΦDRG osem0 spec0 {main_v0} ∅ (V m) (V m) c := by
  rw [Pipeline.ΦDRG_eq, scopedRest0_eq, ownSems00_eq, hbuf_eq]
  unfold heldAt wdSt Pipeline.routed
  rw [bigSep_empty]
  iintro ⟨HD, ⟨%Z, -, Hw⟩, Hp, -, -, Hr⟩
  ihave HF := (dmaSt_idle c (rowsIn m c) (tk m c) (used m c) 304 (by have := used_le m hG c; omega)) $$ HD
  icases HF with ⟨Hf, Hf'⟩
  ihave HE := (free_end c (rowsIn m c) default) $$ [Hf Hf' Hr]
  · isplitl [Hf]; · iexact Hf
    isplitl [Hf']; · iexact Hf'
    iexact Hr
  icases HE with ⟨Hs, Hs', Hx, Hh⟩
  isplitl [Hw Hx]
  · isplitl [Hw]
    · iapply (scratch_of c Z); iexact Hw
    iexact Hx
  isplitl [Hp]; · iexact Hp
  isplitl [Hs Hs']
  · isplitl [Hs]; · iexact Hs
    iexact Hs'
  isplitl [Hh]; · iexact Hh
  iempintro

theorem table_at_entry (c : Dev nD) (k : Fin 2) : V m c (pre0.ref k) = tabs m k := by
  obtain rfl : c = 0 := Subsingleton.elim _ _
  fin_cases k
  · exact V_main_arg2 m 0
  · exact V_main_arg3 m 0

set_option backward.isDefEq.respectTransparency.types false in
set_option maxHeartbeats 1600000 in
/-- The run. -/
theorem run_main : θ_run defs (onTc (τ := τ) (main (F := F))) (s₀ m ρ)
    (fun r => Pipeline.FramePostRG (Pipeline.pin pcfgs (adms m hG)) (dats m hG) 0 ∅ (V m) (V m) r ∧ r.2.sem = fun _ => 0) :=
  Pipeline.θ_run_frameP_dmaRG_shared (Q' := _) pcfgs (adms m hG) (dats m hG) (0 : Fin 1) launch₀0 osem0 defs₀ Variants.none
    (ho := ownSemFacts0) (H := {main_v0}) (R := ∅) (hH := (by decide : {main_v0} ⊆ Pipeline.restRefsP sig pre0 spec0)) (hR := Finset.empty_subset _) (m := m) (g := ρ) (main := main)
    (hbody := fun c => (body_obligation m hG c).loose) (hq := fun _ _ _ => rfl) (howed := fun _ _ => rfl) (V := V m) (hmain := hmain m Variants.none)
    (hA := A_eq m hG) (hpf := table_at_entry m) (G := V m) (hin := start m hG) (hout := finish m hG)

include hG in
set_option maxHeartbeats 800000 in
/-- Every run ends with the arguments as they were and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun r h => ⟨fun c => ⟨((h.1.1 c).2 main_arg0 (Finset.mem_sdiff.mpr ⟨Pipeline.mem_restRefs_of main_arg0 (by decide) (by decide : ∀ w : Fin 13, (spec0 w).arr.view.ref ≠ main_arg0), Finset.notMem_empty _⟩)).trans (V_main_arg0 m c),
    ((h.1.1 c).2 main_arg1 (Finset.mem_sdiff.mpr ⟨Pipeline.mem_restRefs_of main_arg1 (by decide) (by decide : ∀ w : Fin 13, (spec0 w).arr.view.ref ≠ main_arg1), Finset.notMem_empty _⟩)).trans (V_main_arg1 m c),
    ((h.1.1 c).2 main_arg2 (Finset.mem_sdiff.mpr ⟨Pipeline.mem_restRefs_of main_arg2 (by decide) (by decide : ∀ w : Fin 13, (spec0 w).arr.view.ref ≠ main_arg2), Finset.notMem_empty _⟩)).trans (V_main_arg2 m c),
    ((h.1.1 c).2 main_arg3 (Finset.mem_sdiff.mpr ⟨Pipeline.mem_restRefs_of main_arg3 (by decide) (by decide : ∀ w : Fin 13, (spec0 w).arr.view.ref ≠ main_arg3), Finset.notMem_empty _⟩)).trans (V_main_arg3 m c),
    ((h.1.1 c).1 2).trans (((dats m hG 0 c).arrAt_in 2 rfl _).trans ((A_eq m hG c 2).trans (V_main_arg4 m c))),
    ((h.1.1 c).1 6).trans (((dats m hG 0 c).arrAt_in 6 rfl _).trans ((A_eq m hG c 6).trans (V_main_arg5 m c))),
    ((h.1.1 c).1 7).trans (((dats m hG 0 c).arrAt_in 7 rfl _).trans ((A_eq m hG c 7).trans (V_main_arg6 m c))),
    ((h.1.1 c).1 11).trans (((dats m hG 0 c).arrAt_in 11 rfl _).trans ((A_eq m hG c 11).trans (V_main_arg7 m c)))⟩, h.2⟩) (run_main m ρ hG)

/-- The output array at the end of a run. -/
theorem result : θ_run defs (onTc (τ := τ) (main (F := F))) ⟨m, fun _ => 0, ρ⟩ (fun r => ∀ c : Dev nD,
      r.2.mem ((c.tc : Thread nD τ).loc main_v2) = (dats m hG 0 c).arrAt 12 (cfg0 (adm m hG)).N) :=
  (θ_run defs _ _).mono (fun r h c => (h.1.1 c).1 12) (run_main m ρ hG)

end Cert.ExpertsIdeal.Hand

end
-- ==== Proof.ExpertsIdeal.Value.lean ====
/- UNTRUSTED — The experts call's result, over the extended reals, as a function of its arguments: each used tile's rows through their
   expert, each unused tile zero. -/
module

public import proofs.«01_k».proof.Proof.ExpertsIdeal.Tile
public import proofs.«01_k».proof.Proof.ExpertsIdeal.Frame
public import Idealize.ShloMosaic.Lib.Pipeline.ValueKit
public import Idealize.ShloMosaic.Lib.Pipeline.Covers

@[expose] public section

set_option maxRecDepth 16384

noncomputable section

namespace Cert.ExpertsIdeal.Hand

open Cert.ExpertsIdeal Cert.ExpertsIdeal.Gen
open Idealize.ShloMosaic Idealize.ShloMosaic.TcCoe Idealize.SL.Sem

/-- An expert among the 64 that all weights but the up-projection's number. -/
def wide (e : Fin 32) : Fin 64 := ⟨e.val, by omega⟩

/-- Column `j` of row `k`'s up-projection through expert `e`. -/
def upElt (h : S17408x2048.Idx → EReal) (w : S32x2048x2048.Idx → EReal) (b : S64x1x2048.Idx → EReal) (k : Fin 17408) (e : Fin 32) (j : Fin 2048) : EReal :=
  (∑ p : Fin 2048, h (ix2 k p) * w (ix3 e p j)) + b (ix3 (wide e) 0 j)

/-- Column `d` of row `k`'s result through expert `e`. -/
def expElt (h : S17408x2048.Idx → EReal) (w : S32x2048x2048.Idx → EReal) (b : S64x1x2048.Idx → EReal) (wd : S64x1024x2048.Idx → EReal)
    (bd : S64x1x2048.Idx → EReal) (k : Fin 17408) (e : Fin 32) (d : Fin 2048) : EReal :=
  (∑ f : Fin 1024, unit (upElt h w b k e (gateCol f)) (upElt h w b k e (linCol f)) * wd (ix3 (wide e) f d)) + bd (ix3 (wide e) 0 d)

/-- A row number and an expert off the tables. -/
def rowAt (tok : S304x256.Idx → BitVec 32) (t : Fin 304) (r : Fin 256) : Fin 17408 := ⟨(tok (ix2 t r)).toNat % 17408, Nat.mod_lt _ (by decide)⟩
def expertAt (te : S304.Idx → BitVec 32) (t : Fin 304) : Fin 32 := ⟨(te (ix1 t)).toNat % 32, Nat.mod_lt _ (by decide)⟩

/-- Row `r` of tile `t`, column `d`. -/
def tileElt (h : S17408x2048.Idx → EReal) (tok : S304x256.Idx → BitVec 32) (te : S304.Idx → BitVec 32) (nu : S1.Idx → BitVec 32)
    (w : S32x2048x2048.Idx → EReal) (b : S64x1x2048.Idx → EReal) (wd : S64x1024x2048.Idx → EReal) (bd : S64x1x2048.Idx → EReal)
    (t : Fin 304) (r : Fin 256) (d : Fin 2048) : EReal :=
  if t.val < (nu (ix1 0)).toNat then expElt h w b wd bd (rowAt tok t r) (expertAt te t) d else 0

/-- The whole result. -/
def expFn (h : S17408x2048.Idx → EReal) (tok : S304x256.Idx → BitVec 32) (te : S304.Idx → BitVec 32) (nu : S1.Idx → BitVec 32)
    (w : S32x2048x2048.Idx → EReal) (b : S64x1x2048.Idx → EReal) (wd : S64x1024x2048.Idx → EReal) (bd : S64x1x2048.Idx → EReal) : S77824x2048.Idx → EReal := fun y =>
  tileElt h tok te nu w b wd bd ⟨(y 0).val / 256, by have h : (y 0).val < 77824 := (y 0).isLt; omega⟩ ⟨(y 0).val % 256, Nat.mod_lt _ (by decide)⟩ ⟨(y 1).val, (y 1).isLt⟩

variable (m : (ℓ : Loc nD τ sig) → Buf (Elt Ideal) ℓ) (hG : Good m)

/-- The result as a function of the arguments. -/
def expArr (c : Dev nD) : S77824x2048.Idx → EReal :=
  expFn (m ((c.tc : Thread nD τ).loc main_arg0)) (m ((c.tc : Thread nD τ).loc main_arg1)) (m ((c.tc : Thread nD τ).loc main_arg2)) (m ((c.tc : Thread nD τ).loc main_arg3))
    (m ((c.tc : Thread nD τ).loc main_arg4)) (m ((c.tc : Thread nD τ).loc main_arg5)) (m ((c.tc : Thread nD τ).loc main_arg6)) (m ((c.tc : Thread nD τ).loc main_arg7))

/-- A piece of a row, from the argument. -/
theorem line_elt (c : Dev nD) (T : ℕ → ℕ) (r : Fin 256) (p : Fin 2048) :
    lineOf (rowsIn m c) T (p.val / 128) (ix2 r ⟨p.val % 128, Nat.mod_lt _ (by decide)⟩)
      = (m ((c.tc : Thread nD τ).loc main_arg0) : S17408x2048.Idx → EReal) (ix2 ⟨T r.val % 17408, Nat.mod_lt _ (by decide)⟩ p) := by
  unfold lineOf rowsIn
  rw [V_main_v0]
  pointwise
  refine congrArg (m ((c.tc : Thread nD τ).loc main_arg0)) (congrArg₂ ix2 rfl (Fin.ext ?_))
  dsimp only; omega

include hG in
theorem expert_mod (c : Dev nD) (t : Fin 304) : (expertOf m c (ix1 t)).toNat % 32 = (expertOf m c (ix1 t)).toNat :=
  Nat.mod_eq_of_lt ((hG c).2.1 _)

/-- One of four parts, by its number. -/
theorem pick {X0 X1 X2 X3 : S1x2048x512.Idx → EReal} {n : ℕ} {i : S1x2048x512.Idx} {r : EReal} (hn : n < 4) (h0 : n = 0 → X0 i = r) (h1 : n = 1 → X1 i = r)
    (h2 : n = 2 → X2 i = r) (h3 : n = 3 → X3 i = r) : (if n = 0 then X0 else if n = 1 then X1 else if n = 2 then X2 else X3) i = r := by
  split
  · exact h0 (by assumption)
  split
  · exact h1 (by assumption)
  split
  · exact h2 (by assumption)
  · exact h3 (by omega)

/-- An element of the up-projection's part that column `j` is in. -/
theorem up_part (c : Dev nD) (t : Fin grid0.N) (p j : Fin 2048) :
    (if j.val / 512 = 0 then (iblk m hG c 2 t : S1x2048x512.Idx → EReal) else if j.val / 512 = 1 then (iblk m hG c 3 t : S1x2048x512.Idx → EReal)
      else if j.val / 512 = 2 then (iblk m hG c 4 t : S1x2048x512.Idx → EReal) else (iblk m hG c 5 t : S1x2048x512.Idx → EReal))
        (ix3 0 p ⟨j.val % 512, Nat.mod_lt _ (by decide)⟩)
      = (m ((c.tc : Thread nD τ).loc main_arg4) : S32x2048x2048.Idx → EReal) (ix3 (expertAt (expertOf m c) ⟨t.val, pt_lt t⟩) p j) := by
  have he := expert_mod m hG c ⟨t.val, pt_lt t⟩
  refine pick (by omega) (fun hj => ?_) (fun hj => ?_) (fun hj => ?_) (fun hj => ?_)
  · exact (iblk2 m hG c t _).trans (congrArg (m ((c.tc : Thread nD τ).loc main_arg4)) (congr (congrArg₂ ix3 (Fin.ext he.symm) rfl) (Fin.ext (by show 0 * 512 + j.val % 512 = j.val; omega))))
  · exact (iblk3 m hG c t _).trans (congrArg (m ((c.tc : Thread nD τ).loc main_arg4)) (congr (congrArg₂ ix3 (Fin.ext he.symm) rfl) (Fin.ext (by show 1 * 512 + j.val % 512 = j.val; omega))))
  · exact (iblk4 m hG c t _).trans (congrArg (m ((c.tc : Thread nD τ).loc main_arg4)) (congr (congrArg₂ ix3 (Fin.ext he.symm) rfl) (Fin.ext (by show 2 * 512 + j.val % 512 = j.val; omega))))
  · exact (iblk5 m hG c t _).trans (congrArg (m ((c.tc : Thread nD τ).loc main_arg4)) (congr (congrArg₂ ix3 (Fin.ext he.symm) rfl) (Fin.ext (by show 3 * 512 + j.val % 512 = j.val; omega))))

/-- A cast part of the down-projection is the part. -/
theorem cast1 (X : Vec Ideal S1x1024x512 .f32) (f : Fin 1024) (q : Fin 512) : k0_pay1 X (ix2 f q) = X (ix3 0 f q) := by
  unfold k0_pay1; pointwise
theorem cast2 (X : Vec Ideal S1x1024x512 .f32) (f : Fin 1024) (q : Fin 512) : k0_pay2 X (ix2 f q) = X (ix3 0 f q) := by
  unfold k0_pay2; pointwise
theorem cast3 (X : Vec Ideal S1x1024x512 .f32) (f : Fin 1024) (q : Fin 512) : k0_pay3 X (ix2 f q) = X (ix3 0 f q) := by
  unfold k0_pay3; pointwise
theorem cast4 (X : Vec Ideal S1x1024x512 .f32) (f : Fin 1024) (q : Fin 512) : k0_pay4 X (ix2 f q) = X (ix3 0 f q) := by
  unfold k0_pay4; pointwise

/-- An element of a step's down-projection. -/
theorem down_elt (c : Dev nD) (t : Fin grid0.N) (f : Fin 1024) (d : Fin 2048) :
    dproj m hG c t.val (ix2 f d) = (m ((c.tc : Thread nD τ).loc main_arg6) : S64x1024x2048.Idx → EReal) (ix3 (wide (expertAt (expertOf m c) ⟨t.val, pt_lt t⟩)) f d) := by
  have he := expert_mod m hG c ⟨t.val, pt_lt t⟩
  unfold dproj
  rw [tt_val]
  unfold dcast
  show (if d.val / 512 = 0 then _ else if d.val / 512 = 1 then _ else if d.val / 512 = 2 then _ else _) = _
  split_ifs
  · exact (cast1 _ _ _).trans ((iblk7 m hG c t _).trans (congrArg (m ((c.tc : Thread nD τ).loc main_arg6)) (congr (congrArg₂ ix3 (Fin.ext he.symm) rfl) (Fin.ext (by show 0 * 512 + d.val % 512 = d.val; omega)))))
  · exact (cast2 _ _ _).trans ((iblk8 m hG c t _).trans (congrArg (m ((c.tc : Thread nD τ).loc main_arg6)) (congr (congrArg₂ ix3 (Fin.ext he.symm) rfl) (Fin.ext (by show 1 * 512 + d.val % 512 = d.val; omega)))))
  · exact (cast3 _ _ _).trans ((iblk9 m hG c t _).trans (congrArg (m ((c.tc : Thread nD τ).loc main_arg6)) (congr (congrArg₂ ix3 (Fin.ext he.symm) rfl) (Fin.ext (by show 2 * 512 + d.val % 512 = d.val; omega)))))
  · exact (cast4 _ _ _).trans ((iblk10 m hG c t _).trans (congrArg (m ((c.tc : Thread nD τ).loc main_arg6)) (congr (congrArg₂ ix3 (Fin.ext he.symm) rfl) (Fin.ext (by show 3 * 512 + d.val % 512 = d.val; omega)))))

/-- The two biases. -/
theorem bias_up (c : Dev nD) (t : Fin grid0.N) (j : Fin 2048) :
    (iblk m hG c 6 t : S1x1x2048.Idx → EReal) (ix3 0 0 j) = (m ((c.tc : Thread nD τ).loc main_arg5) : S64x1x2048.Idx → EReal) (ix3 (wide (expertAt (expertOf m c) ⟨t.val, pt_lt t⟩)) 0 j) :=
  (iblk6 m hG c t _).trans (congrArg (m ((c.tc : Thread nD τ).loc main_arg5)) (congr (congrArg₂ ix3 (Fin.ext (expert_mod m hG c ⟨t.val, pt_lt t⟩).symm) rfl)
    (Fin.ext (by show 0 * 2048 + j.val = j.val; omega))))
theorem bias_down (c : Dev nD) (t : Fin grid0.N) (j : Fin 2048) :
    (iblk m hG c 11 t : S1x1x2048.Idx → EReal) (ix3 0 0 j) = (m ((c.tc : Thread nD τ).loc main_arg7) : S64x1x2048.Idx → EReal) (ix3 (wide (expertAt (expertOf m c) ⟨t.val, pt_lt t⟩)) 0 j) :=
  (iblk11 m hG c t _).trans (congrArg (m ((c.tc : Thread nD τ).loc main_arg7)) (congr (congrArg₂ ix3 (Fin.ext (expert_mod m hG c ⟨t.val, pt_lt t⟩).symm) rfl)
    (Fin.ext (by show 0 * 2048 + j.val = j.val; omega))))

/-- An element of a tile's up-projection. -/
theorem up_elt (c : Dev nD) (t : Fin grid0.N) (r : Fin 256) (j : Fin 2048) :
    k0_pay7 (F := Ideal) (lineOf (rowsIn m c) (tk m c t.val) 0) (lineOf (rowsIn m c) (tk m c t.val) 1) (lineOf (rowsIn m c) (tk m c t.val) 2) (lineOf (rowsIn m c) (tk m c t.val) 3)
      (lineOf (rowsIn m c) (tk m c t.val) 4) (lineOf (rowsIn m c) (tk m c t.val) 5) (lineOf (rowsIn m c) (tk m c t.val) 6) (lineOf (rowsIn m c) (tk m c t.val) 7)
      (lineOf (rowsIn m c) (tk m c t.val) 8) (lineOf (rowsIn m c) (tk m c t.val) 9) (lineOf (rowsIn m c) (tk m c t.val) 10) (lineOf (rowsIn m c) (tk m c t.val) 11)
      (lineOf (rowsIn m c) (tk m c t.val) 12) (lineOf (rowsIn m c) (tk m c t.val) 13) (lineOf (rowsIn m c) (tk m c t.val) 14) (lineOf (rowsIn m c) (tk m c t.val) 15)
      (iblk m hG c 2 t) (iblk m hG c 3 t) (iblk m hG c 4 t) (iblk m hG c 5 t) (iblk m hG c 6 t) (ix2 r j)
    = upElt (m ((c.tc : Thread nD τ).loc main_arg0)) (m ((c.tc : Thread nD τ).loc main_arg4)) (m ((c.tc : Thread nD τ).loc main_arg5))
        (rowAt (slotTok m c) ⟨t.val, pt_lt t⟩ r) (expertAt (expertOf m c) ⟨t.val, pt_lt t⟩) j := by
  refine (pay7 (lineOf (rowsIn m c) (tk m c t.val)) _ _ _ _ _ r j).trans ?_
  unfold upElt
  refine congrArg₂ (· + ·) (Finset.sum_congr (M := EReal) rfl fun p _ => congrArg₂ (· * ·) ?_ (up_part m hG c t p j)) (bias_up m hG c t j)
  refine (line_elt m c _ r p).trans (congrArg (m ((c.tc : Thread nD τ).loc main_arg0)) (congrArg₂ ix2 (Fin.ext ?_) rfl))
  have ht := pt_lt t
  show (slotTok m c (ix2 (⟨min t.val 303, _⟩ : Fin 304) (⟨r.val % 256, _⟩ : Fin 256))).toNat % 17408 = (slotTok m c (ix2 ⟨t.val, _⟩ r)).toNat % 17408
  refine congrArg (fun z => (slotTok m c z).toNat % 17408) (congrArg₂ ix2 (Fin.ext ?_) (Fin.ext ?_))
  · show min t.val 303 = t.val; omega
  · show r.val % 256 = r.val; omega

/-- An element of what a step leaves. -/
theorem left_elt (c : Dev nD) (t : Fin grid0.N) (r : Fin 256) (d : Fin 2048) :
    left m hG c t (ix2 r d) = tileElt (m ((c.tc : Thread nD τ).loc main_arg0)) (slotTok m c) (expertOf m c) (inUse m c)
      (m ((c.tc : Thread nD τ).loc main_arg4)) (m ((c.tc : Thread nD τ).loc main_arg5)) (m ((c.tc : Thread nD τ).loc main_arg6)) (m ((c.tc : Thread nD τ).loc main_arg7))
      ⟨t.val, pt_lt t⟩ r d := by
  unfold left stepOut tileElt used
  dsimp only
  by_cases hn : t.val < (inUse m c (ix1 0)).toNat
  · refine (congrFun (if_pos hn) _).trans (Eq.trans ?_ (if_pos hn).symm)
    unfold outTile expElt
    refine (pay5 _ _ _ r d).trans ?_
    refine congrArg₂ (· + ·) (Finset.sum_congr (M := EReal) rfl fun f _ => congrArg₂ (· * ·) ?_ (down_elt m hG c t f d)) (bias_down m hG c t d)
    exact congrArg₂ unit (up_elt m hG c t r (gateCol f)) (up_elt m hG c t r (linCol f))
  · refine (congrFun (if_neg hn) _).trans (Eq.trans ?_ (if_neg hn).symm)
    unfold k0_pay6
    pointwise

theorem blocks_all (β : (a : Fin 2) → Fin ((S77824x2048.size a + S256x2048.size a - 1) / S256x2048.size a)) :
    ∃ t : Fin grid0.N, ∀ a : Fin 2, cc0_transform_13 (grid0.coords t) a = (β a).val := by
  have h0 : (β 0).val < 304 := (β 0).isLt
  have h1 : (β 1).val < 1 := (β 1).isLt
  refine ⟨tt (β 0).val, fun a => ?_⟩
  fin_cases a
  · show (BitVec.ofNat 32 (grid0.coords (tt (β 0).val) 0).val).toNat = (β 0).val
    rw [pt_val, BitVec.toNat_ofNat]
    show (β 0).val % 304 % 2 ^ 32 = (β 0).val
    omega
  · show 0 = (β 1).val; omega

theorem size_pos : ∀ a : Fin 2, 0 < S256x2048.size a := by decide

theorem covers12 : ((cfg0 (adm m hG)).win 12).Covers :=
  Pipeline.Window.covers_of_index_surj _ rfl size_pos blocks_all

/-- Where a block's index lies in the result. -/
abbrev place (t : Fin grid0.N) (y : S256x2048.Idx) : S77824x2048.Idx := (((cfg0 (adm m hG)).win 12).blk t).view.emb y

theorem place_row (t : Fin grid0.N) (y : S256x2048.Idx) : (place m hG t y 0).val = t.val * 256 + (y 0).val := by
  have ht := pt_lt t
  have e : cc0_transform_13 (grid0.coords t) 0 = t.val := by
    show (BitVec.ofNat 32 (grid0.coords t 0).val).toNat = _
    rw [pt_val, BitVec.toNat_ofNat]; exact Nat.mod_eq_of_lt (by omega)
  show cc0_transform_13 (grid0.coords t) 0 * 256 + 1 * (y 0).val = _
  rw [e]; omega
theorem place_col (t : Fin grid0.N) (y : S256x2048.Idx) : (place m hG t y 1).val = (y 1).val := by
  show 0 * 2048 + 1 * (y 1).val = _; omega

theorem left_place (c : Dev nD) (t : Fin grid0.N) (y : S256x2048.Idx) : left m hG c t y = expArr m c (place m hG t y) := by
  have ht := pt_lt t
  have hy0 : (y 0).val < 256 := (y 0).isLt
  have hy1 : (y 1).val < 2048 := (y 1).isLt
  have h0 := place_row m hG t y
  have h1 := place_col m hG t y
  have ey : y = ix2 ⟨(y 0).val, hy0⟩ ⟨(y 1).val, hy1⟩ := by funext a; fin_cases a <;> rfl
  refine (congrArg (left m hG c t) ey).trans ((left_elt m hG c t _ _).trans ?_)
  generalize place m hG t y = z at h0 h1 ⊢
  unfold expArr expFn
  refine congr (congrArg₂ (tileElt _ _ _ _ _ _ _ _) (Fin.ext ?_) (Fin.ext ?_)) (Fin.ext ?_)
  · dsimp only; omega
  · dsimp only; omega
  · exact h1.symm

/-- The array the run leaves. -/
theorem exp_arr (c : Dev nD) : (dats m hG 0 c).arrAt 12 (cfg0 (adm m hG)).N = expArr m c :=
  (dats m hG 0 c).arrAt_eq_of_covers 12 (expArr m c) (covers12 m hG) fun t _ y => left_place m hG c t y

end Cert.ExpertsIdeal.Hand

end
-- ==== Proof.ExpertsIdeal.Rows.lean ====
/- UNTRUSTED — Reading a table's rows by index words, as the reference's `gather`s do: an index word in range is not negative, so the
   reference's wrap leaves it, and the row read is the one it numbers. -/
module

public import proofs.«01_k».proof.Proof.Gen.ExpertsRefIdeal.Run
public import Idealize.ShloMosaic.Lib.Pipeline.ValueKit
public import Idealize.ShloMosaic.Lib.WordCmp
public import Idealize.ShloMosaic.Lib.WordArith

@[expose] public section

set_option maxRecDepth 16384

noncomputable section

namespace Cert.ExpertsIdeal.Hand

open Idealize.ShloMosaic Idealize.ShloMosaic.TcCoe
open Cert.ExpertsRefIdeal

/-- A small word read signed. -/
theorem small_signed (x : BitVec 32) (h : x.toNat < 2147483648) : x.toInt.toNat = x.toNat := by
  rw [BitVec.toInt_eq_toNat_cond, if_pos (by omega)]; rfl

/-- The wrap of an index word leaves one that is not negative. -/
theorem wrap_small (x a : BitVec 32) (h : x.toNat < 2147483648) : Scalar.select (IntOp.cmpi .slt x 0#32) a x = x := by
  rw [WordCmp.cmpi_slt_zero, WordCmp.select_decide, if_neg (by omega)]

/-- Row `idx (t, 0)` of a table of matrices. -/
theorem gather3 {α : Type} {N a b : ℕ} (d : GatherDims ⟨3, ![N, a, b]⟩ ⟨2, ![304, 1]⟩ ⟨3, ![304, a, b]⟩) (hoff : d.offsetDims = [1, 2])
    (hcoll : d.collapsedSliceDims = [0]) (hob : d.operandBatchingDims = [])
    (hsim : d.startIndexMap = [0]) (hivd : d.indexVectorDim = 1) (x : (⟨3, ![N, a, b]⟩ : Shape).Idx → α) (idx : IVec ⟨2, ![304, 1]⟩ 32)
    (t : Fin 304) (p : Fin a) (q : Fin b) (k : Fin N) (hb : (idx (ix2 t 0)).toNat = k.val) (hN : N < 2147483648) :
    Host.gather d x idx (ix3 t p q) = x (ix3 k p q) := by
  obtain ⟨o, cs, ob, sb, sm, iv, ss, wf⟩ := d
  dsimp only at hoff hcoll hob hsim hivd
  subst hoff hcoll hob hsim hivd
  have hk := k.isLt
  have hs0 : ss 0 = 1 := GatherDims.slice_collapsed (⟨[1, 2], [0], [], sb, [0], 1, ss, wf⟩ : GatherDims ⟨3, ![N, a, b]⟩ ⟨2, ![304, 1]⟩ ⟨3, ![304, a, b]⟩) 0 (List.mem_singleton.2 rfl)
  refine congrArg x (funext fun a' => Fin.ext ?_)
  fin_cases a'
  · have e : (idx (GatherDims.siIdx (⟨[1, 2], [0], [], sb, [0], 1, ss, wf⟩ : GatherDims ⟨3, ![N, a, b]⟩ ⟨2, ![304, 1]⟩ ⟨3, ![304, a, b]⟩) (ix3 t p q) ⟨0, Nat.zero_lt_one⟩)) = idx (ix2 t 0) := by
      refine congrArg idx (funext fun b' => Fin.ext ?_)
      fin_cases b' <;> rfl
    show min (idx (GatherDims.siIdx (⟨[1, 2], [0], [], sb, [0], 1, ss, wf⟩ : GatherDims ⟨3, ![N, a, b]⟩ ⟨2, ![304, 1]⟩ ⟨3, ![304, a, b]⟩) (ix3 t p q) ⟨0, Nat.zero_lt_one⟩)).toInt.toNat (N - ss 0) + 0 + 0 = k.val
    rw [e, small_signed _ (by omega), hb, hs0]
    omega
  · show 0 + 0 + p.val = p.val; omega
  · show 0 + 0 + q.val = q.val; omega

/-- Row `idx (t, r, 0)` of a table of rows. -/
theorem gather2 {α : Type} {N a : ℕ} (d : GatherDims ⟨2, ![N, a]⟩ ⟨3, ![304, 256, 1]⟩ ⟨3, ![304, 256, a]⟩) (hoff : d.offsetDims = [2])
    (hcoll : d.collapsedSliceDims = [0]) (hob : d.operandBatchingDims = [])
    (hsim : d.startIndexMap = [0]) (hivd : d.indexVectorDim = 2) (x : (⟨2, ![N, a]⟩ : Shape).Idx → α) (idx : IVec ⟨3, ![304, 256, 1]⟩ 32)
    (t : Fin 304) (r : Fin 256) (p : Fin a) (k : Fin N) (hb : (idx (ix3 t r 0)).toNat = k.val) (hN : N < 2147483648) :
    Host.gather d x idx (ix3 t r p) = x (ix2 k p) := by
  obtain ⟨o, cs, ob, sb, sm, iv, ss, wf⟩ := d
  dsimp only at hoff hcoll hob hsim hivd
  subst hoff hcoll hob hsim hivd
  have hk := k.isLt
  have hs0 : ss 0 = 1 := GatherDims.slice_collapsed (⟨[2], [0], [], sb, [0], 2, ss, wf⟩ : GatherDims ⟨2, ![N, a]⟩ ⟨3, ![304, 256, 1]⟩ ⟨3, ![304, 256, a]⟩) 0 (List.mem_singleton.2 rfl)
  refine congrArg x (funext fun a' => Fin.ext ?_)
  fin_cases a'
  · have e : (idx (GatherDims.siIdx (⟨[2], [0], [], sb, [0], 2, ss, wf⟩ : GatherDims ⟨2, ![N, a]⟩ ⟨3, ![304, 256, 1]⟩ ⟨3, ![304, 256, a]⟩) (ix3 t r p) ⟨0, Nat.zero_lt_one⟩)) = idx (ix3 t r 0) := by
      refine congrArg idx (funext fun b' => Fin.ext ?_)
      fin_cases b' <;> rfl
    show min (idx (GatherDims.siIdx (⟨[2], [0], [], sb, [0], 2, ss, wf⟩ : GatherDims ⟨2, ![N, a]⟩ ⟨3, ![304, 256, 1]⟩ ⟨3, ![304, 256, a]⟩) (ix3 t r p) ⟨0, Nat.zero_lt_one⟩)).toInt.toNat (N - ss 0) + 0 + 0 = k.val
    rw [e, small_signed _ (by omega), hb, hs0]
    omega
  · show 0 + 0 + p.val = p.val; omega

end Cert.ExpertsIdeal.Hand

end
-- ==== Proof.ExpertsIdeal.Ref.lean ====
/- UNTRUSTED — The experts reference's result, over the extended reals, element by element: on index words in range it is the same function
   of the arguments as the kernel's. -/
module

public import proofs.«01_k».proof.Proof.ExpertsIdeal.Value
public import proofs.«01_k».proof.Proof.ExpertsIdeal.Rows

@[expose] public section

set_option maxRecDepth 16384

noncomputable section

namespace Cert.ExpertsRefIdeal.Hand

open Cert.ExpertsRefIdeal Cert.ExpertsRefIdeal.Gen
open Idealize.ShloMosaic Idealize.ShloMosaic.TcCoe Idealize.SL.Sem
open Cert.ExpertsIdeal.Hand (unit gateCol linCol wide upElt expElt rowAt expertAt tileElt expFn wrap_small gather2 gather3)

/-! ## The reference's parts -/

/-- The wrapped row numbers, and the wrapped expert numbers, as columns of index words. -/
def rowIdx (a1 : S304x256.Idx → BitVec 32) : IVec S304x256x1 32 := broadcastInDim S304x256x1 ![0, 1] bcast_S304x256_S304x256x1_0_1 (select (cmpi .slt a1 (broadcastInDim S304x256 ![] bcast_S_S304x256 (constantI S_ 32 0#32))) (addi a1 (broadcastInDim S304x256 ![] bcast_S_S304x256 (constantI S_ 32 17408#32))) a1)
def expIdx (n : BitVec 32) (a2 : S304.Idx → BitVec 32) : IVec S304x1 32 := broadcastInDim S304x1 ![0] bcast_S304_S304x1_0 (select (cmpi .slt a2 (broadcastInDim S304 ![] bcast_S_S304 (constantI S_ 32 0#32))) (addi a2 (broadcastInDim S304 ![] bcast_S_S304 (constantI S_ 32 n))) a2)

/-- Every tile's up-projection. -/
def refUp (x : FVec Ideal S304x256x2048 .f32) (w : FVec Ideal S304x2048x2048 .bf16) (b : FVec Ideal S304x1x2048 .f32) : FVec Ideal S304x256x2048 .f32 :=
  addf (F := Ideal) (Host.dotGeneral dot_S304x256x2048_S304x2048x2048_S304x256x2048_2_1_1_2_0_0 none x w) (broadcastInDim S304x256x2048 ![0, 1, 2] bcast_S304x1x2048_S304x256x2048_0_1_2 b)

/-- The gates, and the linear parts. -/
def refGate (gu : FVec Ideal S304x256x2048 .f32) : FVec Ideal S304x256x1024 .f32 := shapeCast S304x256x1024 (shapeCast S304x256x8x128 (extractStridedSlice S304x256x8x1x128 ![0, 0, 0, 0, 0] (shapeCast S304x256x8x2x128 gu shapeCasts_S304x256x2048_S304x256x8x2x128) slices_S304x256x8x2x128_S304x256x8x1x128_0_0_0_0_0) shapeCasts_S304x256x8x1x128_S304x256x8x128) shapeCasts_S304x256x8x128_S304x256x1024
def refLin (gu : FVec Ideal S304x256x2048 .f32) : FVec Ideal S304x256x1024 .f32 := shapeCast S304x256x1024 (shapeCast S304x256x8x128 (extractStridedSlice S304x256x8x1x128 ![0, 0, 0, 1, 0] (shapeCast S304x256x8x2x128 gu shapeCasts_S304x256x2048_S304x256x8x2x128) slices_S304x256x8x2x128_S304x256x8x1x128_0_0_0_1_0) shapeCasts_S304x256x8x1x128_S304x256x8x128) shapeCasts_S304x256x8x128_S304x256x1024

/-- The gated units. -/
def refAct (gate lin : FVec Ideal S304x256x1024 .f32) : FVec Ideal S304x256x1024 .f32 :=
  mulf (F := Ideal) (mulf (minimumf gate (broadcastInDim S304x256x1024 ![] bcast_S_S304x256x1024 (constant S_ .f32 0x40E00000#32))) (Host.divf (broadcastInDim S304x256x1024 ![] bcast_S_S304x256x1024 (constant S_ .f32 0x3F800000#32)) (addf (broadcastInDim S304x256x1024 ![] bcast_S_S304x256x1024 (constant S_ .f32 0x3F800000#32)) (Host.exp (Host.negf (mulf (broadcastInDim S304x256x1024 ![] bcast_S_S304x256x1024 (constant S_ .f32 0x3FD9DB23#32)) (minimumf gate (broadcastInDim S304x256x1024 ![] bcast_S_S304x256x1024 (constant S_ .f32 0x40E00000#32))))))))) (addf (minimumf (broadcastInDim S304x256x1024 ![] bcast_S_S304x256x1024 (id (constant S_ .f32 0x40E00000#32))) (maximumf (broadcastInDim S304x256x1024 ![] bcast_S_S304x256x1024 (id (constant S_ .f32 0xC0E00000#32))) lin)) (broadcastInDim S304x256x1024 ![] bcast_S_S304x256x1024 (constant S_ .f32 0x3F800000#32)))

/-- The down-projection. -/
def refDown (act : FVec Ideal S304x256x1024 .f32) (wd : FVec Ideal S304x1024x2048 .f32) (bd : FVec Ideal S304x1x2048 .f32) : FVec Ideal S304x256x2048 .f32 :=
  addf (F := Ideal) (Host.dotGeneral dot_S304x256x1024_S304x1024x2048_S304x256x2048_2_1_1_2_0_0 none act wd) (broadcastInDim S304x256x2048 ![0, 1, 2] bcast_S304x1x2048_S304x256x2048_0_1_2 bd)

/-- Unused tiles cleared, and the tiles laid one under another. -/
def refOut (y : FVec Ideal S304x256x2048 .f32) (a3 : S1.Idx → BitVec 32) : FVec Ideal S77824x2048 .bf16 :=
  truncf (F := Ideal) .bf16 (shapeCast _ (select (broadcastInDim S304x256x2048 ![0, 1, 2] bcast_S304x1x1_S304x256x2048_0_1_2 (broadcastInDim S304x1x1 ![0] bcast_S304_S304x1x1_0 (cmpi .slt (iotaInDim S304 32 0) (broadcastInDim S304 ![] bcast_S_S304 (shapeCast _ a3 shapeCasts_S1_S_))))) y (broadcastInDim S304x256x2048 ![] bcast_S_S304x256x2048 (id (constant S_ .f32 0x00000000#32)))) shapeCasts_S304x256x2048_S77824x2048) bitsLt_bf16_f32

theorem parts (m : (ℓ : Loc nD τ sig) → Buf (Elt Ideal) ℓ) (c : Dev nD) :
    Value.res_main_v70 m c
      = refOut (refDown (refAct (refGate (refUp
          (Host.gather gather_S17408x2048_S304x256x1_S304x256x2048_2_0_n_n_0_2_12048 (m ((c.tc : Thread nD τ).loc main_arg0)) (rowIdx (m ((c.tc : Thread nD τ).loc main_arg1))))
          (Host.gather gather_S32x2048x2048_S304x1_S304x2048x2048_12_0_n_n_0_1_120482048 (m ((c.tc : Thread nD τ).loc main_arg4)) (expIdx 32#32 (m ((c.tc : Thread nD τ).loc main_arg2))))
          (Host.gather gather_S64x1x2048_S304x1_S304x1x2048_12_0_n_n_0_1_112048 (m ((c.tc : Thread nD τ).loc main_arg5)) (expIdx 64#32 (m ((c.tc : Thread nD τ).loc main_arg2)))))) (refLin (refUp
          (Host.gather gather_S17408x2048_S304x256x1_S304x256x2048_2_0_n_n_0_2_12048 (m ((c.tc : Thread nD τ).loc main_arg0)) (rowIdx (m ((c.tc : Thread nD τ).loc main_arg1))))
          (Host.gather gather_S32x2048x2048_S304x1_S304x2048x2048_12_0_n_n_0_1_120482048 (m ((c.tc : Thread nD τ).loc main_arg4)) (expIdx 32#32 (m ((c.tc : Thread nD τ).loc main_arg2))))
          (Host.gather gather_S64x1x2048_S304x1_S304x1x2048_12_0_n_n_0_1_112048 (m ((c.tc : Thread nD τ).loc main_arg5)) (expIdx 64#32 (m ((c.tc : Thread nD τ).loc main_arg2)))))))
          (Host.gather gather_S64x1024x2048_S304x1_S304x1024x2048_12_0_n_n_0_1_110242048 (m ((c.tc : Thread nD τ).loc main_arg6)) (expIdx 64#32 (m ((c.tc : Thread nD τ).loc main_arg2))))
          (Host.gather gather_S64x1x2048_S304x1_S304x1x2048_12_0_n_n_0_1_112048 (m ((c.tc : Thread nD τ).loc main_arg7)) (expIdx 64#32 (m ((c.tc : Thread nD τ).loc main_arg2))))) (m ((c.tc : Thread nD τ).loc main_arg3)) := by
  unfold Value.res_main_v70
  rfl

/-! ## Element by element -/

theorem rowIdx_at (a1 : S304x256.Idx → BitVec 32) (h : ∀ j, (a1 j).toNat < 17408) (t : Fin 304) (r : Fin 256) :
    rowIdx a1 (ix3 t r 0) = a1 (ix2 t r) := by
  unfold rowIdx
  pointwise
  exact wrap_small _ _ (by have := h (ix2 t r); omega)

theorem expIdx_at (n : BitVec 32) (a2 : S304.Idx → BitVec 32) (h : ∀ j, (a2 j).toNat < 32) (t : Fin 304) :
    expIdx n a2 (ix2 t 0) = a2 (ix1 t) := by
  unfold expIdx
  pointwise
  exact wrap_small _ _ (by have := h (ix1 t); omega)

theorem refUp_at (x : S304x256x2048.Idx → EReal) (w : S304x2048x2048.Idx → EReal) (b : S304x1x2048.Idx → EReal) (t : Fin 304) (r : Fin 256) (j : Fin 2048) :
    refUp x w b (ix3 t r j) = (∑ p : Fin 2048, x (ix3 t r p) * w (ix3 t p j)) + b (ix3 t 0 j) := by
  unfold refUp
  pointwise

theorem refDown_at (a : S304x256x1024.Idx → EReal) (wd : S304x1024x2048.Idx → EReal) (bd : S304x1x2048.Idx → EReal) (t : Fin 304) (r : Fin 256) (d : Fin 2048) :
    refDown a wd bd (ix3 t r d) = (∑ f : Fin 1024, a (ix3 t r f) * wd (ix3 t f d)) + bd (ix3 t 0 d) := by
  unfold refDown
  pointwise

theorem refGate_at (gu : S304x256x2048.Idx → EReal) (t : Fin 304) (r : Fin 256) (f : Fin 1024) :
    refGate gu (ix3 t r f) = gu (ix3 t r (gateCol f)) := by
  unfold refGate gateCol
  pointwise

theorem refLin_at (gu : S304x256x2048.Idx → EReal) (t : Fin 304) (r : Fin 256) (f : Fin 1024) :
    refLin gu (ix3 t r f) = gu (ix3 t r (linCol f)) := by
  unfold refLin linCol
  pointwise

theorem refAct_at (g l : S304x256x1024.Idx → EReal) (t : Fin 304) (r : Fin 256) (f : Fin 1024) :
    refAct g l (ix3 t r f) = unit (g (ix3 t r f)) (l (ix3 t r f)) := by
  unfold refAct unit
  pointwise
  unfold Ideal.logistic
  rfl

theorem refOut_at (y : S304x256x2048.Idx → EReal) (a3 : S1.Idx → BitVec 32) (h : (a3 (ix1 0)).toNat ≤ 304) (r : Fin 77824) (d : Fin 2048) :
    refOut y a3 (ix2 r d) = if r.val / 256 < (a3 (ix1 0)).toNat then y (ix3 ⟨r.val / 256, by omega⟩ ⟨r.val % 256, Nat.mod_lt _ (by decide)⟩ d) else 0 := by
  have hs : ∀ (n : BitVec 32) (k : ℕ) (u v : EReal), n.toNat ≤ 304 → k < 304 →
      Scalar.select (IntOp.cmpi .slt (BitVec.ofNat 32 k) n) u v = if k < n.toNat then u else v := by
    intro n k u v hn hk
    rw [WordCmp.cmpi_slt_of_lt (by rw [BitVec.toNat_ofNat]; omega) (by omega), WordCmp.select_decide, BitVec.toNat_ofNat, Nat.mod_eq_of_lt (by omega)]
  unfold refOut
  pointwise
  rw [hs _ _ _ _ h (by omega)]
  refine congrArg (fun z : EReal => if r.val / 256 < (a3 (ix1 0)).toNat then y (ix3 ⟨r.val / 256, by omega⟩ ⟨r.val % 256, Nat.mod_lt _ (by decide)⟩ d) else z) ?_
  show Ideal.ofBits .f32 0#32 = 0
  exact Ideal.ofBits_zero_f32

/-- The reference's result is the kernel's function of the arguments. -/
theorem ref_eq (a0 : S17408x2048.Idx → EReal) (a1 : S304x256.Idx → BitVec 32) (a2 : S304.Idx → BitVec 32) (a3 : S1.Idx → BitVec 32)
    (a4 : S32x2048x2048.Idx → EReal) (a5 : S64x1x2048.Idx → EReal) (a6 : S64x1024x2048.Idx → EReal) (a7 : S64x1x2048.Idx → EReal)
    (h1 : ∀ j, (a1 j).toNat < 17408) (h2 : ∀ j, (a2 j).toNat < 32) (h3 : (a3 (ix1 0)).toNat ≤ 304) :
    refOut (refDown (refAct (refGate (refUp (Host.gather gather_S17408x2048_S304x256x1_S304x256x2048_2_0_n_n_0_2_12048 a0 (rowIdx a1)) (Host.gather gather_S32x2048x2048_S304x1_S304x2048x2048_12_0_n_n_0_1_120482048 a4 (expIdx 32#32 a2)) (Host.gather gather_S64x1x2048_S304x1_S304x1x2048_12_0_n_n_0_1_112048 a5 (expIdx 64#32 a2)))) (refLin (refUp (Host.gather gather_S17408x2048_S304x256x1_S304x256x2048_2_0_n_n_0_2_12048 a0 (rowIdx a1)) (Host.gather gather_S32x2048x2048_S304x1_S304x2048x2048_12_0_n_n_0_1_120482048 a4 (expIdx 32#32 a2)) (Host.gather gather_S64x1x2048_S304x1_S304x1x2048_12_0_n_n_0_1_112048 a5 (expIdx 64#32 a2))))) (Host.gather gather_S64x1024x2048_S304x1_S304x1024x2048_12_0_n_n_0_1_110242048 a6 (expIdx 64#32 a2)) (Host.gather gather_S64x1x2048_S304x1_S304x1x2048_12_0_n_n_0_1_112048 a7 (expIdx 64#32 a2))) a3
      = expFn a0 a1 a2 a3 a4 a5 a6 a7 := by
  have hx : ∀ (t : Fin 304) (r : Fin 256) (p : Fin 2048), Host.gather gather_S17408x2048_S304x256x1_S304x256x2048_2_0_n_n_0_2_12048 a0 (rowIdx a1) (ix3 t r p) = a0 (ix2 (rowAt a1 t r) p) := fun t r p =>
    gather2 _ rfl rfl rfl rfl rfl _ _ t r p _ (by rw [rowIdx_at a1 h1]; exact (Nat.mod_eq_of_lt (h1 _)).symm) (by decide)
  have hw : ∀ (t : Fin 304) (p j : Fin 2048), Host.gather gather_S32x2048x2048_S304x1_S304x2048x2048_12_0_n_n_0_1_120482048 a4 (expIdx 32#32 a2) (ix3 t p j) = a4 (ix3 (expertAt a2 t) p j) := fun t p j =>
    gather3 _ rfl rfl rfl rfl rfl _ _ t p j _ (by rw [expIdx_at _ a2 h2]; exact (Nat.mod_eq_of_lt (h2 _)).symm) (by decide)
  have hb : ∀ (t : Fin 304) (j : Fin 2048), Host.gather gather_S64x1x2048_S304x1_S304x1x2048_12_0_n_n_0_1_112048 a5 (expIdx 64#32 a2) (ix3 t 0 j) = a5 (ix3 (wide (expertAt a2 t)) 0 j) := fun t j =>
    gather3 _ rfl rfl rfl rfl rfl _ _ t 0 j _ (by rw [expIdx_at _ a2 h2]; exact (Nat.mod_eq_of_lt (h2 _)).symm) (by decide)
  have hwd : ∀ (t : Fin 304) (f : Fin 1024) (d : Fin 2048), Host.gather gather_S64x1024x2048_S304x1_S304x1024x2048_12_0_n_n_0_1_110242048 a6 (expIdx 64#32 a2) (ix3 t f d) = a6 (ix3 (wide (expertAt a2 t)) f d) := fun t f d =>
    gather3 _ rfl rfl rfl rfl rfl _ _ t f d _ (by rw [expIdx_at _ a2 h2]; exact (Nat.mod_eq_of_lt (h2 _)).symm) (by decide)
  have hbd : ∀ (t : Fin 304) (j : Fin 2048), Host.gather gather_S64x1x2048_S304x1_S304x1x2048_12_0_n_n_0_1_112048 a7 (expIdx 64#32 a2) (ix3 t 0 j) = a7 (ix3 (wide (expertAt a2 t)) 0 j) := fun t j =>
    gather3 _ rfl rfl rfl rfl rfl _ _ t 0 j _ (by rw [expIdx_at _ a2 h2]; exact (Nat.mod_eq_of_lt (h2 _)).symm) (by decide)
  generalize (Host.gather gather_S17408x2048_S304x256x1_S304x256x2048_2_0_n_n_0_2_12048 a0 (rowIdx a1)) = x at hx ⊢
  generalize (Host.gather gather_S32x2048x2048_S304x1_S304x2048x2048_12_0_n_n_0_1_120482048 a4 (expIdx 32#32 a2)) = w at hw ⊢
  generalize (Host.gather gather_S64x1x2048_S304x1_S304x1x2048_12_0_n_n_0_1_112048 a5 (expIdx 64#32 a2)) = b at hb ⊢
  generalize (Host.gather gather_S64x1024x2048_S304x1_S304x1024x2048_12_0_n_n_0_1_110242048 a6 (expIdx 64#32 a2)) = wd at hwd ⊢
  generalize (Host.gather gather_S64x1x2048_S304x1_S304x1x2048_12_0_n_n_0_1_112048 a7 (expIdx 64#32 a2)) = bd at hbd ⊢
  have hup : ∀ (t : Fin 304) (r : Fin 256) (j : Fin 2048), refUp x w b (ix3 t r j) = upElt a0 a4 a5 (rowAt a1 t r) (expertAt a2 t) j := fun t r j =>
    (refUp_at x w b t r j).trans (congrArg₂ (· + ·) (Finset.sum_congr (M := EReal) rfl fun p _ => congrArg₂ (· * ·) (hx t r p) (hw t p j)) (hb t j))
  funext y
  have ey : y = ix2 ⟨(y 0).val, (y 0).isLt⟩ ⟨(y 1).val, (y 1).isLt⟩ := by funext a; fin_cases a <;> rfl
  refine (congrArg _ ey).trans ((refOut_at _ a3 h3 _ _).trans ?_)
  unfold expFn tileElt
  refine if_congr Iff.rfl ?_ rfl
  refine (refDown_at _ wd bd _ _ _).trans ?_
  unfold expElt
  refine congrArg₂ (· + ·) (Finset.sum_congr (M := EReal) rfl fun f _ => congrArg₂ (· * ·) ?_ (hwd _ f _)) (hbd _ _)
  refine (refAct_at _ _ _ _ f).trans (congrArg₂ unit ?_ ?_)
  · exact (refGate_at _ _ _ f).trans (hup _ _ _)
  · exact (refLin_at _ _ _ f).trans (hup _ _ _)

end Cert.ExpertsRefIdeal.Hand

end
-- ==== Proof.ExpertsIdeal.Claims.lean ====
/- UNTRUSTED — The experts call's claims: the frames of its three programs, and that on tables in range the idealized kernel returns what
   the reference returns. -/
module

public import proofs.«01_k».proof.Defs
public import proofs.«01_k».proof.Proof.Experts.Frame
public import proofs.«01_k».proof.Proof.ExpertsIdeal.Value
public import proofs.«01_k».proof.Proof.ExpertsIdeal.Ref
public import Idealize.ShloMosaic.Lib.Quiescent
public import Idealize.ShloMosaic.Adequacy
public import Idealize.ShloMosaic.Init

@[expose] public section

set_option maxRecDepth 16384

noncomputable section

namespace Cert.ExpertsClaims

open Idealize.ShloMosaic Idealize.ShloMosaic.TcCoe Idealize.SL.Sem

theorem frame_k : Cert.quiescent_Experts (hExperts := Cert.Experts.Gen.facts) (hPre_routed := Cert.Pre_routed.Gen.facts) :=
  fun m ρ h => Cert.Experts.Hand.frame m ρ (Cert.Experts.Hand.good_of_pre m h)

theorem frame_ki : Cert.quiescent_ExpertsIdeal (hExpertsIdeal := Cert.ExpertsIdeal.Gen.facts) (hPre_routed := Cert.Pre_routed.Gen.facts) :=
  fun m ρ h => Cert.ExpertsIdeal.Hand.frame m ρ (Cert.ExpertsIdeal.Hand.good_of_pre m h)

theorem frame_ri : Cert.quiescent_ExpertsRefIdeal (hExpertsRefIdeal := Cert.ExpertsRefIdeal.Gen.facts) (hPre_routed := Cert.Pre_routed.Gen.facts) :=
  fun m ρ _ => (θ_run Cert.ExpertsRefIdeal.defs _ _).mono (fun r h => ⟨fun c => (h c).2, sem_eq_zero_of_no_sems (by decide) r.2⟩)
    (Cert.ExpertsRefIdeal.Value.run (F := Ideal) m ρ)

theorem preserves : Cert.preserves_Experts_ExpertsIdeal := trivial

open Cert.ExpertsIdeal Cert.ExpertsIdeal.Gen Cert.ExpertsIdeal.Hand in
set_option maxHeartbeats 800000 in
/-- A run of the idealized kernel leaves the result and the arguments. -/
theorem run_value (m : (ℓ : Loc nD τ sig) → Buf (Elt Ideal) ℓ) (ρ : Dev nD → PrngReg) (hG : Good m) :
    θ_run (Cert.ExpertsIdeal.defs (F := Ideal)) (onTc (τ := Cert.ExpertsIdeal.τ) (Cert.ExpertsIdeal.main (F := Ideal))) ⟨m, fun _ => 0, ρ⟩ (fun r => ∀ c : Dev nD,
      r.2.mem ((c.tc : Thread nD τ).loc main_v2) = expArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨((h.1.1 c).1 12).trans (exp_arr m hG c),
    ((h.1.1 c).2 main_arg0 (Finset.mem_sdiff.mpr ⟨Pipeline.mem_restRefs_of main_arg0 (by decide) (by decide : ∀ w : Fin 13, (spec0 w).arr.view.ref ≠ main_arg0), Finset.notMem_empty _⟩)).trans (V_main_arg0 m c),
    ((h.1.1 c).2 main_arg1 (Finset.mem_sdiff.mpr ⟨Pipeline.mem_restRefs_of main_arg1 (by decide) (by decide : ∀ w : Fin 13, (spec0 w).arr.view.ref ≠ main_arg1), Finset.notMem_empty _⟩)).trans (V_main_arg1 m c),
    ((h.1.1 c).2 main_arg2 (Finset.mem_sdiff.mpr ⟨Pipeline.mem_restRefs_of main_arg2 (by decide) (by decide : ∀ w : Fin 13, (spec0 w).arr.view.ref ≠ main_arg2), Finset.notMem_empty _⟩)).trans (V_main_arg2 m c),
    ((h.1.1 c).2 main_arg3 (Finset.mem_sdiff.mpr ⟨Pipeline.mem_restRefs_of main_arg3 (by decide) (by decide : ∀ w : Fin 13, (spec0 w).arr.view.ref ≠ main_arg3), Finset.notMem_empty _⟩)).trans (V_main_arg3 m c),
    ((h.1.1 c).1 2).trans (((dats m hG 0 c).arrAt_in 2 rfl _).trans ((A_eq m hG c 2).trans (V_main_arg4 m c))),
    ((h.1.1 c).1 6).trans (((dats m hG 0 c).arrAt_in 6 rfl _).trans ((A_eq m hG c 6).trans (V_main_arg5 m c))),
    ((h.1.1 c).1 7).trans (((dats m hG 0 c).arrAt_in 7 rfl _).trans ((A_eq m hG c 7).trans (V_main_arg6 m c))),
    ((h.1.1 c).1 11).trans (((dats m hG 0 c).arrAt_in 11 rfl _).trans ((A_eq m hG c 11).trans (V_main_arg7 m c)))⟩) (run_main m ρ hG)

theorem algebraic : Cert.algebraic_ExpertsIdeal_ExpertsRefIdeal (hExpertsIdeal := Cert.ExpertsIdeal.Gen.facts)
    (hExpertsRefIdeal := Cert.ExpertsRefIdeal.Gen.facts) (hPre_routed := Cert.Pre_routed.Gen.facts) := by
  intro m ρ m' ρ' hpre hagree
  have hG := Cert.ExpertsIdeal.Hand.good_of_pre m hpre
  refine ⟨Cert.ExpertsIdeal.Hand.expArr m, run_value m ρ hG, ?_⟩
  refine (θ_run Cert.ExpertsRefIdeal.defs _ _).mono (fun _ h c => ⟨(h c).1.trans ?_, (h c).2⟩)
    (Cert.ExpertsRefIdeal.Value.run (F := Ideal) m' ρ')
  obtain ⟨e0, e1, e2, e3, e4, e5, e6, e7⟩ := hagree c
  obtain ⟨h1, h2, h3⟩ := hG c
  rw [Cert.ExpertsRefIdeal.Hand.parts, e0, e1, e2, e3, e4, e5, e6, e7]
  exact Cert.ExpertsRefIdeal.Hand.ref_eq _ _ _ _ _ _ _ _ h1 h2 (h3 _).2

end Cert.ExpertsClaims

end
-- ==== Proof.Proj.SplitRef.lean ====
/- UNTRUSTED — What the reference of the columns' split computes, stage by stage: a group of 256 columns is the 128 even ones, then the 128
   odd ones. -/
module

public import proofs.«01_k».proof.Defs
public import proofs.«01_k».proof.Proof.Gen.SplitRefIdeal.Run
public import Idealize.ShloMosaic.Lib.Pipeline.ValueKit
public import Idealize.ShloMosaic.Lib.Affine
public import Idealize.ShloMosaic.Lib.WordArith
public import Idealize.ShloMosaic.Lib.Quiescent
public import Idealize.ShloMosaic.Adequacy
public import Idealize.ShloMosaic.Init

@[expose] public section

set_option maxRecDepth 16384

noncomputable section

namespace Cert.Proj

open Idealize.ShloMosaic Idealize.ShloMosaic.TcCoe Idealize.SL.Sem

open Cert.SplitRefIdeal Cert.SplitRefIdeal.Gen

/-- The first layer's experts. -/
def refFirst (w : FVec Ideal S2x32x2048x2048 .f32) : FVec Ideal S32x2048x2048 .f32 :=
  shapeCast S32x2048x2048 (extractStridedSlice S1x32x2048x2048 ![0, 0, 0, 0] w slices_S2x32x2048x2048_S1x32x2048x2048_0_0_0_0)
    shapeCasts_S1x32x2048x2048_S32x2048x2048

/-- Their even columns, in groups of 128. -/
def refEven (x : FVec Ideal S32x2048x2048 .f32) : FVec Ideal S32x2048x8x128 .f32 :=
  shapeCast S32x2048x8x128 (Host.slice S32x2048x1024 ![0, 0, 0] ![1, 1, 2] x slicesBy_S32x2048x2048_S32x2048x1024_0s1_0s1_0s2)
    shapeCasts_S32x2048x1024_S32x2048x8x128

/-- Their odd columns, in groups of 128. -/
def refOdd (x : FVec Ideal S32x2048x2048 .f32) : FVec Ideal S32x2048x8x128 .f32 :=
  shapeCast S32x2048x8x128 (Host.slice S32x2048x1024 ![0, 0, 1] ![1, 1, 2] x slicesBy_S32x2048x2048_S32x2048x1024_0s1_0s1_1s2)
    shapeCasts_S32x2048x1024_S32x2048x8x128

/-- The two, group by group. -/
def refPairs (a b : FVec Ideal S32x2048x8x128 .f32) : FVec Ideal S32x2048x8x2x128 .f32 :=
  concatenate S32x2048x8x2x128 3
    [⟨S32x2048x8x1x128, broadcastInDim S32x2048x8x1x128 ![0, 1, 2, 4] bcast_S32x2048x8x128_S32x2048x8x1x128_0_1_2_4 a⟩,
     ⟨S32x2048x8x1x128, broadcastInDim S32x2048x8x1x128 ![0, 1, 2, 4] bcast_S32x2048x8x128_S32x2048x8x1x128_0_1_2_4 b⟩]
    concatenates_S32x2048x8x1x128_S32x2048x8x1x128_S32x2048x8x2x128_d3

/-- The result. -/
def refSplit (w : FVec Ideal S2x32x2048x2048 .f32) : FVec Ideal S32x2048x2048 .bf16 :=
  truncf .bf16 (shapeCast S32x2048x2048 (refPairs (refEven (refFirst w)) (refOdd (refFirst w))) shapeCasts_S32x2048x8x2x128_S32x2048x2048)
    bitsLt_bf16_f32

theorem refFirst_apply (w : FVec Ideal S2x32x2048x2048 .f32) (e : Fin 32) (r l : Fin 2048) : refFirst w (ix3 e r l) = w (ix4 0 e r l) := by
  unfold refFirst
  pointwise

theorem refEven_apply (x : FVec Ideal S32x2048x2048 .f32) (e : Fin 32) (r : Fin 2048) (g : Fin 8) (l : Fin 128) :
    refEven x (ix4 e r g l) = x (ix3 e r ⟨2 * (g.val * 128 + l.val), by omega⟩) := by
  unfold refEven
  pointwise

theorem refOdd_apply (x : FVec Ideal S32x2048x2048 .f32) (e : Fin 32) (r : Fin 2048) (g : Fin 8) (l : Fin 128) :
    refOdd x (ix4 e r g l) = x (ix3 e r ⟨1 + 2 * (g.val * 128 + l.val), by omega⟩) := by
  unfold refOdd
  pointwise

theorem refPairs_apply (a b : FVec Ideal S32x2048x8x128 .f32) (e : Fin 32) (r : Fin 2048) (g : Fin 8) (s : Fin 2) (l : Fin 128) :
    refPairs a b (ix5 e r g s l) = if s.val < 1 then a (ix4 e r g l) else b (ix4 e r g l) := by
  unfold refPairs
  pointwise
  exact dite_eq_ite

/-- A regrouping of the columns into groups, halves and places, read back. -/
theorem regroup_apply (x : FVec Ideal S32x2048x8x2x128 .f32) (e : Fin 32) (r l : Fin 2048) (g : Fin 8) (s : Fin 2) (c : Fin 128)
    (hl : l.val = (g.val * 2 + s.val) * 128 + c.val) :
    shapeCast S32x2048x2048 x shapeCasts_S32x2048x8x2x128_S32x2048x2048 (ix3 e r l) = x (ix5 e r g s c) := by
  refine shapeCast_apply _ _ _ _ ?_
  refine (Shape.rowMajor_val_five _).trans (Eq.trans ?_ (Shape.rowMajor_val_three _).symm)
  have h : ∀ a : Nat, ((a * 8 + g.val) * 2 + s.val) * 128 + c.val = a * 2048 + l.val := by intro a; omega
  exact h (e.val * 2048 + r.val)

/-- At the ideal, narrowing leaves a number as it is. -/
theorem narrow_apply (a : FVec Ideal S32x2048x2048 .f32) (h : FTy.bf16.bits < FTy.f32.bits) (i : S32x2048x2048.Idx) :
    (truncf .bf16 a h : FVec Ideal S32x2048x2048 .bf16) i = a i := rfl

theorem refSplit_apply (w : FVec Ideal S2x32x2048x2048 .f32) (e : Fin 32) (r l : Fin 2048) (g : Fin 8) (s : Fin 2) (c : Fin 128)
    (hl : l.val = (g.val * 2 + s.val) * 128 + c.val) :
    refSplit w (ix3 e r l) = refPairs (refEven (refFirst w)) (refOdd (refFirst w)) (ix5 e r g s c) := by
  unfold refSplit
  exact (narrow_apply _ _ _).trans (regroup_apply _ e r l g s c hl)

/-- A column of the result is one of the argument's: in its group, the half decides between an even and an odd one. -/
theorem refSplit_eq (w : FVec Ideal S2x32x2048x2048 .f32) (e : Fin 32) (r l : Fin 2048) (g : Fin 8) (s : Fin 2) (c : Fin 128)
    (hl : l.val = (g.val * 2 + s.val) * 128 + c.val) :
    refSplit w (ix3 e r l) = if s.val < 1 then w (ix4 0 e r ⟨2 * (g.val * 128 + c.val), by omega⟩)
      else w (ix4 0 e r ⟨1 + 2 * (g.val * 128 + c.val), by omega⟩) := by
  rw [refSplit_apply w e r l g s c hl, refPairs_apply, refEven_apply, refOdd_apply, refFirst_apply, refFirst_apply]

end Cert.Proj

end
-- ==== Proof.Proj.Split.lean ====
/- UNTRUSTED — The experts' up-projection weights, gates and linear parts apart. The kernel multiplies each run of 256 columns by a matrix of
   zeros and ones with a single one in each column, so a column of the product is the column that the one picks. -/
module

public import proofs.«01_k».proof.Defs
public import proofs.«01_k».proof.Proof.Gen.Split.Frame
public import proofs.«01_k».proof.Proof.Gen.SplitIdeal.Value
public import proofs.«01_k».proof.Proof.Gen.SplitRefIdeal.Run
public import proofs.«01_k».proof.Proof.Proj.SplitRef
public import Idealize.ShloMosaic.Lib.Pipeline.ValueKit
public import Idealize.ShloMosaic.Lib.Affine
public import Idealize.ShloMosaic.Lib.WordArith
public import Idealize.ShloMosaic.Lib.Quiescent
public import Idealize.ShloMosaic.Adequacy
public import Idealize.ShloMosaic.Init

@[expose] public section

set_option maxRecDepth 16384

noncomputable section

namespace Cert.Proj

open Idealize.ShloMosaic Idealize.ShloMosaic.TcCoe Idealize.SL.Sem

open Cert.SplitIdeal Cert.SplitIdeal.Gen

theorem ix2_congr {m n : Nat} {a a' : Fin m} {b b' : Fin n} (ha : a.val = a'.val) (hb : b.val = b'.val) :
    (ix2 a b : Shape.Idx ⟨2, ![m, n]⟩) = ix2 a' b' := by
  rw [Fin.ext ha, Fin.ext hb]

theorem ix3_congr {l m n : Nat} {a a' : Fin l} {b b' : Fin m} {c c' : Fin n} (ha : a.val = a'.val) (hb : b.val = b'.val) (hc : c.val = c'.val) :
    (ix3 a b c : Shape.Idx ⟨3, ![l, m, n]⟩) = ix3 a' b' c' := by
  rw [Fin.ext ha, Fin.ext hb, Fin.ext hc]

theorem ix4_congr {k l m n : Nat} {a a' : Fin k} {b b' : Fin l} {c c' : Fin m} {d d' : Fin n} (ha : a.val = a'.val) (hb : b.val = b'.val)
    (hc : c.val = c'.val) (hd : d.val = d'.val) : (ix4 a b c d : Shape.Idx ⟨4, ![k, l, m, n]⟩) = ix4 a' b' c' d' := by
  rw [Fin.ext ha, Fin.ext hb, Fin.ext hc, Fin.ext hd]

/-- A block's result: each run of 256 columns times the matrix. -/
def splitBlk (w : Vec Ideal S1x2048x512 .f32) (p : Vec Ideal S256x256 .bf16) : S1x2048x512.Idx → EReal := fun y =>
  ∑ k : Fin 256, w (ix3 (y 0) (y 1) ⟨(y 2).val / 256 * 256 + k.val, by have := (y 2).isLt; have h : (y 2).val < 512 := this; omega⟩) * p (ix2 k ⟨(y 2).val % 256, by omega⟩)

/-- The column of a run that the matrix picks for column `n`: the even ones first, then the odd ones. -/
def pick (n : Nat) : Nat := if n < 128 then 2 * n else 2 * (n - 128) + 1

set_option maxHeartbeats 2000000 in
theorem split_out (w : Vec Ideal S1x2048x512 .f32) (p : Vec Ideal S256x256 .bf16) (a : Vec Ideal S8x128 .f32) (y : S1x2048x512.Idx) :
    out0_3 w p a y = splitBlk w p y := by
  frame_out
  refine View.canon_apply_of_pieces (Val := Elt Ideal) (e := .bf16) (splitBlk w p) _ ?_ y (cover0_3 _ _ y)
  intro pc hpc x
  rcases List.mem_cons.mp hpc with rfl | hpc
  · idx_vars x
    obtain rfl : x0 = 0 := by omega
    show k0_pay2 (View.ld w r0_2) p (ix3 0 x1 x2) = _
    unfold k0_pay2 splitBlk
    pointwise
    refine Finset.sum_congr rfl fun k _ => congrArg₂ (fun a b : EReal => a * b) (congrArg w (ix3_congr ?_ ?_ ?_)) (congrArg p (ix2_congr rfl ?_))
    · rfl
    · blk_simp
    · blk_simp
      show 256 + k.val = (256 + x2.val) / 256 * 256 + k.val
      omega
    · blk_simp
      show x2.val = (256 + x2.val) % 256
      omega
  · obtain rfl := List.mem_singleton.mp hpc
    idx_vars x
    obtain rfl : x0 = 0 := by omega
    show k0_pay1 (View.ld w r0_0) p (ix3 0 x1 x2) = _
    unfold k0_pay1 splitBlk
    pointwise
    refine Finset.sum_congr rfl fun k _ => congrArg₂ (fun a b : EReal => a * b) (congrArg w (ix3_congr ?_ ?_ ?_)) (congrArg p (ix2_congr rfl ?_))
    · rfl
    · blk_simp
    · blk_simp
      show k.val = x2.val / 256 * 256 + k.val
      omega
    · blk_simp
      show x2.val = x2.val % 256
      omega

/-- For each column of the matrix, the row that holds its one, as the word the host computes. -/
def pickW : IVec S256 32 :=
  select (cmpi CmpIPredicate.slt (iotaInDim S256 32 0) (broadcastInDim S256 ![] bcast_S_S256 (constantI S_ 32 128#32)))
    (muli (broadcastInDim S256 ![] bcast_S_S256 (constantI S_ 32 2#32)) (iotaInDim S256 32 0))
    (addi (muli (broadcastInDim S256 ![] bcast_S_S256 (constantI S_ 32 2#32))
        (subi (iotaInDim S256 32 0) (broadcastInDim S256 ![] bcast_S_S256 (constantI S_ 32 128#32))))
      (broadcastInDim S256 ![] bcast_S_S256 (constantI S_ 32 1#32)))

/-- The matrix the call is handed. -/
def splitP : FVec Ideal S256x256 .bf16 :=
  uitofp FTy.bf16 (cmpi CmpIPredicate.eq
    (broadcastInDim S256x256 ![0, 1] bcast_S256x1_S256x256_0_1 (broadcastInDim S256x1 ![0] bcast_S256_S256x1_0 (iotaInDim S256 32 0)))
    (broadcastInDim S256x256 ![0, 1] bcast_S1x256_S256x256_0_1 (broadcastInDim S1x256 ![1] bcast_S256_S1x256_1 pickW)))

theorem pick_word : ∀ n : Fin 256, pickW (ix1 n) = BitVec.ofNat 32 (pick n.val) := by
  intro n
  unfold pickW
  pointwise
  revert n
  decide +kernel

theorem splitP_apply (k n : Fin 256) : splitP (ix2 k n) = if k.val = pick n.val then 1 else 0 := by
  unfold splitP
  pointwise
  rw [pick_word]
  have hk := k.2
  have hn := n.2
  have hp : pick n.val < 256 := by unfold pick; split <;> omega
  by_cases h : k.val = pick n.val
  · rw [if_pos h, h, show IntOp.cmpi CmpIPredicate.eq (BitVec.ofNat 32 (pick n.val)) (BitVec.ofNat 32 (pick n.val)) = 1#1 from by
      simp [IntOp.cmpi]]
    show (((1#1 : BitVec 1).toNat : ℝ) : EReal) = 1
    simp
  · have hne : BitVec.ofNat 32 k.val ≠ BitVec.ofNat 32 (pick n.val) := fun e => h (by
      have := congrArg BitVec.toNat e
      simp only [BitVec.toNat_ofNat] at this
      omega)
    rw [if_neg h, show IntOp.cmpi CmpIPredicate.eq (BitVec.ofNat 32 k.val) (BitVec.ofNat 32 (pick n.val)) = 0#1 from by
      show BitVec.ofBool (BitVec.ofNat 32 k.val == BitVec.ofNat 32 (pick n.val)) = 0#1
      rw [beq_eq_false_iff_ne.2 hne]
      rfl]
    show (((0#1 : BitVec 1).toNat : ℝ) : EReal) = 0
    simp

variable (m : (ℓ : Loc nD τ sig) → Buf (Elt Ideal) ℓ)

theorem V_splitP (c : Dev nD) : V m c main_v20 = splitP := by
  unfold_abbrev_sides
  simp only [hostOps0, hostOps0_1, hostOps0_2, List.flatten_cons, List.flatten_nil, List.append_nil, List.cons_append, List.nil_append]
  after_results
  rfl

/-- The weights the call is handed: both layers' experts in one row. -/
def splitW (w : FVec Ideal S2x32x2048x2048 .f32) : FVec Ideal S64x2048x2048 .f32 := shapeCast S64x2048x2048 w shapeCasts_S2x32x2048x2048_S64x2048x2048

theorem V_splitW (c : Dev nD) : V m c main_v1 = splitW (m ((c.tc : Thread nD τ).loc main_arg0)) := by
  unfold_abbrev_sides
  simp only [hostOps0, hostOps0_1, hostOps0_2, List.flatten_cons, List.flatten_nil, List.append_nil, List.cons_append, List.nil_append]
  after_results
  rfl

theorem splitW_apply (w : FVec Ideal S2x32x2048x2048 .f32) (e : Fin 64) (he : e.val < 32) (r l : Fin 2048) :
    splitW w (ix3 e r l) = w (ix4 0 ⟨e.val, he⟩ r l) := by
  unfold splitW
  pointwise
  exact congrArg w (ix4_congr (Nat.div_eq_of_lt he) (Nat.mod_eq_of_lt he) rfl rfl)

theorem pick_lt (n : Nat) : pick (n % 256) < 256 := by unfold pick; split <;> omega

/-- The call's result as a function of the weights. -/
def splitFn (w : FVec Ideal S2x32x2048x2048 .f32) : S32x2048x2048.Idx → EReal := fun j =>
  w (ix4 0 (j 0) (j 1) ⟨(j 2).val / 256 * 256 + pick ((j 2).val % 256), by
    have := pick_lt (j 2).val; have h : (j 2).val < 2048 := (j 2).isLt; omega⟩)

/-- The call's result as a function of the argument. -/
def splitArr (c : Dev nD) : S32x2048x2048.Idx → EReal := splitFn (m ((c.tc : Thread nD τ).loc main_arg0))

theorem split_idx : ∀ t : Fin cfg0.N,
    win0_0.index t = ![t.val / 4, 0, t.val % 4] ∧ win0_1.index t = ![0, 0] ∧ win0_3.index t = ![t.val / 4, 0, t.val % 4] :=
  (by decide +kernel : ∀ t : Fin grid0.N, _)

theorem split_arr (c : Dev nD) : (dats m 0 c).arrAt 3 cfg0.N = splitArr m c := by
  refine (dats m 0 c).arrAt_eq_of_covers 3 (splitArr m c) (by decide +kernel) fun t hf y => ?_
  idx_vars y
  blk_simp
  obtain rfl : y0 = 0 := by omega
  rw [after0_3, split_out]
  unfold splitBlk
  have ht : t.val < 128 := t.isLt
  have hp : ∀ k : Fin 256, iblk m c 1 t (ix2 k ⟨y2.val % 256, by omega⟩) = if k.val = pick (y2.val % 256) then (1 : EReal) else (0 : EReal) := fun k => by
    rw [← splitP_apply k ⟨y2.val % 256, by omega⟩, ← V_splitP]
    blk_ext [iblk, split_idx t]
  refine (Finset.sum_congr rfl fun k _ => congrArg (fun b : EReal => _ * b) (hp k)).trans ?_
  rw [Finset.sum_eq_single (⟨pick (y2.val % 256), pick_lt y2.val⟩ : Fin 256)]
  · have hy2 := pick_lt y2.val
    have e : iblk m c 0 t (ix3 0 y1 ⟨y2.val / 256 * 256 + pick (y2.val % 256), by omega⟩)
        = splitW (m ((c.tc : Thread nD τ).loc main_arg0))
            (ix3 ⟨t.val / 4, by omega⟩ y1 ⟨t.val % 4 * 512 + (y2.val / 256 * 256 + pick (y2.val % 256)), by omega⟩) := by
      rw [← V_splitW]
      blk_ext [iblk, split_idx t]
    refine (congrArg₂ (fun a b : EReal => a * b) e (if_pos rfl)).trans ((mul_one _).trans ?_)
    rw [splitW_apply _ _ (by show t.val / 4 < 32; omega)]
    unfold splitArr splitFn
    have h0 : ((win0_3.blk t).view.emb (ix3 0 y1 y2) 0).val = t.val / 4 := by blk_simp; simp only [split_idx t]; show t.val / 4 + 0 = _; omega
    have h1 : ((win0_3.blk t).view.emb (ix3 0 y1 y2) 1).val = y1.val := by blk_simp; simp only [split_idx t]; show 0 * 2048 + y1.val = _; omega
    have h2 : ((win0_3.blk t).view.emb (ix3 0 y1 y2) 2).val = t.val % 4 * 512 + y2.val := by blk_simp; simp only [split_idx t]; rfl
    refine congrArg _ (ix4_congr rfl h0.symm h1.symm ?_)
    show t.val % 4 * 512 + (y2.val / 256 * 256 + pick (y2.val % 256))
      = ((win0_3.blk t).view.emb (ix3 0 y1 y2) 2).val / 256 * 256 + pick (((win0_3.blk t).view.emb (ix3 0 y1 y2) 2).val % 256)
    rw [h2, show (t.val % 4 * 512 + y2.val) % 256 = y2.val % 256 by omega]
    omega
  · intro k _ hk
    rw [if_neg fun h => hk (Fin.ext h), mul_zero]
  · exact fun h => absurd (Finset.mem_univ _) h

/-! ## The claims -/

theorem frame_kSplit : Cert.quiescent_Split (hSplit := Cert.Split.Gen.facts) := fun m ρ _ => Cert.Split.Gen.frame m ρ

theorem frame_kiSplit : Cert.quiescent_SplitIdeal (hSplitIdeal := Cert.SplitIdeal.Gen.facts) := fun m ρ _ => Cert.SplitIdeal.Gen.frame m ρ

theorem frame_riSplit : Cert.quiescent_SplitRefIdeal (hSplitRefIdeal := Cert.SplitRefIdeal.Gen.facts) := fun m ρ _ =>
  (θ_run Cert.SplitRefIdeal.defs _ _).mono (fun r h => ⟨fun c => (h c).2, sem_eq_zero_of_no_sems (by decide) r.2⟩)
    (Cert.SplitRefIdeal.Value.run (F := Ideal) m ρ)

theorem preservesSplit : Cert.preserves_Split_SplitIdeal := trivial

theorem algebraicSplit : Cert.algebraic_SplitIdeal_SplitRefIdeal (hSplitIdeal := Cert.SplitIdeal.Gen.facts)
    (hSplitRefIdeal := Cert.SplitRefIdeal.Gen.facts) := by
  intro m ρ m' ρ' hpre hagree
  refine ⟨splitArr m, (θ_run Cert.SplitIdeal.defs _ _).mono (fun _ h c => ⟨(h c).1.trans (split_arr m c), (h c).2⟩)
    (Cert.SplitIdeal.Value.run_blocks m ρ), ?_⟩
  refine (θ_run Cert.SplitRefIdeal.defs _ _).mono (fun _ h c => ⟨(h c).1.trans ?_, (h c).2⟩)
    (Cert.SplitRefIdeal.Value.run (F := Ideal) m' ρ')
  rw [hagree c]
  show refSplit (m ((c.tc : Thread nD τ).loc main_arg0)) = splitArr m c
  funext j
  idx_vars j
  have hg : j2.val / 256 < 8 := Nat.div_lt_of_lt_mul j2.isLt
  have hs : j2.val / 128 % 2 < 2 := Nat.mod_lt _ (by decide)
  have hc : j2.val % 128 < 128 := Nat.mod_lt _ (by decide)
  obtain ⟨g, eg⟩ : ∃ g : Fin 8, g.val = j2.val / 256 := ⟨⟨_, hg⟩, rfl⟩
  obtain ⟨s, es⟩ : ∃ s : Fin 2, s.val = j2.val / 128 % 2 := ⟨⟨_, hs⟩, rfl⟩
  obtain ⟨c', ec⟩ : ∃ c' : Fin 128, c'.val = j2.val % 128 := ⟨⟨_, hc⟩, rfl⟩
  rw [refSplit_eq _ j0 j1 j2 g s c' (by omega)]
  unfold splitArr splitFn
  split
  · refine congrArg _ (ix4_congr rfl rfl rfl ?_)
    show 2 * (g.val * 128 + c'.val) = j2.val / 256 * 256 + pick (j2.val % 256)
    unfold pick
    split <;> omega
  · refine congrArg _ (ix4_congr rfl rfl rfl ?_)
    show 1 + 2 * (g.val * 128 + c'.val) = j2.val / 256 * 256 + pick (j2.val % 256)
    unfold pick
    split <;> omega

end Cert.Proj

end
-- ==== Proof.Proj.MergeBlock.lean ====
/- UNTRUSTED — The branch merge, piece by piece: the S5 branch's gated linear unit, the mLSTM branch's norm over each head, and the gated sum
   of the three branches' projections, as the call's body computes them on a block of rows. -/
module

public import proofs.«01_k».proof.Defs
public import proofs.«01_k».proof.Proof.Gen.Merge.Frame
public import proofs.«01_k».proof.Proof.Gen.MergeIdeal.Value
public import Idealize.ShloMosaic.Lib.Pipeline.ValueKit
public import Idealize.ShloMosaic.Lib.Quiescent

@[expose] public section

set_option maxRecDepth 16384

noncomputable section

namespace Cert.Proj

open Idealize.ShloMosaic Idealize.ShloMosaic.TcCoe Idealize.SL.Sem

open Cert.MergeIdeal Cert.MergeIdeal.Gen

/-! ## One row of each piece -/

/-- The tanh form of the GELU. -/
def gelu (x : EReal) : EReal :=
  Ideal.ofBits .f32 0x3F000000#32 * x * (1 + Ideal.tanh (Ideal.ofBits .f32 0x3F4C422A#32 * (x + Ideal.ofBits .f32 0x3D372713#32 * (x * x * x))))

/-- The S5 branch's gated linear unit. -/
def glu (x : Fin 512 → EReal) (w : Fin 512 → Fin 512 → EReal) (b : Fin 512 → EReal) (l : Fin 512) : EReal :=
  gelu (x l) * Ideal.logistic ((∑ e : Fin 512, gelu (x e) * w e l) + b l)

/-- A column of the head that column `l` is in. -/
def headCol (k : ℕ) (hk : k < 4) (e : Fin 128) : Fin 512 := ⟨k * 128 + e.val, by omega⟩

/-- The root-mean-square factor of a head of a row. -/
def headScale (h : Fin 512 → EReal) (k : ℕ) (hk : k < 4) : EReal :=
  Ideal.rsqrt (Ideal.div (∑ e : Fin 128, h (headCol k hk e) * h (headCol k hk e)) (Ideal.ofBits .f32 0x43000000#32) + Ideal.ofBits .f32 0x358637BD#32)

/-- The mLSTM branch: a row normed head by head, times the gain, times the output gate. -/
def headed (h g o : Fin 512 → EReal) (l : Fin 512) : EReal :=
  h l * headScale h (l.val / 128) (by omega) * g l * Ideal.logistic (o l)

/-- The gated sum of the three branches' projections. -/
def merged (s : Fin 512 → EReal) (a : Fin 1024 → EReal) (h : Fin 512 → EReal) (g0 g1 g2 : Fin 2048 → EReal)
    (w0 : Fin 512 → Fin 2048 → EReal) (w1 : Fin 1024 → Fin 2048 → EReal) (w2 : Fin 512 → Fin 2048 → EReal) (l : Fin 2048) : EReal :=
  g0 l * (∑ e, s e * w0 e l) + g1 l * (∑ e, a e * w1 e l) + g2 l * (∑ e, h e * w2 e l)

/-! ## The body's pieces -/

theorem glu_at (x : FVec Ideal S256x512 .f32) (w : FVec Ideal S512x512 .bf16) (b : FVec Ideal S1x512 .f32) (r : Fin 256) (l : Fin 512) :
    k0_pay2 (F := Ideal) x w b (ix2 r l) = glu (fun e => x (ix2 r e)) (fun e l => w (ix2 e l)) (fun l => b (ix2 0 l)) l := by
  unfold k0_pay2
  pointwise
  unfold glu gelu
  rfl

theorem sum_at (x y : FVec Ideal S1x256x512 .f32) (r : Fin 256) (l : Fin 512) :
    k0_pay3 (F := Ideal) x y (ix2 r l) = x (ix3 0 r l) + y (ix3 0 r l) := by
  unfold k0_pay3
  pointwise

theorem first_at (x y : FVec Ideal S1x256x512 .f32) (r : Fin 256) (l : Fin 128) :
    k0_pay4 (F := Ideal) x y (ix2 r l) = k0_pay3 (F := Ideal) x y (ix2 r (headCol 0 (by decide) l)) := by
  unfold k0_pay4
  generalize k0_pay3 (F := Ideal) x y = z
  unfold headCol
  pointwise

theorem scale_at (x y : FVec Ideal S1x256x512 .f32) (r : Fin 256) (l : Fin 128) :
    k0_pay5 (F := Ideal) x y (ix2 r l) = headScale (fun e => k0_pay3 (F := Ideal) x y (ix2 r e)) 0 (by decide) := by
  unfold k0_pay5
  pointwise
  simp only [first_at]
  rfl

theorem headScale_congr (h : Fin 512 → EReal) {k k' : ℕ} (hk : k < 4) (hk' : k' < 4) (e : k = k') : headScale h k hk = headScale h k' hk' := by
  subst e
  rfl

theorem headScale_eq (h : Fin 512 → EReal) (k : ℕ) (hk : k < 4) (f : Fin 128 → Fin 512) (hf : ∀ e, (f e).val = k * 128 + e.val) :
    Ideal.rsqrt (Ideal.div (∑ e : Fin 128, h (f e) * h (f e)) (Ideal.ofBits .f32 0x43000000#32) + Ideal.ofBits .f32 0x358637BD#32)
      = headScale h k hk := by
  obtain rfl : f = headCol k hk := funext fun e => Fin.ext (hf e)
  rfl

set_option maxHeartbeats 4000000 in
theorem headed_at (h : FVec Ideal S256x512 .f32) (f s : FVec Ideal S256x128 .f32) (g : FVec Ideal S1x512 .f32) (o : FVec Ideal S256x512 .f32)
    (hf : ∀ (r : Fin 256) (l : Fin 128), f (ix2 r l) = h (ix2 r (headCol 0 (by decide) l)))
    (hs : ∀ (r : Fin 256) (l : Fin 128), s (ix2 r l) = headScale (fun e => h (ix2 r e)) 0 (by decide)) (r : Fin 256) (l : Fin 512) :
    k0_pay6 (F := Ideal) h f s g o (ix2 r l) = headed (fun e => h (ix2 r e)) (fun l => g (ix2 0 l)) (fun l => o (ix2 r l)) l := by
  unfold k0_pay6
  pointwise
  unfold headed
  refine congrArg (fun z : EReal => z * g (ix2 0 l) * Ideal.logistic (o (ix2 r l))) ?_
  by_cases h1 : l.val < 128
  · rw [dif_pos h1, hf, hs]
    refine congrArg₂ (fun a b : EReal => a * b) (congrArg (fun i => h (ix2 r i)) (Fin.ext ?_)) (headScale_congr _ _ _ (by omega))
    show 0 * 128 + l.val = l.val
    omega
  · rw [dif_neg h1]
    by_cases h2 : l.val - 128 < 128
    · rw [dif_pos h2]
      refine congrArg₂ (fun a b : EReal => a * b) (congrArg (fun i => h (ix2 r i)) (Fin.ext ?_))
        ((headScale_eq (fun e => h (ix2 r e)) 1 (by decide) (fun e => ⟨128 + e.val, by omega⟩) fun e => ?_).trans
          (headScale_congr _ _ _ (by omega)))
      · show 128 + _ = l.val
        omega
      · show 128 + e.val = 1 * 128 + e.val
        omega
    · rw [dif_neg h2]
      by_cases h3 : l.val - 128 - 128 < 128
      · rw [dif_pos h3]
        refine congrArg₂ (fun a b : EReal => a * b) (congrArg (fun i => h (ix2 r i)) (Fin.ext ?_))
          ((headScale_eq (fun e => h (ix2 r e)) 2 (by decide) (fun e => ⟨256 + e.val, by omega⟩) fun e => ?_).trans
            (headScale_congr _ _ _ (by omega)))
        · show 256 + _ = l.val
          omega
        · show 256 + e.val = 2 * 128 + e.val
          omega
      · rw [dif_neg h3]
        refine congrArg₂ (fun a b : EReal => a * b) (congrArg (fun i => h (ix2 r i)) (Fin.ext ?_))
          ((headScale_eq (fun e => h (ix2 r e)) 3 (by decide) (fun e => ⟨384 + e.val, by omega⟩) fun e => ?_).trans
            (headScale_congr _ _ _ (by omega)))
        · show 384 + _ = l.val
          omega
        · show 384 + e.val = 3 * 128 + e.val
          omega

theorem merged_at (h : FVec Ideal S256x512 .f32) (g0 : FVec Ideal S256x2048 .bf16) (s : FVec Ideal S256x512 .f32) (w0 : FVec Ideal S512x2048 .bf16)
    (g1 : FVec Ideal S256x2048 .bf16) (a : FVec Ideal S256x1024 .bf16) (w1 : FVec Ideal S1024x2048 .bf16) (g2 : FVec Ideal S256x2048 .bf16)
    (w2 : FVec Ideal S512x2048 .bf16) (r : Fin 256) (l : Fin 2048) :
    k0_pay1 (F := Ideal) h (k0_pay7 g0) (k0_pay8 s) w0 g1 a w1 g2 w2 (ix2 r l)
      = merged (fun e => s (ix2 r e)) (fun e => a (ix2 r e)) (fun e => h (ix2 r e)) (fun l => g0 (ix2 r l)) (fun l => g1 (ix2 r l))
          (fun l => g2 (ix2 r l)) (fun e l => w0 (ix2 e l)) (fun e l => w1 (ix2 e l)) (fun e l => w2 (ix2 e l)) l := by
  unfold k0_pay1 k0_pay7 k0_pay8
  pointwise
  unfold merged
  rfl

theorem merged_congr {s s' h h' : Fin 512 → EReal} {a a' : Fin 1024 → EReal} {g0 g0' g1 g1' g2 g2' : Fin 2048 → EReal}
    {w0 w0' w2 w2' : Fin 512 → Fin 2048 → EReal} {w1 w1' : Fin 1024 → Fin 2048 → EReal} {l l' : Fin 2048}
    (hs : ∀ e, s e = s' e) (ha : ∀ e, a e = a' e) (hh : ∀ e, h e = h' e) (e0 : ∀ l, g0 l = g0' l) (e1 : ∀ l, g1 l = g1' l)
    (e2 : ∀ l, g2 l = g2' l) (f0 : ∀ e l, w0 e l = w0' e l) (f1 : ∀ e l, w1 e l = w1' e l) (f2 : ∀ e l, w2 e l = w2' e l) (hl : l = l') :
    merged s a h g0 g1 g2 w0 w1 w2 l = merged s' a' h' g0' g1' g2' w0' w1' w2' l' := by
  rw [funext hs, funext ha, funext hh, funext e0, funext e1, funext e2, funext fun e => funext (f0 e), funext fun e => funext (f1 e),
    funext fun e => funext (f2 e), hl]

theorem glu_congr {x x' b b' : Fin 512 → EReal} {w w' : Fin 512 → Fin 512 → EReal} (hx : ∀ e, x e = x' e) (hw : ∀ e l, w e l = w' e l)
    (hb : ∀ l, b l = b' l) (l : Fin 512) : glu x w b l = glu x' w' b' l := by
  rw [funext hx, funext fun e => funext (hw e), funext hb]

theorem headed_congr {h h' g g' o o' : Fin 512 → EReal} (hh : ∀ e, h e = h' e) (hg : ∀ e, g e = g' e) (ho : ∀ e, o e = o' e) (l : Fin 512) :
    headed h g o l = headed h' g' o' l := by
  rw [funext hh, funext hg, funext ho]

/-- One element of a block of the call's result, from the grid point's blocks. -/
def mergedBlock (x0 : Vec Ideal S256x512 .f32) (x1 : Vec Ideal S256x1024 .bf16) (x2 x3 : Vec Ideal S1x256x512 .f32) (x4 : Vec Ideal S256x512 .f32)
    (x5 : Vec Ideal S256x6144 .bf16) (x6 : Vec Ideal S512x512 .bf16) (x7 x8 : Vec Ideal S1x512 .f32) (x9 : Vec Ideal S512x2048 .bf16)
    (x10 : Vec Ideal S1024x2048 .bf16) (x11 : Vec Ideal S512x2048 .bf16) (r : Fin 256) (l : Fin 2048) : EReal :=
  merged (glu (fun e => x0 (ix2 r e)) (fun e l => x6 (ix2 e l)) (fun l => x7 (ix2 0 l))) (fun e => x1 (ix2 r e))
    (headed (fun e => (x2 (ix3 0 r e) : EReal) + x3 (ix3 0 r e)) (fun l => x8 (ix2 0 l)) (fun l => x4 (ix2 r l)))
    (fun l => x5 (ix2 r ⟨l.val, by omega⟩)) (fun l => x5 (ix2 r ⟨2048 + l.val, by omega⟩)) (fun l => x5 (ix2 r ⟨4096 + l.val, by omega⟩))
    (fun e l => x9 (ix2 e l)) (fun e l => x10 (ix2 e l)) (fun e l => x11 (ix2 e l)) l

set_option maxHeartbeats 4000000 in
theorem merge_out (c : Dev nD) (i : grid0.Coords) (arg1 : Memref sig .tc .vmem S256x512 .f32) (harg1 : arg1.IsWhole) (arg2 : Memref sig .tc .vmem S256x1024 .bf16) (harg2 : arg2.IsWhole) (arg3 : Memref sig .tc .vmem S1x256x512 .f32) (harg3 : arg3.IsWhole) (arg4 : Memref sig .tc .vmem S1x256x512 .f32) (harg4 : arg4.IsWhole) (arg5 : Memref sig .tc .vmem S256x512 .f32) (harg5 : arg5.IsWhole) (arg6 : Memref sig .tc .vmem S256x6144 .bf16) (harg6 : arg6.IsWhole) (arg7 : Memref sig .tc .vmem S512x512 .bf16) (harg7 : arg7.IsWhole) (arg8 : Memref sig .tc .vmem S1x512 .f32) (harg8 : arg8.IsWhole) (arg9 : Memref sig .tc .vmem S1x512 .f32) (harg9 : arg9.IsWhole) (arg10 : Memref sig .tc .vmem S512x2048 .bf16) (harg10 : arg10.IsWhole) (arg11 : Memref sig .tc .vmem S1024x2048 .bf16) (harg11 : arg11.IsWhole) (arg12 : Memref sig .tc .vmem S512x2048 .bf16) (harg12 : arg12.IsWhole) (arg13 : Memref sig .tc .vmem S256x2048 .bf16) (harg13 : arg13.IsWhole)
    (x0 : Vec Ideal S256x512 .f32) (x1 : Vec Ideal S256x1024 .bf16) (x2 : Vec Ideal S1x256x512 .f32) (x3 : Vec Ideal S1x256x512 .f32) (x4 : Vec Ideal S256x512 .f32) (x5 : Vec Ideal S256x6144 .bf16) (x6 : Vec Ideal S512x512 .bf16) (x7 : Vec Ideal S1x512 .f32) (x8 : Vec Ideal S1x512 .f32) (x9 : Vec Ideal S512x2048 .bf16) (x10 : Vec Ideal S1024x2048 .bf16) (x11 : Vec Ideal S512x2048 .bf16)
    (r : Fin 256) (l : Fin 2048) :
    out0_A_12 c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10 x11 (ix2 r l) = mergedBlock x0 x1 x2 x3 x4 x5 x6 x7 x8 x9 x10 x11 r l := by
  frame_out
  rw [merged_at]
  unfold mergedBlock
  refine merged_congr (fun e => glu_at x0 x6 x7 r e) (fun _ => rfl) (fun e => ?_) (fun e => ?_) (fun e => ?_) (fun e => ?_)
    (fun _ _ => rfl) (fun _ _ => rfl) (fun _ _ => rfl) rfl
  · rw [headed_at _ _ _ _ _ (first_at x2 x3) fun r l => scale_at x2 x3 r l]
    simp only [sum_at]
  · pointwise
  · pointwise
  · pointwise

end Cert.Proj

end
-- ==== Proof.Proj.MergeRef.lean ====
/- UNTRUSTED — The branch merge's reference, part by part and element by element: the same rows as the call's body computes. -/
module

public import proofs.«01_k».proof.Defs
public import proofs.«01_k».proof.Proof.Gen.MergeRefIdeal.Run
public import proofs.«01_k».proof.Proof.Proj.MergeBlock
public import Idealize.ShloMosaic.Lib.Pipeline.ValueKit

@[expose] public section

set_option maxRecDepth 16384

noncomputable section

namespace Cert.Proj

open Idealize.ShloMosaic Idealize.ShloMosaic.TcCoe Idealize.SL.Sem

open Cert.MergeRefIdeal Cert.MergeRefIdeal.Gen

/-! ## The reference's parts -/

/-- The GELU. -/
def refGelu (x : FVec Ideal S17408x512 .f32) : FVec Ideal S17408x512 .f32 :=
  mulf x (mulf (broadcastInDim S17408x512 ![] bcast_S_S17408x512 (constant S_ .f32 0x3F000000#32)) (addf (broadcastInDim S17408x512 ![] bcast_S_S17408x512 (constant S_ .f32 0x3F800000#32)) (Host.tanh (mulf (broadcastInDim S17408x512 ![] bcast_S_S17408x512 (constant S_ .f32 0x3F4C422A#32)) (addf x (mulf (broadcastInDim S17408x512 ![] bcast_S_S17408x512 (constant S_ .f32 0x3D372713#32)) (mulf (mulf x x) x)))))))

/-- The sigmoid. -/
def refSigmoid (x : FVec Ideal S17408x512 .f32) : FVec Ideal S17408x512 .f32 :=
  Host.divf (broadcastInDim S17408x512 ![] bcast_S_S17408x512 (constant S_ .f32 0x3F800000#32)) (addf (broadcastInDim S17408x512 ![] bcast_S_S17408x512 (constant S_ .f32 0x3F800000#32)) (Host.exp (Host.negf x)))

/-- The gated linear unit's argument. -/
def refLinear (z : FVec Ideal S17408x512 .f32) (w : FVec Ideal S512x512 .f32) (b : FVec Ideal S512 .f32) : FVec Ideal S17408x512 .f32 :=
  addf (Host.dotGeneral dot_S17408x512_S512x512_S17408x512_1_0_0_1_n_n none z w) (broadcastInDim S17408x512 ![0, 1] bcast_S1x512_S17408x512_0_1 (broadcastInDim S1x512 ![1] bcast_S512_S1x512_1 b))

/-- Both directions' sum. -/
def refBoth (h : FVec Ideal S2x17408x512 .f32) : FVec Ideal S17408x512 .f32 :=
  addf (shapeCast _ (extractStridedSlice S1x17408x512 ![0, 0, 0] h slices_S2x17408x512_S1x17408x512_0_0_0) shapeCasts_S1x17408x512_S17408x512) (shapeCast _ (extractStridedSlice S1x17408x512 ![1, 0, 0] h slices_S2x17408x512_S1x17408x512_1_0_0) shapeCasts_S1x17408x512_S17408x512)

/-- The norm over each head. -/
def refHeads (h : FVec Ideal S17408x4x128 .f32) (g : FVec Ideal S4x128 .f32) : FVec Ideal S17408x4x128 .f32 :=
  mulf (mulf h (broadcastInDim S17408x4x128 ![0, 1, 2] bcast_S17408x4x1_S17408x4x128_0_1_2 (Host.rsqrt (addf (Host.divf (broadcastInDim S17408x4x1 ![0, 1] bcast_S17408x4_S17408x4x1_0_1 (Host.reduceAdd (mulf h h) (constant S_ .f32 0x00000000#32) reducesTo_S17408x4x128_S17408x4_d2 h_S_)) (broadcastInDim S17408x4x1 ![] bcast_S_S17408x4x1 (constant S_ .f32 0x43000000#32))) (broadcastInDim S17408x4x1 ![] bcast_S_S17408x4x1 (constant S_ .f32 0x358637BD#32)))))) (broadcastInDim S17408x4x128 ![0, 1, 2] bcast_S1x4x128_S17408x4x128_0_1_2 (broadcastInDim S1x4x128 ![1, 2] bcast_S4x128_S1x4x128_1_2 g))

/-- Heads apart, and heads together. -/
def apart (h : FVec Ideal S17408x512 .f32) : FVec Ideal S17408x4x128 .f32 := shapeCast S17408x4x128 h shapeCasts_S17408x512_S17408x4x128
def together (h : FVec Ideal S17408x4x128 .f32) : FVec Ideal S17408x512 .f32 := shapeCast S17408x512 h shapeCasts_S17408x4x128_S17408x512
def gainApart (g : FVec Ideal S512 .f32) : FVec Ideal S4x128 .f32 := shapeCast S4x128 g shapeCasts_S512_S4x128

/-- The output gate's columns. -/
def refGate (p : FVec Ideal S17408x3840 .f32) : FVec Ideal S17408x512 .f32 :=
  extractStridedSlice S17408x512 ![0, 3072] p slices_S17408x3840_S17408x512_0_3072

/-- The gated sum of the branches' projections. -/
def refMerged (s : FVec Ideal S17408x512 .f32) (att : FVec Ideal S17408x1024 .bf16) (ml : FVec Ideal S17408x512 .f32)
    (gates : FVec Ideal S17408x6144 .bf16) (w0 : FVec Ideal S512x2048 .f32) (w1 : FVec Ideal S1024x2048 .f32) (w2 : FVec Ideal S512x2048 .f32) :
    FVec Ideal S17408x2048 .bf16 :=
  truncf .bf16 (addf (addf (mulf (extractStridedSlice S17408x2048 ![0, 0] (extf .f32 gates bitsLt_bf16_f32) slices_S17408x6144_S17408x2048_0_0) (Host.dotGeneral dot_S17408x512_S512x2048_S17408x2048_1_0_0_1_n_n none s w0)) (mulf (extractStridedSlice S17408x2048 ![0, 2048] (extf .f32 gates bitsLt_bf16_f32) slices_S17408x6144_S17408x2048_0_2048) (Host.dotGeneral dot_S17408x1024_S1024x2048_S17408x2048_1_0_0_1_n_n none (extf .f32 att bitsLt_bf16_f32) w1))) (mulf (extractStridedSlice S17408x2048 ![0, 4096] (extf .f32 gates bitsLt_bf16_f32) slices_S17408x6144_S17408x2048_0_4096) (Host.dotGeneral dot_S17408x512_S512x2048_S17408x2048_1_0_0_1_n_n none ml w2))) bitsLt_bf16_f32

/-- The S5 branch, and the mLSTM branch. -/
def refGlu (ys : FVec Ideal S17408x512 .f32) (w : FVec Ideal S512x512 .f32) (b : FVec Ideal S512 .f32) : FVec Ideal S17408x512 .f32 :=
  mulf (refGelu ys) (refSigmoid (refLinear (refGelu ys) w b))
def refMl (h : FVec Ideal S2x17408x512 .f32) (g : FVec Ideal S512 .f32) (p : FVec Ideal S17408x3840 .f32) : FVec Ideal S17408x512 .f32 :=
  mulf (together (refHeads (apart (refBoth h)) (gainApart g))) (refSigmoid (refGate p))

theorem merge_parts (m : (ℓ : Loc nD τ sig) → Buf (Elt Ideal) ℓ) (c : Dev nD) :
    Value.res_main_v66 m c
      = refMerged (refGlu (m ((c.tc : Thread nD τ).loc main_arg0)) (m ((c.tc : Thread nD τ).loc main_arg5)) (m ((c.tc : Thread nD τ).loc main_arg6)))
          (m ((c.tc : Thread nD τ).loc main_arg1))
          (refMl (m ((c.tc : Thread nD τ).loc main_arg2)) (m ((c.tc : Thread nD τ).loc main_arg7)) (m ((c.tc : Thread nD τ).loc main_arg3)))
          (m ((c.tc : Thread nD τ).loc main_arg4)) (m ((c.tc : Thread nD τ).loc main_arg8)) (m ((c.tc : Thread nD τ).loc main_arg9))
          (m ((c.tc : Thread nD τ).loc main_arg10)) := by
  unfold Value.res_main_v66
  rfl

/-! ## Element by element -/

theorem refGelu_at (x : FVec Ideal S17408x512 .f32) (r : Fin 17408) (l : Fin 512) : refGelu x (ix2 r l) = gelu (x (ix2 r l)) := by
  unfold refGelu
  pointwise
  unfold gelu
  rw [← mul_assoc, mul_comm (x (ix2 r l)) (Ideal.ofBits .f32 0x3F000000#32)]

theorem refSigmoid_at (x : FVec Ideal S17408x512 .f32) (r : Fin 17408) (l : Fin 512) :
    refSigmoid x (ix2 r l) = Ideal.logistic (x (ix2 r l)) := by
  unfold refSigmoid
  pointwise
  unfold Ideal.logistic
  rfl

theorem refLinear_at (z : FVec Ideal S17408x512 .f32) (w : FVec Ideal S512x512 .f32) (b : FVec Ideal S512 .f32) (r : Fin 17408) (l : Fin 512) :
    refLinear z w b (ix2 r l) = (∑ e : Fin 512, z (ix2 r e) * w (ix2 e l)) + b (ix1 l) := by
  unfold refLinear
  pointwise

theorem refGlu_at (ys : FVec Ideal S17408x512 .f32) (w : FVec Ideal S512x512 .f32) (b : FVec Ideal S512 .f32) (r : Fin 17408) (l : Fin 512) :
    refGlu ys w b (ix2 r l) = glu (fun e => ys (ix2 r e)) (fun e l => w (ix2 e l)) (fun l => b (ix1 l)) l := by
  show (refGelu ys (ix2 r l) : EReal) * refSigmoid (refLinear (refGelu ys) w b) (ix2 r l) = _
  rw [refSigmoid_at, refLinear_at, refGelu_at]
  simp only [refGelu_at]
  rfl

theorem refBoth_at (h : FVec Ideal S2x17408x512 .f32) (r : Fin 17408) (l : Fin 512) :
    refBoth h (ix2 r l) = (h (ix3 0 r l) : EReal) + h (ix3 1 r l) := by
  unfold refBoth
  pointwise

theorem apart_at (h : FVec Ideal S17408x512 .f32) (r : Fin 17408) (k : Fin 4) (e : Fin 128) :
    apart h (ix3 r k e) = h (ix2 r (headCol k.val k.isLt e)) := by
  refine shapeCast_apply _ _ _ _ ?_
  refine (Shape.rowMajor_val_two _).trans (Eq.trans ?_ (Shape.rowMajor_val_three _).symm)
  have H : ∀ a : Nat, a * 512 + (k.val * 128 + e.val) = (a * 4 + k.val) * 128 + e.val := by intro a; omega
  exact H r.val

theorem together_at (h : FVec Ideal S17408x4x128 .f32) (r : Fin 17408) (l : Fin 512) (k : Fin 4) (e : Fin 128) (hl : l.val = k.val * 128 + e.val) :
    together h (ix2 r l) = h (ix3 r k e) := by
  refine shapeCast_apply _ _ _ _ ?_
  refine (Shape.rowMajor_val_three _).trans (Eq.trans ?_ (Shape.rowMajor_val_two _).symm)
  have H : ∀ a : Nat, (a * 4 + k.val) * 128 + e.val = a * 512 + l.val := by intro a; omega
  exact H r.val

theorem gainApart_at (g : FVec Ideal S512 .f32) (k : Fin 4) (e : Fin 128) : gainApart g (ix2 k e) = g (ix1 (headCol k.val k.isLt e)) := by
  unfold gainApart headCol
  pointwise

theorem refHeads_at (h : FVec Ideal S17408x4x128 .f32) (g : FVec Ideal S4x128 .f32) (r : Fin 17408) (k : Fin 4) (e : Fin 128) :
    refHeads h g (ix3 r k e) = (h (ix3 r k e) : EReal) * Ideal.rsqrt (Ideal.div (∑ x : Fin 128, (h (ix3 r k x) : EReal) * h (ix3 r k x)) (Ideal.ofBits .f32 0x43000000#32) + Ideal.ofBits .f32 0x358637BD#32)
      * g (ix2 k e) := by
  unfold refHeads
  pointwise

theorem refGate_at (p : FVec Ideal S17408x3840 .f32) (r : Fin 17408) (l : Fin 512) :
    refGate p (ix2 r l) = p (ix2 r ⟨3072 + l.val, by omega⟩) := by
  unfold refGate
  pointwise

theorem refMl_at (h : FVec Ideal S2x17408x512 .f32) (g : FVec Ideal S512 .f32) (p : FVec Ideal S17408x3840 .f32) (r : Fin 17408) (l : Fin 512) :
    refMl h g p (ix2 r l) = headed (fun e => (h (ix3 0 r e) : EReal) + h (ix3 1 r e)) (fun l => g (ix1 l)) (fun l => p (ix2 r ⟨3072 + l.val, by omega⟩)) l := by
  show (together (refHeads (apart (refBoth h)) (gainApart g)) (ix2 r l) : EReal) * refSigmoid (refGate p) (ix2 r l) = _
  have hk : l.val / 128 < 4 := by omega
  have he : l.val % 128 < 128 := Nat.mod_lt _ (by decide)
  have hl : headCol (l.val / 128) hk ⟨l.val % 128, he⟩ = l := Fin.ext (by show l.val / 128 * 128 + l.val % 128 = l.val; omega)
  rw [together_at _ r l ⟨l.val / 128, hk⟩ ⟨l.val % 128, he⟩ (by show l.val = l.val / 128 * 128 + l.val % 128; omega), refHeads_at, refSigmoid_at,
    refGate_at, gainApart_at]
  simp only [apart_at, refBoth_at, hl]
  rfl

theorem refMerged_at (s : FVec Ideal S17408x512 .f32) (att : FVec Ideal S17408x1024 .bf16) (ml : FVec Ideal S17408x512 .f32)
    (gates : FVec Ideal S17408x6144 .bf16) (w0 : FVec Ideal S512x2048 .f32) (w1 : FVec Ideal S1024x2048 .f32) (w2 : FVec Ideal S512x2048 .f32)
    (r : Fin 17408) (l : Fin 2048) :
    refMerged s att ml gates w0 w1 w2 (ix2 r l)
      = merged (fun e => s (ix2 r e)) (fun e => att (ix2 r e)) (fun e => ml (ix2 r e)) (fun l => gates (ix2 r ⟨l.val, by omega⟩))
          (fun l => gates (ix2 r ⟨2048 + l.val, by omega⟩)) (fun l => gates (ix2 r ⟨4096 + l.val, by omega⟩))
          (fun e l => w0 (ix2 e l)) (fun e l => w1 (ix2 e l)) (fun e l => w2 (ix2 e l)) l := by
  unfold refMerged
  pointwise
  unfold merged
  rfl

end Cert.Proj

end
-- ==== Proof.Proj.Merge.lean ====
/- UNTRUSTED — The branch merge: the S5 branch's gated linear unit, the attention rows and the mLSTM branch's normed and gated rows, each
   projected, and summed with the branch gates. -/
module

public import proofs.«01_k».proof.Defs
public import proofs.«01_k».proof.Proof.Gen.Merge.Frame
public import proofs.«01_k».proof.Proof.Gen.MergeIdeal.Value
public import proofs.«01_k».proof.Proof.Gen.MergeRefIdeal.Run
public import proofs.«01_k».proof.Proof.Proj.MergeBlock
public import proofs.«01_k».proof.Proof.Proj.MergeRef
public import Idealize.ShloMosaic.Lib.Pipeline.ValueKit
public import Idealize.ShloMosaic.Lib.Quiescent
public import Idealize.ShloMosaic.Adequacy
public import Idealize.ShloMosaic.Init

@[expose] public section

set_option maxRecDepth 16384

noncomputable section

namespace Cert.Proj

open Idealize.ShloMosaic Idealize.ShloMosaic.TcCoe Idealize.SL.Sem

open Cert.MergeIdeal Cert.MergeIdeal.Gen

variable (m : (ℓ : Loc nD τ sig) → Buf (Elt Ideal) ℓ)

/-! ## What the call is handed -/

/-- A vector as one row. -/
def rowOf (b : FVec Ideal S512 .f32) : FVec Ideal S1x512 .f32 := shapeCast S1x512 b shapeCasts_S512_S1x512

theorem rowOf_apply (b : FVec Ideal S512 .f32) (l : Fin 512) : rowOf b (ix2 0 l) = b (ix1 l) := by
  unfold rowOf
  pointwise

/-- The weights, narrowed. -/
def narrowG (w : FVec Ideal S512x512 .f32) : FVec Ideal S512x512 .bf16 := truncf .bf16 w bitsLt_bf16_f32
def narrowS (w : FVec Ideal S512x2048 .f32) : FVec Ideal S512x2048 .bf16 := truncf .bf16 w bitsLt_bf16_f32
def narrowA (w : FVec Ideal S1024x2048 .f32) : FVec Ideal S1024x2048 .bf16 := truncf .bf16 w bitsLt_bf16_f32

theorem V_glu (c : Dev nD) : V m c main_v0 = narrowG (m ((c.tc : Thread nD τ).loc main_arg5)) := by
  unfold_abbrev_sides
  after_results
  rfl

theorem V_ssm (c : Dev nD) : V m c main_v1 = narrowS (m ((c.tc : Thread nD τ).loc main_arg8)) := by
  unfold_abbrev_sides
  after_results
  rfl

theorem V_attn (c : Dev nD) : V m c main_v2 = narrowA (m ((c.tc : Thread nD τ).loc main_arg9)) := by
  unfold_abbrev_sides
  after_results
  rfl

theorem V_mlstm (c : Dev nD) : V m c main_v3 = narrowS (m ((c.tc : Thread nD τ).loc main_arg10)) := by
  unfold_abbrev_sides
  after_results
  rfl

theorem V_bias (c : Dev nD) : V m c main_v4 = rowOf (m ((c.tc : Thread nD τ).loc main_arg6)) := by
  unfold_abbrev_sides
  after_results
  rfl

theorem V_gain (c : Dev nD) : V m c main_v5 = rowOf (m ((c.tc : Thread nD τ).loc main_arg7)) := by
  unfold_abbrev_sides
  after_results
  rfl

/-! ## The call's result -/

/-- The call's result as a function of its arrays. -/
def mergeFn (ys : FVec Ideal S17408x512 .f32) (att : FVec Ideal S17408x1024 .bf16) (hfb : FVec Ideal S2x17408x512 .f32)
    (p : FVec Ideal S17408x3840 .f32) (gates : FVec Ideal S17408x6144 .bf16) (wg : FVec Ideal S512x512 .bf16) (b g : FVec Ideal S1x512 .f32)
    (w0 : FVec Ideal S512x2048 .bf16) (w1 : FVec Ideal S1024x2048 .bf16) (w2 : FVec Ideal S512x2048 .bf16) : S17408x2048.Idx → EReal := fun j =>
  merged (glu (fun e => ys (ix2 (j 0) e)) (fun e l => wg (ix2 e l)) (fun l => b (ix2 0 l))) (fun e => att (ix2 (j 0) e))
    (headed (fun e => (hfb (ix3 0 (j 0) e) : EReal) + hfb (ix3 1 (j 0) e)) (fun l => g (ix2 0 l)) (fun l => p (ix2 (j 0) ⟨3072 + l.val, by omega⟩)))
    (fun l => gates (ix2 (j 0) ⟨l.val, by omega⟩)) (fun l => gates (ix2 (j 0) ⟨2048 + l.val, by omega⟩))
    (fun l => gates (ix2 (j 0) ⟨4096 + l.val, by omega⟩))
    (fun e l => w0 (ix2 e l)) (fun e l => w1 (ix2 e l)) (fun e l => w2 (ix2 e l)) (j 1)

/-- The call's result as a function of the arguments. -/
def mergeArr (c : Dev nD) : S17408x2048.Idx → EReal :=
  mergeFn (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (narrowG (m ((c.tc : Thread nD τ).loc main_arg5)))
    (rowOf (m ((c.tc : Thread nD τ).loc main_arg6))) (rowOf (m ((c.tc : Thread nD τ).loc main_arg7)))
    (narrowS (m ((c.tc : Thread nD τ).loc main_arg8))) (narrowA (m ((c.tc : Thread nD τ).loc main_arg9)))
    (narrowS (m ((c.tc : Thread nD τ).loc main_arg10)))

theorem merge_idx : ∀ t : Fin cfg0.N,
    win0_0.index t = ![t.val, 0] ∧ win0_1.index t = ![t.val, 0] ∧ win0_2.index t = ![0, t.val, 0] ∧ win0_3.index t = ![1, t.val, 0]
    ∧ win0_4.index t = ![t.val, 6] ∧ win0_5.index t = ![t.val, 0] ∧ win0_6.index t = ![0, 0] ∧ win0_7.index t = ![0, 0]
    ∧ win0_8.index t = ![0, 0] ∧ win0_9.index t = ![0, 0] ∧ win0_10.index t = ![0, 0] ∧ win0_11.index t = ![0, 0]
    ∧ win0_12.index t = ![t.val, 0] :=
  (by decide +kernel : ∀ t : Fin grid0.N, _)

set_option maxHeartbeats 4000000 in
theorem merge_arr (c : Dev nD) : (dats m 0 c).arrAt 12 cfg0.N = mergeArr m c := by
  refine (dats m 0 c).arrAt_eq_of_covers 12 (mergeArr m c) (by decide +kernel) fun t hf y => ?_
  idx_vars y
  blk_simp
  rw [after0_12]
  unfold outsAt0
  rw [merge_out]
  unfold mergedBlock mergeArr mergeFn
  refine merged_congr (fun e => glu_congr (fun e => ?_) (fun e l => ?_) (fun l => ?_) e) (fun e => ?_)
    (fun e => headed_congr (fun e => ?_) (fun l => ?_) (fun l => ?_) e) (fun l => ?_) (fun l => ?_) (fun l => ?_)
    (fun e l => ?_) (fun e l => ?_) (fun e l => ?_) ?_
  · blk_ext [iblk, V, merge_idx t]
  · rw [← V_glu]
    blk_ext [iblk, merge_idx t]
  · rw [← V_bias]
    blk_ext [iblk, merge_idx t]
  · blk_ext [iblk, V, merge_idx t]
  · refine congrArg₂ (fun a b : EReal => a + b) ?_ ?_
    · blk_ext [iblk, V, merge_idx t]
    · blk_ext [iblk, V, merge_idx t]
  · rw [← V_gain]
    blk_ext [iblk, merge_idx t]
  · unfold X0_4 Pipeline.Window.fill
    rw [dif_pos (moved0_4 t _)]
    blk_ext [iblk, V, merge_idx t]
  · blk_ext [iblk, V, merge_idx t]
  · blk_ext [iblk, V, merge_idx t]
  · blk_ext [iblk, V, merge_idx t]
  · rw [← V_ssm]
    blk_ext [iblk, merge_idx t]
  · rw [← V_attn]
    blk_ext [iblk, merge_idx t]
  · rw [← V_mlstm]
    blk_ext [iblk, merge_idx t]
  · apply Fin.ext
    blk_simp
    simp only [merge_idx t]
    show y1.val = 0 * 2048 + y1.val
    omega

/-! ## The claims -/

theorem frame_kMerge : Cert.quiescent_Merge (hMerge := Cert.Merge.Gen.facts) := fun m ρ _ => Cert.Merge.Gen.frame m ρ

theorem frame_kiMerge : Cert.quiescent_MergeIdeal (hMergeIdeal := Cert.MergeIdeal.Gen.facts) := fun m ρ _ => Cert.MergeIdeal.Gen.frame m ρ

theorem frame_riMerge : Cert.quiescent_MergeRefIdeal (hMergeRefIdeal := Cert.MergeRefIdeal.Gen.facts) := fun m ρ _ =>
  (θ_run Cert.MergeRefIdeal.defs _ _).mono (fun r h => ⟨fun c => (h c).2, sem_eq_zero_of_no_sems (by decide) r.2⟩)
    (Cert.MergeRefIdeal.Value.run (F := Ideal) m ρ)

theorem preservesMerge : Cert.preserves_Merge_MergeIdeal := trivial

theorem algebraicMerge : Cert.algebraic_MergeIdeal_MergeRefIdeal (hMergeIdeal := Cert.MergeIdeal.Gen.facts)
    (hMergeRefIdeal := Cert.MergeRefIdeal.Gen.facts) := by
  intro m ρ m' ρ' hpre hagree
  refine ⟨mergeArr m, (θ_run Cert.MergeIdeal.defs _ _).mono (fun _ h c => ⟨(h c).1.trans (merge_arr m c), (h c).2⟩)
    (Cert.MergeIdeal.Value.run_blocks m ρ), ?_⟩
  refine (θ_run Cert.MergeRefIdeal.defs _ _).mono (fun _ h c => ⟨(h c).1.trans ?_, (h c).2⟩)
    (Cert.MergeRefIdeal.Value.run (F := Ideal) m' ρ')
  refine (merge_parts m' c).trans ?_
  rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2]
  funext j
  idx_vars j
  refine (refMerged_at _ _ _ _ _ _ _ j0 j1).trans ?_
  unfold mergeArr mergeFn
  refine merged_congr (fun e => ?_) (fun _ => rfl) (fun e => ?_) (fun _ => rfl) (fun _ => rfl) (fun _ => rfl)
    (fun _ _ => rfl) (fun _ _ => rfl) (fun _ _ => rfl) rfl
  · refine (refGlu_at _ _ _ j0 e).trans ?_
    exact glu_congr (fun _ => rfl) (fun _ _ => rfl) (fun l => (rowOf_apply _ l).symm) e
  · refine (refMl_at _ _ _ j0 e).trans ?_
    exact headed_congr (fun _ => rfl) (fun l => (rowOf_apply _ l).symm) (fun _ => rfl) e

end Cert.Proj

end
-- ==== Proof.Proj.Norm.lean ====
/- UNTRUSTED — The norm before the in-projection: each row over the root of its mean square, times the gain, then the scale and the shift of
   the modulation row its position chooses. -/
module

public import proofs.«01_k».proof.Defs
public import proofs.«01_k».proof.Proof.Gen.Norm.Frame
public import proofs.«01_k».proof.Proof.Gen.NormIdeal.Value
public import proofs.«01_k».proof.Proof.Gen.NormRefIdeal.Run
public import proofs.«01_k».proof.Proof.Proj.Out
public import proofs.«01_k».proof.Proof.Proj.Final
public import Idealize.ShloMosaic.Lib.Pipeline.ValueKit
public import Idealize.ShloMosaic.Lib.Affine
public import Idealize.ShloMosaic.Lib.WordArith
public import Idealize.ShloMosaic.Lib.Quiescent
public import Idealize.ShloMosaic.Adequacy
public import Idealize.ShloMosaic.Init

@[expose] public section

set_option maxRecDepth 16384

noncomputable section

namespace Cert.Proj

open Idealize.ShloMosaic Idealize.ShloMosaic.TcCoe Idealize.SL.Sem

open Cert.NormIdeal Cert.NormIdeal.Gen

/-- One element of a modulated norm: the row's norm, scaled and shifted. -/
def modulated (x g : Fin 2048 → EReal) (scale shift : EReal) (l : Fin 2048) : EReal :=
  normed x g l * (1 + scale) + shift

theorem modulated_congr {x x' g g' : Fin 2048 → EReal} {s s' h h' : EReal} {l l' : Fin 2048} (hx : ∀ e, x e = x' e) (hg : ∀ e, g e = g' e)
    (hs : s = s') (hh : h = h') (hl : l = l') : modulated x g s h l = modulated x' g' s' h' l' := by
  rw [funext hx, funext hg, hs, hh, hl]

theorem norm_coord : ∀ t : Fin cfg0.N, (grid0.coords t 1).val = t.val % 8 := (by decide +kernel : ∀ t : Fin grid0.N, _)

set_option maxHeartbeats 2000000 in
/-- One element of a grid point's block. -/
theorem norm_out (t : Fin cfg0.N) (x : Vec Ideal S1x544x2048 .f32) (g : Vec Ideal S1x2048 .f32)
    (mod : Vec Ideal S1x2x6x2048 .f32) (r : Fin 544) (l : Fin 2048) :
    out0_3 (grid0.coords t) x g mod (ix3 0 r l)
      = modulated (fun e => x (ix3 0 r e)) (fun e => g (ix2 0 e))
          (if t.val % 8 * 544 + r.val < 256 then mod (ix4 0 0 1 l) else mod (ix4 0 1 1 l))
          (if t.val % 8 * 544 + r.val < 256 then mod (ix4 0 0 0 l) else mod (ix4 0 1 0 l)) l := by
  frame_out
  open_payloads
  pointwise
  rw [norm_coord, select_row _ _ (by omega) r.2, select_row _ _ (by omega) r.2]
  rfl

variable (m : (ℓ : Loc nD τ sig) → Buf (Elt Ideal) ℓ)

/-- The gain the call is handed is the argument, as one row. -/
theorem V_normG (c : Dev nD) : V m c main_v0 = finalG (m ((c.tc : Thread nD τ).loc main_arg1)) := by
  unfold_abbrev_sides
  after_results
  rfl

/-- The call's result as a function of its arrays. -/
def normFn (x : FVec Ideal S4x4352x2048 .f32) (g : FVec Ideal S1x2048 .f32) (mod : FVec Ideal S4x2x6x2048 .f32) :
    S4x4352x2048.Idx → EReal := fun j =>
  modulated (fun e => x (ix3 (j 0) (j 1) e)) (fun e => g (ix2 0 e))
    (if (j 1).val < 256 then mod (ix4 (j 0) 0 1 (j 2)) else mod (ix4 (j 0) 1 1 (j 2)))
    (if (j 1).val < 256 then mod (ix4 (j 0) 0 0 (j 2)) else mod (ix4 (j 0) 1 0 (j 2))) (j 2)

/-- The call's result as a function of the arguments. -/
def normArr (c : Dev nD) : S4x4352x2048.Idx → EReal :=
  normFn (m ((c.tc : Thread nD τ).loc main_arg0)) (finalG (m ((c.tc : Thread nD τ).loc main_arg1))) (m ((c.tc : Thread nD τ).loc main_arg2))

theorem norm_idx : ∀ t : Fin cfg0.N,
    win0_0.index t = ![t.val / 8, t.val % 8, 0] ∧ win0_1.index t = ![0, 0]
    ∧ win0_2.index t = ![t.val / 8, 0, 0, 0] ∧ win0_3.index t = ![t.val / 8, t.val % 8, 0] :=
  (by decide +kernel : ∀ t : Fin grid0.N, _)

theorem norm_arr (c : Dev nD) : (dats m 0 c).arrAt 3 cfg0.N = normArr m c := by
  refine (dats m 0 c).arrAt_eq_of_covers 3 (normArr m c) (by decide +kernel) fun t hf y => ?_
  idx_vars y
  blk_simp
  obtain rfl : y0 = 0 := by omega
  rw [after0_3, norm_out]
  unfold normArr normFn
  have hp : ((win0_3.blk t).view.emb (ix3 0 y1 y2) 1).val < 256 ↔ t.val % 8 * 544 + y1.val < 256 := by
    blk_simp; simp only [norm_idx t]; show t.val % 8 * 544 + y1.val < 256 ↔ _; rfl
  simp only [hp]
  refine modulated_congr (fun e => ?_) (fun e => ?_) ?_ ?_ ?_
  · blk_ext [iblk, V, norm_idx t]
  · rw [← V_normG]
    blk_ext [iblk, norm_idx t]
  · congr 1
    · blk_ext [iblk, V, norm_idx t]
    · blk_ext [iblk, V, norm_idx t]
  · congr 1
    · blk_ext [iblk, V, norm_idx t]
    · blk_ext [iblk, V, norm_idx t]
  · apply Fin.ext
    blk_simp
    simp only [norm_idx t]
    show y2.val = 0 * 2048 + y2.val
    omega

/-! ## The claims -/

theorem frame_kNorm : Cert.quiescent_Norm (hNorm := Cert.Norm.Gen.facts) := fun m ρ _ => Cert.Norm.Gen.frame m ρ

theorem frame_kiNorm : Cert.quiescent_NormIdeal (hNormIdeal := Cert.NormIdeal.Gen.facts) := fun m ρ _ => Cert.NormIdeal.Gen.frame m ρ

theorem frame_riNorm : Cert.quiescent_NormRefIdeal (hNormRefIdeal := Cert.NormRefIdeal.Gen.facts) := fun m ρ _ =>
  (θ_run Cert.NormRefIdeal.defs _ _).mono (fun r h => ⟨fun c => (h c).2, sem_eq_zero_of_no_sems (by decide) r.2⟩)
    (Cert.NormRefIdeal.Value.run (F := Ideal) m ρ)

theorem preservesNorm : Cert.preserves_Norm_NormIdeal := trivial

set_option maxHeartbeats 4000000 in
theorem algebraicNorm : Cert.algebraic_NormIdeal_NormRefIdeal (hNormIdeal := Cert.NormIdeal.Gen.facts)
    (hNormRefIdeal := Cert.NormRefIdeal.Gen.facts) := by
  intro m ρ m' ρ' hpre hagree
  refine ⟨normArr m, (θ_run Cert.NormIdeal.defs _ _).mono (fun _ h c => ⟨(h c).1.trans (norm_arr m c), (h c).2⟩)
    (Cert.NormIdeal.Value.run_blocks m ρ), ?_⟩
  refine (θ_run Cert.NormRefIdeal.defs _ _).mono (fun _ h c => ⟨(h c).1.trans ?_, (h c).2⟩)
    (Cert.NormRefIdeal.Value.run (F := Ideal) m' ρ')
  rw [(hagree c).1, (hagree c).2.1, (hagree c).2.2]
  funext j
  idx_vars j
  unfold normArr normFn
  pointwise
  simp only [finalG_apply]
  by_cases h : j1.val < 256
  · simp only [h, dite_true, if_true]
    rfl
  · have h0 : 256 + (j1.val - 256) = j1.val := by omega
    simp only [h, dite_false, if_false, h0]
    rfl

end Cert.Proj

end
-- ==== Proof.lean ====
module

public import proofs.«01_k».proof.Defs
public import proofs.«01_k».proof.Proof.Attn.Claims
public import proofs.«01_k».proof.Proof.Proj.Main
public import proofs.«01_k».proof.Proof.Proj.Gates
public import proofs.«01_k».proof.Proof.Proj.Out
public import proofs.«01_k».proof.Proof.Proj.Final
public import proofs.«01_k».proof.Proof.ExpertsIdeal.Claims
public import proofs.«01_k».proof.Proof.Proj.Split
public import proofs.«01_k».proof.Proof.Gen.Split
public import proofs.«01_k».proof.Proof.Gen.SplitIdeal
public import proofs.«01_k».proof.Proof.Gen.SplitRefIdeal
public import proofs.«01_k».proof.Proof.Proj.Merge
public import proofs.«01_k».proof.Proof.Gen.Merge
public import proofs.«01_k».proof.Proof.Gen.MergeIdeal
public import proofs.«01_k».proof.Proof.Gen.MergeRefIdeal
public import proofs.«01_k».proof.Proof.Proj.Norm
public import proofs.«01_k».proof.Proof.Gen.Norm
public import proofs.«01_k».proof.Proof.Gen.NormIdeal
public import proofs.«01_k».proof.Proof.Gen.NormRefIdeal
public import proofs.«01_k».proof.Proof.Gen.Main
public import proofs.«01_k».proof.Proof.Gen.MainIdeal
public import proofs.«01_k».proof.Proof.Gen.MainRefIdeal
public import proofs.«01_k».proof.Proof.Gen.Gates
public import proofs.«01_k».proof.Proof.Gen.GatesIdeal
public import proofs.«01_k».proof.Proof.Gen.GatesRefIdeal
public import proofs.«01_k».proof.Proof.Gen.Out
public import proofs.«01_k».proof.Proof.Gen.OutIdeal
public import proofs.«01_k».proof.Proof.Gen.OutRefIdeal
public import proofs.«01_k».proof.Proof.Gen.Final
public import proofs.«01_k».proof.Proof.Gen.FinalIdeal
public import proofs.«01_k».proof.Proof.Gen.FinalRefIdeal
public import proofs.«01_k».proof.Proof.Gen.Kernel
public import proofs.«01_k».proof.Proof.Gen.KernelIdeal
public import proofs.«01_k».proof.Proof.Gen.ReferenceIdeal
public import proofs.«01_k».proof.Proof.Gen.Pre_finite_qk
public import Idealize.ShloMosaic.Adequacy
public import Idealize.ShloMosaic.Init
public import proofs.«01_k».proof.Proof.Gen.Experts
public import proofs.«01_k».proof.Proof.Gen.Experts.Launch
public import proofs.«01_k».proof.Proof.Gen.Experts.Skeleton
public import proofs.«01_k».proof.Proof.Gen.ExpertsIdeal
public import proofs.«01_k».proof.Proof.Gen.ExpertsIdeal.Launch
public import proofs.«01_k».proof.Proof.Gen.ExpertsIdeal.Skeleton
public import proofs.«01_k».proof.Proof.Gen.ExpertsRefIdeal
public import proofs.«01_k».proof.Proof.Gen.ExpertsRefIdeal.Run
public import proofs.«01_k».proof.Proof.Gen.Pre_routed

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts,
    Cert.Main.Gen.facts, Cert.MainIdeal.Gen.facts, Cert.MainRefIdeal.Gen.facts,
    Cert.Gates.Gen.facts, Cert.GatesIdeal.Gen.facts, Cert.GatesRefIdeal.Gen.facts,
    Cert.Out.Gen.facts, Cert.OutIdeal.Gen.facts, Cert.OutRefIdeal.Gen.facts,
    Cert.Final.Gen.facts, Cert.FinalIdeal.Gen.facts, Cert.FinalRefIdeal.Gen.facts,
    Cert.Experts.Gen.facts, Cert.ExpertsIdeal.Gen.facts, Cert.ExpertsRefIdeal.Gen.facts,
    Cert.Split.Gen.facts, Cert.SplitIdeal.Gen.facts, Cert.SplitRefIdeal.Gen.facts,
    Cert.Merge.Gen.facts, Cert.MergeIdeal.Gen.facts, Cert.MergeRefIdeal.Gen.facts,
    Cert.Norm.Gen.facts, Cert.NormIdeal.Gen.facts, Cert.NormRefIdeal.Gen.facts,
    Cert.Pre_finite_qk.Gen.facts, Cert.Pre_routed.Gen.facts,
    Attn.frame_k, Attn.frame_ki, Attn.frame_ki_pre, Attn.frame_ri, Attn.frame_ri_pre,
    Proj.frame_kMain, Proj.frame_kiMain, Proj.frame_riMain,
    Proj.frame_kGates, Proj.frame_kiGates, Proj.frame_riGates,
    Proj.frame_kOut, Proj.frame_kiOut, Proj.frame_riOut,
    Proj.frame_kFinal, Proj.frame_kiFinal, Proj.frame_riFinal,
    ExpertsClaims.frame_k, ExpertsClaims.frame_ki, ExpertsClaims.frame_ri,
    Proj.frame_kSplit, Proj.frame_kiSplit, Proj.frame_riSplit,
    Proj.frame_kMerge, Proj.frame_kiMerge, Proj.frame_riMerge,
    Proj.frame_kNorm, Proj.frame_kiNorm, Proj.frame_riNorm,
    Attn.preserves, Attn.algebraic,
    Proj.preservesMain, Proj.algebraicMain,
    Proj.preservesGates, Proj.algebraicGates,
    Proj.preservesOut, Proj.algebraicOut,
    Proj.preservesFinal, Proj.algebraicFinal,
    ExpertsClaims.preserves, ExpertsClaims.algebraic,
    Proj.preservesSplit, Proj.algebraicSplit,
    Proj.preservesMerge, Proj.algebraicMerge,
    Proj.preservesNorm, Proj.algebraicNorm⟩

end Cert.Proof

end
